-- ==== Defs.lean ====
def Pre_ScanBwd (m : (ℓ : Loc Cert.ScanBwd.nD Cert.ScanBwd.τ Cert.ScanBwd.sig) → Buf (Elt Bits) ℓ) : Prop :=
  True

def Pre_ScanBwdIdeal (m : (ℓ : Loc Cert.ScanBwdIdeal.nD Cert.ScanBwdIdeal.τ Cert.ScanBwdIdeal.sig) → Buf (Elt Ideal) ℓ) : Prop :=
  True

def Pre_RefBwdIdeal (m : (ℓ : Loc Cert.RefBwdIdeal.nD Cert.RefBwdIdeal.τ Cert.RefBwdIdeal.sig) → Buf (Elt Ideal) ℓ) : Prop :=
  True

def Pre_ScanFwd (m : (ℓ : Loc Cert.ScanFwd.nD Cert.ScanFwd.τ Cert.ScanFwd.sig) → Buf (Elt Bits) ℓ) : Prop :=
  True

def Pre_ScanFwdIdeal (m : (ℓ : Loc Cert.ScanFwdIdeal.nD Cert.ScanFwdIdeal.τ Cert.ScanFwdIdeal.sig) → Buf (Elt Ideal) ℓ) : Prop :=
  True

def Pre_RefFwdIdeal (m : (ℓ : Loc Cert.RefFwdIdeal.nD Cert.RefFwdIdeal.τ Cert.RefFwdIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def quiescent_ScanBwd [hScanBwd : Cert.ScanBwd.Facts] : Prop :=
  ∀ (m : (ℓ : Loc Cert.ScanBwd.nD Cert.ScanBwd.τ Cert.ScanBwd.sig) → Buf (Elt Bits) ℓ) (g : Dev Cert.ScanBwd.nD → PrngReg), Pre_ScanBwd m →
    θ_run (Cert.ScanBwd.defs (F := Bits)) (onTc (τ := Cert.ScanBwd.τ) (Cert.ScanBwd.main (F := Bits))) ⟨m, fun _ => 0, g⟩ (fun r => (∀ c : Dev Cert.ScanBwd.nD,
      r.2.mem ((c.tc : Thread Cert.ScanBwd.nD Cert.ScanBwd.τ).loc Cert.ScanBwd.main_arg0) = m ((c.tc : Thread Cert.ScanBwd.nD Cert.ScanBwd.τ).loc Cert.ScanBwd.main_arg0)
      ∧ r.2.mem ((c.tc : Thread Cert.ScanBwd.nD Cert.ScanBwd.τ).loc Cert.ScanBwd.main_arg1) = m ((c.tc : Thread Cert.ScanBwd.nD Cert.ScanBwd.τ).loc Cert.ScanBwd.main_arg1)
      ∧ r.2.mem ((c.tc : Thread Cert.ScanBwd.nD Cert.ScanBwd.τ).loc Cert.ScanBwd.main_arg2) = m ((c.tc : Thread Cert.ScanBwd.nD Cert.ScanBwd.τ).loc Cert.ScanBwd.main_arg2)
      ∧ r.2.mem ((c.tc : Thread Cert.ScanBwd.nD Cert.ScanBwd.τ).loc Cert.ScanBwd.main_arg3) = m ((c.tc : Thread Cert.ScanBwd.nD Cert.ScanBwd.τ).loc Cert.ScanBwd.main_arg3)
      ∧ r.2.mem ((c.tc : Thread Cert.ScanBwd.nD Cert.ScanBwd.τ).loc Cert.ScanBwd.main_arg4) = m ((c.tc : Thread Cert.ScanBwd.nD Cert.ScanBwd.τ).loc Cert.ScanBwd.main_arg4)
      ∧ r.2.mem ((c.tc : Thread Cert.ScanBwd.nD Cert.ScanBwd.τ).loc Cert.ScanBwd.main_arg5) = m ((c.tc : Thread Cert.ScanBwd.nD Cert.ScanBwd.τ).loc Cert.ScanBwd.main_arg5)
      ∧ r.2.mem ((c.tc : Thread Cert.ScanBwd.nD Cert.ScanBwd.τ).loc Cert.ScanBwd.main_arg6) = m ((c.tc : Thread Cert.ScanBwd.nD Cert.ScanBwd.τ).loc Cert.ScanBwd.main_arg6)
      ∧ r.2.mem ((c.tc : Thread Cert.ScanBwd.nD Cert.ScanBwd.τ).loc Cert.ScanBwd.main_arg7) = m ((c.tc : Thread Cert.ScanBwd.nD Cert.ScanBwd.τ).loc Cert.ScanBwd.main_arg7)
      ∧ r.2.mem ((c.tc : Thread Cert.ScanBwd.nD Cert.ScanBwd.τ).loc Cert.ScanBwd.main_arg8) = m ((c.tc : Thread Cert.ScanBwd.nD Cert.ScanBwd.τ).loc Cert.ScanBwd.main_arg8))
      ∧ r.2.sem = fun _ => 0)

def quiescent_ScanBwdIdeal [hScanBwdIdeal : Cert.ScanBwdIdeal.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg), Pre_ScanBwdIdeal m →
    θ_run (Cert.ScanBwdIdeal.defs (F := Ideal)) (onTc (τ := Cert.ScanBwdIdeal.τ) (Cert.ScanBwdIdeal.main (F := Ideal))) ⟨m, fun _ => 0, g⟩ (fun r => (∀ c : Dev Cert.ScanBwdIdeal.nD,
      r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
      ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
      ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2)
      ∧ r.2.mem ((c.tc : Thread Cert.ScanBwdIdeal.nD Cert.ScanBwdIdeal.τ).loc Cert.ScanBwdIdeal.main_arg3) = m ((c.tc : Thread Cert.ScanBwdIdeal.nD Cert.ScanBwdIdeal.τ).loc Cert.ScanBwdIdeal.main_arg3)
      ∧ r.2.mem ((c.tc : Thread Cert.ScanBwdIdeal.nD Cert.ScanBwdIdeal.τ).loc Cert.ScanBwdIdeal.main_arg4) = m ((c.tc : Thread Cert.ScanBwdIdeal.nD Cert.ScanBwdIdeal.τ).loc Cert.ScanBwdIdeal.main_arg4)
      ∧ r.2.mem ((c.tc : Thread Cert.ScanBwdIdeal.nD Cert.ScanBwdIdeal.τ).loc Cert.ScanBwdIdeal.main_arg5) = m ((c.tc : Thread Cert.ScanBwdIdeal.nD Cert.ScanBwdIdeal.τ).loc Cert.ScanBwdIdeal.main_arg5)
      ∧ r.2.mem ((c.tc : Thread Cert.ScanBwdIdeal.nD Cert.ScanBwdIdeal.τ).loc Cert.ScanBwdIdeal.main_arg6) = m ((c.tc : Thread Cert.ScanBwdIdeal.nD Cert.ScanBwdIdeal.τ).loc Cert.ScanBwdIdeal.main_arg6)
      ∧ r.2.mem ((c.tc : Thread Cert.ScanBwdIdeal.nD Cert.ScanBwdIdeal.τ).loc Cert.ScanBwdIdeal.main_arg7) = m ((c.tc : Thread Cert.ScanBwdIdeal.nD Cert.ScanBwdIdeal.τ).loc Cert.ScanBwdIdeal.main_arg7)
      ∧ r.2.mem ((c.tc : Thread Cert.ScanBwdIdeal.nD Cert.ScanBwdIdeal.τ).loc Cert.ScanBwdIdeal.main_arg8) = m ((c.tc : Thread Cert.ScanBwdIdeal.nD Cert.ScanBwdIdeal.τ).loc Cert.ScanBwdIdeal.main_arg8))
      ∧ r.2.sem = fun _ => 0)

def quiescent_RefBwdIdeal [hRefBwdIdeal : Cert.RefBwdIdeal.Facts] : Prop :=
  ∀ (m : (ℓ : Loc Cert.RefBwdIdeal.nD Cert.RefBwdIdeal.τ Cert.RefBwdIdeal.sig) → Buf (Elt Ideal) ℓ) (g : Dev Cert.RefBwdIdeal.nD → PrngReg), Pre_RefBwdIdeal m →
    θ_run (Cert.RefBwdIdeal.defs (F := Ideal)) (onTc (τ := Cert.RefBwdIdeal.τ) (Cert.RefBwdIdeal.main (F := Ideal))) ⟨m, fun _ => 0, g⟩ (fun r => (∀ c : Dev Cert.RefBwdIdeal.nD,
      r.2.mem ((c.tc : Thread Cert.RefBwdIdeal.nD Cert.RefBwdIdeal.τ).loc Cert.RefBwdIdeal.main_arg0) = m ((c.tc : Thread Cert.RefBwdIdeal.nD Cert.RefBwdIdeal.τ).loc Cert.RefBwdIdeal.main_arg0)
      ∧ r.2.mem ((c.tc : Thread Cert.RefBwdIdeal.nD Cert.RefBwdIdeal.τ).loc Cert.RefBwdIdeal.main_arg1) = m ((c.tc : Thread Cert.RefBwdIdeal.nD Cert.RefBwdIdeal.τ).loc Cert.RefBwdIdeal.main_arg1)
      ∧ r.2.mem ((c.tc : Thread Cert.RefBwdIdeal.nD Cert.RefBwdIdeal.τ).loc Cert.RefBwdIdeal.main_arg2) = m ((c.tc : Thread Cert.RefBwdIdeal.nD Cert.RefBwdIdeal.τ).loc Cert.RefBwdIdeal.main_arg2)
      ∧ r.2.mem ((c.tc : Thread Cert.RefBwdIdeal.nD Cert.RefBwdIdeal.τ).loc Cert.RefBwdIdeal.main_arg3) = m ((c.tc : Thread Cert.RefBwdIdeal.nD Cert.RefBwdIdeal.τ).loc Cert.RefBwdIdeal.main_arg3)
      ∧ r.2.mem ((c.tc : Thread Cert.RefBwdIdeal.nD Cert.RefBwdIdeal.τ).loc Cert.RefBwdIdeal.main_arg4) = m ((c.tc : Thread Cert.RefBwdIdeal.nD Cert.RefBwdIdeal.τ).loc Cert.RefBwdIdeal.main_arg4)
      ∧ r.2.mem ((c.tc : Thread Cert.RefBwdIdeal.nD Cert.RefBwdIdeal.τ).loc Cert.RefBwdIdeal.main_arg5) = m ((c.tc : Thread Cert.RefBwdIdeal.nD Cert.RefBwdIdeal.τ).loc Cert.RefBwdIdeal.main_arg5)
      ∧ r.2.mem ((c.tc : Thread Cert.RefBwdIdeal.nD Cert.RefBwdIdeal.τ).loc Cert.RefBwdIdeal.main_arg6) = m ((c.tc : Thread Cert.RefBwdIdeal.nD Cert.RefBwdIdeal.τ).loc Cert.RefBwdIdeal.main_arg6)
      ∧ r.2.mem ((c.tc : Thread Cert.RefBwdIdeal.nD Cert.RefBwdIdeal.τ).loc Cert.RefBwdIdeal.main_arg7) = m ((c.tc : Thread Cert.RefBwdIdeal.nD Cert.RefBwdIdeal.τ).loc Cert.RefBwdIdeal.main_arg7)
      ∧ r.2.mem ((c.tc : Thread Cert.RefBwdIdeal.nD Cert.RefBwdIdeal.τ).loc Cert.RefBwdIdeal.main_arg8) = m ((c.tc : Thread Cert.RefBwdIdeal.nD Cert.RefBwdIdeal.τ).loc Cert.RefBwdIdeal.main_arg8))
      ∧ r.2.sem = fun _ => 0)

def quiescent_ScanFwd [hScanFwd : Cert.ScanFwd.Facts] : Prop :=
  ∀ (m : (ℓ : Loc Cert.ScanFwd.nD Cert.ScanFwd.τ Cert.ScanFwd.sig) → Buf (Elt Bits) ℓ) (g : Dev Cert.ScanFwd.nD → PrngReg), Pre_ScanFwd m →
    θ_run (Cert.ScanFwd.defs (F := Bits)) (onTc (τ := Cert.ScanFwd.τ) (Cert.ScanFwd.main (F := Bits))) ⟨m, fun _ => 0, g⟩ (fun r => (∀ c : Dev Cert.ScanFwd.nD,
      r.2.mem ((c.tc : Thread Cert.ScanFwd.nD Cert.ScanFwd.τ).loc Cert.ScanFwd.main_arg0) = m ((c.tc : Thread Cert.ScanFwd.nD Cert.ScanFwd.τ).loc Cert.ScanFwd.main_arg0)
      ∧ r.2.mem ((c.tc : Thread Cert.ScanFwd.nD Cert.ScanFwd.τ).loc Cert.ScanFwd.main_arg1) = m ((c.tc : Thread Cert.ScanFwd.nD Cert.ScanFwd.τ).loc Cert.ScanFwd.main_arg1)
      ∧ r.2.mem ((c.tc : Thread Cert.ScanFwd.nD Cert.ScanFwd.τ).loc Cert.ScanFwd.main_arg2) = m ((c.tc : Thread Cert.ScanFwd.nD Cert.ScanFwd.τ).loc Cert.ScanFwd.main_arg2)
      ∧ r.2.mem ((c.tc : Thread Cert.ScanFwd.nD Cert.ScanFwd.τ).loc Cert.ScanFwd.main_arg3) = m ((c.tc : Thread Cert.ScanFwd.nD Cert.ScanFwd.τ).loc Cert.ScanFwd.main_arg3)
      ∧ r.2.mem ((c.tc : Thread Cert.ScanFwd.nD Cert.ScanFwd.τ).loc Cert.ScanFwd.main_arg4) = m ((c.tc : Thread Cert.ScanFwd.nD Cert.ScanFwd.τ).loc Cert.ScanFwd.main_arg4)
      ∧ r.2.mem ((c.tc : Thread Cert.ScanFwd.nD Cert.ScanFwd.τ).loc Cert.ScanFwd.main_arg5) = m ((c.tc : Thread Cert.ScanFwd.nD Cert.ScanFwd.τ).loc Cert.ScanFwd.main_arg5)
      ∧ r.2.mem ((c.tc : Thread Cert.ScanFwd.nD Cert.ScanFwd.τ).loc Cert.ScanFwd.main_arg6) = m ((c.tc : Thread Cert.ScanFwd.nD Cert.ScanFwd.τ).loc Cert.ScanFwd.main_arg6)
      ∧ r.2.mem ((c.tc : Thread Cert.ScanFwd.nD Cert.ScanFwd.τ).loc Cert.ScanFwd.main_arg7) = m ((c.tc : Thread Cert.ScanFwd.nD Cert.ScanFwd.τ).loc Cert.ScanFwd.main_arg7)
      ∧ r.2.mem ((c.tc : Thread Cert.ScanFwd.nD Cert.ScanFwd.τ).loc Cert.ScanFwd.main_arg8) = m ((c.tc : Thread Cert.ScanFwd.nD Cert.ScanFwd.τ).loc Cert.ScanFwd.main_arg8)
      ∧ r.2.mem ((c.tc : Thread Cert.ScanFwd.nD Cert.ScanFwd.τ).loc Cert.ScanFwd.main_arg9) = m ((c.tc : Thread Cert.ScanFwd.nD Cert.ScanFwd.τ).loc Cert.ScanFwd.main_arg9)
      ∧ r.2.mem ((c.tc : Thread Cert.ScanFwd.nD Cert.ScanFwd.τ).loc Cert.ScanFwd.main_arg10) = m ((c.tc : Thread Cert.ScanFwd.nD Cert.ScanFwd.τ).loc Cert.ScanFwd.main_arg10))
      ∧ r.2.sem = fun _ => 0)

def quiescent_ScanFwdIdeal [hScanFwdIdeal : Cert.ScanFwdIdeal.Facts] : Prop :=
  ∀ (m : (ℓ : Loc Cert.ScanFwdIdeal.nD Cert.ScanFwdIdeal.τ Cert.ScanFwdIdeal.sig) → Buf (Elt Ideal) ℓ) (g : Dev Cert.ScanFwdIdeal.nD → PrngReg), Pre_ScanFwdIdeal m →
    θ_run (Cert.ScanFwdIdeal.defs (F := Ideal)) (onTc (τ := Cert.ScanFwdIdeal.τ) (Cert.ScanFwdIdeal.main (F := Ideal))) ⟨m, fun _ => 0, g⟩ (fun r => (∀ c : Dev Cert.ScanFwdIdeal.nD,
      r.2.mem ((c.tc : Thread Cert.ScanFwdIdeal.nD Cert.ScanFwdIdeal.τ).loc Cert.ScanFwdIdeal.main_arg0) = m ((c.tc : Thread Cert.ScanFwdIdeal.nD Cert.ScanFwdIdeal.τ).loc Cert.ScanFwdIdeal.main_arg0)
      ∧ r.2.mem ((c.tc : Thread Cert.ScanFwdIdeal.nD Cert.ScanFwdIdeal.τ).loc Cert.ScanFwdIdeal.main_arg1) = m ((c.tc : Thread Cert.ScanFwdIdeal.nD Cert.ScanFwdIdeal.τ).loc Cert.ScanFwdIdeal.main_arg1)
      ∧ r.2.mem ((c.tc : Thread Cert.ScanFwdIdeal.nD Cert.ScanFwdIdeal.τ).loc Cert.ScanFwdIdeal.main_arg2) = m ((c.tc : Thread Cert.ScanFwdIdeal.nD Cert.ScanFwdIdeal.τ).loc Cert.ScanFwdIdeal.main_arg2)
      ∧ r.2.mem ((c.tc : Thread Cert.ScanFwdIdeal.nD Cert.ScanFwdIdeal.τ).loc Cert.ScanFwdIdeal.main_arg3) = m ((c.tc : Thread Cert.ScanFwdIdeal.nD Cert.ScanFwdIdeal.τ).loc Cert.ScanFwdIdeal.main_arg3)
      ∧ r.2.mem ((c.tc : Thread Cert.ScanFwdIdeal.nD Cert.ScanFwdIdeal.τ).loc Cert.ScanFwdIdeal.main_arg4) = m ((c.tc : Thread Cert.ScanFwdIdeal.nD Cert.ScanFwdIdeal.τ).loc Cert.ScanFwdIdeal.main_arg4)
      ∧ r.2.mem ((c.tc : Thread Cert.ScanFwdIdeal.nD Cert.ScanFwdIdeal.τ).loc Cert.ScanFwdIdeal.main_arg5) = m ((c.tc : Thread Cert.ScanFwdIdeal.nD Cert.ScanFwdIdeal.τ).loc Cert.ScanFwdIdeal.main_arg5)
      ∧ r.2.mem ((c.tc : Thread Cert.ScanFwdIdeal.nD Cert.ScanFwdIdeal.τ).loc Cert.ScanFwdIdeal.main_arg6) = m ((c.tc : Thread Cert.ScanFwdIdeal.nD Cert.ScanFwdIdeal.τ).loc Cert.ScanFwdIdeal.main_arg6)
      ∧ r.2.mem ((c.tc : Thread Cert.ScanFwdIdeal.nD Cert.ScanFwdIdeal.τ).loc Cert.ScanFwdIdeal.main_arg7) = m ((c.tc : Thread Cert.ScanFwdIdeal.nD Cert.ScanFwdIdeal.τ).loc Cert.ScanFwdIdeal.main_arg7)
      ∧ r.2.mem ((c.tc : Thread Cert.ScanFwdIdeal.nD Cert.ScanFwdIdeal.τ).loc Cert.ScanFwdIdeal.main_arg8) = m ((c.tc : Thread Cert.ScanFwdIdeal.nD Cert.ScanFwdIdeal.τ).loc Cert.ScanFwdIdeal.main_arg8)
      ∧ r.2.mem ((c.tc : Thread Cert.ScanFwdIdeal.nD Cert.ScanFwdIdeal.τ).loc Cert.ScanFwdIdeal.main_arg9) = m ((c.tc : Thread Cert.ScanFwdIdeal.nD Cert.ScanFwdIdeal.τ).loc Cert.ScanFwdIdeal.main_arg9)
      ∧ r.2.mem ((c.tc : Thread Cert.ScanFwdIdeal.nD Cert.ScanFwdIdeal.τ).loc Cert.ScanFwdIdeal.main_arg10) = m ((c.tc : Thread Cert.ScanFwdIdeal.nD Cert.ScanFwdIdeal.τ).loc Cert.ScanFwdIdeal.main_arg10))
      ∧ r.2.sem = fun _ => 0)

def quiescent_RefFwdIdeal [hRefFwdIdeal : Cert.RefFwdIdeal.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2)
      ∧ r.2.mem ((c.tc : Thread Cert.RefFwdIdeal.nD Cert.RefFwdIdeal.τ).loc Cert.RefFwdIdeal.main_arg3) = m ((c.tc : Thread Cert.RefFwdIdeal.nD Cert.RefFwdIdeal.τ).loc Cert.RefFwdIdeal.main_arg3)
      ∧ r.2.mem ((c.tc : Thread Cert.RefFwdIdeal.nD Cert.RefFwdIdeal.τ).loc Cert.RefFwdIdeal.main_arg4) = m ((c.tc : Thread Cert.RefFwdIdeal.nD Cert.RefFwdIdeal.τ).loc Cert.RefFwdIdeal.main_arg4)
      ∧ r.2.mem ((c.tc : Thread Cert.RefFwdIdeal.nD Cert.RefFwdIdeal.τ).loc Cert.RefFwdIdeal.main_arg5) = m ((c.tc : Thread Cert.RefFwdIdeal.nD Cert.RefFwdIdeal.τ).loc Cert.RefFwdIdeal.main_arg5)
      ∧ r.2.mem ((c.tc : Thread Cert.RefFwdIdeal.nD Cert.RefFwdIdeal.τ).loc Cert.RefFwdIdeal.main_arg6) = m ((c.tc : Thread Cert.RefFwdIdeal.nD Cert.RefFwdIdeal.τ).loc Cert.RefFwdIdeal.main_arg6)
      ∧ r.2.mem ((c.tc : Thread Cert.RefFwdIdeal.nD Cert.RefFwdIdeal.τ).loc Cert.RefFwdIdeal.main_arg7) = m ((c.tc : Thread Cert.RefFwdIdeal.nD Cert.RefFwdIdeal.τ).loc Cert.RefFwdIdeal.main_arg7)
      ∧ r.2.mem ((c.tc : Thread Cert.RefFwdIdeal.nD Cert.RefFwdIdeal.τ).loc Cert.RefFwdIdeal.main_arg8) = m ((c.tc : Thread Cert.RefFwdIdeal.nD Cert.RefFwdIdeal.τ).loc Cert.RefFwdIdeal.main_arg8)
      ∧ r.2.mem ((c.tc : Thread Cert.RefFwdIdeal.nD Cert.RefFwdIdeal.τ).loc Cert.RefFwdIdeal.main_arg9) = m ((c.tc : Thread Cert.RefFwdIdeal.nD Cert.RefFwdIdeal.τ).loc Cert.RefFwdIdeal.main_arg9)
      ∧ r.2.mem ((c.tc : Thread Cert.RefFwdIdeal.nD Cert.RefFwdIdeal.τ).loc Cert.RefFwdIdeal.main_arg10) = m ((c.tc : Thread Cert.RefFwdIdeal.nD Cert.RefFwdIdeal.τ).loc Cert.RefFwdIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6)
      ∧ r.2.mem ((c.tc : Thread Cert.RefFfnIdeal.nD Cert.RefFfnIdeal.τ).loc Cert.RefFfnIdeal.main_arg7) = m ((c.tc : Thread Cert.RefFfnIdeal.nD Cert.RefFfnIdeal.τ).loc Cert.RefFfnIdeal.main_arg7)
      ∧ r.2.mem ((c.tc : Thread Cert.RefFfnIdeal.nD Cert.RefFfnIdeal.τ).loc Cert.RefFfnIdeal.main_arg8) = m ((c.tc : Thread Cert.RefFfnIdeal.nD Cert.RefFfnIdeal.τ).loc Cert.RefFfnIdeal.main_arg8))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5)
      ∧ r.2.mem ((c.tc : Thread Cert.RefOutIdeal.nD Cert.RefOutIdeal.τ).loc Cert.RefOutIdeal.main_arg6) = m ((c.tc : Thread Cert.RefOutIdeal.nD Cert.RefOutIdeal.τ).loc Cert.RefOutIdeal.main_arg6)
      ∧ r.2.mem ((c.tc : Thread Cert.RefOutIdeal.nD Cert.RefOutIdeal.τ).loc Cert.RefOutIdeal.main_arg7) = m ((c.tc : Thread Cert.RefOutIdeal.nD Cert.RefOutIdeal.τ).loc Cert.RefOutIdeal.main_arg7))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6)
      ∧ r.2.mem ((c.tc : Thread Cert.RefInIdeal.nD Cert.RefInIdeal.τ).loc Cert.RefInIdeal.main_arg7) = m ((c.tc : Thread Cert.RefInIdeal.nD Cert.RefInIdeal.τ).loc Cert.RefInIdeal.main_arg7))
      ∧ r.2.sem = fun _ => 0)

def preserves_ScanBwd_ScanBwdIdeal : Prop :=
  True

def algebraic_ScanBwdIdeal_RefBwdIdeal [hScanBwdIdeal : Cert.ScanBwdIdeal.Facts] [hRefBwdIdeal : Cert.RefBwdIdeal.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg)
    (m' : (ℓ : Loc Cert.RefBwdIdeal.nD Cert.RefBwdIdeal.τ Cert.RefBwdIdeal.sig) → Buf (Elt Ideal) ℓ) (g' : Dev Cert.RefBwdIdeal.nD → PrngReg), Pre_ScanBwdIdeal m →
    (∀ c : Dev Cert.ScanBwdIdeal.nD,
      m' ((c.tc : Thread Cert.RefBwdIdeal.nD Cert.RefBwdIdeal.τ).loc Cert.RefBwdIdeal.main_arg0) = m ((c.tc : Thread Cert.ScanBwdIdeal.nD Cert.ScanBwdIdeal.τ).loc Cert.ScanBwdIdeal.main_arg0)
      ∧ m' ((c.tc : Thread Cert.RefBwdIdeal.nD Cert.RefBwdIdeal.τ).loc Cert.RefBwdIdeal.main_arg1) = m ((c.tc : Thread Cert.ScanBwdIdeal.nD Cert.ScanBwdIdeal.τ).loc Cert.ScanBwdIdeal.main_arg1)
      ∧ m' ((c.tc : Thread Cert.RefBwdIdeal.nD Cert.RefBwdIdeal.τ).loc Cert.RefBwdIdeal.main_arg2) = m ((c.tc : Thread Cert.ScanBwdIdeal.nD Cert.ScanBwdIdeal.τ).loc Cert.ScanBwdIdeal.main_arg2)
      ∧ m' ((c.tc : Thread Cert.RefBwdIdeal.nD Cert.RefBwdIdeal.τ).loc Cert.RefBwdIdeal.main_arg3) = m ((c.tc : Thread Cert.ScanBwdIdeal.nD Cert.ScanBwdIdeal.τ).loc Cert.ScanBwdIdeal.main_arg3)
      ∧ m' ((c.tc : Thread Cert.RefBwdIdeal.nD Cert.RefBwdIdeal.τ).loc Cert.RefBwdIdeal.main_arg4) = m ((c.tc : Thread Cert.ScanBwdIdeal.nD Cert.ScanBwdIdeal.τ).loc Cert.ScanBwdIdeal.main_arg4)
      ∧ m' ((c.tc : Thread Cert.RefBwdIdeal.nD Cert.RefBwdIdeal.τ).loc Cert.RefBwdIdeal.main_arg5) = m ((c.tc : Thread Cert.ScanBwdIdeal.nD Cert.ScanBwdIdeal.τ).loc Cert.ScanBwdIdeal.main_arg5)
      ∧ m' ((c.tc : Thread Cert.RefBwdIdeal.nD Cert.RefBwdIdeal.τ).loc Cert.RefBwdIdeal.main_arg6) = m ((c.tc : Thread Cert.ScanBwdIdeal.nD Cert.ScanBwdIdeal.τ).loc Cert.ScanBwdIdeal.main_arg6)
      ∧ m' ((c.tc : Thread Cert.RefBwdIdeal.nD Cert.RefBwdIdeal.τ).loc Cert.RefBwdIdeal.main_arg7) = m ((c.tc : Thread Cert.ScanBwdIdeal.nD Cert.ScanBwdIdeal.τ).loc Cert.ScanBwdIdeal.main_arg7)
      ∧ m' ((c.tc : Thread Cert.RefBwdIdeal.nD Cert.RefBwdIdeal.τ).loc Cert.RefBwdIdeal.main_arg8) = m ((c.tc : Thread Cert.ScanBwdIdeal.nD Cert.ScanBwdIdeal.τ).loc Cert.ScanBwdIdeal.main_arg8)) →
    ∃ (v0 : (c : Dev Cert.ScanBwdIdeal.nD) → Buf (Elt Ideal) ((c.tc : Thread Cert.ScanBwdIdeal.nD Cert.ScanBwdIdeal.τ).loc Cert.ScanBwdIdeal.main_v16)),
      θ_run (Cert.ScanBwdIdeal.defs (F := Ideal)) (onTc (τ := Cert.ScanBwdIdeal.τ) (Cert.ScanBwdIdeal.main (F := Ideal))) ⟨m, fun _ => 0, g⟩ (fun r => ∀ c : Dev Cert.ScanBwdIdeal.nD,
          r.2.mem ((c.tc : Thread Cert.ScanBwdIdeal.nD Cert.ScanBwdIdeal.τ).loc Cert.ScanBwdIdeal.main_v16) = v0 c
          ∧ r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
          ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
          ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2)
          ∧ r.2.mem ((c.tc : Thread Cert.ScanBwdIdeal.nD Cert.ScanBwdIdeal.τ).loc Cert.ScanBwdIdeal.main_arg3) = m ((c.tc : Thread Cert.ScanBwdIdeal.nD Cert.ScanBwdIdeal.τ).loc Cert.ScanBwdIdeal.main_arg3)
          ∧ r.2.mem ((c.tc : Thread Cert.ScanBwdIdeal.nD Cert.ScanBwdIdeal.τ).loc Cert.ScanBwdIdeal.main_arg4) = m ((c.tc : Thread Cert.ScanBwdIdeal.nD Cert.ScanBwdIdeal.τ).loc Cert.ScanBwdIdeal.main_arg4)
          ∧ r.2.mem ((c.tc : Thread Cert.ScanBwdIdeal.nD Cert.ScanBwdIdeal.τ).loc Cert.ScanBwdIdeal.main_arg5) = m ((c.tc : Thread Cert.ScanBwdIdeal.nD Cert.ScanBwdIdeal.τ).loc Cert.ScanBwdIdeal.main_arg5)
          ∧ r.2.mem ((c.tc : Thread Cert.ScanBwdIdeal.nD Cert.ScanBwdIdeal.τ).loc Cert.ScanBwdIdeal.main_arg6) = m ((c.tc : Thread Cert.ScanBwdIdeal.nD Cert.ScanBwdIdeal.τ).loc Cert.ScanBwdIdeal.main_arg6)
          ∧ r.2.mem ((c.tc : Thread Cert.ScanBwdIdeal.nD Cert.ScanBwdIdeal.τ).loc Cert.ScanBwdIdeal.main_arg7) = m ((c.tc : Thread Cert.ScanBwdIdeal.nD Cert.ScanBwdIdeal.τ).loc Cert.ScanBwdIdeal.main_arg7)
          ∧ r.2.mem ((c.tc : Thread Cert.ScanBwdIdeal.nD Cert.ScanBwdIdeal.τ).loc Cert.ScanBwdIdeal.main_arg8) = m ((c.tc : Thread Cert.ScanBwdIdeal.nD Cert.ScanBwdIdeal.τ).loc Cert.ScanBwdIdeal.main_arg8))
      ∧ θ_run (Cert.RefBwdIdeal.defs (F := Ideal)) (onTc (τ := Cert.RefBwdIdeal.τ) (Cert.RefBwdIdeal.main (F := Ideal))) ⟨m', fun _ => 0, g'⟩ (fun r => ∀ c : Dev Cert.RefBwdIdeal.nD,
          r.2.mem ((c.tc : Thread Cert.RefBwdIdeal.nD Cert.RefBwdIdeal.τ).loc Cert.RefBwdIdeal.main_v92) = v0 c
          ∧ r.2.mem ((c.tc : Thread Cert.RefBwdIdeal.nD Cert.RefBwdIdeal.τ).loc Cert.RefBwdIdeal.main_arg0) = m' ((c.tc : Thread Cert.RefBwdIdeal.nD Cert.RefBwdIdeal.τ).loc Cert.RefBwdIdeal.main_arg0)
          ∧ r.2.mem ((c.tc : Thread Cert.RefBwdIdeal.nD Cert.RefBwdIdeal.τ).loc Cert.RefBwdIdeal.main_arg1) = m' ((c.tc : Thread Cert.RefBwdIdeal.nD Cert.RefBwdIdeal.τ).loc Cert.RefBwdIdeal.main_arg1)
          ∧ r.2.mem ((c.tc : Thread Cert.RefBwdIdeal.nD Cert.RefBwdIdeal.τ).loc Cert.RefBwdIdeal.main_arg2) = m' ((c.tc : Thread Cert.RefBwdIdeal.nD Cert.RefBwdIdeal.τ).loc Cert.RefBwdIdeal.main_arg2)
          ∧ r.2.mem ((c.tc : Thread Cert.RefBwdIdeal.nD Cert.RefBwdIdeal.τ).loc Cert.RefBwdIdeal.main_arg3) = m' ((c.tc : Thread Cert.RefBwdIdeal.nD Cert.RefBwdIdeal.τ).loc Cert.RefBwdIdeal.main_arg3)
          ∧ r.2.mem ((c.tc : Thread Cert.RefBwdIdeal.nD Cert.RefBwdIdeal.τ).loc Cert.RefBwdIdeal.main_arg4) = m' ((c.tc : Thread Cert.RefBwdIdeal.nD Cert.RefBwdIdeal.τ).loc Cert.RefBwdIdeal.main_arg4)
          ∧ r.2.mem ((c.tc : Thread Cert.RefBwdIdeal.nD Cert.RefBwdIdeal.τ).loc Cert.RefBwdIdeal.main_arg5) = m' ((c.tc : Thread Cert.RefBwdIdeal.nD Cert.RefBwdIdeal.τ).loc Cert.RefBwdIdeal.main_arg5)
          ∧ r.2.mem ((c.tc : Thread Cert.RefBwdIdeal.nD Cert.RefBwdIdeal.τ).loc Cert.RefBwdIdeal.main_arg6) = m' ((c.tc : Thread Cert.RefBwdIdeal.nD Cert.RefBwdIdeal.τ).loc Cert.RefBwdIdeal.main_arg6)
          ∧ r.2.mem ((c.tc : Thread Cert.RefBwdIdeal.nD Cert.RefBwdIdeal.τ).loc Cert.RefBwdIdeal.main_arg7) = m' ((c.tc : Thread Cert.RefBwdIdeal.nD Cert.RefBwdIdeal.τ).loc Cert.RefBwdIdeal.main_arg7)
          ∧ r.2.mem ((c.tc : Thread Cert.RefBwdIdeal.nD Cert.RefBwdIdeal.τ).loc Cert.RefBwdIdeal.main_arg8) = m' ((c.tc : Thread Cert.RefBwdIdeal.nD Cert.RefBwdIdeal.τ).loc Cert.RefBwdIdeal.main_arg8))

def preserves_ScanFwd_ScanFwdIdeal : Prop :=
  True

def algebraic_ScanFwdIdeal_RefFwdIdeal [hScanFwdIdeal : Cert.ScanFwdIdeal.Facts] [hRefFwdIdeal : Cert.RefFwdIdeal.Facts] : Prop :=
  ∀ (m : (ℓ : Loc Cert.ScanFwdIdeal.nD Cert.ScanFwdIdeal.τ Cert.ScanFwdIdeal.sig) → Buf (Elt Ideal) ℓ) (g : Dev Cert.ScanFwdIdeal.nD → PrngReg)
    (m' : (ℓ : Loc Cert.RefFwdIdeal.nD Cert.RefFwdIdeal.τ Cert.RefFwdIdeal.sig) → Buf (Elt Ideal) ℓ) (g' : Dev Cert.RefFwdIdeal.nD → PrngReg), Pre_ScanFwdIdeal m →
    (∀ c : Dev Cert.ScanFwdIdeal.nD,
      m' ((c.tc : Thread Cert.RefFwdIdeal.nD Cert.RefFwdIdeal.τ).loc Cert.RefFwdIdeal.main_arg0) = m ((c.tc : Thread Cert.ScanFwdIdeal.nD Cert.ScanFwdIdeal.τ).loc Cert.ScanFwdIdeal.main_arg0)
      ∧ m' ((c.tc : Thread Cert.RefFwdIdeal.nD Cert.RefFwdIdeal.τ).loc Cert.RefFwdIdeal.main_arg1) = m ((c.tc : Thread Cert.ScanFwdIdeal.nD Cert.ScanFwdIdeal.τ).loc Cert.ScanFwdIdeal.main_arg1)
      ∧ m' ((c.tc : Thread Cert.RefFwdIdeal.nD Cert.RefFwdIdeal.τ).loc Cert.RefFwdIdeal.main_arg2) = m ((c.tc : Thread Cert.ScanFwdIdeal.nD Cert.ScanFwdIdeal.τ).loc Cert.ScanFwdIdeal.main_arg2)
      ∧ m' ((c.tc : Thread Cert.RefFwdIdeal.nD Cert.RefFwdIdeal.τ).loc Cert.RefFwdIdeal.main_arg3) = m ((c.tc : Thread Cert.ScanFwdIdeal.nD Cert.ScanFwdIdeal.τ).loc Cert.ScanFwdIdeal.main_arg3)
      ∧ m' ((c.tc : Thread Cert.RefFwdIdeal.nD Cert.RefFwdIdeal.τ).loc Cert.RefFwdIdeal.main_arg4) = m ((c.tc : Thread Cert.ScanFwdIdeal.nD Cert.ScanFwdIdeal.τ).loc Cert.ScanFwdIdeal.main_arg4)
      ∧ m' ((c.tc : Thread Cert.RefFwdIdeal.nD Cert.RefFwdIdeal.τ).loc Cert.RefFwdIdeal.main_arg5) = m ((c.tc : Thread Cert.ScanFwdIdeal.nD Cert.ScanFwdIdeal.τ).loc Cert.ScanFwdIdeal.main_arg5)
      ∧ m' ((c.tc : Thread Cert.RefFwdIdeal.nD Cert.RefFwdIdeal.τ).loc Cert.RefFwdIdeal.main_arg6) = m ((c.tc : Thread Cert.ScanFwdIdeal.nD Cert.ScanFwdIdeal.τ).loc Cert.ScanFwdIdeal.main_arg6)
      ∧ m' ((c.tc : Thread Cert.RefFwdIdeal.nD Cert.RefFwdIdeal.τ).loc Cert.RefFwdIdeal.main_arg7) = m ((c.tc : Thread Cert.ScanFwdIdeal.nD Cert.ScanFwdIdeal.τ).loc Cert.ScanFwdIdeal.main_arg7)
      ∧ m' ((c.tc : Thread Cert.RefFwdIdeal.nD Cert.RefFwdIdeal.τ).loc Cert.RefFwdIdeal.main_arg8) = m ((c.tc : Thread Cert.ScanFwdIdeal.nD Cert.ScanFwdIdeal.τ).loc Cert.ScanFwdIdeal.main_arg8)
      ∧ m' ((c.tc : Thread Cert.RefFwdIdeal.nD Cert.RefFwdIdeal.τ).loc Cert.RefFwdIdeal.main_arg9) = m ((c.tc : Thread Cert.ScanFwdIdeal.nD Cert.ScanFwdIdeal.τ).loc Cert.ScanFwdIdeal.main_arg9)
      ∧ m' ((c.tc : Thread Cert.RefFwdIdeal.nD Cert.RefFwdIdeal.τ).loc Cert.RefFwdIdeal.main_arg10) = m ((c.tc : Thread Cert.ScanFwdIdeal.nD Cert.ScanFwdIdeal.τ).loc Cert.ScanFwdIdeal.main_arg10)) →
    ∃ (v0 : (c : Dev Cert.ScanFwdIdeal.nD) → Buf (Elt Ideal) ((c.tc : Thread Cert.ScanFwdIdeal.nD Cert.ScanFwdIdeal.τ).loc Cert.ScanFwdIdeal.main_v16)),
      θ_run (Cert.ScanFwdIdeal.defs (F := Ideal)) (onTc (τ := Cert.ScanFwdIdeal.τ) (Cert.ScanFwdIdeal.main (F := Ideal))) ⟨m, fun _ => 0, g⟩ (fun r => ∀ c : Dev Cert.ScanFwdIdeal.nD,
          r.2.mem ((c.tc : Thread Cert.ScanFwdIdeal.nD Cert.ScanFwdIdeal.τ).loc Cert.ScanFwdIdeal.main_v16) = v0 c
          ∧ r.2.mem ((c.tc : Thread Cert.ScanFwdIdeal.nD Cert.ScanFwdIdeal.τ).loc Cert.ScanFwdIdeal.main_arg0) = m ((c.tc : Thread Cert.ScanFwdIdeal.nD Cert.ScanFwdIdeal.τ).loc Cert.ScanFwdIdeal.main_arg0)
          ∧ r.2.mem ((c.tc : Thread Cert.ScanFwdIdeal.nD Cert.ScanFwdIdeal.τ).loc Cert.ScanFwdIdeal.main_arg1) = m ((c.tc : Thread Cert.ScanFwdIdeal.nD Cert.ScanFwdIdeal.τ).loc Cert.ScanFwdIdeal.main_arg1)
          ∧ r.2.mem ((c.tc : Thread Cert.ScanFwdIdeal.nD Cert.ScanFwdIdeal.τ).loc Cert.ScanFwdIdeal.main_arg2) = m ((c.tc : Thread Cert.ScanFwdIdeal.nD Cert.ScanFwdIdeal.τ).loc Cert.ScanFwdIdeal.main_arg2)
          ∧ r.2.mem ((c.tc : Thread Cert.ScanFwdIdeal.nD Cert.ScanFwdIdeal.τ).loc Cert.ScanFwdIdeal.main_arg3) = m ((c.tc : Thread Cert.ScanFwdIdeal.nD Cert.ScanFwdIdeal.τ).loc Cert.ScanFwdIdeal.main_arg3)
          ∧ r.2.mem ((c.tc : Thread Cert.ScanFwdIdeal.nD Cert.ScanFwdIdeal.τ).loc Cert.ScanFwdIdeal.main_arg4) = m ((c.tc : Thread Cert.ScanFwdIdeal.nD Cert.ScanFwdIdeal.τ).loc Cert.ScanFwdIdeal.main_arg4)
          ∧ r.2.mem ((c.tc : Thread Cert.ScanFwdIdeal.nD Cert.ScanFwdIdeal.τ).loc Cert.ScanFwdIdeal.main_arg5) = m ((c.tc : Thread Cert.ScanFwdIdeal.nD Cert.ScanFwdIdeal.τ).loc Cert.ScanFwdIdeal.main_arg5)
          ∧ r.2.mem ((c.tc : Thread Cert.ScanFwdIdeal.nD Cert.ScanFwdIdeal.τ).loc Cert.ScanFwdIdeal.main_arg6) = m ((c.tc : Thread Cert.ScanFwdIdeal.nD Cert.ScanFwdIdeal.τ).loc Cert.ScanFwdIdeal.main_arg6)
          ∧ r.2.mem ((c.tc : Thread Cert.ScanFwdIdeal.nD Cert.ScanFwdIdeal.τ).loc Cert.ScanFwdIdeal.main_arg7) = m ((c.tc : Thread Cert.ScanFwdIdeal.nD Cert.ScanFwdIdeal.τ).loc Cert.ScanFwdIdeal.main_arg7)
          ∧ r.2.mem ((c.tc : Thread Cert.ScanFwdIdeal.nD Cert.ScanFwdIdeal.τ).loc Cert.ScanFwdIdeal.main_arg8) = m ((c.tc : Thread Cert.ScanFwdIdeal.nD Cert.ScanFwdIdeal.τ).loc Cert.ScanFwdIdeal.main_arg8)
          ∧ r.2.mem ((c.tc : Thread Cert.ScanFwdIdeal.nD Cert.ScanFwdIdeal.τ).loc Cert.ScanFwdIdeal.main_arg9) = m ((c.tc : Thread Cert.ScanFwdIdeal.nD Cert.ScanFwdIdeal.τ).loc Cert.ScanFwdIdeal.main_arg9)
          ∧ r.2.mem ((c.tc : Thread Cert.ScanFwdIdeal.nD Cert.ScanFwdIdeal.τ).loc Cert.ScanFwdIdeal.main_arg10) = m ((c.tc : Thread Cert.ScanFwdIdeal.nD Cert.ScanFwdIdeal.τ).loc Cert.ScanFwdIdeal.main_arg10))
      ∧ θ_run (Cert.RefFwdIdeal.defs (F := Ideal)) (onTc (τ := Cert.RefFwdIdeal.τ) (Cert.RefFwdIdeal.main (F := Ideal))) ⟨m', fun _ => 0, g'⟩ (fun r => ∀ c : Dev Cert.RefFwdIdeal.nD,
          r.2.mem ((c.tc : Thread Cert.RefFwdIdeal.nD Cert.RefFwdIdeal.τ).loc Cert.RefFwdIdeal.main_v95) = v0 c
          ∧ r.2.mem ((c.tc : Thread Cert.RefFwdIdeal.nD Cert.RefFwdIdeal.τ).loc Cert.RefFwdIdeal.main_arg0) = m' ((c.tc : Thread Cert.RefFwdIdeal.nD Cert.RefFwdIdeal.τ).loc Cert.RefFwdIdeal.main_arg0)
          ∧ r.2.mem ((c.tc : Thread Cert.RefFwdIdeal.nD Cert.RefFwdIdeal.τ).loc Cert.RefFwdIdeal.main_arg1) = m' ((c.tc : Thread Cert.RefFwdIdeal.nD Cert.RefFwdIdeal.τ).loc Cert.RefFwdIdeal.main_arg1)
          ∧ r.2.mem ((c.tc : Thread Cert.RefFwdIdeal.nD Cert.RefFwdIdeal.τ).loc Cert.RefFwdIdeal.main_arg2) = m' ((c.tc : Thread Cert.RefFwdIdeal.nD Cert.RefFwdIdeal.τ).loc Cert.RefFwdIdeal.main_arg2)
          ∧ r.2.mem ((c.tc : Thread Cert.RefFwdIdeal.nD Cert.RefFwdIdeal.τ).loc Cert.RefFwdIdeal.main_arg3) = m' ((c.tc : Thread Cert.RefFwdIdeal.nD Cert.RefFwdIdeal.τ).loc Cert.RefFwdIdeal.main_arg3)
          ∧ r.2.mem ((c.tc : Thread Cert.RefFwdIdeal.nD Cert.RefFwdIdeal.τ).loc Cert.RefFwdIdeal.main_arg4) = m' ((c.tc : Thread Cert.RefFwdIdeal.nD Cert.RefFwdIdeal.τ).loc Cert.RefFwdIdeal.main_arg4)
          ∧ r.2.mem ((c.tc : Thread Cert.RefFwdIdeal.nD Cert.RefFwdIdeal.τ).loc Cert.RefFwdIdeal.main_arg5) = m' ((c.tc : Thread Cert.RefFwdIdeal.nD Cert.RefFwdIdeal.τ).loc Cert.RefFwdIdeal.main_arg5)
          ∧ r.2.mem ((c.tc : Thread Cert.RefFwdIdeal.nD Cert.RefFwdIdeal.τ).loc Cert.RefFwdIdeal.main_arg6) = m' ((c.tc : Thread Cert.RefFwdIdeal.nD Cert.RefFwdIdeal.τ).loc Cert.RefFwdIdeal.main_arg6)
          ∧ r.2.mem ((c.tc : Thread Cert.RefFwdIdeal.nD Cert.RefFwdIdeal.τ).loc Cert.RefFwdIdeal.main_arg7) = m' ((c.tc : Thread Cert.RefFwdIdeal.nD Cert.RefFwdIdeal.τ).loc Cert.RefFwdIdeal.main_arg7)
          ∧ r.2.mem ((c.tc : Thread Cert.RefFwdIdeal.nD Cert.RefFwdIdeal.τ).loc Cert.RefFwdIdeal.main_arg8) = m' ((c.tc : Thread Cert.RefFwdIdeal.nD Cert.RefFwdIdeal.τ).loc Cert.RefFwdIdeal.main_arg8)
          ∧ r.2.mem ((c.tc : Thread Cert.RefFwdIdeal.nD Cert.RefFwdIdeal.τ).loc Cert.RefFwdIdeal.main_arg9) = m' ((c.tc : Thread Cert.RefFwdIdeal.nD Cert.RefFwdIdeal.τ).loc Cert.RefFwdIdeal.main_arg9)
          ∧ r.2.mem ((c.tc : Thread Cert.RefFwdIdeal.nD Cert.RefFwdIdeal.τ).loc Cert.RefFwdIdeal.main_arg10) = m' ((c.tc : Thread Cert.RefFwdIdeal.nD Cert.RefFwdIdeal.τ).loc Cert.RefFwdIdeal.main_arg10))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)
      ∧ m' ((c.tc : Thread Cert.RefFfnIdeal.nD Cert.RefFfnIdeal.τ).loc Cert.RefFfnIdeal.main_arg6) = m ((c.tc : Thread Cert.FfnIdeal.nD Cert.FfnIdeal.τ).loc Cert.FfnIdeal.main_arg6)
      ∧ m' ((c.tc : Thread Cert.RefFfnIdeal.nD Cert.RefFfnIdeal.τ).loc Cert.RefFfnIdeal.main_arg7) = m ((c.tc : Thread Cert.FfnIdeal.nD Cert.FfnIdeal.τ).loc Cert.FfnIdeal.main_arg7)
      ∧ m' ((c.tc : Thread Cert.RefFfnIdeal.nD Cert.RefFfnIdeal.τ).loc Cert.RefFfnIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v46) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5)
          ∧ r.2.mem ((c.tc : Thread Cert.RefFfnIdeal.nD Cert.RefFfnIdeal.τ).loc Cert.RefFfnIdeal.main_arg6) = m' ((c.tc : Thread Cert.RefFfnIdeal.nD Cert.RefFfnIdeal.τ).loc Cert.RefFfnIdeal.main_arg6)
          ∧ r.2.mem ((c.tc : Thread Cert.RefFfnIdeal.nD Cert.RefFfnIdeal.τ).loc Cert.RefFfnIdeal.main_arg7) = m' ((c.tc : Thread Cert.RefFfnIdeal.nD Cert.RefFfnIdeal.τ).loc Cert.RefFfnIdeal.main_arg7)
          ∧ r.2.mem ((c.tc : Thread Cert.RefFfnIdeal.nD Cert.RefFfnIdeal.τ).loc Cert.RefFfnIdeal.main_arg8) = m' ((c.tc : Thread Cert.RefFfnIdeal.nD Cert.RefFfnIdeal.τ).loc Cert.RefFfnIdeal.main_arg8))

def preserves_MixOut_MixOutIdeal : Prop :=
  True

def algebraic_MixOutIdeal_RefOutIdeal [hMixOutIdeal : Cert.MixOutIdeal.Facts] [hRefOutIdeal : Cert.RefOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_MixOutIdeal m →
    (∀ c : Dev Cert.MixOutIdeal.nD,
      m' ((c.tc : Thread Cert.RefOutIdeal.nD Cert.RefOutIdeal.τ).loc Cert.RefOutIdeal.main_arg0) = m ((c.tc : Thread Cert.MixOutIdeal.nD Cert.MixOutIdeal.τ).loc Cert.MixOutIdeal.main_arg0)
      ∧ m' ((c.tc : Thread Cert.RefOutIdeal.nD Cert.RefOutIdeal.τ).loc Cert.RefOutIdeal.main_arg1) = m ((c.tc : Thread Cert.MixOutIdeal.nD Cert.MixOutIdeal.τ).loc Cert.MixOutIdeal.main_arg1)
      ∧ m' ((c.tc : Thread Cert.RefOutIdeal.nD Cert.RefOutIdeal.τ).loc Cert.RefOutIdeal.main_arg2) = m ((c.tc : Thread Cert.MixOutIdeal.nD Cert.MixOutIdeal.τ).loc Cert.MixOutIdeal.main_arg2)
      ∧ m' ((c.tc : Thread Cert.RefOutIdeal.nD Cert.RefOutIdeal.τ).loc Cert.RefOutIdeal.main_arg3) = m ((c.tc : Thread Cert.MixOutIdeal.nD Cert.MixOutIdeal.τ).loc Cert.MixOutIdeal.main_arg3)
      ∧ m' ((c.tc : Thread Cert.RefOutIdeal.nD Cert.RefOutIdeal.τ).loc Cert.RefOutIdeal.main_arg4) = m ((c.tc : Thread Cert.MixOutIdeal.nD Cert.MixOutIdeal.τ).loc Cert.MixOutIdeal.main_arg4)
      ∧ m' ((c.tc : Thread Cert.RefOutIdeal.nD Cert.RefOutIdeal.τ).loc Cert.RefOutIdeal.main_arg5) = m ((c.tc : Thread Cert.MixOutIdeal.nD Cert.MixOutIdeal.τ).loc Cert.MixOutIdeal.main_arg5)
      ∧ m' ((c.tc : Thread Cert.RefOutIdeal.nD Cert.RefOutIdeal.τ).loc Cert.RefOutIdeal.main_arg6) = m ((c.tc : Thread Cert.MixOutIdeal.nD Cert.MixOutIdeal.τ).loc Cert.MixOutIdeal.main_arg6)
      ∧ m' ((c.tc : Thread Cert.RefOutIdeal.nD Cert.RefOutIdeal.τ).loc Cert.RefOutIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v10)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v10) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v47) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5)
          ∧ r.2.mem ((c.tc : Thread Cert.RefOutIdeal.nD Cert.RefOutIdeal.τ).loc Cert.RefOutIdeal.main_arg6) = m' ((c.tc : Thread Cert.RefOutIdeal.nD Cert.RefOutIdeal.τ).loc Cert.RefOutIdeal.main_arg6)
          ∧ r.2.mem ((c.tc : Thread Cert.RefOutIdeal.nD Cert.RefOutIdeal.τ).loc Cert.RefOutIdeal.main_arg7) = m' ((c.tc : Thread Cert.RefOutIdeal.nD Cert.RefOutIdeal.τ).loc Cert.RefOutIdeal.main_arg7))

def preserves_MixIn_MixInIdeal : Prop :=
  True

def algebraic_MixInIdeal_RefInIdeal [hMixInIdeal : Cert.MixInIdeal.Facts] [hRefInIdeal : Cert.RefInIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.RefInIdeal.nD Cert.RefInIdeal.τ Cert.RefInIdeal.sig) → Buf (Elt Ideal) ℓ) (g' : Dev Cert.RefInIdeal.nD → PrngReg), Pre_MixInIdeal m →
    (∀ c : Dev Cert.MixInIdeal.nD,
      m' ((c.tc : Thread Cert.RefInIdeal.nD Cert.RefInIdeal.τ).loc Cert.RefInIdeal.main_arg0) = m ((c.tc : Thread Cert.MixInIdeal.nD Cert.MixInIdeal.τ).loc Cert.MixInIdeal.main_arg0)
      ∧ m' ((c.tc : Thread Cert.RefInIdeal.nD Cert.RefInIdeal.τ).loc Cert.RefInIdeal.main_arg1) = m ((c.tc : Thread Cert.MixInIdeal.nD Cert.MixInIdeal.τ).loc Cert.MixInIdeal.main_arg1)
      ∧ m' ((c.tc : Thread Cert.RefInIdeal.nD Cert.RefInIdeal.τ).loc Cert.RefInIdeal.main_arg2) = m ((c.tc : Thread Cert.MixInIdeal.nD Cert.MixInIdeal.τ).loc Cert.MixInIdeal.main_arg2)
      ∧ m' ((c.tc : Thread Cert.RefInIdeal.nD Cert.RefInIdeal.τ).loc Cert.RefInIdeal.main_arg3) = m ((c.tc : Thread Cert.MixInIdeal.nD Cert.MixInIdeal.τ).loc Cert.MixInIdeal.main_arg3)
      ∧ m' ((c.tc : Thread Cert.RefInIdeal.nD Cert.RefInIdeal.τ).loc Cert.RefInIdeal.main_arg4) = m ((c.tc : Thread Cert.MixInIdeal.nD Cert.MixInIdeal.τ).loc Cert.MixInIdeal.main_arg4)
      ∧ m' ((c.tc : Thread Cert.RefInIdeal.nD Cert.RefInIdeal.τ).loc Cert.RefInIdeal.main_arg5) = m ((c.tc : Thread Cert.MixInIdeal.nD Cert.MixInIdeal.τ).loc Cert.MixInIdeal.main_arg5)
      ∧ m' ((c.tc : Thread Cert.RefInIdeal.nD Cert.RefInIdeal.τ).loc Cert.RefInIdeal.main_arg6) = m ((c.tc : Thread Cert.MixInIdeal.nD Cert.MixInIdeal.τ).loc Cert.MixInIdeal.main_arg6)
      ∧ m' ((c.tc : Thread Cert.RefInIdeal.nD Cert.RefInIdeal.τ).loc Cert.RefInIdeal.main_arg7) = m ((c.tc : Thread Cert.MixInIdeal.nD Cert.MixInIdeal.τ).loc Cert.MixInIdeal.main_arg7)) →
    ∃ (v0 : (c : Dev Cert.MixInIdeal.nD) → Buf (Elt Ideal) ((c.tc : Thread Cert.MixInIdeal.nD Cert.MixInIdeal.τ).loc Cert.MixInIdeal.main_v12_0)) (v1 : (c : Dev Cert.MixInIdeal.nD) → Buf (Elt Ideal) ((c.tc : Thread Cert.MixInIdeal.nD Cert.MixInIdeal.τ).loc Cert.MixInIdeal.main_v12_1)) (v2 : (c : Dev Cert.MixInIdeal.nD) → Buf (Elt Ideal) ((c.tc : Thread Cert.MixInIdeal.nD Cert.MixInIdeal.τ).loc Cert.MixInIdeal.main_v12_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v12_0) = v0 c
          ∧ r.2.mem ((c.tc : Thread Cert.MixInIdeal.nD Cert.MixInIdeal.τ).loc Cert.MixInIdeal.main_v12_1) = v1 c
          ∧ r.2.mem ((c.tc : Thread Cert.MixInIdeal.nD Cert.MixInIdeal.τ).loc Cert.MixInIdeal.main_v12_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v273) = v0 c
          ∧ r.2.mem ((c.tc : Thread Cert.RefInIdeal.nD Cert.RefInIdeal.τ).loc Cert.RefInIdeal.main_v287) = v1 c
          ∧ r.2.mem ((c.tc : Thread Cert.RefInIdeal.nD Cert.RefInIdeal.τ).loc Cert.RefInIdeal.main_v289) = v2 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5)
          ∧ r.2.mem ((c.tc : Thread Cert.RefInIdeal.nD Cert.RefInIdeal.τ).loc Cert.RefInIdeal.main_arg6) = m' ((c.tc : Thread Cert.RefInIdeal.nD Cert.RefInIdeal.τ).loc Cert.RefInIdeal.main_arg6)
          ∧ r.2.mem ((c.tc : Thread Cert.RefInIdeal.nD Cert.RefInIdeal.τ).loc Cert.RefInIdeal.main_arg7) = m' ((c.tc : Thread Cert.RefInIdeal.nD Cert.RefInIdeal.τ).loc Cert.RefInIdeal.main_arg7))

def Claim : Prop :=
  ∃ (hScanBwd : Cert.ScanBwd.Facts) (hScanBwdIdeal : Cert.ScanBwdIdeal.Facts) (hRefBwdIdeal : Cert.RefBwdIdeal.Facts) (hScanFwd : Cert.ScanFwd.Facts) (hScanFwdIdeal : Cert.ScanFwdIdeal.Facts) (hRefFwdIdeal : Cert.RefFwdIdeal.Facts) (hFfn : Cert.Ffn.Facts) (hFfnIdeal : Cert.FfnIdeal.Facts) (hRefFfnIdeal : Cert.RefFfnIdeal.Facts) (hMixOut : Cert.MixOut.Facts) (hMixOutIdeal : Cert.MixOutIdeal.Facts) (hRefOutIdeal : Cert.RefOutIdeal.Facts) (hMixIn : Cert.MixIn.Facts) (hMixInIdeal : Cert.MixInIdeal.Facts) (hRefInIdeal : Cert.RefInIdeal.Facts),
    quiescent_ScanBwd (hScanBwd := hScanBwd)
    ∧ quiescent_ScanBwdIdeal (hScanBwdIdeal := hScanBwdIdeal)
    ∧ quiescent_RefBwdIdeal (hRefBwdIdeal := hRefBwdIdeal)
    ∧ quiescent_ScanFwd (hScanFwd := hScanFwd)
    ∧ quiescent_ScanFwdIdeal (hScanFwdIdeal := hScanFwdIdeal)
    ∧ quiescent_RefFwdIdeal (hRefFwdIdeal := hRefFwdIdeal)
    ∧ quiescent_Ffn (hFfn := hFfn)
    ∧ quiescent_FfnIdeal (hFfnIdeal := hFfnIdeal)
    ∧ quiescent_RefFfnIdeal (hRefFfnIdeal := hRefFfnIdeal)
    ∧ quiescent_MixOut (hMixOut := hMixOut)
    ∧ quiescent_MixOutIdeal (hMixOutIdeal := hMixOutIdeal)
    ∧ quiescent_RefOutIdeal (hRefOutIdeal := hRefOutIdeal)
    ∧ quiescent_MixIn (hMixIn := hMixIn)
    ∧ quiescent_MixInIdeal (hMixInIdeal := hMixInIdeal)
    ∧ quiescent_RefInIdeal (hRefInIdeal := hRefInIdeal)
    ∧ preserves_ScanBwd_ScanBwdIdeal
    ∧ algebraic_ScanBwdIdeal_RefBwdIdeal (hScanBwdIdeal := hScanBwdIdeal) (hRefBwdIdeal := hRefBwdIdeal)
    ∧ preserves_ScanFwd_ScanFwdIdeal
    ∧ algebraic_ScanFwdIdeal_RefFwdIdeal (hScanFwdIdeal := hScanFwdIdeal) (hRefFwdIdeal := hRefFwdIdeal)
    ∧ preserves_Ffn_FfnIdeal
    ∧ algebraic_FfnIdeal_RefFfnIdeal (hFfnIdeal := hFfnIdeal) (hRefFfnIdeal := hRefFfnIdeal)
    ∧ preserves_MixOut_MixOutIdeal
    ∧ algebraic_MixOutIdeal_RefOutIdeal (hMixOutIdeal := hMixOutIdeal) (hRefOutIdeal := hRefOutIdeal)
    ∧ preserves_MixIn_MixInIdeal
    ∧ algebraic_MixInIdeal_RefInIdeal (hMixInIdeal := hMixInIdeal) (hRefInIdeal := hRefInIdeal)
-- ==== ScanBwd.lean ====
abbrev S16384x1024 : Shape := ⟨2, ![16384, 1024]⟩
abbrev S2x1x1024 : Shape := ⟨3, ![2, 1, 1024]⟩
abbrev S2x4x1024 : Shape := ⟨3, ![2, 4, 1024]⟩
abbrev S2x1024 : Shape := ⟨2, ![2, 1024]⟩
abbrev S2x2x4x256x256 : Shape := ⟨5, ![2, 2, 4, 256, 256]⟩
abbrev S2x2x1024 : Shape := ⟨3, ![2, 2, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S1x1x1024 : Shape := ⟨3, ![1, 1, 1024]⟩
abbrev S1024x1024 : Shape := ⟨2, ![1024, 1024]⟩
abbrev S8x1024 : Shape := ⟨2, ![8, 1024]⟩
abbrev S1x1x4x256x256 : Shape := ⟨5, ![1, 1, 4, 256, 256]⟩
abbrev S1040x1024 : Shape := ⟨2, ![1040, 1024]⟩
abbrev S1024x256 : Shape := ⟨2, ![1024, 256]⟩
abbrev S1x1x1x256x256 : Shape := ⟨5, ![1, 1, 1, 256, 256]⟩
abbrev S256x256 : Shape := ⟨2, ![256, 256]⟩
abbrev S1x256 : Shape := ⟨2, ![1, 256]⟩

abbrev nBuf : Space → Nat
  | .hbm => 26
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x4x1024, .f32⟩
  | .hbm, ⟨3, _⟩ => ⟨S2x1024, .f32⟩
  | .hbm, ⟨4, _⟩ => ⟨S2x2x4x256x256, .f32⟩
  | .hbm, ⟨5, _⟩ => ⟨S2x2x1024, .f32⟩
  | .hbm, ⟨6, _⟩ => ⟨S2x2x4x256x256, .f32⟩
  | .hbm, ⟨7, _⟩ => ⟨S2x2x1024, .f32⟩
  | .hbm, ⟨8, _⟩ => ⟨S2x2x1024, .f32⟩
  | .hbm, ⟨9, _⟩ => ⟨S2x2x4x256x256, .bf16⟩
  | .hbm, ⟨10, _⟩ => ⟨S2x2x4x256x256, .bf16⟩
  | .hbm, ⟨11, _⟩ => ⟨S1x4x1024, .f32⟩
  | .hbm, ⟨12, _⟩ => ⟨S4x1024, .f32⟩
  | .hbm, ⟨13, _⟩ => ⟨S1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1x1024, .f32⟩
  | .hbm, ⟨18, _⟩ => ⟨S1024, .f32⟩
  | .hbm, ⟨19, _⟩ => ⟨S1x1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S4x1024, .f32⟩
  | .local _ .vmem, ⟨7, _⟩ => ⟨S1x1024, .f32⟩
  | .local _ .vmem, ⟨8, _⟩ => ⟨S1x1x4x256x256, .bf16⟩
  | .local _ .vmem, ⟨9, _⟩ => ⟨S1x1024, .f32⟩
  | .local _ .vmem, ⟨10, _⟩ => ⟨S1x1x4x256x256, .bf16⟩
  | .local _ .vmem, ⟨11, _⟩ => ⟨S1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x1024, .f32⟩
  | .local _ .vmem, ⟨16, _⟩ => ⟨S1024x1024, .f32⟩
  | .local _ .vmem, ⟨17, _⟩ => ⟨S1040x1024, .f32⟩
  | .local _ .vmem, ⟨18, _⟩ => ⟨S1024x1024, .f32⟩
  | .local _ .vmem, ⟨19, _⟩ => ⟨S1024x1024, .f32⟩
  | .local _ .vmem, ⟨20, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_139 : BitVec 32 := 0#32
  let c128_i32 : BitVec 32 := 128#32
  let v267 : BitVec 32 := Scalar.addi c0_i32_139 c128_i32
  let c1_i32_140 : BitVec 32 := 1#32
  ⟨c0_i32_139, v267, c1_i32_140⟩
def k0_mult1 (k0_t1 : Fin k0_t1_loop.trips) : BitVec 32 :=
  let c127_i32 : BitVec 32 := 127#32
  let c0_i32_139 : BitVec 32 := 0#32
  let c1_i32_140 : BitVec 32 := 1#32
  let arg17 : BitVec 32 := Scf.iv c0_i32_139 c1_i32_140 k0_t1
  let v272 : BitVec 32 := Scalar.subi c127_i32 arg17
  let c8_i32_144 : BitVec 32 := 8#32
  let v273 : BitVec 32 := Scalar.muli v272 c8_i32_144
  v273
def k0_off1 (k0_t1 : Fin k0_t1_loop.trips) : Fin 2 → Nat :=
  let c127_i32 : BitVec 32 := 127#32
  let c0_i32_139 : BitVec 32 := 0#32
  let c1_i32_140 : BitVec 32 := 1#32
  let arg17 : BitVec 32 := Scf.iv c0_i32_139 c1_i32_140 k0_t1
  let v272 : BitVec 32 := Scalar.subi c127_i32 arg17
  let c8_i32_144 : BitVec 32 := 8#32
  let v273 : BitVec 32 := Scalar.muli v272 c8_i32_144
  let v274 : BitVec 32 := v273
  let v275 : Index := Scalar.indexCast v274
  let c0_145 : Index := 0#32
  ![v275.toNat, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let v1 : BitVec 32 := Scalar.addi v0 c1_i32
  let c128_i32 : BitVec 32 := 128#32
  let v2 : BitVec 32 := Scalar.muli v1 c128_i32
  let c2047_i32 : BitVec 32 := 2047#32
  let v3 : BitVec 32 := Scalar.minsi v2 c2047_i32
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32.toNat, c1_i32_0.toNat, c0_i32.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  let c0_i32_3 : BitVec 32 := 0#32
  ![c1_i32.toNat, c1_i32_0.toNat, c0_i32.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefBwdIdeal.lean ====
abbrev S16384x1024 : Shape := ⟨2, ![16384, 1024]⟩
abbrev S2x1x1024 : Shape := ⟨3, ![2, 1, 1024]⟩
abbrev S2x4x1024 : Shape := ⟨3, ![2, 4, 1024]⟩
abbrev S2x1024 : Shape := ⟨2, ![2, 1024]⟩
abbrev S2x2x4x256x256 : Shape := ⟨5, ![2, 2, 4, 256, 256]⟩
abbrev S2x2x1024 : Shape := ⟨3, ![2, 2, 1024]⟩
abbrev S2x8192x1024 : Shape := ⟨3, ![2, 8192, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2x8195x1024 : Shape := ⟨3, ![2, 8195, 1024]⟩
abbrev S1x1x1024 : Shape := ⟨3, ![1, 1, 1024]⟩
abbrev S1x1x4x256x256 : Shape := ⟨5, ![1, 1, 4, 256, 256]⟩
abbrev S4x256x256 : Shape := ⟨3, ![4, 256, 256]⟩
abbrev S2x8192x4x256 : Shape := ⟨4, ![2, 8192, 4, 256]⟩
abbrev S4x256x2x8192 : Shape := ⟨4, ![4, 256, 2, 8192]⟩
abbrev S8192x2x1024 : Shape := ⟨3, ![8192, 2, 1024]⟩
abbrev S1x2x1024 : Shape := ⟨3, ![1, 2, 1024]⟩

abbrev nBuf : Space → Nat
  | .hbm => 151
  | .vmem => 0
  | .smem => 0
  | _ => 0

abbrev hbmTy0_0 (i : Nat) : BufTy := match i % 128 with
  | 0 => ⟨S16384x1024, .f32⟩
  | 1 => ⟨S2x1x1024, .f32⟩
  | 2 => ⟨S2x4x1024, .f32⟩
  | 3 => ⟨S2x1024, .f32⟩
  | 4 => ⟨S2x2x4x256x256, .f32⟩
  | 5 => ⟨S2x2x1024, .f32⟩
  | 6 => ⟨S2x2x4x256x256, .f32⟩
  | 7 => ⟨S2x2x1024, .f32⟩
  | 8 => ⟨S2x2x1024, .f32⟩
  | 9 => ⟨S2x8192x1024, .f32⟩
  | 10 => ⟨S1x4x1024, .f32⟩
  | 11 => ⟨S4x1024, .f32⟩
  | 12 => ⟨S1x1024, .f32⟩
  | 13 => ⟨S1024, .f32⟩
  | 14 => ⟨S_, .i32⟩
  | 15 => ⟨S_, .f32⟩
  | 16 => ⟨S2x8195x1024, .f32⟩
  | 17 => ⟨S1x1024, .f32⟩
  | 18 => ⟨S1024, .f32⟩
  | 19 => ⟨S2x8192x1024, .f32⟩
  | 20 => ⟨S1x1x1024, .f32⟩
  | 21 => ⟨S2x8192x1024, .f32⟩
  | 22 => ⟨S2x8192x1024, .f32⟩
  | 23 => ⟨S1x1024, .f32⟩
  | 24 => ⟨S1024, .f32⟩
  | 25 => ⟨S2x8192x1024, .f32⟩
  | 26 => ⟨S1x1x1024, .f32⟩
  | 27 => ⟨S2x8192x1024, .f32⟩
  | 28 => ⟨S2x8192x1024, .f32⟩
  | 29 => ⟨S2x8192x1024, .f32⟩
  | 30 => ⟨S1x1024, .f32⟩
  | 31 => ⟨S1024, .f32⟩
  | 32 => ⟨S2x8192x1024, .f32⟩
  | 33 => ⟨S1x1x1024, .f32⟩
  | 34 => ⟨S2x8192x1024, .f32⟩
  | 35 => ⟨S2x8192x1024, .f32⟩
  | 36 => ⟨S2x8192x1024, .f32⟩
  | 37 => ⟨S1x1024, .f32⟩
  | 38 => ⟨S1024, .f32⟩
  | 39 => ⟨S2x8192x1024, .f32⟩
  | 40 => ⟨S1x1x1024, .f32⟩
  | 41 => ⟨S2x8192x1024, .f32⟩
  | 42 => ⟨S2x8192x1024, .f32⟩
  | 43 => ⟨S2x8192x1024, .f32⟩
  | 44 => ⟨S1x1x1024, .f32⟩
  | 45 => ⟨S2x8192x1024, .f32⟩
  | 46 => ⟨S2x8192x1024, .f32⟩
  | 47 => ⟨S1x1x4x256x256, .f32⟩
  | 48 => ⟨S4x256x256, .f32⟩
  | 49 => ⟨S1x1x1024, .f32⟩
  | 50 => ⟨S1024, .f32⟩
  | 51 => ⟨S1x1x4x256x256, .f32⟩
  | 52 => ⟨S4x256x256, .f32⟩
  | 53 => ⟨S1x1x1024, .f32⟩
  | 54 => ⟨S1024, .f32⟩
  | 55 => ⟨S1x1x1024, .f32⟩
  | 56 => ⟨S1024, .f32⟩
  | 57 => ⟨S2x1024, .f32⟩
  | 58 => ⟨S2x8192x4x256, .f32⟩
  | 59 => ⟨S4x256x2x8192, .f32⟩
  | 60 => ⟨S2x8192x4x256, .f32⟩
  | 61 => ⟨S2x8192x1024, .f32⟩
  | 62 => ⟨S1x1x1024, .f32⟩
  | 63 => ⟨S2x8192x1024, .f32⟩
  | 64 => ⟨S2x8192x1024, .f32⟩
  | 65 => ⟨S2x8192x1024, .f32⟩
  | 66 => ⟨S2x8192x1024, .f32⟩
  | 67 => ⟨S_, .f32⟩
  | 68 => ⟨S2x8192x1024, .f32⟩
  | 69 => ⟨S2x8192x1024, .f32⟩
  | 70 => ⟨S_, .f32⟩
  | 71 => ⟨S2x8192x1024, .f32⟩
  | 72 => ⟨S2x8192x1024, .f32⟩
  | 73 => ⟨S4x256x2x8192, .f32⟩
  | 74 => ⟨S2x8192x4x256, .f32⟩
  | 75 => ⟨S2x8192x1024, .f32⟩
  | 76 => ⟨S1x1x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S_, .f32⟩
  | 82 => ⟨S2x8192x1024, .f32⟩
  | 83 => ⟨S2x8192x1024, .f32⟩
  | 84 => ⟨S_, .f32⟩
  | 85 => ⟨S2x8192x1024, .f32⟩
  | 86 => ⟨S2x8192x1024, .f32⟩
  | 87 => ⟨S_, .f32⟩
  | 88 => ⟨S2x8192x1024, .f32⟩
  | 89 => ⟨S2x8192x1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S1024, .f32⟩
  | 96 => ⟨S1024, .i1⟩
  | 97 => ⟨S1024, .f32⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1x1x1024, .f32⟩
  | 106 => ⟨S2x8192x1024, .f32⟩
  | 107 => ⟨S2x8192x1024, .f32⟩
  | 108 => ⟨S2x8192x1024, .f32⟩
  | 109 => ⟨S_, .f32⟩
  | 110 => ⟨S2x8192x1024, .f32⟩
  | 111 => ⟨S2x8192x1024, .f32⟩
  | 112 => ⟨S2x8192x1024, .f32⟩
  | 113 => ⟨S2x8192x1024, .f32⟩
  | 114 => ⟨S2x8192x1024, .f32⟩
  | 115 => ⟨S2x8192x1024, .f32⟩
  | 116 => ⟨S2x8192x1024, .f32⟩
  | 117 => ⟨S8192x2x1024, .f32⟩
  | 118 => ⟨S8192x2x1024, .f32⟩
  | 119 => ⟨S_, .f32⟩
  | 120 => ⟨S8192x2x1024, .f32⟩
  | 121 => ⟨S_, .i32⟩
  | 122 => ⟨S8192x2x1024, .f32⟩
  | 123 => ⟨S8192x2x1024, .f32⟩
  | 124 => ⟨S_, .i32⟩
  | 125 => ⟨S2x1024, .f32⟩
  | 126 => ⟨S8192x2x1024, .f32⟩
  | 127 => ⟨S_, .i32⟩
  | _ => ⟨S16384x1024, .f32⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S1x2x1024, .f32⟩
  | 8 => ⟨S2x1024, .f32⟩
  | 9 => ⟨S_, .i32⟩
  | 10 => ⟨S_, .i32⟩
  | 11 => ⟨S1x2x1024, .f32⟩
  | 12 => ⟨S2x1024, .f32⟩
  | 13 => ⟨S2x1024, .f32⟩
  | 14 => ⟨S2x1024, .f32⟩
  | 15 => ⟨S1x2x1024, .f32⟩
  | 16 => ⟨S_, .i32⟩
  | 17 => ⟨S_, .i32⟩
  | 18 => ⟨S8192x2x1024, .f32⟩
  | 19 => ⟨S_, .i32⟩
  | 20 => ⟨S_, .i32⟩
  | 21 => ⟨S2x8192x1024, .f32⟩
  | 22 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst : Ref sig .tc := ⟨.hbm, 67, rfl⟩
abbrev main_v56 : Ref sig .tc := ⟨.hbm, 68, rfl⟩
abbrev main_v57 : Ref sig .tc := ⟨.hbm, 69, rfl⟩
abbrev main_cst_0 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_1 : Ref sig .tc := ⟨.hbm, 81, rfl⟩
abbrev main_v68 : Ref sig .tc := ⟨.hbm, 82, rfl⟩
abbrev main_v69 : Ref sig .tc := ⟨.hbm, 83, rfl⟩
abbrev main_cst_2 : Ref sig .tc := ⟨.hbm, 84, rfl⟩
abbrev main_v70 : Ref sig .tc := ⟨.hbm, 85, rfl⟩
abbrev main_v71 : Ref sig .tc := ⟨.hbm, 86, rfl⟩
abbrev main_cst_3 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_4 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_5 : Ref sig .tc := ⟨.hbm, 119, rfl⟩
abbrev main_v89 : Ref sig .tc := ⟨.hbm, 120, rfl⟩
abbrev main_c_6 : Ref sig .tc := ⟨.hbm, 121, rfl⟩
abbrev main_v90_0 : Ref sig .tc := ⟨.hbm, 122, rfl⟩
abbrev main_v90_1 : Ref sig .tc := ⟨.hbm, 123, rfl⟩
abbrev main_v90_2 : Ref sig .tc := ⟨.hbm, 124, rfl⟩
abbrev main_v90_3 : Ref sig .tc := ⟨.hbm, 125, rfl⟩
abbrev main_v90_4 : Ref sig .tc := ⟨.hbm, 126, rfl⟩
abbrev main_while0c_c_11 : Ref sig .tc := ⟨.hbm, 127, rfl⟩
abbrev main_while0c_v93 : Ref sig .tc := ⟨.hbm, 128, rfl⟩
abbrev main_while0b_c_11 : Ref sig .tc := ⟨.hbm, 129, rfl⟩
abbrev main_while0b_v93 : Ref sig .tc := ⟨.hbm, 130, rfl⟩
abbrev main_while0b_c_12 : Ref sig .tc := ⟨.hbm, 131, rfl⟩
abbrev main_while0b_v94 : Ref sig .tc := ⟨.hbm, 132, rfl⟩
abbrev main_while0b_call2_c : Ref sig .tc := ⟨.hbm, 133, rfl⟩
abbrev main_while0b_call2_c_0 : Ref sig .tc := ⟨.hbm, 134, rfl⟩
abbrev main_while0b_call2_v0 : Ref sig .tc := ⟨.hbm, 135, rfl⟩
abbrev main_while0b_v95 : Ref sig .tc := ⟨.hbm, 136, rfl⟩
abbrev main_while0b_call3_c : Ref sig .tc := ⟨.hbm, 137, rfl⟩
abbrev main_while0b_call3_c_0 : Ref sig .tc := ⟨.hbm, 138, rfl⟩
abbrev main_while0b_call3_v0 : Ref sig .tc := ⟨.hbm, 139, rfl⟩
abbrev main_while0b_v96 : Ref sig .tc := ⟨.hbm, 140, rfl⟩
abbrev main_while0b_v97 : Ref sig .tc := ⟨.hbm, 141, rfl⟩
abbrev main_while0b_v98 : Ref sig .tc := ⟨.hbm, 142, rfl⟩
abbrev main_while0b_call4_v0 : Ref sig .tc := ⟨.hbm, 143, rfl⟩
abbrev main_while0b_call4_c : Ref sig .tc := ⟨.hbm, 144, rfl⟩
abbrev main_while0b_call4_c_0 : Ref sig .tc := ⟨.hbm, 145, rfl⟩
abbrev main_while0b_v99 : Ref sig .tc := ⟨.hbm, 146, rfl⟩
abbrev main_while0b_c_13 : Ref sig .tc := ⟨.hbm, 147, rfl⟩
abbrev main_while0b_v100 : Ref sig .tc := ⟨.hbm, 148, rfl⟩
abbrev main_v91 : Ref sig .tc := ⟨.hbm, 149, rfl⟩
abbrev main_v92 : Ref sig .tc := ⟨.hbm, 150, rfl⟩

abbrev nD : Nat := 1
abbrev τ : Topo := Topo.v7x

variable {F : FTy → Type} [FloatOps F]

abbrev main_while0_count : Scf.Loop 32 := ⟨0#32, 8192#32, 1#32⟩
-- ==== ScanFwd.lean ====
abbrev S16384x1024 : Shape := ⟨2, ![16384, 1024]⟩
abbrev S2x1x1024 : Shape := ⟨3, ![2, 1, 1024]⟩
abbrev S2x4x1024 : Shape := ⟨3, ![2, 4, 1024]⟩
abbrev S2x1024 : Shape := ⟨2, ![2, 1024]⟩
abbrev S2x2x4x256x256 : Shape := ⟨5, ![2, 2, 4, 256, 256]⟩
abbrev S2x2x1024 : Shape := ⟨3, ![2, 2, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S1x1x1024 : Shape := ⟨3, ![1, 1, 1024]⟩
abbrev S1024x1024 : Shape := ⟨2, ![1024, 1024]⟩
abbrev S8x1024 : Shape := ⟨2, ![8, 1024]⟩
abbrev S1x1x4x256x256 : Shape := ⟨5, ![1, 1, 4, 256, 256]⟩
abbrev S1040x1024 : Shape := ⟨2, ![1040, 1024]⟩
abbrev S1024x256 : Shape := ⟨2, ![1024, 256]⟩
abbrev S1x1x1x256x256 : Shape := ⟨5, ![1, 1, 1, 256, 256]⟩
abbrev S256x256 : Shape := ⟨2, ![256, 256]⟩
abbrev S1x256 : Shape := ⟨2, ![1, 256]⟩

abbrev nBuf : Space → Nat
  | .hbm => 28
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S16384x1024, .f32⟩
  | .hbm, ⟨3, _⟩ => ⟨S16384x1024, .f32⟩
  | .hbm, ⟨4, _⟩ => ⟨S2x4x1024, .f32⟩
  | .hbm, ⟨5, _⟩ => ⟨S2x1024, .f32⟩
  | .hbm, ⟨6, _⟩ => ⟨S2x2x4x256x256, .f32⟩
  | .hbm, ⟨7, _⟩ => ⟨S2x2x1024, .f32⟩
  | .hbm, ⟨8, _⟩ => ⟨S2x2x4x256x256, .f32⟩
  | .hbm, ⟨9, _⟩ => ⟨S2x2x1024, .f32⟩
  | .hbm, ⟨10, _⟩ => ⟨S2x2x1024, .f32⟩
  | .hbm, ⟨11, _⟩ => ⟨S2x2x4x256x256, .bf16⟩
  | .hbm, ⟨12, _⟩ => ⟨S2x2x4x256x256, .bf16⟩
  | .hbm, ⟨13, _⟩ => ⟨S1x4x1024, .f32⟩
  | .hbm, ⟨14, _⟩ => ⟨S4x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S1024, .f32⟩
  | .hbm, ⟨19, _⟩ => ⟨S1x1x1024, .f32⟩
  | .hbm, ⟨20, _⟩ => ⟨S1024, .f32⟩
  | .hbm, ⟨21, _⟩ => ⟨S1x1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S4x1024, .f32⟩
  | .local _ .vmem, ⟨7, _⟩ => ⟨S1x1024, .f32⟩
  | .local _ .vmem, ⟨8, _⟩ => ⟨S1x1x4x256x256, .bf16⟩
  | .local _ .vmem, ⟨9, _⟩ => ⟨S1x1024, .f32⟩
  | .local _ .vmem, ⟨10, _⟩ => ⟨S1x1x4x256x256, .bf16⟩
  | .local _ .vmem, ⟨11, _⟩ => ⟨S1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1040x1024, .f32⟩
  | .local _ .vmem, ⟨23, _⟩ => ⟨S1024x1024, .f32⟩
  | .local _ .vmem, ⟨24, _⟩ => ⟨S1024x1024, .f32⟩
  | .local _ .vmem, ⟨25, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_139 : BitVec 32 := 0#32
  let c128_i32 : BitVec 32 := 128#32
  let v266 : BitVec 32 := Scalar.addi c0_i32_139 c128_i32
  let c1_i32_140 : BitVec 32 := 1#32
  ⟨c0_i32_139, v266, c1_i32_140⟩
def k0_mult1 (k0_t1 : Fin k0_t1_loop.trips) : BitVec 32 :=
  let c0_i32_139 : BitVec 32 := 0#32
  let c1_i32_140 : BitVec 32 := 1#32
  let arg20 : BitVec 32 := Scf.iv c0_i32_139 c1_i32_140 k0_t1
  let c8_i32_152 : BitVec 32 := 8#32
  let v278 : BitVec 32 := Scalar.muli arg20 c8_i32_152
  v278
def k0_off1 (k0_t1 : Fin k0_t1_loop.trips) : Fin 2 → Nat :=
  let c0_i32_139 : BitVec 32 := 0#32
  let c1_i32_140 : BitVec 32 := 1#32
  let arg20 : BitVec 32 := Scf.iv c0_i32_139 c1_i32_140 k0_t1
  let c8_i32_152 : BitVec 32 := 8#32
  let v278 : BitVec 32 := Scalar.muli arg20 c8_i32_152
  let v279 : BitVec 32 := v278
  let v280 : Index := Scalar.indexCast v279
  let c0_153 : Index := 0#32
  ![v280.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c1_i32.toNat, c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefFwdIdeal.lean ====
abbrev S16384x1024 : Shape := ⟨2, ![16384, 1024]⟩
abbrev S2x1x1024 : Shape := ⟨3, ![2, 1, 1024]⟩
abbrev S2x4x1024 : Shape := ⟨3, ![2, 4, 1024]⟩
abbrev S2x1024 : Shape := ⟨2, ![2, 1024]⟩
abbrev S2x2x4x256x256 : Shape := ⟨5, ![2, 2, 4, 256, 256]⟩
abbrev S2x2x1024 : Shape := ⟨3, ![2, 2, 1024]⟩
abbrev S2x8192x1024 : Shape := ⟨3, ![2, 8192, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2x8195x1024 : Shape := ⟨3, ![2, 8195, 1024]⟩
abbrev S1x1x1024 : Shape := ⟨3, ![1, 1, 1024]⟩
abbrev S1x1x4x256x256 : Shape := ⟨5, ![1, 1, 4, 256, 256]⟩
abbrev S4x256x256 : Shape := ⟨3, ![4, 256, 256]⟩
abbrev S2x8192x4x256 : Shape := ⟨4, ![2, 8192, 4, 256]⟩
abbrev S4x256x2x8192 : Shape := ⟨4, ![4, 256, 2, 8192]⟩
abbrev S8192x2x1024 : Shape := ⟨3, ![8192, 2, 1024]⟩
abbrev S1x2x1024 : Shape := ⟨3, ![1, 2, 1024]⟩

abbrev nBuf : Space → Nat
  | .hbm => 152
  | .vmem => 0
  | .smem => 0
  | _ => 0

abbrev hbmTy0_0 (i : Nat) : BufTy := match i % 128 with
  | 0 => ⟨S16384x1024, .f32⟩
  | 1 => ⟨S2x1x1024, .f32⟩
  | 2 => ⟨S16384x1024, .f32⟩
  | 3 => ⟨S16384x1024, .f32⟩
  | 4 => ⟨S2x4x1024, .f32⟩
  | 5 => ⟨S2x1024, .f32⟩
  | 6 => ⟨S2x2x4x256x256, .f32⟩
  | 7 => ⟨S2x2x1024, .f32⟩
  | 8 => ⟨S2x2x4x256x256, .f32⟩
  | 9 => ⟨S2x2x1024, .f32⟩
  | 10 => ⟨S2x2x1024, .f32⟩
  | 11 => ⟨S2x8192x1024, .f32⟩
  | 12 => ⟨S1x4x1024, .f32⟩
  | 13 => ⟨S4x1024, .f32⟩
  | 14 => ⟨S1x1024, .f32⟩
  | 15 => ⟨S1024, .f32⟩
  | 16 => ⟨S_, .i32⟩
  | 17 => ⟨S_, .f32⟩
  | 18 => ⟨S2x8195x1024, .f32⟩
  | 19 => ⟨S1x1024, .f32⟩
  | 20 => ⟨S1024, .f32⟩
  | 21 => ⟨S2x8192x1024, .f32⟩
  | 22 => ⟨S1x1x1024, .f32⟩
  | 23 => ⟨S2x8192x1024, .f32⟩
  | 24 => ⟨S2x8192x1024, .f32⟩
  | 25 => ⟨S1x1024, .f32⟩
  | 26 => ⟨S1024, .f32⟩
  | 27 => ⟨S2x8192x1024, .f32⟩
  | 28 => ⟨S1x1x1024, .f32⟩
  | 29 => ⟨S2x8192x1024, .f32⟩
  | 30 => ⟨S2x8192x1024, .f32⟩
  | 31 => ⟨S2x8192x1024, .f32⟩
  | 32 => ⟨S1x1024, .f32⟩
  | 33 => ⟨S1024, .f32⟩
  | 34 => ⟨S2x8192x1024, .f32⟩
  | 35 => ⟨S1x1x1024, .f32⟩
  | 36 => ⟨S2x8192x1024, .f32⟩
  | 37 => ⟨S2x8192x1024, .f32⟩
  | 38 => ⟨S2x8192x1024, .f32⟩
  | 39 => ⟨S1x1024, .f32⟩
  | 40 => ⟨S1024, .f32⟩
  | 41 => ⟨S2x8192x1024, .f32⟩
  | 42 => ⟨S1x1x1024, .f32⟩
  | 43 => ⟨S2x8192x1024, .f32⟩
  | 44 => ⟨S2x8192x1024, .f32⟩
  | 45 => ⟨S2x8192x1024, .f32⟩
  | 46 => ⟨S1x1x1024, .f32⟩
  | 47 => ⟨S2x8192x1024, .f32⟩
  | 48 => ⟨S2x8192x1024, .f32⟩
  | 49 => ⟨S1x1x4x256x256, .f32⟩
  | 50 => ⟨S4x256x256, .f32⟩
  | 51 => ⟨S1x1x1024, .f32⟩
  | 52 => ⟨S1024, .f32⟩
  | 53 => ⟨S1x1x4x256x256, .f32⟩
  | 54 => ⟨S4x256x256, .f32⟩
  | 55 => ⟨S1x1x1024, .f32⟩
  | 56 => ⟨S1024, .f32⟩
  | 57 => ⟨S1x1x1024, .f32⟩
  | 58 => ⟨S1024, .f32⟩
  | 59 => ⟨S2x1024, .f32⟩
  | 60 => ⟨S2x8192x4x256, .f32⟩
  | 61 => ⟨S4x256x2x8192, .f32⟩
  | 62 => ⟨S2x8192x4x256, .f32⟩
  | 63 => ⟨S2x8192x1024, .f32⟩
  | 64 => ⟨S1x1x1024, .f32⟩
  | 65 => ⟨S2x8192x1024, .f32⟩
  | 66 => ⟨S2x8192x1024, .f32⟩
  | 67 => ⟨S2x8192x1024, .f32⟩
  | 68 => ⟨S2x8192x1024, .f32⟩
  | 69 => ⟨S_, .f32⟩
  | 70 => ⟨S2x8192x1024, .f32⟩
  | 71 => ⟨S2x8192x1024, .f32⟩
  | 72 => ⟨S_, .f32⟩
  | 73 => ⟨S2x8192x1024, .f32⟩
  | 74 => ⟨S2x8192x1024, .f32⟩
  | 75 => ⟨S4x256x2x8192, .f32⟩
  | 76 => ⟨S2x8192x4x256, .f32⟩
  | 77 => ⟨S2x8192x1024, .f32⟩
  | 78 => ⟨S1x1x1024, .f32⟩
  | 79 => ⟨S2x8192x1024, .f32⟩
  | 80 => ⟨S2x8192x1024, .f32⟩
  | 81 => ⟨S2x8192x1024, .f32⟩
  | 82 => ⟨S2x8192x1024, .f32⟩
  | 83 => ⟨S_, .f32⟩
  | 84 => ⟨S2x8192x1024, .f32⟩
  | 85 => ⟨S2x8192x1024, .f32⟩
  | 86 => ⟨S_, .f32⟩
  | 87 => ⟨S2x8192x1024, .f32⟩
  | 88 => ⟨S2x8192x1024, .f32⟩
  | 89 => ⟨S_, .f32⟩
  | 90 => ⟨S2x8192x1024, .f32⟩
  | 91 => ⟨S2x8192x1024, .f32⟩
  | 92 => ⟨S1024, .f32⟩
  | 93 => ⟨S_, .f32⟩
  | 94 => ⟨S1024, .f32⟩
  | 95 => ⟨S1024, .f32⟩
  | 96 => ⟨S1024, .f32⟩
  | 97 => ⟨S1024, .f32⟩
  | 98 => ⟨S1024, .i1⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1x1x1024, .f32⟩
  | 108 => ⟨S2x8192x1024, .f32⟩
  | 109 => ⟨S2x8192x1024, .f32⟩
  | 110 => ⟨S2x8192x1024, .f32⟩
  | 111 => ⟨S_, .f32⟩
  | 112 => ⟨S2x8192x1024, .f32⟩
  | 113 => ⟨S2x8192x1024, .f32⟩
  | 114 => ⟨S2x8192x1024, .f32⟩
  | 115 => ⟨S2x8192x1024, .f32⟩
  | 116 => ⟨S2x8192x1024, .f32⟩
  | 117 => ⟨S2x8192x1024, .f32⟩
  | 118 => ⟨S2x8192x1024, .f32⟩
  | 119 => ⟨S8192x2x1024, .f32⟩
  | 120 => ⟨S8192x2x1024, .f32⟩
  | 121 => ⟨S_, .f32⟩
  | 122 => ⟨S8192x2x1024, .f32⟩
  | 123 => ⟨S_, .i32⟩
  | 124 => ⟨S8192x2x1024, .f32⟩
  | 125 => ⟨S8192x2x1024, .f32⟩
  | 126 => ⟨S_, .i32⟩
  | 127 => ⟨S2x1024, .f32⟩
  | _ => ⟨S16384x1024, .f32⟩

abbrev hbmTy0_1 (i : Nat) : BufTy := match i % 128 with
  | 0 => ⟨S8192x2x1024, .f32⟩
  | 1 => ⟨S_, .i32⟩
  | 2 => ⟨S_, .i1⟩
  | 3 => ⟨S_, .i32⟩
  | 4 => ⟨S_, .i32⟩
  | 5 => ⟨S1x2x1024, .f32⟩
  | 6 => ⟨S2x1024, .f32⟩
  | 7 => ⟨S_, .i32⟩
  | 8 => ⟨S_, .i32⟩
  | 9 => ⟨S1x2x1024, .f32⟩
  | 10 => ⟨S2x1024, .f32⟩
  | 11 => ⟨S2x1024, .f32⟩
  | 12 => ⟨S2x1024, .f32⟩
  | 13 => ⟨S1x2x1024, .f32⟩
  | 14 => ⟨S_, .i32⟩
  | 15 => ⟨S_, .i32⟩
  | 16 => ⟨S8192x2x1024, .f32⟩
  | 17 => ⟨S_, .i32⟩
  | 18 => ⟨S_, .i32⟩
  | 19 => ⟨S2x8192x1024, .f32⟩
  | 20 => ⟨S16384x1024, .f32⟩
  | 21 => ⟨S16384x1024, .f32⟩
  | 22 => ⟨S16384x1024, .f32⟩
  | 23 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst : Ref sig .tc := ⟨.hbm, 69, rfl⟩
abbrev main_v56 : Ref sig .tc := ⟨.hbm, 70, rfl⟩
abbrev main_v57 : Ref sig .tc := ⟨.hbm, 71, rfl⟩
abbrev main_cst_0 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_1 : Ref sig .tc := ⟨.hbm, 83, rfl⟩
abbrev main_v68 : Ref sig .tc := ⟨.hbm, 84, rfl⟩
abbrev main_v69 : Ref sig .tc := ⟨.hbm, 85, rfl⟩
abbrev main_cst_2 : Ref sig .tc := ⟨.hbm, 86, rfl⟩
abbrev main_v70 : Ref sig .tc := ⟨.hbm, 87, rfl⟩
abbrev main_v71 : Ref sig .tc := ⟨.hbm, 88, rfl⟩
abbrev main_cst_3 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_4 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_5 : Ref sig .tc := ⟨.hbm, 121, rfl⟩
abbrev main_v89 : Ref sig .tc := ⟨.hbm, 122, rfl⟩
abbrev main_c_6 : Ref sig .tc := ⟨.hbm, 123, rfl⟩
abbrev main_v90_0 : Ref sig .tc := ⟨.hbm, 124, rfl⟩
abbrev main_v90_1 : Ref sig .tc := ⟨.hbm, 125, rfl⟩
abbrev main_v90_2 : Ref sig .tc := ⟨.hbm, 126, rfl⟩
abbrev main_v90_3 : Ref sig .tc := ⟨.hbm, 127, rfl⟩
abbrev main_v90_4 : Ref sig .tc := ⟨.hbm, 128, rfl⟩
abbrev main_while0c_c_11 : Ref sig .tc := ⟨.hbm, 129, rfl⟩
abbrev main_while0c_v96 : Ref sig .tc := ⟨.hbm, 130, rfl⟩
abbrev main_while0b_call2_c : Ref sig .tc := ⟨.hbm, 131, rfl⟩
abbrev main_while0b_call2_c_0 : Ref sig .tc := ⟨.hbm, 132, rfl⟩
abbrev main_while0b_call2_v0 : Ref sig .tc := ⟨.hbm, 133, rfl⟩
abbrev main_while0b_v96 : Ref sig .tc := ⟨.hbm, 134, rfl⟩
abbrev main_while0b_call3_c : Ref sig .tc := ⟨.hbm, 135, rfl⟩
abbrev main_while0b_call3_c_0 : Ref sig .tc := ⟨.hbm, 136, rfl⟩
abbrev main_while0b_call3_v0 : Ref sig .tc := ⟨.hbm, 137, rfl⟩
abbrev main_while0b_v97 : Ref sig .tc := ⟨.hbm, 138, rfl⟩
abbrev main_while0b_v98 : Ref sig .tc := ⟨.hbm, 139, rfl⟩
abbrev main_while0b_v99 : Ref sig .tc := ⟨.hbm, 140, rfl⟩
abbrev main_while0b_call4_v0 : Ref sig .tc := ⟨.hbm, 141, rfl⟩
abbrev main_while0b_call4_c : Ref sig .tc := ⟨.hbm, 142, rfl⟩
abbrev main_while0b_call4_c_0 : Ref sig .tc := ⟨.hbm, 143, rfl⟩
abbrev main_while0b_v100 : Ref sig .tc := ⟨.hbm, 144, rfl⟩
abbrev main_while0b_c_11 : Ref sig .tc := ⟨.hbm, 145, rfl⟩
abbrev main_while0b_v101 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩

abbrev nD : Nat := 1
abbrev τ : Topo := Topo.v7x

variable {F : FTy → Type} [FloatOps F]

abbrev main_while0_count : Scf.Loop 32 := ⟨0#32, 8192#32, 1#32⟩
-- ==== Ffn.lean ====
abbrev S16384x2048 : Shape := ⟨2, ![16384, 2048]⟩
abbrev S2x1x2048 : Shape := ⟨3, ![2, 1, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 12
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S2x1x2048, .f32⟩
  | .hbm, ⟨2, _⟩ => ⟨S2x1x2048, .f32⟩
  | .hbm, ⟨3, _⟩ => ⟨S2x1x2048, .f32⟩
  | .hbm, ⟨4, _⟩ => ⟨S2048x5632, .bf16⟩
  | .hbm, ⟨5, _⟩ => ⟨S2048x5632, .bf16⟩
  | .hbm, ⟨6, _⟩ => ⟨S5632x2048, .bf16⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RefFfnIdeal.lean ====
abbrev S16384x2048 : Shape := ⟨2, ![16384, 2048]⟩
abbrev S2x1x2048 : Shape := ⟨3, ![2, 1, 2048]⟩
abbrev S2048x5632 : Shape := ⟨2, ![2048, 5632]⟩
abbrev S5632x2048 : Shape := ⟨2, ![5632, 2048]⟩
abbrev S2048 : Shape := ⟨1, ![2048]⟩
abbrev S2x8192x2048 : Shape := ⟨3, ![2, 8192, 2048]⟩
abbrev S_ : Shape := ⟨0, ![]⟩
abbrev S2x8192x5632 : Shape := ⟨3, ![2, 8192, 5632]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x1x2048, .f32⟩
  | .hbm, ⟨2, _⟩ => ⟨S2x1x2048, .f32⟩
  | .hbm, ⟨3, _⟩ => ⟨S2x1x2048, .f32⟩
  | .hbm, ⟨4, _⟩ => ⟨S2048x5632, .bf16⟩
  | .hbm, ⟨5, _⟩ => ⟨S2048x5632, .bf16⟩
  | .hbm, ⟨6, _⟩ => ⟨S5632x2048, .bf16⟩
  | .hbm, ⟨7, _⟩ => ⟨S2048, .f32⟩
  | .hbm, ⟨8, _⟩ => ⟨S2048, .f32⟩
  | .hbm, ⟨9, _⟩ => ⟨S2x8192x2048, .f32⟩
  | .hbm, ⟨10, _⟩ => ⟨S_, .f32⟩
  | .hbm, ⟨11, _⟩ => ⟨S2x1x2048, .f32⟩
  | .hbm, ⟨12, _⟩ => ⟨S2x1x2048, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S2048x5632, .f32⟩
  | .hbm, ⟨18, _⟩ => ⟨S2x8192x5632, .f32⟩
  | .hbm, ⟨19, _⟩ => ⟨S2048x5632, .f32⟩
  | .hbm, ⟨20, _⟩ => ⟨S2x8192x5632, .f32⟩
  | .hbm, ⟨21, _⟩ => ⟨S2x8192x5632, .f32⟩
  | .hbm, ⟨22, _⟩ => ⟨S2x8192x5632, .f32⟩
  | .hbm, ⟨23, _⟩ => ⟨S_, .f32⟩
  | .hbm, ⟨24, _⟩ => ⟨S2x8192x5632, .f32⟩
  | .hbm, ⟨25, _⟩ => ⟨S2x8192x5632, .f32⟩
  | .hbm, ⟨26, _⟩ => ⟨S_, .f32⟩
  | .hbm, ⟨27, _⟩ => ⟨S2x8192x5632, .f32⟩
  | .hbm, ⟨28, _⟩ => ⟨S2x8192x5632, .f32⟩
  | .hbm, ⟨29, _⟩ => ⟨S2x8192x5632, .f32⟩
  | .hbm, ⟨30, _⟩ => ⟨S2x8192x5632, .f32⟩
  | .hbm, ⟨31, _⟩ => ⟨S5632x2048, .f32⟩
  | .hbm, ⟨32, _⟩ => ⟨S2x8192x2048, .f32⟩
  | .hbm, ⟨33, _⟩ => ⟨S_, .f32⟩
  | .hbm, ⟨34, _⟩ => ⟨S2x8192x2048, .f32⟩
  | .hbm, ⟨35, _⟩ => ⟨S2x8192x2048, .f32⟩
  | .hbm, ⟨36, _⟩ => ⟨S_, .f32⟩
  | .hbm, ⟨37, _⟩ => ⟨S2x1x2048, .f32⟩
  | .hbm, ⟨38, _⟩ => ⟨S2x1x2048, .f32⟩
  | .hbm, ⟨39, _⟩ => ⟨S2x8192x2048, .f32⟩
  | .hbm, ⟨40, _⟩ => ⟨S2x8192x2048, .f32⟩
  | .hbm, ⟨41, _⟩ => ⟨S2x8192x2048, .f32⟩
  | .hbm, ⟨42, _⟩ => ⟨S_, .f32⟩
  | .hbm, ⟨43, _⟩ => ⟨S2x8192, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x2048, .f32⟩
  | .hbm, ⟨49, _⟩ => ⟨S2x8192x2048, .f32⟩
  | .hbm, ⟨50, _⟩ => ⟨S2x8192x2048, .f32⟩
  | .hbm, ⟨51, _⟩ => ⟨S_, .f32⟩
  | .hbm, ⟨52, _⟩ => ⟨S2x8192, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x2048, .f32⟩
  | .hbm, ⟨58, _⟩ => ⟨S2x8192x2048, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x1, .f32⟩
  | .hbm, ⟨63, _⟩ => ⟨S2x8192x2048, .f32⟩
  | .hbm, ⟨64, _⟩ => ⟨S2x8192x2048, .f32⟩
  | .hbm, ⟨65, _⟩ => ⟨S1x1x2048, .f32⟩
  | .hbm, ⟨66, _⟩ => ⟨S2x8192x2048, .f32⟩
  | .hbm, ⟨67, _⟩ => ⟨S2x8192x2048, .f32⟩
  | .hbm, ⟨68, _⟩ => ⟨S1x1x2048, .f32⟩
  | .hbm, ⟨69, _⟩ => ⟨S2x8192x2048, .f32⟩
  | .hbm, ⟨70, _⟩ => ⟨S2x8192x2048, .f32⟩
  | .hbm, ⟨71, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]
-- ==== MixOut.lean ====
abbrev S16384x2048 : Shape := ⟨2, ![16384, 2048]⟩
abbrev S2x1x2048 : Shape := ⟨3, ![2, 1, 2048]⟩
abbrev S16384x1024 : Shape := ⟨2, ![16384, 1024]⟩
abbrev S2x2048x2048 : Shape := ⟨3, ![2, 2048, 2048]⟩
abbrev S2x2048 : Shape := ⟨2, ![2, 2048]⟩
abbrev S2x3x2048 : Shape := ⟨3, ![2, 3, 2048]⟩
abbrev S1x2048 : Shape := ⟨2, ![1, 2048]⟩
abbrev S2048 : Shape := ⟨1, ![2048]⟩
abbrev S1x1x2048 : Shape := ⟨3, ![1, 1, 2048]⟩
abbrev S512x2048 : Shape := ⟨2, ![512, 2048]⟩
abbrev S512x1024 : Shape := ⟨2, ![512, 1024]⟩
abbrev S1x1024x2048 : Shape := ⟨3, ![1, 1024, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2x1x2048, .f32⟩
  | .hbm, ⟨2, _⟩ => ⟨S16384x1024, .bf16⟩
  | .hbm, ⟨3, _⟩ => ⟨S16384x1024, .bf16⟩
  | .hbm, ⟨4, _⟩ => ⟨S2x2048x2048, .f32⟩
  | .hbm, ⟨5, _⟩ => ⟨S2x2048, .f32⟩
  | .hbm, ⟨6, _⟩ => ⟨S2x3x2048, .f32⟩
  | .hbm, ⟨7, _⟩ => ⟨S2x3x2048, .f32⟩
  | .hbm, ⟨8, _⟩ => ⟨S2x2048x2048, .bf16⟩
  | .hbm, ⟨9, _⟩ => ⟨S1x2048, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S1x1x2048, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefOutIdeal.lean ====
abbrev S16384x2048 : Shape := ⟨2, ![16384, 2048]⟩
abbrev S2x1x2048 : Shape := ⟨3, ![2, 1, 2048]⟩
abbrev S16384x1024 : Shape := ⟨2, ![16384, 1024]⟩
abbrev S2x2048x2048 : Shape := ⟨3, ![2, 2048, 2048]⟩
abbrev S2x2048 : Shape := ⟨2, ![2, 2048]⟩
abbrev S2x3x2048 : Shape := ⟨3, ![2, 3, 2048]⟩
abbrev S2x8192x2048 : Shape := ⟨3, ![2, 8192, 2048]⟩
abbrev S2x8192x1024 : Shape := ⟨3, ![2, 8192, 1024]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S2x8192 : Shape := ⟨2, ![2, 8192]⟩
abbrev S2x8192x1 : Shape := ⟨3, ![2, 8192, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x1x2048, .f32⟩
  | .hbm, ⟨2, _⟩ => ⟨S16384x1024, .bf16⟩
  | .hbm, ⟨3, _⟩ => ⟨S16384x1024, .bf16⟩
  | .hbm, ⟨4, _⟩ => ⟨S2x2048x2048, .f32⟩
  | .hbm, ⟨5, _⟩ => ⟨S2x2048, .f32⟩
  | .hbm, ⟨6, _⟩ => ⟨S2x3x2048, .f32⟩
  | .hbm, ⟨7, _⟩ => ⟨S2x3x2048, .f32⟩
  | .hbm, ⟨8, _⟩ => ⟨S2x8192x2048, .f32⟩
  | .hbm, ⟨9, _⟩ => ⟨S2x8192x1024, .bf16⟩
  | .hbm, ⟨10, _⟩ => ⟨S2x8192x1024, .f32⟩
  | .hbm, ⟨11, _⟩ => ⟨S2x8192x1024, .bf16⟩
  | .hbm, ⟨12, _⟩ => ⟨S2x8192x1024, .f32⟩
  | .hbm, ⟨13, _⟩ => ⟨S2x8192x2048, .f32⟩
  | .hbm, ⟨14, _⟩ => ⟨S1x2048x2048, .f32⟩
  | .hbm, ⟨15, _⟩ => ⟨S2048x2048, .f32⟩
  | .hbm, ⟨16, _⟩ => ⟨S2x8192x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S_, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S2x8192x2048, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x2048, .f32⟩
  | .hbm, ⟨44, _⟩ => ⟨S2x8192x2048, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x2048, .f32⟩
  | .hbm, ⟨50, _⟩ => ⟨S2x8192x2048, .f32⟩
  | .hbm, ⟨51, _⟩ => ⟨S1x1x2048, .f32⟩
  | .hbm, ⟨52, _⟩ => ⟨S2048, .f32⟩
  | .hbm, ⟨53, _⟩ => ⟨S1x1x2048, .f32⟩
  | .hbm, ⟨54, _⟩ => ⟨S2x8192x2048, .f32⟩
  | .hbm, ⟨55, _⟩ => ⟨S2x8192x2048, .f32⟩
  | .hbm, ⟨56, _⟩ => ⟨S1x1x2048, .f32⟩
  | .hbm, ⟨57, _⟩ => ⟨S2048, .f32⟩
  | .hbm, ⟨58, _⟩ => ⟨S1x1x2048, .f32⟩
  | .hbm, ⟨59, _⟩ => ⟨S2x8192x2048, .f32⟩
  | .hbm, ⟨60, _⟩ => ⟨S2x8192x2048, .f32⟩
  | .hbm, ⟨61, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== MixIn.lean ====
abbrev S16384x2048 : Shape := ⟨2, ![16384, 2048]⟩
abbrev S2x1x2048 : Shape := ⟨3, ![2, 1, 2048]⟩
abbrev S2x2048x4096 : Shape := ⟨3, ![2, 2048, 4096]⟩
abbrev S2x31x1024 : Shape := ⟨3, ![2, 31, 1024]⟩
abbrev S2x1024 : Shape := ⟨2, ![2, 1024]⟩
abbrev S1x31x1024 : Shape := ⟨3, ![1, 31, 1024]⟩
abbrev S31x1024 : Shape := ⟨2, ![31, 1024]⟩
abbrev S1x1024 : Shape := ⟨2, ![1, 1024]⟩
abbrev S1024 : Shape := ⟨1, ![1024]⟩
abbrev S16384x1024 : Shape := ⟨2, ![16384, 1024]⟩
abbrev S512x2048 : Shape := ⟨2, ![512, 2048]⟩
abbrev S1x1x2048 : Shape := ⟨3, ![1, 1, 2048]⟩
abbrev S1x2048x4096 : Shape := ⟨3, ![1, 2048, 4096]⟩
abbrev S512x1024 : Shape := ⟨2, ![512, 1024]⟩
abbrev S8x96x1024 : Shape := ⟨3, ![8, 96, 1024]⟩
abbrev S1x2048 : Shape := ⟨2, ![1, 2048]⟩
abbrev S8x16x1024 : Shape := ⟨3, ![8, 16, 1024]⟩
abbrev S1x2048x256 : Shape := ⟨3, ![1, 2048, 256]⟩
abbrev S2048x256 : Shape := ⟨2, ![2048, 256]⟩
abbrev S512x256 : Shape := ⟨2, ![512, 256]⟩
abbrev S8x64x256 : Shape := ⟨3, ![8, 64, 256]⟩
abbrev S1x96x128 : Shape := ⟨3, ![1, 96, 128]⟩
abbrev S96x128 : Shape := ⟨2, ![96, 128]⟩
abbrev S1x128 : Shape := ⟨2, ![1, 128]⟩
abbrev S64x128 : Shape := ⟨2, ![64, 128]⟩
abbrev S512 : Shape := ⟨1, ![512]⟩
abbrev S512x1 : Shape := ⟨2, ![512, 1]⟩

abbrev nBuf : Space → Nat
  | .hbm => 23
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S2x1x2048, .f32⟩
  | .hbm, ⟨2, _⟩ => ⟨S2x1x2048, .f32⟩
  | .hbm, ⟨3, _⟩ => ⟨S2x2048x4096, .f32⟩
  | .hbm, ⟨4, _⟩ => ⟨S2x31x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x2048x4096, .bf16⟩
  | .hbm, ⟨9, _⟩ => ⟨S1x31x1024, .f32⟩
  | .hbm, ⟨10, _⟩ => ⟨S31x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x4096, .bf16⟩
  | .local _ .vmem, ⟨7, _⟩ => ⟨S31x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x96x1024, .f32⟩
  | .local _ .vmem, ⟨18, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefInIdeal.lean ====
abbrev S16384x2048 : Shape := ⟨2, ![16384, 2048]⟩
abbrev S2x1x2048 : Shape := ⟨3, ![2, 1, 2048]⟩
abbrev S2x2048x4096 : Shape := ⟨3, ![2, 2048, 4096]⟩
abbrev S2x31x1024 : Shape := ⟨3, ![2, 31, 1024]⟩
abbrev S2x1024 : Shape := ⟨2, ![2, 1024]⟩
abbrev S2x8192x2048 : Shape := ⟨3, ![2, 8192, 2048]⟩
abbrev S_ : Shape := ⟨0, ![]⟩
abbrev S1x2048x4096 : Shape := ⟨3, ![1, 2048, 4096]⟩
abbrev S2048x4096 : Shape := ⟨2, ![2048, 4096]⟩
abbrev S2x8192x4096 : Shape := ⟨3, ![2, 8192, 4096]⟩
abbrev S2x8192x1024 : Shape := ⟨3, ![2, 8192, 1024]⟩
abbrev S256x64x1024 : Shape := ⟨3, ![256, 64, 1024]⟩
abbrev S256x94x1024 : Shape := ⟨3, ![256, 94, 1024]⟩
abbrev S1x1x1024 : Shape := ⟨3, ![1, 1, 1024]⟩
abbrev S1024 : Shape := ⟨1, ![1024]⟩
abbrev S1x1024 : Shape := ⟨2, ![1, 1024]⟩
abbrev S256x64 : Shape := ⟨2, ![256, 64]⟩
abbrev S256x64x1 : Shape := ⟨3, ![256, 64, 1]⟩
abbrev S16384x1024 : Shape := ⟨2, ![16384, 1024]⟩

abbrev nBuf : Space → Nat
  | .hbm => 320
  | .vmem => 0
  | .smem => 0
  | _ => 0

abbrev hbmTy0_0 (i : Nat) : BufTy := match i % 128 with
  | 0 => ⟨S16384x2048, .f32⟩
  | 1 => ⟨S2x1x2048, .f32⟩
  | 2 => ⟨S2x1x2048, .f32⟩
  | 3 => ⟨S2x2048x4096, .f32⟩
  | 4 => ⟨S2x31x1024, .f32⟩
  | 5 => ⟨S2x1024, .f32⟩
  | 6 => ⟨S2x1024, .f32⟩
  | 7 => ⟨S2x1024, .f32⟩
  | 8 => ⟨S2x8192x2048, .f32⟩
  | 9 => ⟨S_, .f32⟩
  | 10 => ⟨S2x1x2048, .f32⟩
  | 11 => ⟨S2x1x2048, .f32⟩
  | 12 => ⟨S2x8192x2048, .f32⟩
  | 13 => ⟨S2x8192x2048, .f32⟩
  | 14 => ⟨S2x8192x2048, .f32⟩
  | 15 => ⟨S2x8192x2048, .f32⟩
  | 16 => ⟨S1x2048x4096, .f32⟩
  | 17 => ⟨S2048x4096, .f32⟩
  | 18 => ⟨S2x8192x4096, .f32⟩
  | 19 => ⟨S2x8192x1024, .f32⟩
  | 20 => ⟨S2x8192x1024, .f32⟩
  | 21 => ⟨S2x8192x1024, .f32⟩
  | 22 => ⟨S2x8192x1024, .f32⟩
  | 23 => ⟨S2x8192x1024, .f32⟩
  | 24 => ⟨S2x8192x1024, .f32⟩
  | 25 => ⟨S_, .f32⟩
  | 26 => ⟨S2x8192x1024, .f32⟩
  | 27 => ⟨S2x8192x1024, .f32⟩
  | 28 => ⟨S_, .f32⟩
  | 29 => ⟨S2x8192x1024, .f32⟩
  | 30 => ⟨S2x8192x1024, .f32⟩
  | 31 => ⟨S2x8192x1024, .f32⟩
  | 32 => ⟨S256x64x1024, .f32⟩
  | 33 => ⟨S_, .i32⟩
  | 34 => ⟨S_, .f32⟩
  | 35 => ⟨S256x94x1024, .f32⟩
  | 36 => ⟨S1x1x1024, .f32⟩
  | 37 => ⟨S1024, .f32⟩
  | 38 => ⟨S256x64x1024, .f32⟩
  | 39 => ⟨S1x1x1024, .f32⟩
  | 40 => ⟨S256x64x1024, .f32⟩
  | 41 => ⟨S256x64x1024, .f32⟩
  | 42 => ⟨S1x1x1024, .f32⟩
  | 43 => ⟨S1024, .f32⟩
  | 44 => ⟨S256x64x1024, .f32⟩
  | 45 => ⟨S1x1x1024, .f32⟩
  | 46 => ⟨S256x64x1024, .f32⟩
  | 47 => ⟨S256x64x1024, .f32⟩
  | 48 => ⟨S256x64x1024, .f32⟩
  | 49 => ⟨S1x1x1024, .f32⟩
  | 50 => ⟨S1024, .f32⟩
  | 51 => ⟨S256x64x1024, .f32⟩
  | 52 => ⟨S1x1x1024, .f32⟩
  | 53 => ⟨S256x64x1024, .f32⟩
  | 54 => ⟨S256x64x1024, .f32⟩
  | 55 => ⟨S256x64x1024, .f32⟩
  | 56 => ⟨S1x1x1024, .f32⟩
  | 57 => ⟨S1024, .f32⟩
  | 58 => ⟨S256x64x1024, .f32⟩
  | 59 => ⟨S1x1x1024, .f32⟩
  | 60 => ⟨S256x64x1024, .f32⟩
  | 61 => ⟨S256x64x1024, .f32⟩
  | 62 => ⟨S256x64x1024, .f32⟩
  | 63 => ⟨S1x1x1024, .f32⟩
  | 64 => ⟨S1024, .f32⟩
  | 65 => ⟨S256x64x1024, .f32⟩
  | 66 => ⟨S1x1x1024, .f32⟩
  | 67 => ⟨S256x64x1024, .f32⟩
  | 68 => ⟨S256x64x1024, .f32⟩
  | 69 => ⟨S256x64x1024, .f32⟩
  | 70 => ⟨S1x1x1024, .f32⟩
  | 71 => ⟨S1024, .f32⟩
  | 72 => ⟨S256x64x1024, .f32⟩
  | 73 => ⟨S1x1x1024, .f32⟩
  | 74 => ⟨S256x64x1024, .f32⟩
  | 75 => ⟨S256x64x1024, .f32⟩
  | 76 => ⟨S256x64x1024, .f32⟩
  | 77 => ⟨S1x1x1024, .f32⟩
  | 78 => ⟨S1024, .f32⟩
  | 79 => ⟨S256x64x1024, .f32⟩
  | 80 => ⟨S1x1x1024, .f32⟩
  | 81 => ⟨S256x64x1024, .f32⟩
  | 82 => ⟨S256x64x1024, .f32⟩
  | 83 => ⟨S256x64x1024, .f32⟩
  | 84 => ⟨S1x1x1024, .f32⟩
  | 85 => ⟨S1024, .f32⟩
  | 86 => ⟨S256x64x1024, .f32⟩
  | 87 => ⟨S1x1x1024, .f32⟩
  | 88 => ⟨S256x64x1024, .f32⟩
  | 89 => ⟨S256x64x1024, .f32⟩
  | 90 => ⟨S256x64x1024, .f32⟩
  | 91 => ⟨S1x1x1024, .f32⟩
  | 92 => ⟨S1024, .f32⟩
  | 93 => ⟨S256x64x1024, .f32⟩
  | 94 => ⟨S1x1x1024, .f32⟩
  | 95 => ⟨S256x64x1024, .f32⟩
  | 96 => ⟨S256x64x1024, .f32⟩
  | 97 => ⟨S256x64x1024, .f32⟩
  | 98 => ⟨S1x1x1024, .f32⟩
  | 99 => ⟨S1024, .f32⟩
  | 100 => ⟨S256x64x1024, .f32⟩
  | 101 => ⟨S1x1x1024, .f32⟩
  | 102 => ⟨S256x64x1024, .f32⟩
  | 103 => ⟨S256x64x1024, .f32⟩
  | 104 => ⟨S256x64x1024, .f32⟩
  | 105 => ⟨S1x1x1024, .f32⟩
  | 106 => ⟨S1024, .f32⟩
  | 107 => ⟨S256x64x1024, .f32⟩
  | 108 => ⟨S1x1x1024, .f32⟩
  | 109 => ⟨S256x64x1024, .f32⟩
  | 110 => ⟨S256x64x1024, .f32⟩
  | 111 => ⟨S256x64x1024, .f32⟩
  | 112 => ⟨S1x1x1024, .f32⟩
  | 113 => ⟨S1024, .f32⟩
  | 114 => ⟨S256x64x1024, .f32⟩
  | 115 => ⟨S1x1x1024, .f32⟩
  | 116 => ⟨S256x64x1024, .f32⟩
  | 117 => ⟨S256x64x1024, .f32⟩
  | 118 => ⟨S256x64x1024, .f32⟩
  | 119 => ⟨S1x1x1024, .f32⟩
  | 120 => ⟨S1024, .f32⟩
  | 121 => ⟨S256x64x1024, .f32⟩
  | 122 => ⟨S1x1x1024, .f32⟩
  | 123 => ⟨S256x64x1024, .f32⟩
  | 124 => ⟨S256x64x1024, .f32⟩
  | 125 => ⟨S256x64x1024, .f32⟩
  | 126 => ⟨S1x1x1024, .f32⟩
  | 127 => ⟨S1024, .f32⟩
  | _ => ⟨S16384x2048, .f32⟩

abbrev hbmTy0_1 (i : Nat) : BufTy := match i % 128 with
  | 0 => ⟨S256x64x1024, .f32⟩
  | 1 => ⟨S1x1x1024, .f32⟩
  | 2 => ⟨S256x64x1024, .f32⟩
  | 3 => ⟨S256x64x1024, .f32⟩
  | 4 => ⟨S256x64x1024, .f32⟩
  | 5 => ⟨S1x1x1024, .f32⟩
  | 6 => ⟨S1024, .f32⟩
  | 7 => ⟨S256x64x1024, .f32⟩
  | 8 => ⟨S1x1x1024, .f32⟩
  | 9 => ⟨S256x64x1024, .f32⟩
  | 10 => ⟨S256x64x1024, .f32⟩
  | 11 => ⟨S256x64x1024, .f32⟩
  | 12 => ⟨S1x1x1024, .f32⟩
  | 13 => ⟨S1024, .f32⟩
  | 14 => ⟨S256x64x1024, .f32⟩
  | 15 => ⟨S1x1x1024, .f32⟩
  | 16 => ⟨S256x64x1024, .f32⟩
  | 17 => ⟨S256x64x1024, .f32⟩
  | 18 => ⟨S256x64x1024, .f32⟩
  | 19 => ⟨S1x1x1024, .f32⟩
  | 20 => ⟨S1024, .f32⟩
  | 21 => ⟨S256x64x1024, .f32⟩
  | 22 => ⟨S1x1x1024, .f32⟩
  | 23 => ⟨S256x64x1024, .f32⟩
  | 24 => ⟨S256x64x1024, .f32⟩
  | 25 => ⟨S256x64x1024, .f32⟩
  | 26 => ⟨S1x1x1024, .f32⟩
  | 27 => ⟨S1024, .f32⟩
  | 28 => ⟨S256x64x1024, .f32⟩
  | 29 => ⟨S1x1x1024, .f32⟩
  | 30 => ⟨S256x64x1024, .f32⟩
  | 31 => ⟨S256x64x1024, .f32⟩
  | 32 => ⟨S256x64x1024, .f32⟩
  | 33 => ⟨S1x1x1024, .f32⟩
  | 34 => ⟨S1024, .f32⟩
  | 35 => ⟨S256x64x1024, .f32⟩
  | 36 => ⟨S1x1x1024, .f32⟩
  | 37 => ⟨S256x64x1024, .f32⟩
  | 38 => ⟨S256x64x1024, .f32⟩
  | 39 => ⟨S256x64x1024, .f32⟩
  | 40 => ⟨S1x1x1024, .f32⟩
  | 41 => ⟨S1024, .f32⟩
  | 42 => ⟨S256x64x1024, .f32⟩
  | 43 => ⟨S1x1x1024, .f32⟩
  | 44 => ⟨S256x64x1024, .f32⟩
  | 45 => ⟨S256x64x1024, .f32⟩
  | 46 => ⟨S256x64x1024, .f32⟩
  | 47 => ⟨S1x1x1024, .f32⟩
  | 48 => ⟨S1024, .f32⟩
  | 49 => ⟨S256x64x1024, .f32⟩
  | 50 => ⟨S1x1x1024, .f32⟩
  | 51 => ⟨S256x64x1024, .f32⟩
  | 52 => ⟨S256x64x1024, .f32⟩
  | 53 => ⟨S256x64x1024, .f32⟩
  | 54 => ⟨S1x1x1024, .f32⟩
  | 55 => ⟨S1024, .f32⟩
  | 56 => ⟨S256x64x1024, .f32⟩
  | 57 => ⟨S1x1x1024, .f32⟩
  | 58 => ⟨S256x64x1024, .f32⟩
  | 59 => ⟨S256x64x1024, .f32⟩
  | 60 => ⟨S256x64x1024, .f32⟩
  | 61 => ⟨S1x1x1024, .f32⟩
  | 62 => ⟨S1024, .f32⟩
  | 63 => ⟨S256x64x1024, .f32⟩
  | 64 => ⟨S1x1x1024, .f32⟩
  | 65 => ⟨S256x64x1024, .f32⟩
  | 66 => ⟨S256x64x1024, .f32⟩
  | 67 => ⟨S256x64x1024, .f32⟩
  | 68 => ⟨S1x1x1024, .f32⟩
  | 69 => ⟨S1024, .f32⟩
  | 70 => ⟨S256x64x1024, .f32⟩
  | 71 => ⟨S1x1x1024, .f32⟩
  | 72 => ⟨S256x64x1024, .f32⟩
  | 73 => ⟨S256x64x1024, .f32⟩
  | 74 => ⟨S256x64x1024, .f32⟩
  | 75 => ⟨S1x1x1024, .f32⟩
  | 76 => ⟨S1024, .f32⟩
  | 77 => ⟨S256x64x1024, .f32⟩
  | 78 => ⟨S1x1x1024, .f32⟩
  | 79 => ⟨S256x64x1024, .f32⟩
  | 80 => ⟨S256x64x1024, .f32⟩
  | 81 => ⟨S256x64x1024, .f32⟩
  | 82 => ⟨S1x1x1024, .f32⟩
  | 83 => ⟨S1024, .f32⟩
  | 84 => ⟨S256x64x1024, .f32⟩
  | 85 => ⟨S1x1x1024, .f32⟩
  | 86 => ⟨S256x64x1024, .f32⟩
  | 87 => ⟨S256x64x1024, .f32⟩
  | 88 => ⟨S256x64x1024, .f32⟩
  | 89 => ⟨S1x1x1024, .f32⟩
  | 90 => ⟨S1024, .f32⟩
  | 91 => ⟨S256x64x1024, .f32⟩
  | 92 => ⟨S1x1x1024, .f32⟩
  | 93 => ⟨S256x64x1024, .f32⟩
  | 94 => ⟨S256x64x1024, .f32⟩
  | 95 => ⟨S256x64x1024, .f32⟩
  | 96 => ⟨S1x1x1024, .f32⟩
  | 97 => ⟨S1024, .f32⟩
  | 98 => ⟨S256x64x1024, .f32⟩
  | 99 => ⟨S1x1x1024, .f32⟩
  | 100 => ⟨S256x64x1024, .f32⟩
  | 101 => ⟨S256x64x1024, .f32⟩
  | 102 => ⟨S256x64x1024, .f32⟩
  | 103 => ⟨S1x1x1024, .f32⟩
  | 104 => ⟨S1024, .f32⟩
  | 105 => ⟨S256x64x1024, .f32⟩
  | 106 => ⟨S1x1x1024, .f32⟩
  | 107 => ⟨S256x64x1024, .f32⟩
  | 108 => ⟨S256x64x1024, .f32⟩
  | 109 => ⟨S256x64x1024, .f32⟩
  | 110 => ⟨S1x1x1024, .f32⟩
  | 111 => ⟨S1024, .f32⟩
  | 112 => ⟨S256x64x1024, .f32⟩
  | 113 => ⟨S1x1x1024, .f32⟩
  | 114 => ⟨S256x64x1024, .f32⟩
  | 115 => ⟨S256x64x1024, .f32⟩
  | 116 => ⟨S256x64x1024, .f32⟩
  | 117 => ⟨S1x1x1024, .f32⟩
  | 118 => ⟨S1024, .f32⟩
  | 119 => ⟨S256x64x1024, .f32⟩
  | 120 => ⟨S1x1x1024, .f32⟩
  | 121 => ⟨S256x64x1024, .f32⟩
  | 122 => ⟨S256x64x1024, .f32⟩
  | 123 => ⟨S256x64x1024, .f32⟩
  | 124 => ⟨S1x1024, .f32⟩
  | 125 => ⟨S1024, .f32⟩
  | 126 => ⟨S1x1x1024, .f32⟩
  | 127 => ⟨S256x64x1024, .f32⟩
  | _ => ⟨S16384x2048, .f32⟩

abbrev hbmTy0_2 (i : Nat) : BufTy := match i % 128 with
  | 0 => ⟨S256x64x1024, .f32⟩
  | 1 => ⟨S_, .f32⟩
  | 2 => ⟨S256x64, .f32⟩
  | 3 => ⟨S256x64x1, .f32⟩
  | 4 => ⟨S_, .f32⟩
  | 5 => ⟨S256x64x1, .f32⟩
  | 6 => ⟨S256x64x1, .f32⟩
  | 7 => ⟨S256x64x1024, .f32⟩
  | 8 => ⟨S256x64x1024, .f32⟩
  | 9 => ⟨S256x64x1024, .f32⟩
  | 10 => ⟨S_, .f32⟩
  | 11 => ⟨S256x64, .f32⟩
  | 12 => ⟨S256x64x1, .f32⟩
  | 13 => ⟨S_, .f32⟩
  | 14 => ⟨S256x64x1, .f32⟩
  | 15 => ⟨S256x64x1, .f32⟩
  | 16 => ⟨S256x64x1024, .f32⟩
  | 17 => ⟨S256x64x1024, .f32⟩
  | 18 => ⟨S_, .f32⟩
  | 19 => ⟨S256x64x1, .f32⟩
  | 20 => ⟨S256x64x1, .f32⟩
  | 21 => ⟨S256x64x1, .f32⟩
  | 22 => ⟨S256x64x1024, .f32⟩
  | 23 => ⟨S256x64x1024, .f32⟩
  | 24 => ⟨S1x1024, .f32⟩
  | 25 => ⟨S1024, .f32⟩
  | 26 => ⟨S1x1x1024, .f32⟩
  | 27 => ⟨S256x64x1024, .f32⟩
  | 28 => ⟨S256x64x1024, .f32⟩
  | 29 => ⟨S1x1024, .f32⟩
  | 30 => ⟨S1024, .f32⟩
  | 31 => ⟨S1x1x1024, .f32⟩
  | 32 => ⟨S256x64x1024, .f32⟩
  | 33 => ⟨S256x64x1024, .f32⟩
  | 34 => ⟨S256x64x1024, .f32⟩
  | 35 => ⟨S256x64x1024, .f32⟩
  | 36 => ⟨S_, .f32⟩
  | 37 => ⟨S256x64x1024, .f32⟩
  | 38 => ⟨S256x64x1024, .f32⟩
  | 39 => ⟨S_, .f32⟩
  | 40 => ⟨S256x64x1024, .f32⟩
  | 41 => ⟨S256x64x1024, .f32⟩
  | 42 => ⟨S256x64x1024, .f32⟩
  | 43 => ⟨S16384x1024, .f32⟩
  | 44 => ⟨S2x8192x1024, .f32⟩
  | 45 => ⟨S2x8192x1024, .f32⟩
  | 46 => ⟨S_, .f32⟩
  | 47 => ⟨S2x8192x1024, .f32⟩
  | 48 => ⟨S2x8192x1024, .f32⟩
  | 49 => ⟨S2x8192x1024, .f32⟩
  | 50 => ⟨S_, .f32⟩
  | 51 => ⟨S2x8192x1024, .f32⟩
  | 52 => ⟨S2x8192x1024, .f32⟩
  | 53 => ⟨S2x8192x1024, .f32⟩
  | 54 => ⟨S_, .f32⟩
  | 55 => ⟨S2x8192x1024, .f32⟩
  | 56 => ⟨S2x8192x1024, .f32⟩
  | 57 => ⟨S_, .f32⟩
  | 58 => ⟨S2x8192x1024, .f32⟩
  | 59 => ⟨S2x8192x1024, .f32⟩
  | 60 => ⟨S2x8192x1024, .f32⟩
  | 61 => ⟨S16384x1024, .f32⟩
  | 62 => ⟨S16384x1024, .f32⟩
  | 63 => ⟨S16384x1024, .bf16⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_cst_2 : Ref sig .tc := ⟨.hbm, 257, rfl⟩
abbrev main_v244 : Ref sig .tc := ⟨.hbm, 258, rfl⟩
abbrev main_v245 : Ref sig .tc := ⟨.hbm, 259, rfl⟩
abbrev main_cst_3 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_cst_4 : Ref sig .tc := ⟨.hbm, 266, rfl⟩
abbrev main_v251 : Ref sig .tc := ⟨.hbm, 267, rfl⟩
abbrev main_v252 : Ref sig .tc := ⟨.hbm, 268, rfl⟩
abbrev main_cst_5 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_cst_6 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_v262 : Ref sig .tc := ⟨.hbm, 280, rfl⟩
abbrev main_v263 : Ref sig .tc := ⟨.hbm, 281, rfl⟩
abbrev main_v264 : Ref sig .tc := ⟨.hbm, 282, rfl⟩
abbrev main_v265 : Ref sig .tc := ⟨.hbm, 283, rfl⟩
abbrev main_v266 : Ref sig .tc := ⟨.hbm, 284, rfl⟩
abbrev main_v267 : Ref sig .tc := ⟨.hbm, 285, rfl⟩
abbrev main_v268 : Ref sig .tc := ⟨.hbm, 286, rfl⟩
abbrev main_v269 : Ref sig .tc := ⟨.hbm, 287, rfl⟩
abbrev main_v270 : Ref sig .tc := ⟨.hbm, 288, rfl⟩
abbrev main_v271 : Ref sig .tc := ⟨.hbm, 289, rfl⟩
abbrev main_call1_v0 : Ref sig .tc := ⟨.hbm, 290, rfl⟩
abbrev main_call1_v1 : Ref sig .tc := ⟨.hbm, 291, rfl⟩
abbrev main_call1_cst : Ref sig .tc := ⟨.hbm, 292, rfl⟩
abbrev main_call1_v2 : Ref sig .tc := ⟨.hbm, 293, rfl⟩
abbrev main_call1_v3 : Ref sig .tc := ⟨.hbm, 294, rfl⟩
abbrev main_call1_cst_0 : Ref sig .tc := ⟨.hbm, 295, rfl⟩
abbrev main_call1_v4 : Ref sig .tc := ⟨.hbm, 296, rfl⟩
abbrev main_call1_v5 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_cst_7 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_cst_8 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_cst_9 : Ref sig .tc := ⟨.hbm, 310, rfl⟩
abbrev main_v282 : Ref sig .tc := ⟨.hbm, 311, rfl⟩
abbrev main_v283 : Ref sig .tc := ⟨.hbm, 312, rfl⟩
abbrev main_cst_10 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_v287 : Ref sig .tc := ⟨.hbm, 317, rfl⟩
abbrev main_v288 : Ref sig .tc := ⟨.hbm, 318, rfl⟩
abbrev main_v289 : Ref sig .tc := ⟨.hbm, 319, rfl⟩

abbrev nD : Nat := 1
abbrev τ : Topo := Topo.v7x

variable {F : FTy → Type} [FloatOps F]
-- ==== Proof.ScanBwdIdeal.Loop.lean ====
module

public import proofs.«01_k».proof.Proof.Gen.ScanBwdIdeal.Launch
public import proofs.«01_k».proof.Proof.Gen.ScanBwdIdeal.Skeleton
public import proofs.«01_k».proof.Proof.Gen.ScanBwdIdeal.Loops
public import proofs.«01_k».proof.Proof.Gen.ScanBwdIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ScanBwdIdeal.Hand

open Cert.ScanBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The scan's loop over the 128 groups of eight rows, as functions of the blocks it reads. -/

/-- The row numbers within a group of eight. -/
abbrev rows : IVec S8x1024 32 := iota .tc S8x1024 32 [0] iota_S8x1024_d0_w32

/-- The rectangle of the group trip `k` works on: eight whole rows. -/
abbrev grp (k : Fin k0_t1_loop.trips) : Rect S1024x1024 := Rect.unit (s := S1024x1024) (k0_off1 k) S8x1024.size (k0_off1_inb k)

/-- The eight rows of states trip `k` stores, from the coefficients `A`, the inputs `B` and the state `acc` before the group. -/
def hs8 (A B : Vec F S1024x1024 .f32) (k : Fin k0_t1_loop.trips) (acc : Vec F S1x1024 .f32) : FVec F S8x1024 .f32 :=
  k0_pay3 acc (k0_pay11 rows (View.ld A (grp k)) (View.ld B (grp k))) (k0_pay12 rows (View.ld A (grp k)))

/-- The state trip `k` hands to the next trip. -/
def carry8 (A B : Vec F S1024x1024 .f32) (k : Fin k0_t1_loop.trips) (acc : Vec F S1x1024 .f32) : FVec F S1x1024 .f32 :=
  k0_pay4 acc (k0_pay11 rows (View.ld A (grp k)) (View.ld B (grp k))) (k0_pay12 rows (View.ld A (grp k)))

/-- The state before trip `k` and the pieces the trips before it have stored, last first. -/
def walk (A B : Vec F S1024x1024 .f32) (init : Vec F S1x1024 .f32) : ℕ → Vec F S1x1024 .f32 × List (View.Piece (Elt F) S1024x1024 .f32)
  | 0 => (init, [])
  | k + 1 => if h : k < k0_t1_loop.trips then
      (carry8 A B ⟨k, h⟩ (walk A B init k).1, ⟨grp ⟨k, h⟩, hs8 A B ⟨k, h⟩ (walk A B init k).1⟩ :: (walk A B init k).2)
    else walk A B init k

theorem walk_succ (A B : Vec F S1024x1024 .f32) (init : Vec F S1x1024 .f32) (k : Fin k0_t1_loop.trips) :
    walk A B init (k.val + 1) = (carry8 A B k (walk A B init k.val).1, ⟨grp k, hs8 A B k (walk A B init k.val).1⟩ :: (walk A B init k.val).2) := by
  rw [walk]; exact dif_pos k.isLt

theorem trips_eq : k0_t1_loop.trips = 128 := by decide +kernel

/-- Trip `k`'s group begins at row 8 * (127 - k.val). -/
theorem off1_eq : ∀ k : Fin k0_t1_loop.trips, k0_off1 k = ![8 * (127 - k.val), 0] := by decide +kernel

/-- The states the whole block holds after the loop. -/
def states (A B : Vec F S1024x1024 .f32) (init : Vec F S1x1024 .f32) : Vec F S1024x1024 .f32 :=
  View.canon (walk A B init k0_t1_loop.trips).2

/-- The state after the loop. -/
def final (A B : Vec F S1024x1024 .f32) (init : Vec F S1x1024 .f32) : Vec F S1x1024 .f32 :=
  (walk A B init k0_t1_loop.trips).1

section
variable (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1x1x4x256x256 .bf16) (harg6 : arg6.IsWhole) (arg7 : Memref sig .tc .vmem S1x1024 .f32) (harg7 : arg7.IsWhole) (arg8 : Memref sig .tc .vmem S1x1x4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1040x1024 .f32) (harg13 : arg13.IsWhole) (arg14 : Memref sig .tc .vmem S1024x1024 .f32) (harg14 : arg14.IsWhole) (arg15 : Memref sig .tc .vmem S1024x1024 .f32) (harg15 : arg15.IsWhole) (arg16 : Memref sig .tc .vmem S1x1024 .f32) (harg16 : arg16.IsWhole)
  (XA : BufTy.Contents (Elt F) arg14.view.ty) (XB : BufTy.Contents (Elt F) arg15.view.ty)

/-- What one trip of the run yields is `carry8`. -/
theorem trip_yield (k : Fin k0_t1_loop.trips) (acc : Vec F S1x1024 .f32) :
    tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rows XA XB k acc
      = carry8 (arg14.view.read (Elt F) XA) (arg15.view.read (Elt F) XB) k acc := by
  unfold tripR_k0_t1 trip_k0_t1; rfl

/-- What one trip of the run stores is `hs8` at the trip's group. -/
theorem trip_pieces (k : Fin k0_t1_loop.trips) (acc : Vec F S1x1024 .f32) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rows XA XB k acc
      = [⟨grp k, hs8 (arg14.view.read (Elt F) XA) (arg15.view.read (Elt F) XB) k acc⟩] := by
  unfold tripL_k0_t1 trip_k0_t1; rfl

/-- The run's loop is `walk`. -/
theorem st_eq (init : Vec F S1x1024 .f32) : ∀ k, k ≤ k0_t1_loop.trips →
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rows XA XB init k
      = walk (arg14.view.read (Elt F) XA) (arg15.view.read (Elt F) XB) init k
  | 0, _ => rfl
  | k + 1, h => by
    have e := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rows XA XB init ⟨k, h⟩
    have w := walk_succ (arg14.view.read (Elt F) XA) (arg15.view.read (Elt F) XB) init ⟨k, h⟩
    simp only at e w
    rw [e, w, trip_yield, trip_pieces, st_eq init k (Nat.le_of_succ_le h)]
    rfl
end

/-- Every row below the groups' reach is stored by some trip. -/
theorem walk_mem (A B : Vec F S1024x1024 .f32) (init : Vec F S1x1024 .f32) (k : Fin k0_t1_loop.trips) : ∀ n, k.val < n → n ≤ k0_t1_loop.trips →
    (⟨grp k, hs8 A B k (walk A B init k.val).1⟩ : View.Piece (Elt F) S1024x1024 .f32) ∈ (walk A B init n).2
  | 0, h, _ => absurd h (Nat.not_lt_zero _)
  | n + 1, h, hn => by
    rw [walk_succ A B init ⟨n, hn⟩]
    rcases Nat.lt_succ_iff_lt_or_eq.mp h with h | h
    · exact List.mem_cons_of_mem _ (walk_mem A B init k n h (Nat.le_of_succ_le hn))
    · subst h; exact List.mem_cons_self

theorem mem_grp (k : Fin k0_t1_loop.trips) (y : S1024x1024.Idx) :
    y ∈ (grp k).set ↔ 8 * (127 - k.val) ≤ (y 0).val ∧ (y 0).val < 8 * (127 - k.val) + 8 := by
  rw [Rect.mem_set_unit, off1_eq]
  constructor
  · intro h; exact h 0
  · intro h a; match a with
    | ⟨0, _⟩ => exact h
    | ⟨1, _⟩ => exact ⟨Nat.zero_le _, (Nat.zero_add 1024).symm ▸ (y 1).isLt⟩

/-- The trips' groups cover the block. -/
theorem walk_cover (A B : Vec F S1024x1024 .f32) (init : Vec F S1x1024 .f32) (y : S1024x1024.Idx) :
    ∃ pc ∈ (walk A B init k0_t1_loop.trips).2, y ∈ pc.1.set := by
  have hy : (y 0).val < 1024 := (y 0).isLt
  have ht := trips_eq
  let k : Fin k0_t1_loop.trips := ⟨127 - (y 0).val / 8, by omega⟩
  refine ⟨_, walk_mem A B init k _ k.isLt le_rfl, (mem_grp k y).mpr ?_⟩
  simp only [k]; omega

/-- Reading the block back after the loop gives `states`, whatever it held before. -/
theorem read_states (A B : Vec F S1024x1024 .f32) (init : Vec F S1x1024 .f32) {sp : Space} (v : View sig .tc sp S1024x1024 .f32) (f : v.ty.Contents (Elt F)) :
    v.read (Elt F) (v.writes (Elt F) f (walk A B init k0_t1_loop.trips).2) = states A B init :=
  View.read_writes_eq_canon _ _ _ (walk_cover A B init)

end Cert.ScanBwdIdeal.Hand

end
-- ==== Proof.ScanBwdIdeal.Body.lean ====
module

public import proofs.«01_k».proof.Proof.ScanBwdIdeal.Loop
public import proofs.«01_k».proof.Proof.Gen.ScanBwdIdeal.Skeleton
public import proofs.«01_k».proof.Proof.Gen.ScanBwdIdeal.Loops
public import proofs.«01_k».proof.Proof.Gen.ScanBwdIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ScanBwdIdeal.Hand

open Cert.ScanBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What one run of the body computes, as a function of the blocks it reads. -/

/-- The blocks one grid point reads. -/
structure Blk (F : FTy → Type) [FloatOps F] where
  /-- the rows of this block -/
  xs : Vec F S1024x1024 .f32
  /-- the eight rows before it -/
  before : Vec F S8x1024 .f32
  /-- the eight rows after it -/
  after : Vec F S8x1024 .f32
  /-- the convolution taps -/
  taps : Vec F S4x1024 .f32
  /-- the convolution bias -/
  cbias : Vec F S1x1024 .f32
  /-- the recurrence gate weights -/
  wr : Vec F S1x1x4x256x256 .bf16
  /-- the recurrence gate bias -/
  br : Vec F S1x1024 .f32
  /-- the input gate weights -/
  wi : Vec F S1x1x4x256x256 .bf16
  /-- the input gate bias -/
  bi : Vec F S1x1024 .f32
  /-- the decay parameter -/
  lam : Vec F S1x1024 .f32
  /-- the starting state -/
  h0 : Vec F S1x1x1024 .f32

/-- The stores that fill the padded block, last first. -/
def padPieces (i : grid0.Coords) (X : Blk F) : List (View.Piece (Elt F) S1040x1024 .f32) :=

   [⟨Rect.unit ![1032, 0] S8x1024.size inb_S1040x1024_S8x1024_1032_0, k0_pay15 i
      (View.ld X.after (Rect.unit ![0, 0] S8x1024.size inb_S8x1024_S8x1024_0_0))⟩,
    ⟨Rect.unit ![8, 0] S1024x1024.size inb_S1040x1024_S1024x1024_8_0, k0_pay14
      (View.ld X.xs (Rect.unit ![0, 0] S1024x1024.size inb_S1024x1024_S1024x1024_0_0))⟩,
    ⟨Rect.unit ![0, 0] S8x1024.size inb_S1040x1024_S8x1024_0_0, k0_pay13 i
      (View.ld X.before (Rect.unit ![0, 0] S8x1024.size inb_S8x1024_S8x1024_0_0))⟩]

/-- The padded block, read whole. -/
def padded (i : grid0.Coords) (X : Blk F) : FVec F S1040x1024 .f32 :=
  View.ld (View.canon (padPieces i X)) (Rect.unit ![0, 0] S1040x1024.size inb_S1040x1024_S1040x1024_0_0)

/-- The convolution of the block. -/
def conv (i : grid0.Coords) (X : Blk F) : FVec F S1024x1024 .f32 :=
  k0_pay16 (padded i X) (FloatOps.ofBits .f32 0#32)
      (View.ld X.cbias (Rect.unit ![0, 0] S1x1024.size inb_S1x1024_S1x1024_0_0))
      (View.ld X.taps (Rect.unit ![0, 0] S1x1024.size inb_S4x1024_S1x1024_0_0))
      (View.ld X.taps (Rect.unit ![1, 0] S1x1024.size inb_S4x1024_S1x1024_1_0))
      (View.ld X.taps (Rect.unit ![2, 0] S1x1024.size inb_S4x1024_S1x1024_2_0))
      (View.ld X.taps (Rect.unit ![3, 0] S1x1024.size inb_S4x1024_S1x1024_3_0))

/-- The convolution rounded to the gates' word. -/
def gateIn (i : grid0.Coords) (X : Blk F) : FVec F S1024x1024 .bf16 :=
  k0_pay17 (padded i X) (FloatOps.ofBits .f32 0#32)
      (View.ld X.cbias (Rect.unit ![0, 0] S1x1024.size inb_S1x1024_S1x1024_0_0))
      (View.ld X.taps (Rect.unit ![0, 0] S1x1024.size inb_S4x1024_S1x1024_0_0))
      (View.ld X.taps (Rect.unit ![1, 0] S1x1024.size inb_S4x1024_S1x1024_1_0))
      (View.ld X.taps (Rect.unit ![2, 0] S1x1024.size inb_S4x1024_S1x1024_2_0))
      (View.ld X.taps (Rect.unit ![3, 0] S1x1024.size inb_S4x1024_S1x1024_3_0))

/-- An intermediate value of the body, in the order the body computes them. -/
def part2 (i : grid0.Coords) (X : Blk F) : FVec F S1x1024 .f32 :=
  k0_pay19
      (View.ld X.lam (Rect.unit ![0, 0] S1x1024.size inb_S1x1024_S1x1024_0_0))

/-- An intermediate value of the body, in the order the body computes them. -/
def part3 (i : grid0.Coords) (X : Blk F) : FVec F S1x1024 .f32 :=
  k0_pay20
      (View.ld X.lam (Rect.unit ![0, 0] S1x1024.size inb_S1x1024_S1x1024_0_0))

/-- An intermediate value of the body, in the order the body computes them. -/
def part4 (i : grid0.Coords) (X : Blk F) : FVec F S1x1024 .f32 :=
  k0_pay21 (part2 i X) (part3 i X)

/-- An intermediate value of the body, in the order the body computes them. -/
def part5 (i : grid0.Coords) (X : Blk F) : FVec F S1024x256 .f32 :=
  k0_pay23 (gateIn i X)
      (View.ld X.wr (Rect.unit ![0, 0, 0, 0, 0] S1x1x1x256x256.size inb_S1x1x4x256x256_S1x1x1x256x256_0_0_0_0_0))
      (View.ld X.br (Rect.unit ![0, 0] S1x256.size inb_S1x1024_S1x256_0_0))

/-- An intermediate value of the body, in the order the body computes them. -/
def part6 (i : grid0.Coords) (X : Blk F) : FVec F S1024x256 .f32 :=
  k0_pay24 (gateIn i X)
      (View.ld X.wi (Rect.unit ![0, 0, 0, 0, 0] S1x1x1x256x256.size inb_S1x1x4x256x256_S1x1x1x256x256_0_0_0_0_0))
      (View.ld X.bi (Rect.unit ![0, 0] S1x256.size inb_S1x1024_S1x256_0_0))

/-- An intermediate value of the body, in the order the body computes them. -/
def part7 (i : grid0.Coords) (X : Blk F) : FVec F S1024x256 .f32 :=
  k0_pay29 (gateIn i X)
      (View.ld X.wr (Rect.unit ![0, 0, 1, 0, 0] S1x1x1x256x256.size inb_S1x1x4x256x256_S1x1x1x256x256_0_0_1_0_0))
      (View.ld X.br (Rect.unit ![0, 256] S1x256.size inb_S1x1024_S1x256_0_256))

/-- An intermediate value of the body, in the order the body computes them. -/
def part8 (i : grid0.Coords) (X : Blk F) : FVec F S1024x256 .f32 :=
  k0_pay30 (gateIn i X)
      (View.ld X.wi (Rect.unit ![0, 0, 1, 0, 0] S1x1x1x256x256.size inb_S1x1x4x256x256_S1x1x1x256x256_0_0_1_0_0))

/-- An intermediate value of the body, in the order the body computes them. -/
def part9 (i : grid0.Coords) (X : Blk F) : FVec F S1024x256 .bf16 :=
  k0_pay34 (gateIn i X)

/-- An intermediate value of the body, in the order the body computes them. -/
def part10 (i : grid0.Coords) (X : Blk F) : FVec F S1024x256 .f32 :=
  k0_pay35 (gateIn i X)
      (View.ld X.wr (Rect.unit ![0, 0, 2, 0, 0] S1x1x1x256x256.size inb_S1x1x4x256x256_S1x1x1x256x256_0_0_2_0_0))
      (View.ld X.br (Rect.unit ![0, 512] S1x256.size inb_S1x1024_S1x256_0_512))

/-- An intermediate value of the body, in the order the body computes them. -/
def part11 (i : grid0.Coords) (X : Blk F) : FVec F S1024x256 .bf16 :=
  k0_pay39 (gateIn i X)

/-- An intermediate value of the body, in the order the body computes them. -/
def part12 (i : grid0.Coords) (X : Blk F) : FVec F S1024x256 .f32 :=
  k0_pay40 (part11 i X)
      (View.ld X.wi (Rect.unit ![0, 0, 3, 0, 0] S1x1x1x256x256.size inb_S1x1x4x256x256_S1x1x1x256x256_0_0_3_0_0))
      (View.ld X.bi (Rect.unit ![0, 768] S1x256.size inb_S1x1024_S1x256_0_768))

/-- An intermediate value of the body, in the order the body computes them. -/
def part13 (i : grid0.Coords) (X : Blk F) : FVec F S1024x256 .f32 :=
  k0_pay43 (part4 i X) (part11 i X)
      (View.ld X.wr (Rect.unit ![0, 0, 3, 0, 0] S1x1x1x256x256.size inb_S1x1x4x256x256_S1x1x1x256x256_0_0_3_0_0))
      (View.ld X.br (Rect.unit ![0, 768] S1x256.size inb_S1x1024_S1x256_0_768))

/-- The stores of the decay coefficients, one per head, last first. -/
def coefPieces (i : grid0.Coords) (X : Blk F) : List (View.Piece (Elt F) S1024x1024 .f32) :=

   [⟨Rect.unit ![0, 768] S1024x256.size inb_S1024x1024_S1024x256_0_768, k0_pay42 (part4 i X) (part11 i X)
      (View.ld X.wr (Rect.unit ![0, 0, 3, 0, 0] S1x1x1x256x256.size inb_S1x1x4x256x256_S1x1x1x256x256_0_0_3_0_0))
      (View.ld X.br (Rect.unit ![0, 768] S1x256.size inb_S1x1024_S1x256_0_768))⟩,
    ⟨Rect.unit ![0, 512] S1024x256.size inb_S1024x1024_S1024x256_0_512, k0_pay37 (part4 i X) (part10 i X) (FloatOps.ofBits .f32 1056964608#32)⟩,
    ⟨Rect.unit ![0, 256] S1024x256.size inb_S1024x1024_S1024x256_0_256, k0_pay32 (part4 i X) (part7 i X)⟩,
    ⟨Rect.unit ![0, 0] S1024x256.size inb_S1024x1024_S1024x256_0_0, k0_pay26 (part4 i X) (part5 i X)⟩]

/-- The stores of the gated inputs, one per head, last first. -/
def inputPieces (i : grid0.Coords) (X : Blk F) : List (View.Piece (Elt F) S1024x1024 .f32) :=

   [⟨Rect.unit ![0, 768] ![1024, 256] inb_S1024x1024_S1024x256_0_768, k0_pay1 (conv i X) (part12 i X) (part13 i X)⟩,
    ⟨Rect.unit ![0, 512] S1024x256.size inb_S1024x1024_S1024x256_0_512, k0_pay38 (conv i X) (part4 i X) (part9 i X) (part10 i X) (FloatOps.ofBits .f32 1056964608#32)
      (View.ld X.wi (Rect.unit ![0, 0, 2, 0, 0] S1x1x1x256x256.size inb_S1x1x4x256x256_S1x1x1x256x256_0_0_2_0_0))
      (View.ld X.bi (Rect.unit ![0, 512] S1x256.size inb_S1x1024_S1x256_0_512))⟩,
    ⟨Rect.unit ![0, 256] S1024x256.size inb_S1024x1024_S1024x256_0_256, k0_pay33 (conv i X) (part4 i X) (part7 i X) (part8 i X)
      (View.ld X.bi (Rect.unit ![0, 256] S1x256.size inb_S1x1024_S1x256_0_256))⟩,
    ⟨Rect.unit ![0, 0] S1024x256.size inb_S1024x1024_S1024x256_0_0, k0_pay27 (conv i X) (part4 i X) (part5 i X) (part6 i X)⟩]

/-- The decay coefficients of the block. -/
def coefs (i : grid0.Coords) (X : Blk F) : Vec F S1024x1024 .f32 := View.canon (coefPieces i X)

/-- The gated inputs of the block. -/
def inputs (i : grid0.Coords) (X : Blk F) : Vec F S1024x1024 .f32 := View.canon (inputPieces i X)

/-- The state a sequence begins with. -/
def start (X : Blk F) : Vec F S1x1024 .f32 := k0_pay2 (View.ld X.h0 (Rect.unit ![0, 0, 0] S1x1x1024.size inb_S1x1x1024_S1x1x1024_0_0_0))

/-- The states of the block from the state before it. -/
def hs (i : grid0.Coords) (X : Blk F) (s : Vec F S1x1024 .f32) : Vec F S1024x1024 .f32 := states (coefs i X) (inputs i X) s

/-- The state after the block from the state before it. -/
def next (i : grid0.Coords) (X : Blk F) (s : Vec F S1x1024 .f32) : Vec F S1x1024 .f32 := k0_pay5 (final (coefs i X) (inputs i X) s)

/-- The block of the result. -/
def out (i : grid0.Coords) (X : Blk F) (s : Vec F S1x1024 .f32) : Vec F S1024x1024 .f32 := hs i X s

end Cert.ScanBwdIdeal.Hand

end
-- ==== Proof.ScanBwdIdeal.Run.lean ====
module

public import proofs.«01_k».proof.Proof.ScanBwdIdeal.Body
public import proofs.«01_k».proof.Proof.Gen.ScanBwdIdeal.Skeleton
public import proofs.«01_k».proof.Proof.Gen.ScanBwdIdeal.Loops
public import proofs.«01_k».proof.Proof.Gen.ScanBwdIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.ScanBwdIdeal.Hand

open Cert.ScanBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The runs of the body: at the first block of a sequence and at the others. -/

/-- The block is the first its sequence visits, in the words the body compares. -/
abbrev atStart (i : grid0.Coords) : Prop := (Scalar.cmpi .ne (Scalar.extui (Scalar.cmpi .eq (Scalar.select (Scalar.andi (Scalar.xori (Scalar.cmpi .slt (Scalar.remsi (Scalar.subi 15#32 (BitVec.ofNat 32 (i 0).val)) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (Scalar.subi 15#32 (BitVec.ofNat 32 (i 0).val)) (Scalar.select (Scalar.cmpi .eq 8#32 0#32) 1#32 8#32)) 0#32)) (Scalar.addi (Scalar.remsi (Scalar.subi 15#32 (BitVec.ofNat 32 (i 0).val)) (Scalar.select (Scalar.cmpi .eq 8#32 0#32) 1#32 8#32)) (Scalar.select (Scalar.cmpi .eq 8#32 0#32) 1#32 8#32)) (Scalar.remsi (Scalar.subi 15#32 (BitVec.ofNat 32 (i 0).val)) (Scalar.select (Scalar.cmpi .eq 8#32 0#32) 1#32 8#32))) 7#32)) 0#32) = 1#1

theorem zero2 : (![0, 0] : Fin 2 → ℕ) = fun _ => 0 := by decide

/-- After a store to the whole of a buffer, reading it gives what was stored. -/
theorem read_whole {sp : Space} {e : EltTy} {S : Shape} (v : View sig .tc sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, ?_⟩), View.canon_cons_unit_zero h]
  subst h
  show y ∈ (Rect.unit (fun _ => 0) S.size inb).set
  rw [Rect.mem_set_unit]
  exact fun a => ⟨Nat.zero_le _, by rw [Nat.zero_add]; exact (y a).isLt⟩

/-- The run's loop, from what its two arrays and its state hold. -/
theorem st_core (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1x1x4x256x256 .bf16) (harg6 : arg6.IsWhole) (arg7 : Memref sig .tc .vmem S1x1024 .f32) (harg7 : arg7.IsWhole) (arg8 : Memref sig .tc .vmem S1x1x4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1040x1024 .f32) (harg13 : arg13.IsWhole) (arg14 : Memref sig .tc .vmem S1024x1024 .f32) (harg14 : arg14.IsWhole) (arg15 : Memref sig .tc .vmem S1024x1024 .f32) (harg15 : arg15.IsWhole) (arg16 : Memref sig .tc .vmem S1x1024 .f32) (harg16 : arg16.IsWhole)
    (XA : BufTy.Contents (Elt F) arg14.view.ty) (XB : BufTy.Contents (Elt F) arg15.view.ty) (init : Vec F S1x1024 .f32) (T : ℕ)
    (a b : Vec F S1024x1024 .f32) (s : Vec F S1x1024 .f32) (hA : arg14.view.read (Elt F) XA = a) (hB : arg15.view.read (Elt F) XB = b)
    (hs : init = s) (hT : T = k0_t1_loop.trips) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 rows XA XB init T = walk a b s k0_t1_loop.trips := by
  subst hA hB hs hT; exact st_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 XA XB init _ le_rfl

set_option maxHeartbeats 4000000 in
/-- The run of the body at the first block of a sequence: it leaves the result's block and the state after the block. -/
theorem run_A (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1x1x4x256x256 .bf16) (harg6 : arg6.IsWhole) (arg7 : Memref sig .tc .vmem S1x1024 .f32) (harg7 : arg7.IsWhole) (arg8 : Memref sig .tc .vmem S1x1x4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1040x1024 .f32) (harg13 : arg13.IsWhole) (arg14 : Memref sig .tc .vmem S1024x1024 .f32) (harg14 : arg14.IsWhole) (arg15 : Memref sig .tc .vmem S1024x1024 .f32) (harg15 : arg15.IsWhole) (arg16 : Memref sig .tc .vmem S1x1024 .f32) (harg16 : arg16.IsWhole) (hc0 : atStart i) (X : Blk F) (xs3 : Vec F S1x1024 .f32) (E : Set ℕ) (K : PUnit → sProp 𝕄) :
        iprop(owns (c : Thread nD τ) arg1 fullShare X.xs ∗ owns (c : Thread nD τ) arg2 fullShare X.before ∗ owns (c : Thread nD τ) arg3 fullShare X.after ∗ owns (c : Thread nD τ) arg4 fullShare X.taps ∗ owns (c : Thread nD τ) arg5 fullShare X.cbias ∗ owns (c : Thread nD τ) arg6 fullShare X.wr ∗ owns (c : Thread nD τ) arg7 fullShare X.br ∗ owns (c : Thread nD τ) arg8 fullShare X.wi ∗ owns (c : Thread nD τ) arg9 fullShare X.bi ∗ owns (c : Thread nD τ) arg10 fullShare X.lam ∗ owns (c : Thread nD τ) arg11 fullShare X.h0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs3
            ∗ (iprop(owns (c : Thread nD τ) arg1 fullShare X.xs ∗ owns (c : Thread nD τ) arg2 fullShare X.before ∗ owns (c : Thread nD τ) arg3 fullShare X.after ∗ owns (c : Thread nD τ) arg4 fullShare X.taps ∗ owns (c : Thread nD τ) arg5 fullShare X.cbias ∗ owns (c : Thread nD τ) arg6 fullShare X.wr ∗ owns (c : Thread nD τ) arg7 fullShare X.br ∗ owns (c : Thread nD τ) arg8 fullShare X.wi ∗ owns (c : Thread nD τ) arg9 fullShare X.bi ∗ owns (c : Thread nD τ) arg10 fullShare X.lam ∗ owns (c : Thread nD τ) arg11 fullShare X.h0 ∗ owns (c : Thread nD τ) arg12 fullShare (out i X (start X)) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (next i X (start X))) -∗ K ⟨⟩))
          ⊢ wp frame (wpE (defs₀ (F := F)) Variants.none c none) E (cc0_lru_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_lru_scan_eq_skeleton]; unfold cc0_lru_scan_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro; refine (congrArg (fun z : Vec F S1x1024 .f32 × List (View.Piece (Elt F) S1024x1024 .f32) => arg12.view.read (Elt F) (arg12.view.writes (Elt F) f11 z.2)) (st_core _ _ _ _ _ _ _ _ _ _ _ _ _ _ _ _ _ _ _ _ _ _ _ _ _ _ _ _ _ _ _ _ _ _ _ _ _ _ (coefs i X) (inputs i X) (start X) ?_ ?_ ?_ rfl)).trans (read_states _ _ _ _ _)
      · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, View.readCov_eq_canon']; rfl
      · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, View.readCov_eq_canon']; rfl
      · sl_unfold_words; simp only [View.readCov_cons_toLoadRect, View.readAt_eq_ld, harg11.read_unread]; rfl

    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _; isplitr; swap; · iexact H15
    ipureintro; refine (read_whole _ _ zero2 _ _ _).trans (congrArg (fun z : Vec F S1x1024 .f32 × List (View.Piece (Elt F) S1024x1024 .f32) => k0_pay5 z.1) (st_core _ _ _ _ _ _ _ _ _ _ _ _ _ _ _ _ _ _ _ _ _ _ _ _ _ _ _ _ _ _ _ _ _ _ _ _ _ _ (coefs i X) (inputs i X) (start X) ?_ ?_ ?_ rfl))
    · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, View.readCov_eq_canon']; rfl
    · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, View.readCov_eq_canon']; rfl
    · sl_unfold_words; simp only [View.readCov_cons_toLoadRect, View.readAt_eq_ld, harg11.read_unread]; rfl

set_option maxHeartbeats 4000000 in
/-- The run of the body at a later block: it leaves the result's block and the state after the block. -/
theorem run_B (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1x1x4x256x256 .bf16) (harg6 : arg6.IsWhole) (arg7 : Memref sig .tc .vmem S1x1024 .f32) (harg7 : arg7.IsWhole) (arg8 : Memref sig .tc .vmem S1x1x4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1040x1024 .f32) (harg13 : arg13.IsWhole) (arg14 : Memref sig .tc .vmem S1024x1024 .f32) (harg14 : arg14.IsWhole) (arg15 : Memref sig .tc .vmem S1024x1024 .f32) (harg15 : arg15.IsWhole) (arg16 : Memref sig .tc .vmem S1x1024 .f32) (harg16 : arg16.IsWhole) (hc0 : ¬atStart i) (X : Blk F) (xs3 : Vec F S1x1024 .f32) (E : Set ℕ) (K : PUnit → sProp 𝕄) :
        iprop(owns (c : Thread nD τ) arg1 fullShare X.xs ∗ owns (c : Thread nD τ) arg2 fullShare X.before ∗ owns (c : Thread nD τ) arg3 fullShare X.after ∗ owns (c : Thread nD τ) arg4 fullShare X.taps ∗ owns (c : Thread nD τ) arg5 fullShare X.cbias ∗ owns (c : Thread nD τ) arg6 fullShare X.wr ∗ owns (c : Thread nD τ) arg7 fullShare X.br ∗ owns (c : Thread nD τ) arg8 fullShare X.wi ∗ owns (c : Thread nD τ) arg9 fullShare X.bi ∗ owns (c : Thread nD τ) arg10 fullShare X.lam ∗ owns (c : Thread nD τ) arg11 fullShare X.h0 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs3
            ∗ (iprop(owns (c : Thread nD τ) arg1 fullShare X.xs ∗ owns (c : Thread nD τ) arg2 fullShare X.before ∗ owns (c : Thread nD τ) arg3 fullShare X.after ∗ owns (c : Thread nD τ) arg4 fullShare X.taps ∗ owns (c : Thread nD τ) arg5 fullShare X.cbias ∗ owns (c : Thread nD τ) arg6 fullShare X.wr ∗ owns (c : Thread nD τ) arg7 fullShare X.br ∗ owns (c : Thread nD τ) arg8 fullShare X.wi ∗ owns (c : Thread nD τ) arg9 fullShare X.bi ∗ owns (c : Thread nD τ) arg10 fullShare X.lam ∗ owns (c : Thread nD τ) arg11 fullShare X.h0 ∗ owns (c : Thread nD τ) arg12 fullShare (out i X (xs3)) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (next i X (xs3))) -∗ K ⟨⟩))
          ⊢ wp frame (wpE (defs₀ (F := F)) Variants.none c none) E (cc0_lru_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_lru_scan_eq_skeleton]; unfold cc0_lru_scan_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro; refine (congrArg (fun z : Vec F S1x1024 .f32 × List (View.Piece (Elt F) S1024x1024 .f32) => arg12.view.read (Elt F) (arg12.view.writes (Elt F) f11 z.2)) (st_core _ _ _ _ _ _ _ _ _ _ _ _ _ _ _ _ _ _ _ _ _ _ _ _ _ _ _ _ _ _ _ _ _ _ _ _ _ _ (coefs i X) (inputs i X) xs3 ?_ ?_ ?_ rfl)).trans (read_states _ _ _ _ _)
      · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, View.readCov_eq_canon']; rfl
      · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, View.readCov_eq_canon']; rfl
      · rw [View.readAt_eq_ld, harg16.read_unread]; exact View.ld_unit_zero zero2 _ _

    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _; isplitr; swap; · iexact H15
    ipureintro; refine (read_whole _ _ zero2 _ _ _).trans (congrArg (fun z : Vec F S1x1024 .f32 × List (View.Piece (Elt F) S1024x1024 .f32) => k0_pay5 z.1) (st_core _ _ _ _ _ _ _ _ _ _ _ _ _ _ _ _ _ _ _ _ _ _ _ _ _ _ _ _ _ _ _ _ _ _ _ _ _ _ (coefs i X) (inputs i X) xs3 ?_ ?_ ?_ rfl))
    · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, View.readCov_eq_canon']; rfl
    · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, View.readCov_eq_canon']; rfl
    · rw [View.readAt_eq_ld, harg16.read_unread]; exact View.ld_unit_zero zero2 _ _

end Cert.ScanBwdIdeal.Hand

end
-- ==== Proof.ScanBwdIdeal.Whole.lean ====
module

public import proofs.«01_k».proof.Proof.Gen.ScanBwdIdeal.Frame
public import proofs.«01_k».proof.Proof.ScanBwdIdeal.Run
public import proofs.«01_k».proof.Proof.Gen.ScanBwdIdeal.Skeleton
public import proofs.«01_k».proof.Proof.Gen.ScanBwdIdeal.Loops
public import proofs.«01_k».proof.Proof.Gen.ScanBwdIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ScanBwdIdeal.Hand

open Cert.ScanBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The run of the whole call: what each window's buffer and the carried state hold at each grid point, and the frame. -/

variable (m : (ℓ : Loc nD τ sig) → Buf (Elt F) ℓ) (ρ : Dev nD → PrngReg)

abbrev st0 (t : Fin cfg0.N) : Memref sig .tc .vmem S1024x1024 .f32 := win0_0.stage (cfg0.slots t 0)
abbrev st1 (t : Fin cfg0.N) : Memref sig .tc .vmem S8x1024 .f32 := win0_1.stage (cfg0.slots t 1)
abbrev st2 (t : Fin cfg0.N) : Memref sig .tc .vmem S8x1024 .f32 := win0_2.stage (cfg0.slots t 2)
abbrev st3 (t : Fin cfg0.N) : Memref sig .tc .vmem S4x1024 .f32 := win0_3.stage (cfg0.slots t 3)
abbrev st4 (t : Fin cfg0.N) : Memref sig .tc .vmem S1x1024 .f32 := win0_4.stage (cfg0.slots t 4)
abbrev st5 (t : Fin cfg0.N) : Memref sig .tc .vmem S1x1x4x256x256 .bf16 := win0_5.stage (cfg0.slots t 5)
abbrev st6 (t : Fin cfg0.N) : Memref sig .tc .vmem S1x1024 .f32 := win0_6.stage (cfg0.slots t 6)
abbrev st7 (t : Fin cfg0.N) : Memref sig .tc .vmem S1x1x4x256x256 .bf16 := win0_7.stage (cfg0.slots t 7)
abbrev st8 (t : Fin cfg0.N) : Memref sig .tc .vmem S1x1024 .f32 := win0_8.stage (cfg0.slots t 8)
abbrev st9 (t : Fin cfg0.N) : Memref sig .tc .vmem S1x1024 .f32 := win0_9.stage (cfg0.slots t 9)
abbrev st10 (t : Fin cfg0.N) : Memref sig .tc .vmem S1x1x1024 .f32 := win0_10.stage (cfg0.slots t 10)
abbrev st11 (t : Fin cfg0.N) : Memref sig .tc .vmem S1024x1024 .f32 := win0_11.stage (cfg0.slots t 11)
abbrev sc0 : Memref sig .tc .vmem S1040x1024 .f32 := Memref.whole cc0_scratch0
abbrev sc1 : Memref sig .tc .vmem S1024x1024 .f32 := Memref.whole cc0_scratch1
abbrev sc2 : Memref sig .tc .vmem S1024x1024 .f32 := Memref.whole cc0_scratch2
abbrev sc3 : Memref sig .tc .vmem S1x1024 .f32 := Memref.whole cc0_scratch3

/-- The first block of a sequence is every eighth point. -/
theorem atStart_iff : ∀ t : Fin cfg0.N, atStart (grid0.coords t) ↔ t.val % 8 = 0 :=
  (by decide +kernel : ∀ t : Fin grid0.N, atStart (grid0.coords t) ↔ t.val % 8 = 0)

/-- The blocks point `t` reads. -/
abbrev blk (c : Dev nD) (t : Fin cfg0.N) : Blk F := ⟨iblk m c 0 t, iblk m c 1 t, iblk m c 2 t, iblk m c 3 t, iblk m c 4 t, iblk m c 5 t, iblk m c 6 t, iblk m c 7 t, iblk m c 8 t, iblk m c 9 t, iblk m c 10 t⟩

/-- The state after point `n`. -/
def stateAfter (c : Dev nD) : (n : ℕ) → n < cfg0.N → Vec F S1x1024 .f32
  | 0, h => next (grid0.coords ⟨0, h⟩) (blk m c ⟨0, h⟩) (start (blk m c ⟨0, h⟩))
  | n + 1, h => next (grid0.coords ⟨n + 1, h⟩) (blk m c ⟨n + 1, h⟩)
      (if (n + 1) % 8 = 0 then start (blk m c ⟨n + 1, h⟩) else stateAfter c n (Nat.lt_of_succ_lt h))

/-- The state point `t` begins with. -/
def stateBefore (c : Dev nD) (t : Fin cfg0.N) : Vec F S1x1024 .f32 :=
  if t.val % 8 = 0 then start (blk m c t) else stateAfter m c (t.val - 1) (lt_of_le_of_lt (Nat.sub_le _ _) t.isLt)

theorem stateAfter_eq (c : Dev nD) (t : Fin cfg0.N) : stateAfter m c t.val t.isLt = next (grid0.coords t) (blk m c t) (stateBefore m c t) := by
  obtain ⟨n, hn⟩ := t
  cases n with
  | zero => rfl
  | succ n => rfl

/-- The block of the result point `t` leaves. -/
def outAt (c : Dev nD) (t : Fin cfg0.N) : Vec F S1024x1024 .f32 := out (grid0.coords t) (blk m c t) (stateBefore m c t)

/-- What the kernel's own buffers hold at anything, the buffers named. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The invariant before point `n`: the carried buffer holds the state the point before left. -/
def PhiS (c : Dev nD) : (n : ℕ) → n ≤ cfg0.N → sProp 𝕄
  | 0, _ => Pipeline.ΦA spec0 c
  | n + 1, hn => iprop(iprop((∃ d, owns (c : Thread nD τ) sc0 fullShare d) ∗ (∃ d, owns (c : Thread nD τ) sc1 fullShare d) ∗ (∃ d, owns (c : Thread nD τ) sc2 fullShare d) ∗ owns (c : Thread nD τ) sc3 fullShare (stateAfter m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) sc0 fullShare d) ∗ (∃ d, owns (c : Thread nD τ) sc1 fullShare d) ∗ (∃ d, owns (c : Thread nD τ) sc2 fullShare d) ∗ owns (c : Thread nD τ) sc3 fullShare (stateAfter m c n hn)) ∗ (∃ r, prngReg c r)) := rfl

theorem PhiS_pos (c : Dev nD) (n : ℕ) (h : n ≤ cfg0.N) (hz : n ≠ 0) :
    PhiS m c n h = iprop(iprop((∃ d, owns (c : Thread nD τ) sc0 fullShare d) ∗ (∃ d, owns (c : Thread nD τ) sc1 fullShare d) ∗ (∃ d, owns (c : Thread nD τ) sc2 fullShare d) ∗ owns (c : Thread nD τ) sc3 fullShare (stateAfter m c (n - 1) (by omega))) ∗ (∃ r, prngReg c r)) := by
  cases n with
  | zero => exact absurd rfl hz
  | succ n => rfl

/-- The data of the pipeline: the inputs' blocks, the result's block and the invariant at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d)))

/-- What the body returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t))

set_option maxHeartbeats 12800000 in
/-- The body at any point, by its run at the first block of a sequence or at a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl,
    after0, after1, after2, after3, after4, after5, after6, after7, after8, after9, after10, after11]
  rw [show (dats m 0 c).Φ t.succ = PhiS m c (t.val + 1) t.isLt from rfl, PhiS_succ, stateAfter_eq]
  unfold outAt
  by_cases h0 : t.val % 8 = 0
  · rw [show stateBefore m c t = start (blk m c t) from if_pos h0]
    by_cases hz : t.val = 0
    · rw [PhiS_castSucc m c t, PhiS_zero m c _ _ hz, PhiA_eq]
      iintro ⟨⟨⟨HS0, HS1, HS2, ⟨%ds, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_A c (grid0.coords t) _ _ _ _ _ _ _ _ _ _ _ _ _ _ _ _ _ _ _ _ _ _ _ _ _ _ _ _ _ _ _ _ ((atStart_iff t).mpr h0) (blk m c t) ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_A c (grid0.coords t) _ _ _ _ _ _ _ _ _ _ _ _ _ _ _ _ _ _ _ _ _ _ _ _ _ _ _ _ _ _ _ _ ((atStart_iff t).mpr h0) (blk m c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      iintro ⟨H0, H1, H2, H3, H4, H5, H6, H7, H8, H9, H10, H11, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  · have hz : t.val ≠ 0 := fun e => h0 (by rw [e])
    rw [show stateBefore m c t = stateAfter m c (t.val - 1) (lt_of_le_of_lt (Nat.sub_le _ _) t.isLt) from if_neg h0]
    rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run_B c (grid0.coords t) _ _ _ _ _ _ _ _ _ _ _ _ _ _ _ _ _ _ _ _ _ _ _ _ _ _ _ _ _ _ _ _ (fun h => h0 ((atStart_iff t).mp h)) (blk m c t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body's row of the table is the body at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the kernel's own buffers back. -/
theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1, HS2, HS3⟩, Hg⟩
  isplitl [HS0 HS1 HS2 HS3]
  · isplitl [HS0]; · iexact HS0
    isplitl [HS1]; · iexact HS1
    isplitl [HS2]; · iexact HS2
    iexists _; iexact HS3
  iexact Hg

set_option backward.isDefEq.respectTransparency.types false in
/-- The launch: the pipeline's arrays end at what the data say, and every semaphore counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_quiet m ρ))

end Cert.ScanBwdIdeal.Hand

end
-- ==== Proof.ScanFwdIdeal.Loop.lean ====
module

public import proofs.«01_k».proof.Proof.Gen.ScanFwdIdeal.Launch
public import proofs.«01_k».proof.Proof.Gen.ScanFwdIdeal.Skeleton
public import proofs.«01_k».proof.Proof.Gen.ScanFwdIdeal.Loops
public import proofs.«01_k».proof.Proof.Gen.ScanFwdIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ScanFwdIdeal.Hand

open Cert.ScanFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The scan's loop over the 128 groups of eight rows, as functions of the blocks it reads. -/

/-- The row numbers within a group of eight. -/
abbrev rows : IVec S8x1024 32 := iota .tc S8x1024 32 [0] iota_S8x1024_d0_w32

/-- The rectangle of the group trip `k` works on: eight whole rows. -/
abbrev grp (k : Fin k0_t1_loop.trips) : Rect S1024x1024 := Rect.unit (s := S1024x1024) (k0_off1 k) S8x1024.size (k0_off1_inb k)

/-- The eight rows of states trip `k` stores, from the coefficients `A`, the inputs `B` and the state `acc` before the group. -/
def hs8 (A B : Vec F S1024x1024 .f32) (k : Fin k0_t1_loop.trips) (acc : Vec F S1x1024 .f32) : FVec F S8x1024 .f32 :=
  k0_pay4 (k0_pay13 rows (View.ld A (grp k)) (View.ld B (grp k))) (k0_pay14 rows acc (View.ld A (grp k)))

/-- The state trip `k` hands to the next trip. -/
def carry8 (A B : Vec F S1024x1024 .f32) (k : Fin k0_t1_loop.trips) (acc : Vec F S1x1024 .f32) : FVec F S1x1024 .f32 :=
  k0_pay5 (k0_pay13 rows (View.ld A (grp k)) (View.ld B (grp k))) (k0_pay14 rows acc (View.ld A (grp k)))

/-- The state before trip `k` and the pieces the trips before it have stored, last first. -/
def walk (A B : Vec F S1024x1024 .f32) (init : Vec F S1x1024 .f32) : ℕ → Vec F S1x1024 .f32 × List (View.Piece (Elt F) S1024x1024 .f32)
  | 0 => (init, [])
  | k + 1 => if h : k < k0_t1_loop.trips then
      (carry8 A B ⟨k, h⟩ (walk A B init k).1, ⟨grp ⟨k, h⟩, hs8 A B ⟨k, h⟩ (walk A B init k).1⟩ :: (walk A B init k).2)
    else walk A B init k

theorem walk_succ (A B : Vec F S1024x1024 .f32) (init : Vec F S1x1024 .f32) (k : Fin k0_t1_loop.trips) :
    walk A B init (k.val + 1) = (carry8 A B k (walk A B init k.val).1, ⟨grp k, hs8 A B k (walk A B init k.val).1⟩ :: (walk A B init k.val).2) := by
  rw [walk]; exact dif_pos k.isLt

theorem trips_eq : k0_t1_loop.trips = 128 := by decide +kernel

/-- Trip `k`'s group begins at row 8 * k.val. -/
theorem off1_eq : ∀ k : Fin k0_t1_loop.trips, k0_off1 k = ![8 * k.val, 0] := by decide +kernel

/-- The states the whole block holds after the loop. -/
def states (A B : Vec F S1024x1024 .f32) (init : Vec F S1x1024 .f32) : Vec F S1024x1024 .f32 :=
  View.canon (walk A B init k0_t1_loop.trips).2

/-- The state after the loop. -/
def final (A B : Vec F S1024x1024 .f32) (init : Vec F S1x1024 .f32) : Vec F S1x1024 .f32 :=
  (walk A B init k0_t1_loop.trips).1

section
variable (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1x1x4x256x256 .bf16) (harg6 : arg6.IsWhole) (arg7 : Memref sig .tc .vmem S1x1024 .f32) (harg7 : arg7.IsWhole) (arg8 : Memref sig .tc .vmem S1x1x4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .f32) (harg15 : arg15.IsWhole) (arg16 : Memref sig .tc .vmem S1040x1024 .f32) (harg16 : arg16.IsWhole) (arg17 : Memref sig .tc .vmem S1024x1024 .f32) (harg17 : arg17.IsWhole) (arg18 : Memref sig .tc .vmem S1024x1024 .f32) (harg18 : arg18.IsWhole) (arg19 : Memref sig .tc .vmem S1x1024 .f32) (harg19 : arg19.IsWhole)
  (XA : BufTy.Contents (Elt F) arg17.view.ty) (XB : BufTy.Contents (Elt F) arg18.view.ty)

/-- What one trip of the run yields is `carry8`. -/
theorem trip_yield (k : Fin k0_t1_loop.trips) (acc : Vec F S1x1024 .f32) :
    tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 rows XA XB k acc
      = carry8 (arg17.view.read (Elt F) XA) (arg18.view.read (Elt F) XB) k acc := by
  unfold tripR_k0_t1 trip_k0_t1; rfl

/-- What one trip of the run stores is `hs8` at the trip's group. -/
theorem trip_pieces (k : Fin k0_t1_loop.trips) (acc : Vec F S1x1024 .f32) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 rows XA XB k acc
      = [⟨grp k, hs8 (arg17.view.read (Elt F) XA) (arg18.view.read (Elt F) XB) k acc⟩] := by
  unfold tripL_k0_t1 trip_k0_t1; rfl

/-- The run's loop is `walk`. -/
theorem st_eq (init : Vec F S1x1024 .f32) : ∀ k, k ≤ k0_t1_loop.trips →
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 rows XA XB init k
      = walk (arg17.view.read (Elt F) XA) (arg18.view.read (Elt F) XB) init k
  | 0, _ => rfl
  | k + 1, h => by
    have e := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 rows XA XB init ⟨k, h⟩
    have w := walk_succ (arg17.view.read (Elt F) XA) (arg18.view.read (Elt F) XB) init ⟨k, h⟩
    simp only at e w
    rw [e, w, trip_yield, trip_pieces, st_eq init k (Nat.le_of_succ_le h)]
    rfl
end

/-- Every row below the groups' reach is stored by some trip. -/
theorem walk_mem (A B : Vec F S1024x1024 .f32) (init : Vec F S1x1024 .f32) (k : Fin k0_t1_loop.trips) : ∀ n, k.val < n → n ≤ k0_t1_loop.trips →
    (⟨grp k, hs8 A B k (walk A B init k.val).1⟩ : View.Piece (Elt F) S1024x1024 .f32) ∈ (walk A B init n).2
  | 0, h, _ => absurd h (Nat.not_lt_zero _)
  | n + 1, h, hn => by
    rw [walk_succ A B init ⟨n, hn⟩]
    rcases Nat.lt_succ_iff_lt_or_eq.mp h with h | h
    · exact List.mem_cons_of_mem _ (walk_mem A B init k n h (Nat.le_of_succ_le hn))
    · subst h; exact List.mem_cons_self

theorem mem_grp (k : Fin k0_t1_loop.trips) (y : S1024x1024.Idx) :
    y ∈ (grp k).set ↔ 8 * k.val ≤ (y 0).val ∧ (y 0).val < 8 * k.val + 8 := by
  rw [Rect.mem_set_unit, off1_eq]
  constructor
  · intro h; exact h 0
  · intro h a; match a with
    | ⟨0, _⟩ => exact h
    | ⟨1, _⟩ => exact ⟨Nat.zero_le _, (Nat.zero_add 1024).symm ▸ (y 1).isLt⟩

/-- The trips' groups cover the block. -/
theorem walk_cover (A B : Vec F S1024x1024 .f32) (init : Vec F S1x1024 .f32) (y : S1024x1024.Idx) :
    ∃ pc ∈ (walk A B init k0_t1_loop.trips).2, y ∈ pc.1.set := by
  have hy : (y 0).val < 1024 := (y 0).isLt
  have ht := trips_eq
  let k : Fin k0_t1_loop.trips := ⟨(y 0).val / 8, by omega⟩
  refine ⟨_, walk_mem A B init k _ k.isLt le_rfl, (mem_grp k y).mpr ?_⟩
  simp only [k]; omega

/-- Reading the block back after the loop gives `states`, whatever it held before. -/
theorem read_states (A B : Vec F S1024x1024 .f32) (init : Vec F S1x1024 .f32) {sp : Space} (v : View sig .tc sp S1024x1024 .f32) (f : v.ty.Contents (Elt F)) :
    v.read (Elt F) (v.writes (Elt F) f (walk A B init k0_t1_loop.trips).2) = states A B init :=
  View.read_writes_eq_canon _ _ _ (walk_cover A B init)

end Cert.ScanFwdIdeal.Hand

end
-- ==== Proof.ScanFwdIdeal.Body.lean ====
module

public import proofs.«01_k».proof.Proof.ScanFwdIdeal.Loop
public import proofs.«01_k».proof.Proof.Gen.ScanFwdIdeal.Skeleton
public import proofs.«01_k».proof.Proof.Gen.ScanFwdIdeal.Loops
public import proofs.«01_k».proof.Proof.Gen.ScanFwdIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ScanFwdIdeal.Hand

open Cert.ScanFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What one run of the body computes, as a function of the blocks it reads. -/

/-- The blocks one grid point reads. -/
structure Blk (F : FTy → Type) [FloatOps F] where
  /-- the rows of this block -/
  xs : Vec F S1024x1024 .f32
  /-- the eight rows before it -/
  before : Vec F S8x1024 .f32
  /-- the eight rows after it -/
  after : Vec F S8x1024 .f32
  /-- the convolution taps -/
  taps : Vec F S4x1024 .f32
  /-- the convolution bias -/
  cbias : Vec F S1x1024 .f32
  /-- the recurrence gate weights -/
  wr : Vec F S1x1x4x256x256 .bf16
  /-- the recurrence gate bias -/
  br : Vec F S1x1024 .f32
  /-- the input gate weights -/
  wi : Vec F S1x1x4x256x256 .bf16
  /-- the input gate bias -/
  bi : Vec F S1x1024 .f32
  /-- the decay parameter -/
  lam : Vec F S1x1024 .f32
  /-- the starting state -/
  h0 : Vec F S1x1x1024 .f32
  /-- the other direction's states -/
  other : Vec F S1024x1024 .f32
  /-- the gate branch -/
  gelu : Vec F S1024x1024 .f32

/-- The stores that fill the padded block, last first. -/
def padPieces (i : grid0.Coords) (X : Blk F) : List (View.Piece (Elt F) S1040x1024 .f32) :=

   [⟨Rect.unit ![1032, 0] S8x1024.size inb_S1040x1024_S8x1024_1032_0, k0_pay17 i
      (View.ld X.after (Rect.unit ![0, 0] S8x1024.size inb_S8x1024_S8x1024_0_0))⟩,
    ⟨Rect.unit ![8, 0] S1024x1024.size inb_S1040x1024_S1024x1024_8_0, k0_pay16
      (View.ld X.xs (Rect.unit ![0, 0] S1024x1024.size inb_S1024x1024_S1024x1024_0_0))⟩,
    ⟨Rect.unit ![0, 0] S8x1024.size inb_S1040x1024_S8x1024_0_0, k0_pay15 i
      (View.ld X.before (Rect.unit ![0, 0] S8x1024.size inb_S8x1024_S8x1024_0_0))⟩]

/-- The padded block, read whole. -/
def padded (i : grid0.Coords) (X : Blk F) : FVec F S1040x1024 .f32 :=
  View.ld (View.canon (padPieces i X)) (Rect.unit ![0, 0] S1040x1024.size inb_S1040x1024_S1040x1024_0_0)

/-- The convolution of the block. -/
def conv (i : grid0.Coords) (X : Blk F) : FVec F S1024x1024 .f32 :=
  k0_pay19 (padded i X) k0_pay18
      (View.ld X.cbias (Rect.unit ![0, 0] S1x1024.size inb_S1x1024_S1x1024_0_0))
      (View.ld X.taps (Rect.unit ![0, 0] S1x1024.size inb_S4x1024_S1x1024_0_0))
      (View.ld X.taps (Rect.unit ![1, 0] S1x1024.size inb_S4x1024_S1x1024_1_0))
      (View.ld X.taps (Rect.unit ![2, 0] S1x1024.size inb_S4x1024_S1x1024_2_0))
      (View.ld X.taps (Rect.unit ![3, 0] S1x1024.size inb_S4x1024_S1x1024_3_0))

/-- The convolution rounded to the gates' word. -/
def gateIn (i : grid0.Coords) (X : Blk F) : FVec F S1024x1024 .bf16 :=
  k0_pay20 (padded i X) k0_pay18
      (View.ld X.cbias (Rect.unit ![0, 0] S1x1024.size inb_S1x1024_S1x1024_0_0))
      (View.ld X.taps (Rect.unit ![0, 0] S1x1024.size inb_S4x1024_S1x1024_0_0))
      (View.ld X.taps (Rect.unit ![1, 0] S1x1024.size inb_S4x1024_S1x1024_1_0))
      (View.ld X.taps (Rect.unit ![2, 0] S1x1024.size inb_S4x1024_S1x1024_2_0))
      (View.ld X.taps (Rect.unit ![3, 0] S1x1024.size inb_S4x1024_S1x1024_3_0))

/-- An intermediate value of the body, in the order the body computes them. -/
def part2 (i : grid0.Coords) (X : Blk F) : FVec F S1x1024 .f32 :=
  k0_pay22
      (View.ld X.lam (Rect.unit ![0, 0] S1x1024.size inb_S1x1024_S1x1024_0_0))

/-- An intermediate value of the body, in the order the body computes them. -/
def part3 (i : grid0.Coords) (X : Blk F) : FVec F S1x1024 .f32 :=
  k0_pay23
      (View.ld X.lam (Rect.unit ![0, 0] S1x1024.size inb_S1x1024_S1x1024_0_0))

/-- An intermediate value of the body, in the order the body computes them. -/
def part4 (i : grid0.Coords) (X : Blk F) : FVec F S1x1024 .f32 :=
  k0_pay24 (part2 i X) (part3 i X) (FloatOps.ofBits .f32 1065353216#32)

/-- An intermediate value of the body, in the order the body computes them. -/
def part5 (i : grid0.Coords) (X : Blk F) : FVec F S1024x256 .f32 :=
  k0_pay26 (gateIn i X)
      (View.ld X.wr (Rect.unit ![0, 0, 0, 0, 0] S1x1x1x256x256.size inb_S1x1x4x256x256_S1x1x1x256x256_0_0_0_0_0))
      (View.ld X.br (Rect.unit ![0, 0] S1x256.size inb_S1x1024_S1x256_0_0))

/-- An intermediate value of the body, in the order the body computes them. -/
def part6 (i : grid0.Coords) (X : Blk F) : FVec F S1024x256 .f32 :=
  k0_pay27 (gateIn i X)
      (View.ld X.wi (Rect.unit ![0, 0, 0, 0, 0] S1x1x1x256x256.size inb_S1x1x4x256x256_S1x1x1x256x256_0_0_0_0_0))
      (View.ld X.bi (Rect.unit ![0, 0] S1x256.size inb_S1x1024_S1x256_0_0))

/-- An intermediate value of the body, in the order the body computes them. -/
def part7 (i : grid0.Coords) (X : Blk F) : FVec F S1024x256 .f32 :=
  k0_pay28 (part2 i X) (part3 i X) (FloatOps.ofBits .f32 1065353216#32)

/-- An intermediate value of the body, in the order the body computes them. -/
def part8 (i : grid0.Coords) (X : Blk F) : FVec F S1024x256 .f32 :=
  k0_pay33 (gateIn i X)
      (View.ld X.wr (Rect.unit ![0, 0, 1, 0, 0] S1x1x1x256x256.size inb_S1x1x4x256x256_S1x1x1x256x256_0_0_1_0_0))
      (View.ld X.br (Rect.unit ![0, 256] S1x256.size inb_S1x1024_S1x256_0_256))

/-- An intermediate value of the body, in the order the body computes them. -/
def part9 (i : grid0.Coords) (X : Blk F) : FVec F S1024x256 .f32 :=
  k0_pay34 (gateIn i X)
      (View.ld X.wi (Rect.unit ![0, 0, 1, 0, 0] S1x1x1x256x256.size inb_S1x1x4x256x256_S1x1x1x256x256_0_0_1_0_0))

/-- An intermediate value of the body, in the order the body computes them. -/
def part10 (i : grid0.Coords) (X : Blk F) : FVec F S1x256 .f32 :=
  View.ld X.bi (Rect.unit ![0, 256] S1x256.size inb_S1x1024_S1x256_0_256)

/-- An intermediate value of the body, in the order the body computes them. -/
def part11 (i : grid0.Coords) (X : Blk F) : FVec F S1024x256 .bf16 :=
  k0_pay38 (gateIn i X)

/-- An intermediate value of the body, in the order the body computes them. -/
def part12 (i : grid0.Coords) (X : Blk F) : FVec F S1024x256 .f32 :=
  k0_pay39 (gateIn i X)
      (View.ld X.wr (Rect.unit ![0, 0, 2, 0, 0] S1x1x1x256x256.size inb_S1x1x4x256x256_S1x1x1x256x256_0_0_2_0_0))
      (View.ld X.br (Rect.unit ![0, 512] S1x256.size inb_S1x1024_S1x256_0_512))

/-- An intermediate value of the body, in the order the body computes them. -/
def part13 (i : grid0.Coords) (X : Blk F) : FVec F S1024x256 .bf16 :=
  k0_pay43 (gateIn i X)

/-- An intermediate value of the body, in the order the body computes them. -/
def part14 (i : grid0.Coords) (X : Blk F) : FVec F S256x256 .bf16 :=
  k0_pay44
      (View.ld X.wr (Rect.unit ![0, 0, 3, 0, 0] S1x1x1x256x256.size inb_S1x1x4x256x256_S1x1x1x256x256_0_0_3_0_0))

/-- An intermediate value of the body, in the order the body computes them. -/
def part15 (i : grid0.Coords) (X : Blk F) : FVec F S1024x256 .f32 :=
  k0_pay47 (part4 i X) (part13 i X) (part14 i X)
      (View.ld X.br (Rect.unit ![0, 768] S1x256.size inb_S1x1024_S1x256_0_768))

/-- An intermediate value of the body, in the order the body computes them. -/
def part16 (i : grid0.Coords) (X : Blk F) : FVec F S1024x256 .f32 :=
  k0_pay48 (conv i X) (part13 i X)
      (View.ld X.wi (Rect.unit ![0, 0, 3, 0, 0] S1x1x1x256x256.size inb_S1x1x4x256x256_S1x1x1x256x256_0_0_3_0_0))
      (View.ld X.bi (Rect.unit ![0, 768] S1x256.size inb_S1x1024_S1x256_0_768))

/-- The stores of the decay coefficients, one per head, last first. -/
def coefPieces (i : grid0.Coords) (X : Blk F) : List (View.Piece (Elt F) S1024x1024 .f32) :=

   [⟨Rect.unit ![0, 768] S1024x256.size inb_S1024x1024_S1024x256_0_768, k0_pay46 (part4 i X) (part13 i X) (part14 i X)
      (View.ld X.br (Rect.unit ![0, 768] S1x256.size inb_S1x1024_S1x256_0_768))⟩,
    ⟨Rect.unit ![0, 512] S1024x256.size inb_S1024x1024_S1024x256_0_512, k0_pay41 (part4 i X) (part12 i X)⟩,
    ⟨Rect.unit ![0, 256] S1024x256.size inb_S1024x1024_S1024x256_0_256, k0_pay36 (part4 i X) (part8 i X)⟩,
    ⟨Rect.unit ![0, 0] S1024x256.size inb_S1024x1024_S1024x256_0_0, k0_pay30 (part5 i X) (part7 i X)⟩]

/-- The stores of the gated inputs, one per head, last first. -/
def inputPieces (i : grid0.Coords) (X : Blk F) : List (View.Piece (Elt F) S1024x1024 .f32) :=

   [⟨Rect.unit ![0, 768] ![1024, 256] inb_S1024x1024_S1024x256_0_768, k0_pay1 (part15 i X) (part16 i X)⟩,
    ⟨Rect.unit ![0, 512] S1024x256.size inb_S1024x1024_S1024x256_0_512, k0_pay42 (conv i X) (part4 i X) (part11 i X) (part12 i X)
      (View.ld X.wi (Rect.unit ![0, 0, 2, 0, 0] S1x1x1x256x256.size inb_S1x1x4x256x256_S1x1x1x256x256_0_0_2_0_0))
      (View.ld X.bi (Rect.unit ![0, 512] S1x256.size inb_S1x1024_S1x256_0_512))⟩,
    ⟨Rect.unit ![0, 256] S1024x256.size inb_S1024x1024_S1024x256_0_256, k0_pay37 (conv i X) (part4 i X) (part8 i X) (part9 i X) (part10 i X)⟩,
    ⟨Rect.unit ![0, 0] S1024x256.size inb_S1024x1024_S1024x256_0_0, k0_pay31 (conv i X) (part5 i X) (part6 i X) (part7 i X)⟩]

/-- The decay coefficients of the block. -/
def coefs (i : grid0.Coords) (X : Blk F) : Vec F S1024x1024 .f32 := View.canon (coefPieces i X)

/-- The gated inputs of the block. -/
def inputs (i : grid0.Coords) (X : Blk F) : Vec F S1024x1024 .f32 := View.canon (inputPieces i X)

/-- The state a sequence begins with. -/
def start (X : Blk F) : Vec F S1x1024 .f32 := k0_pay2 (View.ld X.h0 (Rect.unit ![0, 0, 0] S1x1x1024.size inb_S1x1x1024_S1x1x1024_0_0_0))

/-- The states of the block from the state before it. -/
def hs (i : grid0.Coords) (X : Blk F) (s : Vec F S1x1024 .f32) : Vec F S1024x1024 .f32 := states (coefs i X) (inputs i X) s

/-- The state after the block from the state before it. -/
def next (i : grid0.Coords) (X : Blk F) (s : Vec F S1x1024 .f32) : Vec F S1x1024 .f32 := k0_pay6 (final (coefs i X) (inputs i X) s)

/-- The block of the result. -/
def out (i : grid0.Coords) (X : Blk F) (s : Vec F S1x1024 .f32) : Vec F S1024x1024 .bf16 :=
  k0_pay7 (hs i X s) (View.ld X.other (Rect.unit ![0, 0] S1024x1024.size inb_S1024x1024_S1024x1024_0_0))
    (View.ld X.gelu (Rect.unit ![0, 0] S1024x1024.size inb_S1024x1024_S1024x1024_0_0))

end Cert.ScanFwdIdeal.Hand

end
-- ==== Proof.ScanFwdIdeal.Run.lean ====
module

public import proofs.«01_k».proof.Proof.ScanFwdIdeal.Body
public import proofs.«01_k».proof.Proof.Gen.ScanFwdIdeal.Skeleton
public import proofs.«01_k».proof.Proof.Gen.ScanFwdIdeal.Loops
public import proofs.«01_k».proof.Proof.Gen.ScanFwdIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.ScanFwdIdeal.Hand

open Cert.ScanFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The runs of the body: at the first block of a sequence and at the others. -/

/-- The block is the first its sequence visits, in the words the body compares. -/
abbrev atStart (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32) = 1#1

theorem zero2 : (![0, 0] : Fin 2 → ℕ) = fun _ => 0 := by decide

/-- After a store to the whole of a buffer, reading it gives what was stored. -/
theorem read_whole {sp : Space} {e : EltTy} {S : Shape} (v : View sig .tc sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, ?_⟩), View.canon_cons_unit_zero h]
  subst h
  show y ∈ (Rect.unit (fun _ => 0) S.size inb).set
  rw [Rect.mem_set_unit]
  exact fun a => ⟨Nat.zero_le _, by rw [Nat.zero_add]; exact (y a).isLt⟩

theorem pay7_congr (z z' : Vec F S1024x1024 .f32) (h : z = z') (p q : Vec F S1024x1024 .f32) :
    k0_pay7 (View.ld z (Rect.unit ![0, 0] S1024x1024.size inb_S1024x1024_S1024x1024_0_0)) p q = k0_pay7 z' p q := by
  rw [h, View.ld_unit_zero zero2]

/-- The run's loop, from what its two arrays and its state hold. -/
theorem st_core (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1x1x4x256x256 .bf16) (harg6 : arg6.IsWhole) (arg7 : Memref sig .tc .vmem S1x1024 .f32) (harg7 : arg7.IsWhole) (arg8 : Memref sig .tc .vmem S1x1x4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .f32) (harg15 : arg15.IsWhole) (arg16 : Memref sig .tc .vmem S1040x1024 .f32) (harg16 : arg16.IsWhole) (arg17 : Memref sig .tc .vmem S1024x1024 .f32) (harg17 : arg17.IsWhole) (arg18 : Memref sig .tc .vmem S1024x1024 .f32) (harg18 : arg18.IsWhole) (arg19 : Memref sig .tc .vmem S1x1024 .f32) (harg19 : arg19.IsWhole)
    (XA : BufTy.Contents (Elt F) arg17.view.ty) (XB : BufTy.Contents (Elt F) arg18.view.ty) (init : Vec F S1x1024 .f32) (T : ℕ)
    (a b : Vec F S1024x1024 .f32) (s : Vec F S1x1024 .f32) (hA : arg17.view.read (Elt F) XA = a) (hB : arg18.view.read (Elt F) XB = b)
    (hs : init = s) (hT : T = k0_t1_loop.trips) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 rows XA XB init T = walk a b s k0_t1_loop.trips := by
  subst hA hB hs hT; exact st_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 XA XB init _ le_rfl

set_option maxHeartbeats 4000000 in
/-- The run of the body at the first block of a sequence: it leaves the result's block and the state after the block. -/
theorem run_A (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1x1x4x256x256 .bf16) (harg6 : arg6.IsWhole) (arg7 : Memref sig .tc .vmem S1x1024 .f32) (harg7 : arg7.IsWhole) (arg8 : Memref sig .tc .vmem S1x1x4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .f32) (harg15 : arg15.IsWhole) (arg16 : Memref sig .tc .vmem S1040x1024 .f32) (harg16 : arg16.IsWhole) (arg17 : Memref sig .tc .vmem S1024x1024 .f32) (harg17 : arg17.IsWhole) (arg18 : Memref sig .tc .vmem S1024x1024 .f32) (harg18 : arg18.IsWhole) (arg19 : Memref sig .tc .vmem S1x1024 .f32) (harg19 : arg19.IsWhole) (hc0 : atStart i) (X : Blk F) (xs3 : Vec F S1x1024 .f32) (E : Set ℕ) (K : PUnit → sProp 𝕄) :
        iprop(owns (c : Thread nD τ) arg1 fullShare X.xs ∗ owns (c : Thread nD τ) arg2 fullShare X.before ∗ owns (c : Thread nD τ) arg3 fullShare X.after ∗ owns (c : Thread nD τ) arg4 fullShare X.taps ∗ owns (c : Thread nD τ) arg5 fullShare X.cbias ∗ owns (c : Thread nD τ) arg6 fullShare X.wr ∗ owns (c : Thread nD τ) arg7 fullShare X.br ∗ owns (c : Thread nD τ) arg8 fullShare X.wi ∗ owns (c : Thread nD τ) arg9 fullShare X.bi ∗ owns (c : Thread nD τ) arg10 fullShare X.lam ∗ owns (c : Thread nD τ) arg11 fullShare X.h0 ∗ owns (c : Thread nD τ) arg12 fullShare X.other ∗ owns (c : Thread nD τ) arg13 fullShare X.gelu ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs3
            ∗ (iprop(owns (c : Thread nD τ) arg1 fullShare X.xs ∗ owns (c : Thread nD τ) arg2 fullShare X.before ∗ owns (c : Thread nD τ) arg3 fullShare X.after ∗ owns (c : Thread nD τ) arg4 fullShare X.taps ∗ owns (c : Thread nD τ) arg5 fullShare X.cbias ∗ owns (c : Thread nD τ) arg6 fullShare X.wr ∗ owns (c : Thread nD τ) arg7 fullShare X.br ∗ owns (c : Thread nD τ) arg8 fullShare X.wi ∗ owns (c : Thread nD τ) arg9 fullShare X.bi ∗ owns (c : Thread nD τ) arg10 fullShare X.lam ∗ owns (c : Thread nD τ) arg11 fullShare X.h0 ∗ owns (c : Thread nD τ) arg12 fullShare X.other ∗ owns (c : Thread nD τ) arg13 fullShare X.gelu ∗ owns (c : Thread nD τ) arg14 fullShare (out i X (start X)) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (next i X (start X))) -∗ K ⟨⟩))
          ⊢ wp frame (wpE (defs₀ (F := F)) Variants.none c none) E (cc0_lru_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    simp only [cc0_lru_scan_eq_skeleton]; unfold cc0_lru_scan_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; swap; · iexact H13
      ipureintro; refine (read_whole _ _ zero2 _ _ _).trans ?_
      sl_unfold_words; simp only [View.readAt_eq_ld, harg12.read_unread, harg13.read_unread]
      refine pay7_congr _ _ ?_ _ _
      refine (congrArg (fun z : Vec F S1x1024 .f32 × List (View.Piece (Elt F) S1024x1024 .f32) => arg15.view.read (Elt F) (arg15.view.writes (Elt F) f14 z.2)) (st_core _ _ _ _ _ _ _ _ _ _ _ _ _ _ _ _ _ _ _ _ _ _ _ _ _ _ _ _ _ _ _ _ _ _ _ _ _ _ _ _ _ _ _ _ (coefs i X) (inputs i X) (start X) ?_ ?_ ?_ rfl)).trans (read_states _ _ _ _ _)
      · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.readCov_eq_canon']; rfl
      · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.readCov_eq_canon']; rfl
      · sl_unfold_words; simp only [View.readCov_cons_toLoadRect, View.readAt_eq_ld, harg11.read_unread]; rfl

    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _; isplitr; swap; · iexact H18
    ipureintro; refine (read_whole _ _ zero2 _ _ _).trans (congrArg (fun z : Vec F S1x1024 .f32 × List (View.Piece (Elt F) S1024x1024 .f32) => k0_pay6 z.1) (st_core _ _ _ _ _ _ _ _ _ _ _ _ _ _ _ _ _ _ _ _ _ _ _ _ _ _ _ _ _ _ _ _ _ _ _ _ _ _ _ _ _ _ _ _ (coefs i X) (inputs i X) (start X) ?_ ?_ ?_ rfl))
    · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.readCov_eq_canon']; rfl
    · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.readCov_eq_canon']; rfl
    · sl_unfold_words; simp only [View.readCov_cons_toLoadRect, View.readAt_eq_ld, harg11.read_unread]; rfl

set_option maxHeartbeats 4000000 in
/-- The run of the body at a later block: it leaves the result's block and the state after the block. -/
theorem run_B (c : Dev nD) (i : grid0.Coords) (arg1 : Memref sig .tc .vmem S1024x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1x1x4x256x256 .bf16) (harg6 : arg6.IsWhole) (arg7 : Memref sig .tc .vmem S1x1024 .f32) (harg7 : arg7.IsWhole) (arg8 : Memref sig .tc .vmem S1x1x4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1x1024 .f32) (harg11 : arg11.IsWhole) (arg12 : Memref sig .tc .vmem S1024x1024 .f32) (harg12 : arg12.IsWhole) (arg13 : Memref sig .tc .vmem S1024x1024 .f32) (harg13 : arg13.IsWhole) (arg14 : Memref sig .tc .vmem S1024x1024 .bf16) (harg14 : arg14.IsWhole) (arg15 : Memref sig .tc .vmem S1024x1024 .f32) (harg15 : arg15.IsWhole) (arg16 : Memref sig .tc .vmem S1040x1024 .f32) (harg16 : arg16.IsWhole) (arg17 : Memref sig .tc .vmem S1024x1024 .f32) (harg17 : arg17.IsWhole) (arg18 : Memref sig .tc .vmem S1024x1024 .f32) (harg18 : arg18.IsWhole) (arg19 : Memref sig .tc .vmem S1x1024 .f32) (harg19 : arg19.IsWhole) (hc0 : ¬atStart i) (X : Blk F) (xs3 : Vec F S1x1024 .f32) (E : Set ℕ) (K : PUnit → sProp 𝕄) :
        iprop(owns (c : Thread nD τ) arg1 fullShare X.xs ∗ owns (c : Thread nD τ) arg2 fullShare X.before ∗ owns (c : Thread nD τ) arg3 fullShare X.after ∗ owns (c : Thread nD τ) arg4 fullShare X.taps ∗ owns (c : Thread nD τ) arg5 fullShare X.cbias ∗ owns (c : Thread nD τ) arg6 fullShare X.wr ∗ owns (c : Thread nD τ) arg7 fullShare X.br ∗ owns (c : Thread nD τ) arg8 fullShare X.wi ∗ owns (c : Thread nD τ) arg9 fullShare X.bi ∗ owns (c : Thread nD τ) arg10 fullShare X.lam ∗ owns (c : Thread nD τ) arg11 fullShare X.h0 ∗ owns (c : Thread nD τ) arg12 fullShare X.other ∗ owns (c : Thread nD τ) arg13 fullShare X.gelu ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs3
            ∗ (iprop(owns (c : Thread nD τ) arg1 fullShare X.xs ∗ owns (c : Thread nD τ) arg2 fullShare X.before ∗ owns (c : Thread nD τ) arg3 fullShare X.after ∗ owns (c : Thread nD τ) arg4 fullShare X.taps ∗ owns (c : Thread nD τ) arg5 fullShare X.cbias ∗ owns (c : Thread nD τ) arg6 fullShare X.wr ∗ owns (c : Thread nD τ) arg7 fullShare X.br ∗ owns (c : Thread nD τ) arg8 fullShare X.wi ∗ owns (c : Thread nD τ) arg9 fullShare X.bi ∗ owns (c : Thread nD τ) arg10 fullShare X.lam ∗ owns (c : Thread nD τ) arg11 fullShare X.h0 ∗ owns (c : Thread nD τ) arg12 fullShare X.other ∗ owns (c : Thread nD τ) arg13 fullShare X.gelu ∗ owns (c : Thread nD τ) arg14 fullShare (out i X (xs3)) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare (next i X (xs3))) -∗ K ⟨⟩))
          ⊢ wp frame (wpE (defs₀ (F := F)) Variants.none c none) E (cc0_lru_scan i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    simp only [cc0_lru_scan_eq_skeleton]; unfold cc0_lru_scan_skel
    simp only [k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; swap; · iexact H13
      ipureintro; refine (read_whole _ _ zero2 _ _ _).trans ?_
      sl_unfold_words; simp only [View.readAt_eq_ld, harg12.read_unread, harg13.read_unread]
      refine pay7_congr _ _ ?_ _ _
      refine (congrArg (fun z : Vec F S1x1024 .f32 × List (View.Piece (Elt F) S1024x1024 .f32) => arg15.view.read (Elt F) (arg15.view.writes (Elt F) f14 z.2)) (st_core _ _ _ _ _ _ _ _ _ _ _ _ _ _ _ _ _ _ _ _ _ _ _ _ _ _ _ _ _ _ _ _ _ _ _ _ _ _ _ _ _ _ _ _ (coefs i X) (inputs i X) xs3 ?_ ?_ ?_ rfl)).trans (read_states _ _ _ _ _)
      · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.readCov_eq_canon']; rfl
      · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.readCov_eq_canon']; rfl
      · show View.ld (View.read (Elt F) arg19.view (harg19.unread xs3)) (Rect.unit ![0, 0] S1x1024.size inb_S1x1024_S1x1024_0_0) = xs3; rw [harg19.read_unread]; exact View.ld_unit_zero zero2 _ _

    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _; isplitr; swap; · iexact H18
    ipureintro; refine (read_whole _ _ zero2 _ _ _).trans (congrArg (fun z : Vec F S1x1024 .f32 × List (View.Piece (Elt F) S1024x1024 .f32) => k0_pay6 z.1) (st_core _ _ _ _ _ _ _ _ _ _ _ _ _ _ _ _ _ _ _ _ _ _ _ _ _ _ _ _ _ _ _ _ _ _ _ _ _ _ _ _ _ _ _ _ (coefs i X) (inputs i X) xs3 ?_ ?_ ?_ rfl))
    · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.readCov_eq_canon']; rfl
    · rw [View.read_writes_junk_eq_canon]; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.readCov_eq_canon']; rfl
    · show View.ld (View.read (Elt F) arg19.view (harg19.unread xs3)) (Rect.unit ![0, 0] S1x1024.size inb_S1x1024_S1x1024_0_0) = xs3; rw [harg19.read_unread]; exact View.ld_unit_zero zero2 _ _

end Cert.ScanFwdIdeal.Hand

end
-- ==== Proof.ScanFwdIdeal.Whole.lean ====
module

public import proofs.«01_k».proof.Proof.Gen.ScanFwdIdeal.Frame
public import proofs.«01_k».proof.Proof.ScanFwdIdeal.Run
public import proofs.«01_k».proof.Proof.Gen.ScanFwdIdeal.Skeleton
public import proofs.«01_k».proof.Proof.Gen.ScanFwdIdeal.Loops
public import proofs.«01_k».proof.Proof.Gen.ScanFwdIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.ScanFwdIdeal.Hand

open Cert.ScanFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The run of the whole call: what each window's buffer and the carried state hold at each grid point, and the frame. -/

variable (m : (ℓ : Loc nD τ sig) → Buf (Elt F) ℓ) (ρ : Dev nD → PrngReg)

abbrev st0 (t : Fin cfg0.N) : Memref sig .tc .vmem S1024x1024 .f32 := win0_0.stage (cfg0.slots t 0)
abbrev st1 (t : Fin cfg0.N) : Memref sig .tc .vmem S8x1024 .f32 := win0_1.stage (cfg0.slots t 1)
abbrev st2 (t : Fin cfg0.N) : Memref sig .tc .vmem S8x1024 .f32 := win0_2.stage (cfg0.slots t 2)
abbrev st3 (t : Fin cfg0.N) : Memref sig .tc .vmem S4x1024 .f32 := win0_3.stage (cfg0.slots t 3)
abbrev st4 (t : Fin cfg0.N) : Memref sig .tc .vmem S1x1024 .f32 := win0_4.stage (cfg0.slots t 4)
abbrev st5 (t : Fin cfg0.N) : Memref sig .tc .vmem S1x1x4x256x256 .bf16 := win0_5.stage (cfg0.slots t 5)
abbrev st6 (t : Fin cfg0.N) : Memref sig .tc .vmem S1x1024 .f32 := win0_6.stage (cfg0.slots t 6)
abbrev st7 (t : Fin cfg0.N) : Memref sig .tc .vmem S1x1x4x256x256 .bf16 := win0_7.stage (cfg0.slots t 7)
abbrev st8 (t : Fin cfg0.N) : Memref sig .tc .vmem S1x1024 .f32 := win0_8.stage (cfg0.slots t 8)
abbrev st9 (t : Fin cfg0.N) : Memref sig .tc .vmem S1x1024 .f32 := win0_9.stage (cfg0.slots t 9)
abbrev st10 (t : Fin cfg0.N) : Memref sig .tc .vmem S1x1x1024 .f32 := win0_10.stage (cfg0.slots t 10)
abbrev st11 (t : Fin cfg0.N) : Memref sig .tc .vmem S1024x1024 .f32 := win0_11.stage (cfg0.slots t 11)
abbrev st12 (t : Fin cfg0.N) : Memref sig .tc .vmem S1024x1024 .f32 := win0_12.stage (cfg0.slots t 12)
abbrev st13 (t : Fin cfg0.N) : Memref sig .tc .vmem S1024x1024 .bf16 := win0_13.stage (cfg0.slots t 13)
abbrev sc0 : Memref sig .tc .vmem S1024x1024 .f32 := Memref.whole cc0_scratch0
abbrev sc1 : Memref sig .tc .vmem S1040x1024 .f32 := Memref.whole cc0_scratch1
abbrev sc2 : Memref sig .tc .vmem S1024x1024 .f32 := Memref.whole cc0_scratch2
abbrev sc3 : Memref sig .tc .vmem S1024x1024 .f32 := Memref.whole cc0_scratch3
abbrev sc4 : Memref sig .tc .vmem S1x1024 .f32 := Memref.whole cc0_scratch4

/-- The first block of a sequence is every eighth point. -/
theorem atStart_iff : ∀ t : Fin cfg0.N, atStart (grid0.coords t) ↔ t.val % 8 = 0 :=
  (by decide +kernel : ∀ t : Fin grid0.N, atStart (grid0.coords t) ↔ t.val % 8 = 0)

/-- The blocks point `t` reads. -/
abbrev blk (c : Dev nD) (t : Fin cfg0.N) : Blk F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- The state after point `n`. -/
def stateAfter (c : Dev nD) : (n : ℕ) → n < cfg0.N → Vec F S1x1024 .f32
  | 0, h => next (grid0.coords ⟨0, h⟩) (blk m c ⟨0, h⟩) (start (blk m c ⟨0, h⟩))
  | n + 1, h => next (grid0.coords ⟨n + 1, h⟩) (blk m c ⟨n + 1, h⟩)
      (if (n + 1) % 8 = 0 then start (blk m c ⟨n + 1, h⟩) else stateAfter c n (Nat.lt_of_succ_lt h))

/-- The state point `t` begins with. -/
def stateBefore (c : Dev nD) (t : Fin cfg0.N) : Vec F S1x1024 .f32 :=
  if t.val % 8 = 0 then start (blk m c t) else stateAfter m c (t.val - 1) (lt_of_le_of_lt (Nat.sub_le _ _) t.isLt)

theorem stateAfter_eq (c : Dev nD) (t : Fin cfg0.N) : stateAfter m c t.val t.isLt = next (grid0.coords t) (blk m c t) (stateBefore m c t) := by
  obtain ⟨n, hn⟩ := t
  cases n with
  | zero => rfl
  | succ n => rfl

/-- The block of the result point `t` leaves. -/
def outAt (c : Dev nD) (t : Fin cfg0.N) : Vec F S1024x1024 .bf16 := out (grid0.coords t) (blk m c t) (stateBefore m c t)

/-- What the kernel's own buffers hold at anything, the buffers named. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The invariant before point `n`: the carried buffer holds the state the point before left. -/
def PhiS (c : Dev nD) : (n : ℕ) → n ≤ cfg0.N → sProp 𝕄
  | 0, _ => Pipeline.ΦA spec0 c
  | n + 1, hn => iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ owns (c : Thread nD τ) sc4 fullShare (stateAfter m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ owns (c : Thread nD τ) sc4 fullShare (stateAfter m c n hn)) ∗ (∃ r, prngReg c r)) := rfl

theorem PhiS_pos (c : Dev nD) (n : ℕ) (h : n ≤ cfg0.N) (hz : n ≠ 0) :
    PhiS m c n h = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ owns (c : Thread nD τ) sc4 fullShare (stateAfter m c (n - 1) (by omega))) ∗ (∃ r, prngReg c r)) := by
  cases n with
  | zero => exact absurd rfl hz
  | succ n => rfl

/-- The data of the pipeline: the inputs' blocks, the result's block and the invariant at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d)))

/-- What the body returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t)
    ∗ owns (c : Thread nD τ) (st13 t) fullShare ((dats m 0 c).after 13 t))

set_option maxHeartbeats 12800000 in
/-- The body at any point, by its run at the first block of a sequence or at a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl,
    after0, after1, after2, after3, after4, after5, after6, after7, after8, after9, after10, after11, after12, after13]
  rw [show (dats m 0 c).Φ t.succ = PhiS m c (t.val + 1) t.isLt from rfl, PhiS_succ, stateAfter_eq]
  unfold outAt
  by_cases h0 : t.val % 8 = 0
  · rw [show stateBefore m c t = start (blk m c t) from if_pos h0]
    by_cases hz : t.val = 0
    · rw [PhiS_castSucc m c t, PhiS_zero m c _ _ hz, PhiA_eq]
      iintro ⟨⟨⟨HS0, HS1, HS2, HS3, ⟨%ds, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_A c (grid0.coords t) _ _ _ _ _ _ _ _ _ _ _ _ _ _ _ _ _ _ _ _ _ _ _ _ _ _ _ _ _ _ _ _ _ _ _ _ _ _ ((atStart_iff t).mpr h0) (blk m c t) ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · rw [PhiS_castSucc m c t, PhiS_pos m c _ _ hz]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run_A c (grid0.coords t) _ _ _ _ _ _ _ _ _ _ _ _ _ _ _ _ _ _ _ _ _ _ _ _ _ _ _ _ _ _ _ _ _ _ _ _ _ _ ((atStart_iff t).mpr h0) (blk m c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, H12, H13, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · have hz : t.val ≠ 0 := fun e => h0 (by rw [e])
    rw [show stateBefore m c t = stateAfter m c (t.val - 1) (lt_of_le_of_lt (Nat.sub_le _ _) t.isLt) from if_neg h0]
    rw [PhiS_castSucc m c t, PhiS_pos m c _ _ hz]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_B c (grid0.coords t) _ _ _ _ _ _ _ _ _ _ _ _ _ _ _ _ _ _ _ _ _ _ _ _ _ _ _ _ _ _ _ _ _ _ _ _ _ _ (fun h => h0 ((atStart_iff t).mp h)) (blk m c t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body's row of the table is the body at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the kernel's own buffers back. -/
theorem hout (c : Dev nD) : (dats m 0 c).Φ (Fin.last cfg0.N) ⊢ Pipeline.ΦA spec0 c := by
  have ht : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨⟨HS0, HS1, HS2, HS3, HS4⟩, Hg⟩
  isplitl [HS0 HS1 HS2 HS3 HS4]
  · isplitl [HS0]; · iexact HS0
    isplitl [HS1]; · iexact HS1
    isplitl [HS2]; · iexact HS2
    isplitl [HS3]; · iexact HS3
    iexists _; iexact HS4
  iexact Hg

set_option backward.isDefEq.respectTransparency.types false in
/-- The launch: the pipeline's arrays end at what the data say, and every semaphore counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_quiet m ρ))

end Cert.ScanFwdIdeal.Hand

end
-- ==== Proof.Claims.Frames.lean ====
module

public import proofs.«01_k».proof.Defs
public import proofs.«01_k».proof.Proof.Gen.ScanBwd
public import proofs.«01_k».proof.Proof.Gen.ScanBwdIdeal
public import proofs.«01_k».proof.Proof.Gen.RefBwdIdeal
public import proofs.«01_k».proof.Proof.Gen.ScanFwd
public import proofs.«01_k».proof.Proof.Gen.ScanFwdIdeal
public import proofs.«01_k».proof.Proof.Gen.RefFwdIdeal
public import proofs.«01_k».proof.Proof.Gen.Ffn
public import proofs.«01_k».proof.Proof.Gen.FfnIdeal
public import proofs.«01_k».proof.Proof.Gen.RefFfnIdeal
public import proofs.«01_k».proof.Proof.Gen.MixOut
public import proofs.«01_k».proof.Proof.Gen.MixOutIdeal
public import proofs.«01_k».proof.Proof.Gen.RefOutIdeal
public import proofs.«01_k».proof.Proof.Gen.MixIn
public import proofs.«01_k».proof.Proof.Gen.MixInIdeal
public import proofs.«01_k».proof.Proof.Gen.RefInIdeal
public import proofs.«01_k».proof.Proof.ScanBwd.Whole
public import proofs.«01_k».proof.Proof.Gen.Ffn.Frame
public import proofs.«01_k».proof.Proof.Gen.FfnIdeal.Frame
public import proofs.«01_k».proof.Proof.ScanBwdIdeal.Whole
public import proofs.«01_k».proof.Proof.ScanFwd.Whole
public import proofs.«01_k».proof.Proof.ScanFwdIdeal.Whole
public import proofs.«01_k».proof.Proof.Gen.RefBwdIdeal.Run
public import proofs.«01_k».proof.Proof.Gen.RefFwdIdeal.Run
public import proofs.«01_k».proof.Proof.Gen.RefFfnIdeal.Run
public import proofs.«01_k».proof.Proof.Gen.MixOut.Frame
public import proofs.«01_k».proof.Proof.Gen.MixOutIdeal.Frame
public import proofs.«01_k».proof.Proof.Gen.RefOutIdeal.Run
public import proofs.«01_k».proof.Proof.Gen.MixIn.Frame
public import proofs.«01_k».proof.Proof.Gen.MixInIdeal.Frame
public import proofs.«01_k».proof.Proof.Gen.RefInIdeal.Run
public import Idealize.ShloMosaic.Adequacy
public import Idealize.ShloMosaic.Init

@[expose] public section

noncomputable section
namespace Cert.Claims
open Idealize.ShloMosaic Idealize.SL.Sem

/-! Each program runs, leaves its arguments as they were and every semaphore at nought. -/

theorem frame_ScanBwd : Cert.quiescent_ScanBwd := fun m ρ _ => Cert.ScanBwd.Hand.frame m ρ
theorem frame_ScanBwdIdeal : Cert.quiescent_ScanBwdIdeal := fun m ρ _ => Cert.ScanBwdIdeal.Hand.frame m ρ
theorem frame_ScanFwd : Cert.quiescent_ScanFwd := fun m ρ _ => Cert.ScanFwd.Hand.frame m ρ
theorem frame_ScanFwdIdeal : Cert.quiescent_ScanFwdIdeal := fun m ρ _ => Cert.ScanFwdIdeal.Hand.frame m ρ
theorem frame_Ffn : Cert.quiescent_Ffn := fun m ρ _ => Cert.Ffn.Gen.frame m ρ
theorem frame_FfnIdeal : Cert.quiescent_FfnIdeal := fun m ρ _ => Cert.FfnIdeal.Gen.frame m ρ
theorem frame_MixOut : Cert.quiescent_MixOut := fun m ρ _ => Cert.MixOut.Gen.frame m ρ
theorem frame_MixOutIdeal : Cert.quiescent_MixOutIdeal := fun m ρ _ => Cert.MixOutIdeal.Gen.frame m ρ
theorem frame_MixIn : Cert.quiescent_MixIn := fun m ρ _ => Cert.MixIn.Gen.frame m ρ
theorem frame_MixInIdeal : Cert.quiescent_MixInIdeal := fun m ρ _ => Cert.MixInIdeal.Gen.frame m ρ
theorem frame_RefFfnIdeal : Cert.quiescent_RefFfnIdeal := fun m ρ _ =>
  (θ_run Cert.RefFfnIdeal.defs _ _).mono (fun r h => ⟨fun c => (h c).2, sem_eq_zero_of_no_sems (by decide) r.2⟩)
    (Cert.RefFfnIdeal.Value.run (F := Ideal) m ρ)
theorem frame_RefBwdIdeal : Cert.quiescent_RefBwdIdeal := fun m ρ _ =>
  (θ_run Cert.RefBwdIdeal.defs _ _).mono (fun r h => ⟨fun c => (h c).2, sem_eq_zero_of_no_sems (by decide) r.2⟩)
    (Cert.RefBwdIdeal.Value.run (F := Ideal) m ρ)
theorem frame_RefFwdIdeal : Cert.quiescent_RefFwdIdeal := fun m ρ _ =>
  (θ_run Cert.RefFwdIdeal.defs _ _).mono (fun r h => ⟨fun c => (h c).2, sem_eq_zero_of_no_sems (by decide) r.2⟩)
    (Cert.RefFwdIdeal.Value.run (F := Ideal) m ρ)
theorem frame_RefOutIdeal : Cert.quiescent_RefOutIdeal := fun m ρ _ =>
  (θ_run Cert.RefOutIdeal.defs _ _).mono (fun r h => ⟨fun c => (h c).2, sem_eq_zero_of_no_sems (by decide) r.2⟩)
    (Cert.RefOutIdeal.Value.run (F := Ideal) m ρ)
theorem frame_RefInIdeal : Cert.quiescent_RefInIdeal := fun m ρ _ =>
  (θ_run Cert.RefInIdeal.defs _ _).mono (fun r h => ⟨fun c => (h c).2.2.2, sem_eq_zero_of_no_sems (by decide) r.2⟩)
    (Cert.RefInIdeal.Value.run (F := Ideal) m ρ)

end Cert.Claims
end
-- ==== Proof.FfnIdeal.Cases.lean ====
module

public import proofs.«01_k».proof.Proof.Gen.FfnIdeal.Value
public import Idealize.ShloMosaic.Lib.Pointwise
public import Idealize.ShloMosaic.Lib.Tactic

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic Idealize.SL.Sem

variable {F : FTy → Type} [FloatOps F] (m : (ℓ : Loc nD τ sig) → Buf (Elt F) ℓ)

/-! What each case of the kernel's body leaves in the output block and in the carried rows, as the printed payloads
of the input blocks. -/

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- A load of the whole block is the block. -/
theorem ld_rows {e : EltTy} (X : Vec F S1024x2048 e) (inb) : View.ld X (Rect.unit ![0, 0] ![1024, 2048] inb) = X := View.ld_unit_zero zeros2 inb X
theorem ld_in {e : EltTy} (X : Vec F S2048x512 e) (inb) : View.ld X (Rect.unit ![0, 0] ![2048, 512] inb) = X := View.ld_unit_zero zeros2 inb X
theorem ld_out {e : EltTy} (X : Vec F S512x2048 e) (inb) : View.ld X (Rect.unit ![0, 0] ![512, 2048] inb) = X := View.ld_unit_zero zeros2 inb X
theorem ld_vec {e : EltTy} (X : Vec F S1x2048 e) (inb) : View.ld X (Rect.unit ![0, 0] ![1, 2048] inb) = X := View.ld_unit_zero zeros2 inb X
theorem ld_mod {e : EltTy} (X : Vec F S1x1x2048 e) (inb) : View.ld X (Rect.unit ![0, 0, 0] ![1, 1, 2048] inb) = X := View.ld_unit_zero zeros3 inb X
/-- A block stored whole holds what was stored. -/
theorem canon_rows {e : EltTy} (X : Vec F S1024x2048 e) (inb) :
    View.canon [(⟨Rect.unit ![0, 0] ![1024, 2048] inb, X⟩ : View.Piece (Elt F) S1024x2048 e)] = X := View.canon_unit_zero zeros2 inb X

/-- The first column step of a row block: the modulated rows are stored, and the output block is the first
    chunk's product. -/
theorem outs_first (c : Dev nD) (t : Fin cfg0.N) (h : t.val % 11 = 0) :
    outsAt0 m c t.val t.isLt
      = (k0_pay3 (iblk m c 4 t) (iblk m c 5 t) (iblk m c 6 t) (iblk m c 0 t) (iblk m c 2 t) (iblk m c 1 t),
         k0_pay2 (iblk m c 0 t) (iblk m c 2 t) (iblk m c 1 t)) := by
  rw [outsAt0_A m c t h (by omega) (by omega)]
  unfold out0_A_9 sout0_A_0
  rw [View.read_writes_eq_canon _ _ _ (cover0_A_9 c _ _ _ _ _ _ _ _ _ _ _ _ _ _ _ _ _ _ _ _ _ _ _ _ _ _ _ _ _ _ _ _ _ _ _),
    View.read_writes_eq_canon _ _ _ (scover0_A_0 c _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_4 t).read_unread,
    (hs0_5 t).read_unread, (hs0_6 t).read_unread]
  simp only [canon_rows, ld_rows, ld_in, ld_out, ld_mod]

/-- A later column step but the last: one more chunk's product is added to the output block. -/
theorem outs_mid (c : Dev nD) (t : Fin cfg0.N) (h : 1 ≤ t.val % 11 ∧ t.val % 11 ≤ 9) :
    outsAt0 m c t.val t.isLt
      = (k0_pay4 (iblk m c 4 t) (iblk m c 5 t) (iblk m c 6 t) (outsAt0 m c (t.val - 1) (by have := t.isLt; omega)).2
           (outsAt0 m c (t.val - 1) (by have := t.isLt; omega)).1,
         (outsAt0 m c (t.val - 1) (by have := t.isLt; omega)).2) := by
  rw [outsAt0_B m c t (by omega) h (by omega)]
  unfold out0_B_9 sout0_B_0
  rw [View.read_writes_eq_canon _ _ _ (cover0_B_9 c _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_9 t).read_unread, (Memref.isWhole_whole cc0_scratch0).read_unread, (hs0_4 t).read_unread,
    (hs0_5 t).read_unread, (hs0_6 t).read_unread]
  simp only [canon_rows, ld_rows, ld_in, ld_out, ld_mod]

/-- The row group of 256 rows from row `r`. -/
abbrev quarter (r : ℕ) (h : r ≤ 768) : Rect S1024x2048 :=
  Rect.unit (s := S1024x2048) ![r, 0] S256x2048.size (fun a => by fin_cases a <;> (simp; try omega))

/-- The last column step: each group of 256 rows is finished and normalised. -/
theorem outs_last (c : Dev nD) (t : Fin cfg0.N) (h : t.val % 11 = 10) :
    (outsAt0 m c t.val t.isLt).1
      = (let o := (outsAt0 m c (t.val - 1) (by have := t.isLt; omega)).1
         let act := k0_pay6 (iblk m c 4 t) (iblk m c 5 t) (outsAt0 m c (t.val - 1) (by have := t.isLt; omega)).2
         let x : Vec F S1024x2048 .f32 := iblk m c 0 t
         View.canon (s := S1024x2048) (e := .f32)
          [⟨quarter 768 (by omega), k0_pay5 (k0_pay15 (iblk m c 6 t) act (View.ld o (quarter 768 (by omega))) (View.ld x (quarter 768 (by omega))) (iblk m c 3 t)) (iblk m c 7 t) (iblk m c 8 t)⟩,
           ⟨quarter 512 (by omega), k0_pay14 (k0_pay13 (iblk m c 6 t) act (View.ld o (quarter 512 (by omega))) (View.ld x (quarter 512 (by omega))) (iblk m c 3 t)) (iblk m c 7 t) (iblk m c 8 t)⟩,
           ⟨quarter 256 (by omega), k0_pay12 (k0_pay10 (iblk m c 6 t) act (View.ld o (quarter 256 (by omega))) (View.ld x (quarter 256 (by omega))) (iblk m c 3 t)) (k0_pay11 (iblk m c 7 t)) (iblk m c 8 t)⟩,
           ⟨quarter 0 (by omega), k0_pay9 (k0_pay7 (iblk m c 4 t) (iblk m c 5 t) (iblk m c 6 t) (outsAt0 m c (t.val - 1) (by have := t.isLt; omega)).2 (View.ld o (quarter 0 (by omega))) (View.ld x (quarter 0 (by omega))) (iblk m c 3 t)) (k0_pay8 (iblk m c 7 t)) (iblk m c 8 t)⟩]) := by
  rw [outsAt0_C m c t (by omega) (by omega) h]
  unfold out0_C_9 sout0_C_0
  rw [View.read_writes_eq_canon _ _ _ (cover0_C_9 c _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_9 t).read_unread, (Memref.isWhole_whole cc0_scratch0).read_unread, (hs0_4 t).read_unread,
    (hs0_5 t).read_unread, (hs0_6 t).read_unread, (hs0_0 t).read_unread, (hs0_3 t).read_unread, (hs0_7 t).read_unread, (hs0_8 t).read_unread]
  simp only [ld_rows, ld_in, ld_out, ld_mod, ld_vec]

end Cert.FfnIdeal.Hand
end
-- ==== Proof.FfnIdeal.Blocks.lean ====
module

public import proofs.«01_k».proof.Proof.FfnIdeal.Cases

@[expose] public section

set_option maxRecDepth 16384

noncomputable section
namespace Cert.FfnIdeal.Hand
open Cert.FfnIdeal Cert.FfnIdeal.Gen Idealize.ShloMosaic Idealize.ShloMosaic.TcCoe Idealize.ShloMosaic.Tactic Idealize.SL.Sem

/-! What each input block holds at a grid point, at an index: the row blocks' rows, the batch's modulation vectors, the
column chunks of the two input weights and of the output weight, and the normalisation's vectors. -/

variable {F : FTy → Type} [FloatOps F]
variable (m : (ℓ : Loc nD τ sig) → Buf (Elt F) ℓ)

theorem at_0 : ∀ t : Fin cfg0.N, win0_0.index t (0 : Fin 2) = t.val / 11 ∧ win0_0.index t (1 : Fin 2) = 0 :=
  (by decide +kernel : ∀ t : Fin grid0.N, _)
theorem block_0 (c : Dev nD) (t : Fin cfg0.N) (i : Fin 1024) (j : Fin 2048) :
    (iblk m c 0 t : Vec F S1024x2048 _) (ix2 i j)
      = (m ((c : Thread nD τ).loc main_arg0) : Vec F S16384x2048 _) (ix2 ⟨1024 * (t.val / 11) + i.val, by have := t.isLt; have := i.isLt; (have hN : cfg0.N = 176 := rfl); omega⟩ j) := by
  have hi := at_0 t
  unfold iblk
  rw [View.read_apply]
  show V m c main_arg0 _ = _
  rw [V_main_arg0]
  congr 1
  funext a
  apply Fin.ext
  match a with
  | ⟨0, _⟩ => show win0_0.index t (0 : Fin 2) * 1024 + 1 * i.val = _; rw [hi.1]; simp [ix2, mul_comm]
  | ⟨1, _⟩ => show win0_0.index t (1 : Fin 2) * 2048 + 1 * j.val = _; rw [hi.2]; simp [ix2, mul_comm]

theorem at_1 : ∀ t : Fin cfg0.N, win0_1.index t (0 : Fin 3) = t.val / 88 ∧ win0_1.index t (1 : Fin 3) = 0 ∧ win0_1.index t (2 : Fin 3) = 0 :=
  (by decide +kernel : ∀ t : Fin grid0.N, _)
theorem block_1 (c : Dev nD) (t : Fin cfg0.N) (i : Fin 1) (j : Fin 1) (k : Fin 2048) :
    (iblk m c 1 t : Vec F S1x1x2048 _) (ix3 i j k)
      = (m ((c : Thread nD τ).loc main_arg1) : Vec F S2x1x2048 _) (ix3 ⟨1 * (t.val / 88) + i.val, by have := t.isLt; have := i.isLt; (have hN : cfg0.N = 176 := rfl); omega⟩ j k) := by
  have hi := at_1 t
  unfold iblk
  rw [View.read_apply]
  show V m c main_arg1 _ = _
  rw [V_main_arg1]
  congr 1
  funext a
  apply Fin.ext
  match a with
  | ⟨0, _⟩ => show win0_1.index t (0 : Fin 3) * 1 + 1 * i.val = _; rw [hi.1]; simp [ix3, mul_comm]
  | ⟨1, _⟩ => show win0_1.index t (1 : Fin 3) * 1 + 1 * j.val = _; rw [hi.2.1]; simp [ix3, mul_comm]
  | ⟨2, _⟩ => show win0_1.index t (2 : Fin 3) * 2048 + 1 * k.val = _; rw [hi.2.2]; simp [ix3, mul_comm]

theorem at_2 : ∀ t : Fin cfg0.N, win0_2.index t (0 : Fin 3) = t.val / 88 ∧ win0_2.index t (1 : Fin 3) = 0 ∧ win0_2.index t (2 : Fin 3) = 0 :=
  (by decide +kernel : ∀ t : Fin grid0.N, _)
theorem block_2 (c : Dev nD) (t : Fin cfg0.N) (i : Fin 1) (j : Fin 1) (k : Fin 2048) :
    (iblk m c 2 t : Vec F S1x1x2048 _) (ix3 i j k)
      = (m ((c : Thread nD τ).loc main_arg2) : Vec F S2x1x2048 _) (ix3 ⟨1 * (t.val / 88) + i.val, by have := t.isLt; have := i.isLt; (have hN : cfg0.N = 176 := rfl); omega⟩ j k) := by
  have hi := at_2 t
  unfold iblk
  rw [View.read_apply]
  show V m c main_arg2 _ = _
  rw [V_main_arg2]
  congr 1
  funext a
  apply Fin.ext
  match a with
  | ⟨0, _⟩ => show win0_2.index t (0 : Fin 3) * 1 + 1 * i.val = _; rw [hi.1]; simp [ix3, mul_comm]
  | ⟨1, _⟩ => show win0_2.index t (1 : Fin 3) * 1 + 1 * j.val = _; rw [hi.2.1]; simp [ix3, mul_comm]
  | ⟨2, _⟩ => show win0_2.index t (2 : Fin 3) * 2048 + 1 * k.val = _; rw [hi.2.2]; simp [ix3, mul_comm]

theorem at_3 : ∀ t : Fin cfg0.N, win0_3.index t (0 : Fin 3) = t.val / 88 ∧ win0_3.index t (1 : Fin 3) = 0 ∧ win0_3.index t (2 : Fin 3) = 0 :=
  (by decide +kernel : ∀ t : Fin grid0.N, _)
theorem block_3 (c : Dev nD) (t : Fin cfg0.N) (i : Fin 1) (j : Fin 1) (k : Fin 2048) :
    (iblk m c 3 t : Vec F S1x1x2048 _) (ix3 i j k)
      = (m ((c : Thread nD τ).loc main_arg3) : Vec F S2x1x2048 _) (ix3 ⟨1 * (t.val / 88) + i.val, by have := t.isLt; have := i.isLt; (have hN : cfg0.N = 176 := rfl); omega⟩ j k) := by
  have hi := at_3 t
  unfold iblk
  rw [View.read_apply]
  show V m c main_arg3 _ = _
  rw [V_main_arg3]
  congr 1
  funext a
  apply Fin.ext
  match a with
  | ⟨0, _⟩ => show win0_3.index t (0 : Fin 3) * 1 + 1 * i.val = _; rw [hi.1]; simp [ix3, mul_comm]
  | ⟨1, _⟩ => show win0_3.index t (1 : Fin 3) * 1 + 1 * j.val = _; rw [hi.2.1]; simp [ix3, mul_comm]
  | ⟨2, _⟩ => show win0_3.index t (2 : Fin 3) * 2048 + 1 * k.val = _; rw [hi.2.2]; simp [ix3, mul_comm]

theorem at_4 : ∀ t : Fin cfg0.N, win0_4.index t (0 : Fin 2) = 0 ∧ win0_4.index t (1 : Fin 2) = t.val % 11 :=
  (by decide +kernel : ∀ t : Fin grid0.N, _)
theorem block_4 (c : Dev nD) (t : Fin cfg0.N) (i : Fin 2048) (j : Fin 512) :
    (iblk m c 4 t : Vec F S2048x512 _) (ix2 i j)
      = (m ((c : Thread nD τ).loc main_arg4) : Vec F S2048x5632 _) (ix2 i ⟨512 * (t.val % 11) + j.val, by have := t.isLt; have := j.isLt; (have hN : cfg0.N = 176 := rfl); omega⟩) := by
  have hi := at_4 t
  unfold iblk
  rw [View.read_apply]
  show V m c main_arg4 _ = _
  rw [V_main_arg4]
  congr 1
  funext a
  apply Fin.ext
  match a with
  | ⟨0, _⟩ => show win0_4.index t (0 : Fin 2) * 2048 + 1 * i.val = _; rw [hi.1]; simp [ix2, mul_comm]
  | ⟨1, _⟩ => show win0_4.index t (1 : Fin 2) * 512 + 1 * j.val = _; rw [hi.2]; simp [ix2, mul_comm]

theorem at_5 : ∀ t : Fin cfg0.N, win0_5.index t (0 : Fin 2) = 0 ∧ win0_5.index t (1 : Fin 2) = t.val % 11 :=
  (by decide +kernel : ∀ t : Fin grid0.N, _)
theorem block_5 (c : Dev nD) (t : Fin cfg0.N) (i : Fin 2048) (j : Fin 512) :
    (iblk m c 5 t : Vec F S2048x512 _) (ix2 i j)
      = (m ((c : Thread nD τ).loc main_arg5) : Vec F S2048x5632 _) (ix2 i ⟨512 * (t.val % 11) + j.val, by have := t.isLt; have := j.isLt; (have hN : cfg0.N = 176 := rfl); omega⟩) := by
  have hi := at_5 t
  unfold iblk
  rw [View.read_apply]
  show V m c main_arg5 _ = _
  rw [V_main_arg5]
  congr 1
  funext a
  apply Fin.ext
  match a with
  | ⟨0, _⟩ => show win0_5.index t (0 : Fin 2) * 2048 + 1 * i.val = _; rw [hi.1]; simp [ix2, mul_comm]
  | ⟨1, _⟩ => show win0_5.index t (1 : Fin 2) * 512 + 1 * j.val = _; rw [hi.2]; simp [ix2, mul_comm]

theorem at_6 : ∀ t : Fin cfg0.N, win0_6.index t (0 : Fin 2) = t.val % 11 ∧ win0_6.index t (1 : Fin 2) = 0 :=
  (by decide +kernel : ∀ t : Fin grid0.N, _)
theorem block_6 (c : Dev nD) (t : Fin cfg0.N) (i : Fin 512) (j : Fin 2048) :
    (iblk m c 6 t : Vec F S512x2048 _) (ix2 i j)
      = (m ((c : Thread nD τ).loc main_arg6) : Vec F S5632x2048 _) (ix2 ⟨512 * (t.val % 11) + i.val, by have := t.isLt; have := i.isLt; (have hN : cfg0.N = 176 := rfl); omega⟩ j) := by
  have hi := at_6 t
  unfold iblk
  rw [View.read_apply]
  show V m c main_arg6 _ = _
  rw [V_main_arg6]
  congr 1
  funext a
  apply Fin.ext
  match a with
  | ⟨0, _⟩ => show win0_6.index t (0 : Fin 2) * 512 + 1 * i.val = _; rw [hi.1]; simp [ix2, mul_comm]
  | ⟨1, _⟩ => show win0_6.index t (1 : Fin 2) * 2048 + 1 * j.val = _; rw [hi.2]; simp [ix2, mul_comm]

theorem at_7 : ∀ t : Fin cfg0.N, win0_7.index t (0 : Fin 2) = 0 ∧ win0_7.index t (1 : Fin 2) = 0 :=
  (by decide +kernel : ∀ t : Fin grid0.N, _)
theorem block_7 (c : Dev nD) (t : Fin cfg0.N) (i : Fin 1) (j : Fin 2048) :
    (iblk m c 7 t : Vec F S1x2048 _) (ix2 i j)
      = (V m c main_v0 : Vec F S1x2048 _) (ix2 i j) := by
  have hi := at_7 t
  unfold iblk
  rw [View.read_apply]
  show V m c main_v0 _ = _
  congr 1
  funext a
  apply Fin.ext
  match a with
  | ⟨0, _⟩ => show win0_7.index t (0 : Fin 2) * 1 + 1 * i.val = _; rw [hi.1]; simp [ix2, mul_comm]
  | ⟨1, _⟩ => show win0_7.index t (1 : Fin 2) * 2048 + 1 * j.val = _; rw [hi.2]; simp [ix2, mul_comm]

theorem at_8 : ∀ t : Fin cfg0.N, win0_8.index t (0 : Fin 2) = 0 ∧ win0_8.index t (1 : Fin 2) = 0 :=
  (by decide +kernel : ∀ t : Fin grid0.N, _)
theorem block_8 (c : Dev nD) (t : Fin cfg0.N) (i : Fin 1) (j : Fin 2048) :
    (iblk m c 8 t : Vec F S1x2048 _) (ix2 i j)
      = (V m c main_v1 : Vec F S1x2048 _) (ix2 i j) := by
  have hi := at_8 t
  unfold iblk
  rw [View.read_apply]
  show V m c main_v1 _ = _
  congr 1
  funext a
  apply Fin.ext
  match a with
  | ⟨0, _⟩ => show win0_8.index t (0 : Fin 2) * 1 + 1 * i.val = _; rw [hi.1]; simp [ix2, mul_comm]
  | ⟨1, _⟩ => show win0_8.index t (1 : Fin 2) * 2048 + 1 * j.val = _; rw [hi.2]; simp [ix2, mul_comm]

theorem V_main_v0 (c : Dev nD) (d : Fin 2048) :
    (V m c main_v0 : Vec F S1x2048 .f32) (ix2 0 d) = (m ((c : Thread nD τ).loc main_arg7) : Vec F S2048 .f32) (ix1 d) := by
  have : V m c main_v0 = shapeCast S1x2048 (m ((c : Thread nD τ).loc main_arg7) : Vec F S2048 .f32) shapeCasts_S2048_S1x2048 := by
    rfl
  rw [this]
  pointwise
theorem V_main_v1 (c : Dev nD) (d : Fin 2048) :
    (V m c main_v1 : Vec F S1x2048 .f32) (ix2 0 d) = (m ((c : Thread nD τ).loc main_arg8) : Vec F S2048 .f32) (ix1 d) := by
  have : V m c main_v1 = shapeCast S1x2048 (m ((c : Thread nD τ).loc main_arg8) : Vec F S2048 .f32) shapeCasts_S2048_S1x2048 := by
    rfl
  rw [this]
  pointwise

end Cert.FfnIdeal.Hand
end
-- ==== Proof.Formula.Ffn.lean ====
module

public import Idealize.ShloMosaic.Lib.Pointwise

@[expose] public section

/-! The feed-forward half of the layer as formulas over the extended reals: the modulated row, the gated activation, the
scaled residual and the normalisation of a row. Both the kernel and the reference are read as these. -/

noncomputable section
namespace Cert.Formula
open Idealize.ShloMosaic

/-- One half, as the word of a 32-bit float. -/
def half : EReal := Ideal.ofBits .f32 1056964608#32
/-- The residual's factor. -/
def alpha : EReal := Ideal.ofBits .f32 1068827891#32
/-- The length of a row, 2048. -/
def width : EReal := Ideal.ofBits .f32 1157627904#32
/-- The variance's offset. -/
def offset : EReal := Ideal.ofBits .f32 897988541#32

theorem half_eq : half = ((1 / 2 : ℝ) : EReal) := by
  simp [half, Ideal.ofBits, Ideal.ieee, -EReal.coe_mul]
  norm_num

/-- The logistic function. -/
def sigm (x : EReal) : EReal := Ideal.div 1 (1 + Ideal.exp (-x))

/-- The logistic function by way of the hyperbolic tangent of the half. -/
theorem sigm_of_tanh (x : EReal) : half + half * Ideal.tanh (half * x) = sigm x := by
  rw [half_eq]
  show _ = Ideal.logistic x
  induction x with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one, ← EReal.coe_mul,
      ← EReal.coe_add]
    norm_num
  | coe r =>
    rw [← EReal.coe_mul, Ideal.tanh_coe, Ideal.logistic_coe, ← EReal.coe_mul, ← EReal.coe_add]
    congr 1
    have h : Real.exp (-r) = Real.exp (-(1 / 2 * r)) / Real.exp (1 / 2 * r) := by
      rw [← Real.exp_sub]; congr 1; ring
    rw [Real.tanh_eq_sinh_div_cosh, Real.sinh_eq, Real.cosh_eq, h]
    have := Real.exp_pos (1 / 2 * r)
    have := Real.exp_pos (-(1 / 2 * r))
    field_simp
    ring

/-- A row shifted and scaled. -/
def modulated (x sc sh : Fin 2048 → EReal) : Fin 2048 → EReal := fun d => x d * (1 + sc d) + sh d

/-- The inner product of two rows of 2048. -/
def dot (h w : Fin 2048 → EReal) : EReal := ∑ d, h d * w d

/-- The gated activation of a row: one product through the gate, times the other. -/
def gated (h wg wu : Fin 2048 → EReal) : EReal := dot h wg * sigm (dot h wg) * dot h wu

/-- The residual with half the gated product added. -/
def blended (x ga p : EReal) : EReal := alpha * x + half * ga * p

/-- The mean of a row. -/
def mean (z : Fin 2048 → EReal) : EReal := Ideal.div (∑ d, z d) width

/-- A row normalised to mean nought and variance one, then scaled and shifted. -/
def normed (z : Fin 2048 → EReal) (g b : Fin 2048 → EReal) (d : Fin 2048) : EReal :=
  (z d - mean z) * Ideal.rsqrt (Ideal.div (∑ e, (z e - mean z) * (z e - mean z)) width + offset) * g d + b d

/-- What the feed-forward half is given: the rows of both batches one after another, the shift, scale and gate of each
    batch, the two input weights and the output weight, and the normalisation's scale and shift. -/
structure FfnInputs where
  x : Fin 16384 → Fin 2048 → EReal
  shift : Fin 2 → Fin 2048 → EReal
  scale : Fin 2 → Fin 2048 → EReal
  gate : Fin 2 → Fin 2048 → EReal
  wg : Fin 2048 → Fin 5632 → EReal
  wu : Fin 2048 → Fin 5632 → EReal
  wo : Fin 5632 → Fin 2048 → EReal
  g : Fin 2048 → EReal
  b : Fin 2048 → EReal

namespace FfnInputs
variable (I : FfnInputs)

/-- The batch of a row. -/
def batch (R : Fin 16384) : Fin 2 := ⟨R.val / 8192, by have := R.isLt; omega⟩

/-- A row after the modulation. -/
def row (R : Fin 16384) : Fin 2048 → EReal := modulated (I.x R) (I.scale (batch R)) (I.shift (batch R))

/-- One hidden unit's share in the product of a row. -/
def term (R : Fin 16384) (d : Fin 2048) (f : Fin 5632) : EReal :=
  gated (I.row R) (fun e => I.wg e f) (fun e => I.wu e f) * I.wo f d

/-- The shares of the `j`-th 512 hidden units. -/
def chunk (R : Fin 16384) (d : Fin 2048) (j : ℕ) : EReal :=
  if h : j < 11 then ∑ k : Fin 512, I.term R d ⟨j * 512 + k.val, by have := k.isLt; omega⟩ else 0

/-- The shares of the first `n` chunks. -/
def partialSum (R : Fin 16384) (d : Fin 2048) : ℕ → EReal
  | 0 => 0
  | n + 1 => partialSum R d n + I.chunk R d n

/-- All the hidden units' shares are eleven chunks. -/
theorem partialSum_all (R : Fin 16384) (d : Fin 2048) : I.partialSum R d 11 = ∑ f, I.term R d f := by
  rw [Fin.sum_univ_tiles 11 512 (by norm_num)]
  have h : ∀ j : Fin 11, (∑ k : Fin 512, I.term R d ⟨j.val * 512 + k.val, by have := k.isLt; have := j.isLt; omega⟩) = I.chunk R d j.val := by
    intro j
    rw [chunk, dif_pos j.isLt]
  rw [Finset.sum_congr rfl fun j _ => h j]
  simp only [partialSum, Fin.sum_univ_succ, Fin.sum_univ_zero, zero_add, add_zero]
  simp only [add_assoc]
  rfl

/-- A row before the normalisation. -/
def summed (R : Fin 16384) (d : Fin 2048) : EReal :=
  blended (I.x R d) (I.gate (batch R) d) (∑ f, I.term R d f)

/-- The half's result. -/
def result (R : Fin 16384) (d : Fin 2048) : EReal := normed (I.summed R) I.g I.b d

end FfnInputs

end Cert.Formula
end
-- ==== Proof.FfnIdeal.Payloads.lean ====
module

public import proofs.«01_k».proof.Proof.FfnIdeal.Cases
public import proofs.«01_k».proof.Proof.Formula.Ffn

@[expose] public section

set_option maxRecDepth 16384

noncomputable section
namespace Cert.FfnIdeal.Hand
open Cert.FfnIdeal Cert.FfnIdeal.Gen Cert.Formula Idealize.ShloMosaic Idealize.ShloMosaic.TcCoe Idealize.SL.Sem

/-! The kernel's computations at an index, over the extended reals, as the formulas. -/

variable (x : Vec Ideal S1024x2048 .f32) (sc sh ga : Vec Ideal S1x1x2048 .f32)
variable (w1 w2 : Vec Ideal S2048x512 .bf16) (w3 : Vec Ideal S512x2048 .bf16)
variable (s : Vec Ideal S1024x2048 .bf16) (o : Vec Ideal S1024x2048 .f32) (gv bv : Vec Ideal S1x2048 .f32)

/-- The carried rows are the modulated rows. -/
theorem carried_at (r : Fin 1024) (d : Fin 2048) :
    k0_pay2 x sc sh (ix2 r d)
      = modulated (fun e => x (ix2 r e)) (fun e => sc (ix3 0 0 e)) (fun e => sh (ix3 0 0 e)) d := by
  unfold modulated
  pointwise [k0_pay2, k0_pay1]

/-- One column chunk of the gated activation. -/
theorem act_at (r : Fin 1024) (k : Fin 512) :
    k0_pay6 w1 w2 s (ix2 r k)
      = gated (fun e => s (ix2 r e)) (fun e => w1 (ix2 e k)) (fun e => w2 (ix2 e k)) := by
  unfold gated dot
  rw [← sigm_of_tanh]
  unfold half
  pointwise [k0_pay6]

/-- A later chunk adds its product to the block. -/
theorem later_at (r : Fin 1024) (d : Fin 2048) :
    k0_pay4 w1 w2 w3 s o (ix2 r d)
      = o (ix2 r d) + ∑ k : Fin 512, gated (fun e => s (ix2 r e)) (fun e => w1 (ix2 e k)) (fun e => w2 (ix2 e k)) * w3 (ix2 k d) := by
  unfold gated dot
  simp only [← sigm_of_tanh]
  unfold half
  pointwise [k0_pay4, k0_pay6]

/-- The first chunk's product of the modulated rows. -/
theorem first_at (r : Fin 1024) (d : Fin 2048) :
    k0_pay3 w1 w2 w3 x sc sh (ix2 r d)
      = ∑ k : Fin 512, gated (modulated (fun e => x (ix2 r e)) (fun e => sc (ix3 0 0 e)) (fun e => sh (ix3 0 0 e)))
          (fun e => w1 (ix2 e k)) (fun e => w2 (ix2 e k)) * w3 (ix2 k d) := by
  unfold gated dot modulated
  simp only [← sigm_of_tanh]
  unfold half
  pointwise [k0_pay3, k0_pay1]

section
variable (a : Vec Ideal S1024x512 .bf16) (o' x' z : Vec Ideal S256x2048 .f32)

/-- The rows from 0: the residual with half the gated product. -/
theorem blend0_at (r : Fin 256) (d : Fin 2048) :
    k0_pay7 w1 w2 w3 s o' x' ga (ix2 r d)
      = blended (x' (ix2 r d)) (ga (ix3 0 0 d)) (o' (ix2 r d) + ∑ k : Fin 512, k0_pay6 w1 w2 s (ix2 (⟨r.val, by have := r.isLt; omega⟩ : Fin 1024) k) * w3 (ix2 k d)) := by
  unfold blended alpha half
  pointwise [k0_pay7]

/-- The rows from 256: the residual with half the gated product. -/
theorem blend256_at (r : Fin 256) (d : Fin 2048) :
    k0_pay10 w3 a o' x' ga (ix2 r d)
      = blended (x' (ix2 r d)) (ga (ix3 0 0 d)) (o' (ix2 r d) + ∑ k : Fin 512, a (ix2 (⟨256 + r.val, by have := r.isLt; omega⟩ : Fin 1024) k) * w3 (ix2 k d)) := by
  unfold blended alpha half
  pointwise [k0_pay10]

/-- The rows from 512: the residual with half the gated product. -/
theorem blend512_at (r : Fin 256) (d : Fin 2048) :
    k0_pay13 w3 a o' x' ga (ix2 r d)
      = blended (x' (ix2 r d)) (ga (ix3 0 0 d)) (o' (ix2 r d) + ∑ k : Fin 512, a (ix2 (⟨512 + r.val, by have := r.isLt; omega⟩ : Fin 1024) k) * w3 (ix2 k d)) := by
  unfold blended alpha half
  pointwise [k0_pay13]

/-- The rows from 768: the residual with half the gated product. -/
theorem blend768_at (r : Fin 256) (d : Fin 2048) :
    k0_pay15 w3 a o' x' ga (ix2 r d)
      = blended (x' (ix2 r d)) (ga (ix3 0 0 d)) (o' (ix2 r d) + ∑ k : Fin 512, a (ix2 (⟨768 + r.val, by have := r.isLt; omega⟩ : Fin 1024) k) * w3 (ix2 k d)) := by
  unfold blended alpha half
  pointwise [k0_pay15]

/-- A group of rows normalised. -/
theorem norm0_at (r : Fin 256) (d : Fin 2048) :
    k0_pay9 z (k0_pay8 gv) bv (ix2 r d) = normed (fun e => z (ix2 r e)) (fun e => gv (ix2 0 e)) (fun e => bv (ix2 0 e)) d := by
  unfold normed mean width offset
  pointwise [k0_pay9, k0_pay8]

/-- A group of rows normalised. -/
theorem norm256_at (r : Fin 256) (d : Fin 2048) :
    k0_pay12 z (k0_pay11 gv) bv (ix2 r d) = normed (fun e => z (ix2 r e)) (fun e => gv (ix2 0 e)) (fun e => bv (ix2 0 e)) d := by
  unfold normed mean width offset
  pointwise [k0_pay12, k0_pay11]

/-- A group of rows normalised. -/
theorem norm512_at (r : Fin 256) (d : Fin 2048) :
    k0_pay14 z gv bv (ix2 r d) = normed (fun e => z (ix2 r e)) (fun e => gv (ix2 0 e)) (fun e => bv (ix2 0 e)) d := by
  unfold normed mean width offset
  pointwise [k0_pay14]

/-- A group of rows normalised. -/
theorem norm768_at (r : Fin 256) (d : Fin 2048) :
    k0_pay5 z gv bv (ix2 r d) = normed (fun e => z (ix2 r e)) (fun e => gv (ix2 0 e)) (fun e => bv (ix2 0 e)) d := by
  unfold normed mean width offset
  pointwise [k0_pay5]

end

end Cert.FfnIdeal.Hand
end
-- ==== Proof.FfnIdeal.Result.lean ====
module

public import proofs.«01_k».proof.Proof.FfnIdeal.Blocks
public import proofs.«01_k».proof.Proof.FfnIdeal.Payloads

@[expose] public section

set_option maxRecDepth 16384

noncomputable section
namespace Cert.FfnIdeal.Hand
open Cert.FfnIdeal Cert.FfnIdeal.Gen Cert.Formula Idealize.ShloMosaic Idealize.ShloMosaic.TcCoe Idealize.SL.Sem

/-! The kernel's result array, over the extended reals, is the formulas' result. -/

variable (m : (ℓ : Loc nD τ sig) → Buf (Elt Ideal) ℓ)

/-- What the program is given, as the formulas' inputs. -/
def inputs (c : Dev nD) : FfnInputs where
  x := fun R d => (m ((c : Thread nD τ).loc main_arg0) : Vec Ideal S16384x2048 .f32) (ix2 R d)
  shift := fun b d => (m ((c : Thread nD τ).loc main_arg1) : Vec Ideal S2x1x2048 .f32) (ix3 b 0 d)
  scale := fun b d => (m ((c : Thread nD τ).loc main_arg2) : Vec Ideal S2x1x2048 .f32) (ix3 b 0 d)
  gate := fun b d => (m ((c : Thread nD τ).loc main_arg3) : Vec Ideal S2x1x2048 .f32) (ix3 b 0 d)
  wg := fun d f => (m ((c : Thread nD τ).loc main_arg4) : Vec Ideal S2048x5632 .bf16) (ix2 d f)
  wu := fun d f => (m ((c : Thread nD τ).loc main_arg5) : Vec Ideal S2048x5632 .bf16) (ix2 d f)
  wo := fun f d => (m ((c : Thread nD τ).loc main_arg6) : Vec Ideal S5632x2048 .bf16) (ix2 f d)
  g := fun d => (m ((c : Thread nD τ).loc main_arg7) : Vec Ideal S2048 .f32) (ix1 d)
  b := fun d => (m ((c : Thread nD τ).loc main_arg8) : Vec Ideal S2048 .f32) (ix1 d)

/-- The array's row at place `r` of the row block of point `t`. -/
def rowOf (t : Fin cfg0.N) (r : Fin 1024) : Fin 16384 :=
  ⟨1024 * (t.val / 11) + r.val, by have := t.isLt; have := r.isLt; (have hN : cfg0.N = 176 := rfl); omega⟩

theorem batch_rowOf (t : Fin cfg0.N) (r : Fin 1024) :
    FfnInputs.batch (rowOf t r) = ⟨1 * (t.val / 88) + 0, by have := t.isLt; (have hN : cfg0.N = 176 := rfl); omega⟩ := by
  unfold FfnInputs.batch rowOf
  apply Fin.ext
  show (1024 * (t.val / 11) + r.val) / 8192 = 1 * (t.val / 88) + 0
  have := r.isLt
  omega

/-- The modulated row of the point's inputs. -/
theorem row_at (c : Dev nD) (t : Fin cfg0.N) (r : Fin 1024) :
    modulated (fun e => (iblk m c 0 t : Vec Ideal S1024x2048 .f32) (ix2 r e)) (fun e => (iblk m c 2 t : Vec Ideal S1x1x2048 .f32) (ix3 0 0 e))
        (fun e => (iblk m c 1 t : Vec Ideal S1x1x2048 .f32) (ix3 0 0 e))
      = (inputs m c).row (rowOf t r) := by
  unfold FfnInputs.row
  rw [batch_rowOf]
  simp only [block_0, block_1, block_2]
  rfl

/-- The point's chunk of the hidden units. -/
theorem chunk_at (c : Dev nD) (t : Fin cfg0.N) (r : Fin 1024) (d : Fin 2048) :
    ∑ k : Fin 512, gated ((inputs m c).row (rowOf t r)) (fun e => (iblk m c 4 t : Vec Ideal S2048x512 .bf16) (ix2 e k))
        (fun e => (iblk m c 5 t : Vec Ideal S2048x512 .bf16) (ix2 e k)) * (iblk m c 6 t : Vec Ideal S512x2048 .bf16) (ix2 k d)
      = (inputs m c).chunk (rowOf t r) d (t.val % 11) := by
  unfold FfnInputs.chunk
  rw [dif_pos (by omega)]
  simp only [block_4, block_5, block_6]
  refine Finset.sum_congr rfl fun k _ => ?_
  unfold FfnInputs.term inputs
  simp only [mul_comm (512 : ℕ)]

/-- Up to the step before the last, the carried rows are the modulated rows and the block holds the chunks so far. -/
theorem upto (c : Dev nD) (j : ℕ) : j ≤ 9 → ∀ t : Fin cfg0.N, t.val % 11 = j →
    (∀ (r : Fin 1024) (d : Fin 2048), (outsAt0 m c t.val t.isLt).2 (ix2 r d) = (inputs m c).row (rowOf t r) d)
    ∧ (∀ (r : Fin 1024) (d : Fin 2048), (outsAt0 m c t.val t.isLt).1 (ix2 r d) = (inputs m c).partialSum (rowOf t r) d (j + 1)) := by
  induction j with
  | zero =>
    intro _ t ht
    rw [outs_first m c t ht]
    refine ⟨fun r d => ?_, fun r d => ?_⟩
    · exact (carried_at _ _ _ r d).trans (congrFun (row_at m c t r) d)
    · refine (first_at _ _ _ _ _ _ r d).trans ?_
      rw [row_at, chunk_at, ht]
      show _ = 0 + _
      rw [zero_add]
  | succ j ih =>
    intro hj t ht
    have hN : cfg0.N = 176 := rfl
    have htl := t.isLt
    obtain ⟨h1, h2⟩ := ih (by omega) ⟨t.val - 1, by omega⟩ (by show (t.val - 1) % 11 = j; omega)
    have hrow : ∀ r, rowOf ⟨t.val - 1, by omega⟩ r = rowOf t r := fun r => by
      unfold rowOf; apply Fin.ext; show 1024 * ((t.val - 1) / 11) + r.val = 1024 * (t.val / 11) + r.val; omega
    simp only [hrow] at h1 h2
    rw [outs_mid m c t (by omega)]
    refine ⟨h1, fun r d => ?_⟩
    refine (later_at _ _ _ _ _ r d).trans ?_
    simp only [h1, h2]
    have := chunk_at m c t r d
    rw [ht] at this
    exact congrArg₂ (· + ·) rfl this

theorem mem_quarter (q : ℕ) (hq : q ≤ 768) (r : Fin 1024) (d : Fin 2048) :
    (ix2 r d : S1024x2048.Idx) ∈ (quarter q hq).set ↔ q ≤ r.val ∧ r.val < q + 256 := by
  rw [Rect.mem_set_unit]
  constructor
  · intro h; exact h 0
  · intro h a; match a with
    | ⟨0, _⟩ => exact h
    | ⟨1, _⟩ => exact ⟨Nat.zero_le _, (Nat.zero_add 2048).symm ▸ d.isLt⟩

theorem quarter_emb (q : ℕ) (hq : q ≤ 768) (r : Fin 1024) (d : Fin 2048) (r' : Fin 256) (h : r.val = q + r'.val) :
    (ix2 r d : S1024x2048.Idx) = (quarter q hq).emb (ix2 r' d : S256x2048.Idx) := by
  funext a; apply Fin.ext
  match a with
  | ⟨0, _⟩ => show r.val = q + 1 * r'.val; omega
  | ⟨1, _⟩ => show d.val = 0 + 1 * d.val; omega

theorem ld_quarter (X : Vec Ideal S1024x2048 .f32) (q : ℕ) (hq : q ≤ 768) (r' : Fin 256) (d : Fin 2048) :
    View.ld X (quarter q hq) (ix2 r' d : S256x2048.Idx) = X (ix2 ⟨q + r'.val, by have := r'.isLt; omega⟩ d) :=
  congrArg X (funext fun a => Fin.ext (by
    match a with
    | ⟨0, _⟩ => show q + 1 * r'.val = q + r'.val; omega
    | ⟨1, _⟩ => show 0 + 1 * d.val = d.val; omega))

/-- The last step leaves the result's rows in the block. -/
theorem last_at (c : Dev nD) (t : Fin cfg0.N) (ht : t.val % 11 = 10) (r : Fin 1024) (d : Fin 2048) :
    (outsAt0 m c t.val t.isLt).1 (ix2 r d) = (inputs m c).result (rowOf t r) d := by
  have hN : cfg0.N = 176 := rfl
  have htl := t.isLt
  obtain ⟨h1, h2⟩ := upto m c 9 le_rfl ⟨t.val - 1, by omega⟩ (by show (t.val - 1) % 11 = 9; omega)
  have hrow : ∀ r, rowOf ⟨t.val - 1, by omega⟩ r = rowOf t r := fun r => by
    unfold rowOf; apply Fin.ext; show 1024 * ((t.val - 1) / 11) + r.val = 1024 * (t.val / 11) + r.val; omega
  simp only [hrow] at h1 h2
  have hsum : ∀ (R : Fin 1024) (e : Fin 2048),
      blended ((iblk m c 0 t : Vec Ideal S1024x2048 .f32) (ix2 R e)) ((iblk m c 3 t : Vec Ideal S1x1x2048 .f32) (ix3 0 0 e))
        ((outsAt0 m c (t.val - 1) (by omega)).1 (ix2 R e) + ∑ k : Fin 512, k0_pay6 (iblk m c 4 t) (iblk m c 5 t) (outsAt0 m c (t.val - 1) (by omega)).2 (ix2 R k)
          * (iblk m c 6 t : Vec Ideal S512x2048 .bf16) (ix2 k e))
      = (inputs m c).summed (rowOf t R) e := by
    intro R e
    have hc := chunk_at m c t R e
    rw [ht] at hc
    unfold FfnInputs.summed
    rw [batch_rowOf, ← FfnInputs.partialSum_all]
    show _ = blended _ _ ((inputs m c).partialSum (rowOf t R) e 10 + (inputs m c).chunk (rowOf t R) e 10)
    rw [← hc, ← h2]
    simp only [act_at, h1]
    rw [block_0, block_3]
    rfl
  have hnorm : ∀ (z : Fin 2048 → EReal) (R : Fin 1024), (∀ e, z e = (inputs m c).summed (rowOf t R) e) →
      normed z (fun e => (iblk m c 7 t : Vec Ideal S1x2048 .f32) (ix2 0 e)) (fun e => (iblk m c 8 t : Vec Ideal S1x2048 .f32) (ix2 0 e)) d
        = (inputs m c).result (rowOf t R) d := by
    intro z R hz
    rw [show z = (inputs m c).summed (rowOf t R) from funext hz]
    unfold FfnInputs.result
    rw [show (fun e => (iblk m c 7 t : Vec Ideal S1x2048 .f32) (ix2 0 e)) = (inputs m c).g from
        funext fun e => (block_7 m c t 0 e).trans (V_main_v0 m c e),
      show (fun e => (iblk m c 8 t : Vec Ideal S1x2048 .f32) (ix2 0 e)) = (inputs m c).b from
        funext fun e => (block_8 m c t 0 e).trans (V_main_v1 m c e)]
  rw [outs_last m c t ht]
  have hr := r.isLt
  by_cases c3 : 768 ≤ r.val
  · rw [quarter_emb 768 (by omega) r d ⟨r.val - 768, by omega⟩ (by show r.val = 768 + (r.val - 768); omega)]
    refine (View.canon_cons_emb _ _ _ _).trans ?_
    refine (norm768_at _ _ _ _ _).trans (hnorm _ r fun e => ?_)
    refine (blend768_at _ _ _ _ _ _ _).trans ?_
    rw [ld_quarter, ld_quarter, ← hsum r e]
    simp only [show 768 + (r.val - 768) = r.val by omega]
  rw [View.canon_cons_of_not_mem _ _ (by rw [mem_quarter 768 (by omega)]; omega)]
  by_cases c2 : 512 ≤ r.val
  · rw [quarter_emb 512 (by omega) r d ⟨r.val - 512, by omega⟩ (by show r.val = 512 + (r.val - 512); omega)]
    refine (View.canon_cons_emb _ _ _ _).trans ?_
    refine (norm512_at _ _ _ _ _).trans (hnorm _ r fun e => ?_)
    refine (blend512_at _ _ _ _ _ _ _).trans ?_
    rw [ld_quarter, ld_quarter, ← hsum r e]
    simp only [show 512 + (r.val - 512) = r.val by omega]
  rw [View.canon_cons_of_not_mem _ _ (by rw [mem_quarter 512 (by omega)]; omega)]
  by_cases c1 : 256 ≤ r.val
  · rw [quarter_emb 256 (by omega) r d ⟨r.val - 256, by omega⟩ (by show r.val = 256 + (r.val - 256); omega)]
    refine (View.canon_cons_emb _ _ _ _).trans ?_
    refine (norm256_at _ _ _ _ _).trans (hnorm _ r fun e => ?_)
    refine (blend256_at _ _ _ _ _ _ _).trans ?_
    rw [ld_quarter, ld_quarter, ← hsum r e]
    simp only [show 256 + (r.val - 256) = r.val by omega]
  rw [View.canon_cons_of_not_mem _ _ (by rw [mem_quarter 256 (by omega)]; omega)]
  rw [quarter_emb 0 (by omega) r d ⟨r.val, by omega⟩ (by show r.val = 0 + r.val; omega)]
  refine (View.canon_cons_emb _ _ _ _).trans ?_
  refine (norm0_at _ _ _ _ _).trans (hnorm _ r fun e => ?_)
  refine (blend0_at _ _ _ _ _ _ _ _ _).trans ?_
  rw [ld_quarter, ld_quarter, ← hsum r e]
  simp only [Nat.zero_add]

/-- The array the run leaves, at row `R` and column `d`, is the formulas' result. -/
theorem result_at (c : Dev nD) (R : Fin 16384) (d : Fin 2048) :
    (Value.G9 m c : Vec Ideal S16384x2048 .f32) (ix2 R d) = (inputs m c).result R d := by
  have hN : cfg0.N = 176 := rfl
  have hR := R.isLt
  have hd := d.isLt
  have hp : Value.pt9Of (ix2 R d) = 11 * (R.val / 1024) + 10 := by
    show 11 * (1 * (R.val / 1024 - 0) + 1 * (d.val / 2048 - 0)) + 10 = _
    omega
  unfold Value.G9
  rw [dif_pos (by rw [hp]; omega)]
  rw [← Value.outsAt0_sweep m c _ (by rw [hp]; omega)]
  have hl : Value.loc9Of (ix2 R d) = (ix2 (⟨R.val % 1024, by omega⟩ : Fin 1024) d : S1024x2048.Idx) := by
    funext a; apply Fin.ext
    match a with
    | ⟨0, _⟩ => rfl
    | ⟨1, _⟩ => show d.val % 2048 = d.val; omega
  rw [hl]
  refine (last_at m c ⟨Value.pt9Of (ix2 R d), by rw [hp]; omega⟩ (by show Value.pt9Of (ix2 R d) % 11 = 10; rw [hp]; omega) _ d).trans ?_
  congr 1
  unfold rowOf; apply Fin.ext
  show 1024 * (Value.pt9Of (ix2 R d) / 11) + R.val % 1024 = R.val
  rw [hp]; omega

end Cert.FfnIdeal.Hand
end
-- ==== Proof.RefFfnIdeal.Result.lean ====
module

public import proofs.«01_k».proof.Proof.Gen.RefFfnIdeal.Read
public import proofs.«01_k».proof.Proof.Formula.Ffn

@[expose] public section

set_option maxRecDepth 16384

noncomputable section
namespace Cert.RefFfnIdeal.Hand
open Cert.RefFfnIdeal Cert.RefFfnIdeal.Read Cert.Formula Idealize.ShloMosaic Idealize.ShloMosaic.TcCoe Idealize.SL.Sem

/-! The reference's result array, over the extended reals, is the formulas' result. -/

variable (m : (ℓ : Loc nD τ sig) → Buf (Elt Ideal) ℓ)

/-- What the program is given, as the formulas' inputs. -/
def inputs (c : Dev nD) : FfnInputs where
  x := fun R d => (m ((c : Thread nD τ).loc main_arg0) : Vec Ideal S16384x2048 .f32) (ix2 R d)
  shift := fun b d => (m ((c : Thread nD τ).loc main_arg1) : Vec Ideal S2x1x2048 .f32) (ix3 b 0 d)
  scale := fun b d => (m ((c : Thread nD τ).loc main_arg2) : Vec Ideal S2x1x2048 .f32) (ix3 b 0 d)
  gate := fun b d => (m ((c : Thread nD τ).loc main_arg3) : Vec Ideal S2x1x2048 .f32) (ix3 b 0 d)
  wg := fun d f => (m ((c : Thread nD τ).loc main_arg4) : Vec Ideal S2048x5632 .bf16) (ix2 d f)
  wu := fun d f => (m ((c : Thread nD τ).loc main_arg5) : Vec Ideal S2048x5632 .bf16) (ix2 d f)
  wo := fun f d => (m ((c : Thread nD τ).loc main_arg6) : Vec Ideal S5632x2048 .bf16) (ix2 f d)
  g := fun d => (m ((c : Thread nD τ).loc main_arg7) : Vec Ideal S2048 .f32) (ix1 d)
  b := fun d => (m ((c : Thread nD τ).loc main_arg8) : Vec Ideal S2048 .f32) (ix1 d)

variable (x0 : Vec Ideal S16384x2048 .f32) (x1 x2 x3 : Vec Ideal S2x1x2048 .f32) (x4 x5 : Vec Ideal S2048x5632 .bf16)
variable (x6 : Vec Ideal S5632x2048 .bf16) (x7 x8 : Vec Ideal S2048 .f32)

/-- The row of both batches that is row `t` of batch `b`. -/
def rowOf (b : Fin 2) (t : Fin 8192) : Fin 16384 := ⟨b.val * 8192 + t.val, by have := b.isLt; have := t.isLt; omega⟩

/-- The formulas' inputs, of arrays. -/
def ofArrays : FfnInputs where
  x := fun R d => x0 (ix2 R d)
  shift := fun b d => x1 (ix3 b 0 d)
  scale := fun b d => x2 (ix3 b 0 d)
  gate := fun b d => x3 (ix3 b 0 d)
  wg := fun d f => x4 (ix2 d f)
  wu := fun d f => x5 (ix2 d f)
  wo := fun f d => x6 (ix2 f d)
  g := fun d => x7 (ix1 d)
  b := fun d => x8 (ix1 d)

theorem batch_rowOf (b : Fin 2) (t : Fin 8192) : FfnInputs.batch (rowOf b t) = b := by
  unfold FfnInputs.batch rowOf; apply Fin.ext; show (b.val * 8192 + t.val) / 8192 = b.val; have := t.isLt; omega

/-- The modulated rows. -/
theorem row_at (b : Fin 2) (t : Fin 8192) (d : Fin 2048) :
    val_main_v6 (F := Ideal) x0 x1 x2 (ix3 b t d) = (ofArrays x0 x1 x2 x3 x4 x5 x6 x7 x8).row (rowOf b t) d := by
  unfold FfnInputs.row modulated
  rw [batch_rowOf]
  unfold ofArrays rowOf
  pointwise [val_main_v6, val_main_v5, val_main_v4, val_main_v3, val_main_v2, val_main_v1, val_main_v0, val_main_cst]

/-- The gated activation. -/
theorem act_at (b : Fin 2) (t : Fin 8192) (f : Fin 5632) :
    val_main_v12 (F := Ideal) x0 x1 x2 x4 x5 (ix3 b t f)
      = gated ((ofArrays x0 x1 x2 x3 x4 x5 x6 x7 x8).row (rowOf b t)) (fun e => x4 (ix2 e f)) (fun e => x5 (ix2 e f)) := by
  unfold gated dot sigm
  simp only [← row_at]
  pointwise [val_main_v12, val_main_v8, val_main_v10, val_main_v7, val_main_v9, val_main_v11, val_main_call0_v0, val_main_call0_v1,
    val_main_call0_v2, val_main_call0_v3, val_main_call0_v4, val_main_call0_v5, val_main_call0_cst, val_main_call0_cst_0]

/-- The rows before the normalisation. -/
theorem summed_at (b : Fin 2) (t : Fin 8192) (d : Fin 2048) :
    val_main_v21 (F := Ideal) x0 x1 x2 x3 x4 x5 x6 (ix3 b t d) = (ofArrays x0 x1 x2 x3 x4 x5 x6 x7 x8).summed (rowOf b t) d := by
  have h0 : val_main_v0 (F := Ideal) x0 (ix3 b t d) = x0 (ix2 (rowOf b t) d) := by
    unfold rowOf
    pointwise [val_main_v0]
  unfold FfnInputs.summed blended FfnInputs.term
  rw [batch_rowOf]
  simp only [show (ofArrays x0 x1 x2 x3 x4 x5 x6 x7 x8).wg = fun d f => x4 (ix2 d f) from rfl, show (ofArrays x0 x1 x2 x3 x4 x5 x6 x7 x8).wu = fun d f => x5 (ix2 d f) from rfl]
  simp only [← act_at]
  show _ = alpha * x0 (ix2 (rowOf b t) d) + half * x3 (ix3 b 0 d) * ∑ f, val_main_v12 (F := Ideal) x0 x1 x2 x4 x5 (ix3 b t f) * x6 (ix2 f d)
  rw [← h0]
  unfold alpha half
  pointwise [val_main_v21, val_main_v20, val_main_v19, val_main_v18, val_main_v17, val_main_v16, val_main_v15, val_main_v14, val_main_v13,
    val_main_cst_0, val_main_cst_1]

/-- The rows after it. -/
theorem normed_at (b : Fin 2) (t : Fin 8192) (d : Fin 2048) :
    val_main_v45 (F := Ideal) x0 x1 x2 x3 x4 x5 x6 x7 x8 (ix3 b t d) = (ofArrays x0 x1 x2 x3 x4 x5 x6 x7 x8).result (rowOf b t) d := by
  unfold FfnInputs.result normed mean
  simp only [← summed_at]
  show _ = (_ : EReal) * _ * x7 (ix1 d) + x8 (ix1 d)
  unfold width offset
  pointwise [val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28,
    val_main_v27, val_main_v26, val_main_v25, val_main_v24, val_main_v23, val_main_v22, val_main_cst_2, val_main_cst_3, val_main_cst_4,
    val_main_cst_5, val_main_cst_6]

/-- The array the run leaves, at row `R` and column `d`. -/
theorem result_at (c : Dev nD) (R : Fin 16384) (d : Fin 2048) :
    (Value.res_main_v46 m c : Vec Ideal S16384x2048 .f32) (ix2 R d) = (inputs m c).result R d := by
  have hR := R.isLt
  have hx : rowOf ⟨R.val / 8192, by omega⟩ ⟨R.val % 8192, by omega⟩ = R := by
    unfold rowOf; apply Fin.ext; show R.val / 8192 * 8192 + R.val % 8192 = R.val; omega
  rw [val_main_v46_eq]
  refine Eq.trans ?_ ((normed_at _ _ _ _ _ _ _ _ _ ⟨R.val / 8192, by omega⟩ ⟨R.val % 8192, by omega⟩ d).trans (by rw [hx]; rfl))
  pointwise [val_main_v46]

end Cert.RefFfnIdeal.Hand
end
-- ==== Proof.Claims.Ffn.lean ====
module

public import proofs.«01_k».proof.Defs
public import proofs.«01_k».proof.Proof.Gen.FfnIdeal
public import proofs.«01_k».proof.Proof.Gen.RefFfnIdeal
public import proofs.«01_k».proof.Proof.Gen.RefFfnIdeal.Run
public import proofs.«01_k».proof.Proof.FfnIdeal.Result
public import proofs.«01_k».proof.Proof.RefFfnIdeal.Result
public import Idealize.ShloMosaic.Adequacy
public import Idealize.ShloMosaic.Init

@[expose] public section

noncomputable section
namespace Cert.Claims
open Idealize.ShloMosaic Idealize.SL.Sem

/-- The feed-forward half: from the same arguments, over the extended reals, the kernel and the reference end with the
    same array. -/
theorem ffn_algebraic : Cert.algebraic_FfnIdeal_RefFfnIdeal := by
  pair_intro
  · run_from Cert.FfnIdeal.Value.run m g
  · run_from Cert.RefFfnIdeal.Value.run m' g'
    obtain ⟨e0, e1, e2, e3, e4, e5, e6, e7, e8⟩ := hagree c
    have hin : Cert.RefFfnIdeal.Hand.inputs m' c = Cert.FfnIdeal.Hand.inputs m c := by
      unfold Cert.RefFfnIdeal.Hand.inputs Cert.FfnIdeal.Hand.inputs
      rw [e0, e1, e2, e3, e4, e5, e6, e7, e8]
    funext i
    obtain ⟨R, d, rfl⟩ : ∃ (R : Fin 16384) (d : Fin 2048), i = (ix2 R d : Cert.RefFfnIdeal.S16384x2048.Idx) :=
      ⟨i 0, i 1, funext fun a => match a with | ⟨0, _⟩ => rfl | ⟨1, _⟩ => rfl⟩
    refine (Cert.RefFfnIdeal.Hand.result_at m' c R d).trans ?_
    rw [hin]
    exact (Cert.FfnIdeal.Hand.result_at m c R d).symm

end Cert.Claims
end
-- ==== Proof.Formula.Scan.lean ====
module

public import proofs.«01_k».proof.Proof.Formula.Ffn

@[expose] public section

/-! The gated linear recurrence of the layer as formulas over the extended reals: the short convolution, the two gates, the
decay and the gated input of a row, the recurrence along a sequence, and the law that lets eight steps be combined in
three rounds. Both the kernels and the references are read as these. -/

noncomputable section
namespace Cert.Formula
open Idealize.ShloMosaic

/-- Minus eight. -/
def negEight : EReal := Ideal.ofBits .f32 3238002688#32
/-- Two. -/
def two : EReal := Ideal.ofBits .f32 1073741824#32

theorem negEight_eq : negEight = ((-8 : ℝ) : EReal) := by
  simp [negEight, Ideal.ofBits, Ideal.ieee, -EReal.coe_mul]
  norm_num

theorem two_eq : two = ((2 : ℝ) : EReal) := by
  simp [two, Ideal.ofBits, Ideal.ieee, -EReal.coe_mul]
  norm_num

theorem sigm_nonneg (x : EReal) : 0 ≤ sigm x := by
  show 0 ≤ Ideal.logistic x
  induction x with
  | bot => rw [Ideal.logistic_bot]
  | top => rw [Ideal.logistic_top]; exact zero_le_one
  | coe r =>
    rw [Ideal.logistic_coe]
    exact_mod_cast (by positivity : (0 : ℝ) ≤ (1 + Real.exp (-r))⁻¹)

/-- The logarithm of one plus the exponential of minus `l`, by its larger part. -/
def softplusNeg (l : EReal) : EReal := max (-l) 0 + Ideal.log (1 + Ideal.exp (-(max l (-l))))

theorem exp_nonneg (x : EReal) : 0 ≤ Ideal.exp x := by
  induction x with
  | bot => exact le_refl _
  | top => exact le_top
  | coe r => exact EReal.coe_nonneg.mpr (Real.exp_pos r).le

theorem log_nonneg (x : EReal) (h : 0 ≤ x) : 0 ≤ Ideal.log (1 + x) := by
  induction x with
  | bot => exact absurd h (by simp)
  | top => rw [show (1 : EReal) + ⊤ = ⊤ from EReal.add_top_of_ne_bot (by decide)]; exact le_top
  | coe r =>
    have hr : (0 : ℝ) ≤ r := by exact_mod_cast h
    rw [← EReal.coe_one, ← EReal.coe_add]
    show 0 ≤ (if 1 + r ≤ 0 then (⊥ : EReal) else (Real.log (1 + r) : EReal))
    rw [if_neg (by linarith)]
    exact_mod_cast Real.log_nonneg (by linarith)

theorem softplusNeg_nonneg (l : EReal) : 0 ≤ softplusNeg l :=
  add_nonneg (le_max_right _ _) (log_nonneg _ (exp_nonneg _))

/-- The logarithm of a row's decay. -/
def logDecay (l r : EReal) : EReal := negEight * softplusNeg l * sigm r

theorem logDecay_nonpos (l r : EReal) : logDecay l r ≤ 0 := by
  unfold logDecay
  have h1 : negEight * softplusNeg l ≤ 0 :=
    EReal.mul_nonpos_iff.mpr (Or.inr ⟨by rw [negEight_eq]; exact_mod_cast (by norm_num : (-8 : ℝ) ≤ 0), softplusNeg_nonneg l⟩)
  exact EReal.mul_nonpos_iff.mpr (Or.inr ⟨h1, sigm_nonneg r⟩)

/-- The factor of a step: nought or more and finite. -/
def Good (a : EReal) : Prop := 0 ≤ a ∧ a ≠ ⊤

theorem good_exp (x : EReal) (h : x ≤ 0) : Good (Ideal.exp x) := by
  refine ⟨exp_nonneg x, ?_⟩
  induction x with
  | bot => exact EReal.zero_ne_top
  | top => exact absurd h (by simp)
  | coe r => exact EReal.coe_ne_top _

theorem good_one : Good 1 := ⟨zero_le_one, by decide⟩

theorem good_mul {a b : EReal} (ha : Good a) (hb : Good b) : Good (a * b) := by
  obtain ⟨ha0, hat⟩ := ha
  obtain ⟨hb0, hbt⟩ := hb
  lift a to ℝ using ⟨hat, fun h => absurd ha0 (by rw [h]; simp)⟩
  lift b to ℝ using ⟨hbt, fun h => absurd hb0 (by rw [h]; simp)⟩
  refine ⟨?_, by rw [← EReal.coe_mul]; exact EReal.coe_ne_top _⟩
  rw [← EReal.coe_mul]
  have : 0 ≤ a := by exact_mod_cast ha0
  have : 0 ≤ b := by exact_mod_cast hb0
  exact_mod_cast mul_nonneg ‹0 ≤ a› ‹0 ≤ b›

/-- The gated input's factor, one way and the other. -/
theorem one_sub_sq (x : EReal) : 1 - Ideal.exp x * Ideal.exp x = -Ideal.expm1 (two * x) := by
  rw [two_eq]
  unfold Ideal.expm1
  induction x with
  | bot =>
    rw [EReal.coe_mul_bot_of_pos (by norm_num)]
    show (1 : EReal) - 0 * 0 = -(0 - 1)
    simp
  | top =>
    rw [EReal.coe_mul_top_of_pos (by norm_num)]
    show (1 : EReal) - ⊤ * ⊤ = -(⊤ - 1)
    rw [EReal.top_mul_top, ← EReal.coe_one, EReal.top_sub_coe]
    rfl
  | coe r =>
    rw [← EReal.coe_mul]
    show (1 : EReal) - (Real.exp r : EReal) * (Real.exp r : EReal) = -((Real.exp (2 * r) : EReal) - 1)
    rw [← EReal.coe_mul, ← Real.exp_add, ← two_mul, ← EReal.coe_one, ← EReal.coe_sub, ← EReal.coe_sub, ← EReal.coe_neg]
    congr 1
    ring

/-! ## Steps and their combination -/

/-- One step: the state times the first, plus the second. -/
def step (p : EReal × EReal) (h : EReal) : EReal := p.2 + p.1 * h

/-- Two steps as one, the second given first. -/
def comb (p q : EReal × EReal) : EReal × EReal := (p.1 * q.1, p.2 + p.1 * q.2)

/-- The step that changes nothing. -/
def stay : EReal × EReal := (1, 0)

theorem step_stay (h : EReal) : step stay h = h := by simp [step, stay]

theorem step_comb (p q : EReal × EReal) (h : EReal) (hp : Good p.1) : step (comb p q) h = step p (step q h) := by
  unfold step comb
  rw [EReal.left_distrib_of_nonneg_of_ne_top hp.1 hp.2, mul_assoc, add_assoc]

/-- The steps of eight rows after the rounds that reach back 1, 2 and 4 rows. -/
def reach (s : ℕ) (f : ℕ → EReal × EReal) (j : ℕ) : EReal × EReal := comb (f j) (if s ≤ j then f (j - s) else stay)

theorem reach_good (s : ℕ) (f : ℕ → EReal × EReal) (hf : ∀ j, Good (f j).1) (j : ℕ) : Good (reach s f j).1 := by
  unfold reach comb
  refine good_mul (hf j) ?_
  split
  · exact hf _
  · exact good_one

/-- The state after `n` steps from `h`. -/
def walkFrom (f : ℕ → EReal × EReal) (h : EReal) : ℕ → EReal
  | 0 => h
  | n + 1 => step (f n) (walkFrom f h n)

theorem walkFrom_add (f : ℕ → EReal × EReal) (h : EReal) (m n : ℕ) :
    walkFrom f h (m + n) = walkFrom (fun j => f (m + j)) (walkFrom f h m) n := by
  induction n with
  | zero => rfl
  | succ n ih => show step (f (m + n)) (walkFrom f h (m + n)) = _; rw [ih]; rfl

/-- Three rounds over eight rows are the eight steps in order. -/
theorem rounds_eq (f : ℕ → EReal × EReal) (hf : ∀ j, Good (f j).1) (h : EReal) (j : ℕ) (hj : j < 8) :
    step (reach 4 (reach 2 (reach 1 f)) j) h = walkFrom f h (j + 1) := by
  have h1 := reach_good 1 f hf
  have h2 := reach_good 2 _ h1
  have e1 : ∀ j x, step (reach 1 f j) x = step (f j) (step (if 1 ≤ j then f (j - 1) else stay) x) := fun j x => step_comb _ _ _ (hf j)
  have e2 : ∀ j x, step (reach 2 (reach 1 f) j) x = step (reach 1 f j) (step (if 2 ≤ j then reach 1 f (j - 2) else stay) x) :=
    fun j x => step_comb _ _ _ (h1 j)
  have e4 : ∀ j x, step (reach 4 (reach 2 (reach 1 f)) j) x
      = step (reach 2 (reach 1 f) j) (step (if 4 ≤ j then reach 2 (reach 1 f) (j - 4) else stay) x) :=
    fun j x => step_comb _ _ _ (h2 j)
  interval_cases j <;> simp [e1, e2, e4, step_stay, walkFrom]

/-! ## The layer's recurrence -/

/-- What a scan is given: the rows of both sequences one after another, the convolution's taps and bias, the weights and
    biases of the two gates (one square of weights per head), the decay parameter, and the state each sequence begins with. -/
structure ScanInputs where
  x : Fin 16384 → Fin 1024 → EReal
  taps : Fin 4 → Fin 1024 → EReal
  cb : Fin 1024 → EReal
  wr : Fin 4 → Fin 256 → Fin 256 → EReal
  br : Fin 1024 → EReal
  wi : Fin 4 → Fin 256 → Fin 256 → EReal
  bi : Fin 1024 → EReal
  lam : Fin 1024 → EReal
  h0 : Fin 2 → Fin 1024 → EReal

/-- The head of a column. -/
def head (d : Fin 1024) : Fin 4 := ⟨d.val / 256, by have := d.isLt; omega⟩
/-- The place of a column in its head. -/
def place (d : Fin 1024) : Fin 256 := ⟨d.val % 256, by omega⟩
/-- The column at a place of a head. -/
def column (h : Fin 4) (j : Fin 256) : Fin 1024 := ⟨h.val * 256 + j.val, by have := h.isLt; have := j.isLt; omega⟩

theorem head_column (h : Fin 4) (j : Fin 256) : head (column h j) = h := by
  apply Fin.ext; show (h.val * 256 + j.val) / 256 = h.val; have := j.isLt; omega
theorem place_column (h : Fin 4) (j : Fin 256) : place (column h j) = j := by
  apply Fin.ext; show (h.val * 256 + j.val) % 256 = j.val; have := j.isLt; omega

/-- The convolution of four rows. -/
def conv4 (t0 t1 t2 t3 cb p0 p1 p2 p3 : EReal) : EReal := t0 * p0 + t1 * p1 + t2 * p2 + t3 * p3 + cb

/-- A gate before its logistic: the inner product over a head plus the bias. -/
def gateArg {n : ℕ} (v w : Fin n → EReal) (b : EReal) : EReal := (∑ i, v i * w i) + b

/-- A gate's argument with its products written the other way round. -/
theorem gateArg_comm {n : ℕ} (v w : Fin n → EReal) (b : EReal) : gateArg v w b = (∑ i, w i * v i) + b := by
  unfold gateArg
  simp only [mul_comm]

/-- The gated input. -/
def gatedInput (a g x : EReal) : EReal := Ideal.sqrt (1 - a * a) * (sigm g * x)

namespace ScanInputs
variable (I : ScanInputs)

/-- The rows of sequence `b` with two rows of noughts before them and noughts after. -/
def padded (b : Fin 2) (s : ℕ) (d : Fin 1024) : EReal :=
  if h : 2 ≤ s ∧ s < 8194 then I.x ⟨b.val * 8192 + (s - 2), by have := b.isLt; omega⟩ d else 0

/-- The convolution at row `t`. -/
def conv (b : Fin 2) (t : ℕ) (d : Fin 1024) : EReal :=
  conv4 (I.taps 0 d) (I.taps 1 d) (I.taps 2 d) (I.taps 3 d) (I.cb d) (I.padded b t d) (I.padded b (1 + t) d) (I.padded b (2 + t) d) (I.padded b (3 + t) d)

/-- The recurrence gate before its logistic. -/
def recArg (b : Fin 2) (t : ℕ) (d : Fin 1024) : EReal :=
  gateArg (fun i => I.conv b t (column (head d) i)) (fun i => I.wr (head d) i (place d)) (I.br d)

/-- The input gate before its logistic. -/
def inArg (b : Fin 2) (t : ℕ) (d : Fin 1024) : EReal :=
  gateArg (fun i => I.conv b t (column (head d) i)) (fun i => I.wi (head d) i (place d)) (I.bi d)

/-- The decay at row `t`. -/
def coef (b : Fin 2) (t : ℕ) (d : Fin 1024) : EReal := Ideal.exp (logDecay (I.lam d) (I.recArg b t d))

/-- The gated input at row `t`. -/
def input (b : Fin 2) (t : ℕ) (d : Fin 1024) : EReal := gatedInput (I.coef b t d) (I.inArg b t d) (I.conv b t d)

theorem coef_good (b : Fin 2) (t : ℕ) (d : Fin 1024) : Good (I.coef b t d) := good_exp _ (logDecay_nonpos _ _)

/-- The `n`-th step of sequence `b` forward in time. -/
def stepFwd (b : Fin 2) (d : Fin 1024) (n : ℕ) : EReal × EReal := (I.coef b n d, I.input b n d)

/-- The `n`-th step of sequence `b` backward in time. -/
def stepBwd (b : Fin 2) (d : Fin 1024) (n : ℕ) : EReal × EReal := (I.coef b (8191 - n) d, I.input b (8191 - n) d)

/-- The state at row `t` going forward. -/
def stateFwd (b : Fin 2) (t : ℕ) (d : Fin 1024) : EReal := walkFrom (I.stepFwd b d) (I.h0 b d) (t + 1)

/-- The state at row `t` going backward. -/
def stateBwd (b : Fin 2) (t : ℕ) (d : Fin 1024) : EReal := walkFrom (I.stepBwd b d) (I.h0 b d) (8192 - t)

end ScanInputs

end Cert.Formula
end
-- ==== Proof.ScanBwdIdeal.Value.lean ====
module

public import proofs.«01_k».proof.Proof.ScanBwdIdeal.Body
public import proofs.«01_k».proof.Proof.Formula.Scan
public import Idealize.ShloMosaic.Lib.Pointwise

@[expose] public section

set_option maxRecDepth 16384

noncomputable section

namespace Cert.ScanBwdIdeal.Hand

open Cert.ScanBwdIdeal.Gen Cert.Formula
open Idealize.ShloMosaic Idealize.ShloMosaic.TcCoe Idealize.ShloMosaic.Tactic
open Idealize.SL.Sem

/-! What one block's convolution, gates, decays and gated inputs are, entry by entry, over the extended reals. -/

variable (i : grid0.Coords) (X : Blk Ideal)

/-- The decay of a unit recurrence gate. -/
theorem decay_at (d : Fin 1024) : (part4 i X : Vec Ideal S1x1024 .f32) (ix2 0 d) = negEight * softplusNeg (X.lam (ix2 0 d)) := by
  unfold part4 part2 part3 negEight softplusNeg
  unfold k0_pay21 k0_pay20 k0_pay19 k0_pay18
  pointwise
  show _ * (max (0 - X.lam (ix2 0 d)) 0 + Ideal.log (1 + Ideal.exp (0 - max (X.lam (ix2 0 d)) (-(X.lam (ix2 0 d)) : EReal)))) = _
  rw [show ∀ x : EReal, 0 - x = -x from fun x => zero_sub x, show ∀ x : EReal, 0 - x = -x from fun x => zero_sub x]

/-- The convolution, by the rows of the padded block. -/
theorem conv_at (r d : Fin 1024) : (conv i X : Vec Ideal S1024x1024 .f32) (ix2 r d)
    = conv4 (X.taps (ix2 0 d)) (X.taps (ix2 1 d)) (X.taps (ix2 2 d)) (X.taps (ix2 3 d)) (X.cbias (ix2 0 d))
        ((padded i X : Vec Ideal S1040x1024 .f32) (ix2 ⟨6 + r.val, by omega⟩ d)) ((padded i X : Vec Ideal S1040x1024 .f32) (ix2 ⟨7 + r.val, by omega⟩ d))
        ((padded i X : Vec Ideal S1040x1024 .f32) (ix2 ⟨8 + r.val, by omega⟩ d)) ((padded i X : Vec Ideal S1040x1024 .f32) (ix2 ⟨9 + r.val, by omega⟩ d)) := by
  unfold conv conv4
  generalize padded i X = P
  unfold k0_pay16
  pointwise
  have e0 : (r.val + 1040 - 1034) % 1040 = 6 + r.val := by have := r.isLt; omega
  have e1 : (r.val + 1040 - 1033) % 1040 = 7 + r.val := by have := r.isLt; omega
  have e3 : (8 + r.val + 1040 - 1039) % 1040 = 9 + r.val := by have := r.isLt; omega
  simp only [e0, e1, e3]
  rw [add_assoc, add_assoc, add_assoc, add_comm]
  simp only [add_assoc]

/-- The gates read the convolution itself. -/
theorem gateIn_eq : (gateIn i X : Vec Ideal S1024x1024 .bf16) = conv i X := rfl

/-- The recurrence gate's argument. -/
def recAt (r d : Fin 1024) : EReal :=
  gateArg (fun j => (conv i X : Vec Ideal S1024x1024 .f32) (ix2 r (column (head d) j))) (fun j => X.wr (ix5 0 0 (head d) j (place d))) (X.br (ix2 0 d))

/-- The input gate's argument. -/
def inAt (r d : Fin 1024) : EReal :=
  gateArg (fun j => (conv i X : Vec Ideal S1024x1024 .f32) (ix2 r (column (head d) j))) (fun j => X.wi (ix5 0 0 (head d) j (place d))) (X.bi (ix2 0 d))

/-- The first head's columns. -/
theorem column_zero (e : Fin 256) : column 0 e = ⟨e.val, by omega⟩ := Fin.ext (by show 0 * 256 + e.val = e.val; omega)

/-- The block's decay at row `r` of head `h`. -/
def decayOf (r d : Fin 1024) : EReal := Ideal.exp (logDecay (X.lam (ix2 0 d)) (recAt i X r d))

/-- The block's gated input at row `r` of head `h`. -/
def gatedOf (r d : Fin 1024) : EReal := gatedInput (decayOf i X r d) (inAt i X r d) ((conv i X : Vec Ideal S1024x1024 .f32) (ix2 r d))

set_option maxHeartbeats 1000000 in
/-- What is stored of the decays of the first head. -/
theorem coef0_at (r : Fin 1024) (e : Fin 256) :
    (k0_pay26 (part4 i X) (part5 i X) : Vec Ideal S1024x256 .f32) (ix2 r e) = decayOf i X r (column 0 e) := by
  unfold decayOf logDecay recAt gateArg
  rw [← decay_at i X, ← sigm_of_tanh, head_column, place_column]
  unfold part5
  simp only [gateIn_eq]
  generalize part4 i X = p
  generalize conv i X = C
  unfold k0_pay26 k0_pay25 k0_pay23 k0_pay22
  pointwise
  simp only [column_zero]; rfl

set_option maxHeartbeats 1000000 in
/-- What is stored of the gated inputs of the first head. -/
theorem input0_at (r : Fin 1024) (e : Fin 256) :
    (k0_pay27 (conv i X) (part4 i X) (part5 i X) (part6 i X) : Vec Ideal S1024x256 .f32) (ix2 r e) = gatedOf i X r (column 0 e) := by
  unfold gatedOf gatedInput decayOf logDecay recAt inAt gateArg
  rw [← decay_at i X, ← sigm_of_tanh, ← sigm_of_tanh, head_column, place_column]
  unfold part5 part6
  simp only [gateIn_eq]
  generalize part4 i X = p
  generalize conv i X = C
  unfold k0_pay27 k0_pay25 k0_pay24 k0_pay23 k0_pay22
  pointwise
  simp only [column_zero]; rfl

set_option maxHeartbeats 1000000 in
/-- What is stored of the decays of the second head. -/
theorem coef1_at (r : Fin 1024) (e : Fin 256) :
    (k0_pay32 (part4 i X) (part7 i X) : Vec Ideal S1024x256 .f32) (ix2 r e) = decayOf i X r (column 1 e) := by
  unfold decayOf logDecay recAt gateArg
  rw [← decay_at i X, ← sigm_of_tanh, head_column, place_column]
  unfold part7
  simp only [gateIn_eq]
  generalize part4 i X = p
  generalize conv i X = C
  unfold k0_pay32 k0_pay31 k0_pay29 k0_pay28
  pointwise
  rfl

set_option maxHeartbeats 1000000 in
/-- What is stored of the gated inputs of the second head. -/
theorem input1_at (r : Fin 1024) (e : Fin 256) :
    (k0_pay33 (conv i X) (part4 i X) (part7 i X) (part8 i X)
      (View.ld X.bi (Rect.unit ![0, 256] S1x256.size inb_S1x1024_S1x256_0_256)) : Vec Ideal S1024x256 .f32) (ix2 r e) = gatedOf i X r (column 1 e) := by
  unfold gatedOf gatedInput decayOf logDecay recAt inAt gateArg
  rw [← decay_at i X, ← sigm_of_tanh, ← sigm_of_tanh, head_column, place_column]
  unfold part7 part8
  simp only [gateIn_eq]
  generalize part4 i X = p
  generalize conv i X = C
  unfold k0_pay33 k0_pay31 k0_pay30 k0_pay29 k0_pay28
  pointwise
  rfl

set_option maxHeartbeats 1000000 in
/-- What is stored of the decays of the third head. -/
theorem coef2_at (r : Fin 1024) (e : Fin 256) :
    (k0_pay37 (part4 i X) (part10 i X) (FloatOps.ofBits .f32 1056964608#32) : Vec Ideal S1024x256 .f32) (ix2 r e) = decayOf i X r (column 2 e) := by
  unfold decayOf logDecay recAt gateArg
  rw [← decay_at i X, ← sigm_of_tanh, head_column, place_column]
  unfold part10
  simp only [gateIn_eq]
  generalize part4 i X = p
  generalize conv i X = C
  unfold k0_pay37 k0_pay36 k0_pay35 k0_pay34
  pointwise
  rfl

set_option maxHeartbeats 1000000 in
/-- What is stored of the gated inputs of the third head. -/
theorem input2_at (r : Fin 1024) (e : Fin 256) :
    (k0_pay38 (conv i X) (part4 i X) (part9 i X) (part10 i X) (FloatOps.ofBits .f32 1056964608#32)
      (View.ld X.wi (Rect.unit ![0, 0, 2, 0, 0] S1x1x1x256x256.size inb_S1x1x4x256x256_S1x1x1x256x256_0_0_2_0_0))
      (View.ld X.bi (Rect.unit ![0, 512] S1x256.size inb_S1x1024_S1x256_0_512)) : Vec Ideal S1024x256 .f32) (ix2 r e) = gatedOf i X r (column 2 e) := by
  unfold gatedOf gatedInput decayOf logDecay recAt inAt gateArg
  rw [← decay_at i X, ← sigm_of_tanh, ← sigm_of_tanh, head_column, place_column]
  unfold part10 part9
  simp only [gateIn_eq]
  generalize part4 i X = p
  generalize conv i X = C
  unfold k0_pay38 k0_pay36 k0_pay35 k0_pay34
  pointwise
  rfl

set_option maxHeartbeats 1000000 in
/-- What is stored of the decays of the last head. -/
theorem coef3_at (r : Fin 1024) (e : Fin 256) :
    (k0_pay42 (part4 i X) (part11 i X)
      (View.ld X.wr (Rect.unit ![0, 0, 3, 0, 0] S1x1x1x256x256.size inb_S1x1x4x256x256_S1x1x1x256x256_0_0_3_0_0))
      (View.ld X.br (Rect.unit ![0, 768] S1x256.size inb_S1x1024_S1x256_0_768)) : Vec Ideal S1024x256 .f32) (ix2 r e) = decayOf i X r (column 3 e) := by
  unfold decayOf logDecay recAt gateArg
  rw [← decay_at i X, ← sigm_of_tanh, head_column, place_column]
  unfold part11
  simp only [gateIn_eq]
  generalize part4 i X = p
  generalize conv i X = C
  unfold k0_pay42 k0_pay41 k0_pay39
  pointwise
  rfl

set_option maxHeartbeats 1000000 in
/-- What is stored of the gated inputs of the last head. -/
theorem input3_at (r : Fin 1024) (e : Fin 256) :
    (k0_pay1 (conv i X) (part12 i X) (part13 i X) : Vec Ideal S1024x256 .f32) (ix2 r e) = gatedOf i X r (column 3 e) := by
  unfold gatedOf gatedInput decayOf logDecay recAt inAt gateArg
  rw [← decay_at i X, ← sigm_of_tanh, ← sigm_of_tanh, head_column, place_column]
  unfold part13 part12 part11
  simp only [gateIn_eq]
  generalize part4 i X = p
  generalize conv i X = C
  unfold k0_pay1 k0_pay43 k0_pay41 k0_pay40 k0_pay39
  pointwise
  rfl

/-- A head's rows of the block. -/
theorem mem_head (o : ℕ) (ho : o + 256 ≤ 1024) (inb) (r d : Fin 1024) :
    (ix2 r d : S1024x1024.Idx) ∈ (Rect.unit (s := S1024x1024) ![0, o] ![1024, 256] inb).set ↔ o ≤ d.val ∧ d.val < o + 256 := by
  rw [Rect.mem_set_unit]
  constructor
  · intro h; exact h 1
  · intro h a; match a with
    | ⟨0, _⟩ => exact ⟨Nat.zero_le _, (Nat.zero_add 1024).symm ▸ r.isLt⟩
    | ⟨1, _⟩ => exact h

theorem head_emb (o : ℕ) (ho : o + 256 ≤ 1024) (inb) (r d : Fin 1024) (e : Fin 256) (h : d.val = o + e.val) :
    (ix2 r d : S1024x1024.Idx) = (Rect.unit (s := S1024x1024) ![0, o] ![1024, 256] inb).emb (ix2 r e : S1024x256.Idx) := by
  funext a; apply Fin.ext
  match a with
  | ⟨0, _⟩ => show r.val = 0 + 1 * r.val; omega
  | ⟨1, _⟩ => show d.val = o + 1 * e.val; omega

/-- Four stores side by side, read back. -/
theorem four_heads (v3 v2 v1 v0 : Vec Ideal S1024x256 .f32) (i3 i2 i1 i0) (f : Fin 1024 → Fin 1024 → EReal)
    (h3 : ∀ r e, v3 (ix2 r e) = f r (column 3 e)) (h2 : ∀ r e, v2 (ix2 r e) = f r (column 2 e))
    (h1 : ∀ r e, v1 (ix2 r e) = f r (column 1 e)) (h0 : ∀ r e, v0 (ix2 r e) = f r (column 0 e)) (r d : Fin 1024) :
    (View.canon ([⟨Rect.unit ![0, 768] ![1024, 256] i3, v3⟩, ⟨Rect.unit ![0, 512] ![1024, 256] i2, v2⟩, ⟨Rect.unit ![0, 256] ![1024, 256] i1, v1⟩,
      ⟨Rect.unit ![0, 0] ![1024, 256] i0, v0⟩] : List (View.Piece (Elt Ideal) S1024x1024 .f32)) : Vec Ideal S1024x1024 .f32) (ix2 r d) = f r d := by
  have hd := d.isLt
  by_cases c3 : 768 ≤ d.val
  · rw [head_emb 768 (by omega) i3 r d ⟨d.val - 768, by omega⟩ (by show d.val = 768 + (d.val - 768); omega)]
    refine (View.canon_cons_emb _ _ _ _).trans ((h3 _ _).trans (congrArg (f r) (Fin.ext ?_)))
    show 3 * 256 + (d.val - 768) = d.val; omega
  rw [View.canon_cons_of_not_mem _ _ (by rw [mem_head 768 (by omega)]; omega)]
  by_cases c2 : 512 ≤ d.val
  · rw [head_emb 512 (by omega) i2 r d ⟨d.val - 512, by omega⟩ (by show d.val = 512 + (d.val - 512); omega)]
    refine (View.canon_cons_emb _ _ _ _).trans ((h2 _ _).trans (congrArg (f r) (Fin.ext ?_)))
    show 2 * 256 + (d.val - 512) = d.val; omega
  rw [View.canon_cons_of_not_mem _ _ (by rw [mem_head 512 (by omega)]; omega)]
  by_cases c1 : 256 ≤ d.val
  · rw [head_emb 256 (by omega) i1 r d ⟨d.val - 256, by omega⟩ (by show d.val = 256 + (d.val - 256); omega)]
    refine (View.canon_cons_emb _ _ _ _).trans ((h1 _ _).trans (congrArg (f r) (Fin.ext ?_)))
    show 1 * 256 + (d.val - 256) = d.val; omega
  rw [View.canon_cons_of_not_mem _ _ (by rw [mem_head 256 (by omega)]; omega)]
  rw [head_emb 0 (by omega) i0 r d ⟨d.val, by omega⟩ (by show d.val = 0 + d.val; omega)]
  refine (View.canon_cons_emb _ _ _ _).trans ((h0 _ _).trans (congrArg (f r) (Fin.ext ?_)))
  show 0 * 256 + d.val = d.val; omega

/-- The block's decays. -/
theorem coefs_at (r d : Fin 1024) : (coefs i X : Vec Ideal S1024x1024 .f32) (ix2 r d) = decayOf i X r d :=
  four_heads _ _ _ _ _ _ _ _ (decayOf i X) (coef3_at i X) (coef2_at i X) (coef1_at i X) (coef0_at i X) r d

/-- The block's gated inputs. -/
theorem inputs_at (r d : Fin 1024) : (inputs i X : Vec Ideal S1024x1024 .f32) (ix2 r d) = gatedOf i X r d :=
  four_heads _ _ _ _ _ _ _ _ (gatedOf i X) (input3_at i X) (input2_at i X) (input1_at i X) (input0_at i X) r d

end Cert.ScanBwdIdeal.Hand

end
-- ==== Proof.ScanBwdIdeal.Tile.lean ====
module

public import proofs.«01_k».proof.Proof.ScanBwdIdeal.Value

@[expose] public section

set_option maxRecDepth 16384

noncomputable section

namespace Cert.ScanBwdIdeal.Hand

open Cert.ScanBwdIdeal.Gen Cert.Formula
open Idealize.ShloMosaic Idealize.ShloMosaic.TcCoe Idealize.ShloMosaic.Tactic
open Idealize.SL.Sem

/-! The padded block holds the rows about it, and so the block's decays and gated inputs are the formulas'. -/

/-- Whether the tile at grid point `n` is the `k`-th of its sequence, as the word the kernel computes. -/
def edge (k : BitVec 32) (n : ℕ) : BitVec 1 :=
  let v0 : BitVec 32 := Scalar.subi 15#32 (BitVec.ofNat 32 n)
  let v2 : BitVec 32 := Scalar.select (Scalar.cmpi .eq 8#32 0#32) 1#32 8#32
  let v3 : BitVec 32 := Scalar.remsi v0 v2
  Scalar.cmpi .eq (Scalar.select (Scalar.andi (Scalar.xori (Scalar.cmpi .slt v3 0#32) (Scalar.cmpi .slt v2 0#32)) (Scalar.cmpi .ne v3 0#32)) (Scalar.addi v3 v2) v3) k

theorem edge_first : ∀ n : Fin 16, edge 0#32 n.val = if (15 - n.val) % 8 = 0 then 1#1 else 0#1 := by decide +kernel
theorem edge_last : ∀ n : Fin 16, edge 7#32 n.val = if (15 - n.val) % 8 = 7 then 1#1 else 0#1 := by decide +kernel

/-- The rows stored before the block. -/
theorem before_at (i : grid0.Coords) (v : Vec Ideal S8x1024 .f32) (q : Fin 8) (d : Fin 1024) :
    (k0_pay13 i v : Vec Ideal S8x1024 .f32) (ix2 q d) = if (15 - (i 0).val) % 8 = 0 then 0 else v (ix2 q d) := by
  have e : k0_pay13 i v = shapeCast S8x1024 (Scalar.select (edge 0#32 (i 0).val) (broadcast S8x1024 (Scalar.ofBits (F := Ideal) .f32 0x00000000#32)) v) shapeCasts_S8x1024_S8x1024 := rfl
  have h := edge_first (i 0)
  rw [e, h]
  by_cases c : (15 - (i 0).val) % 8 = 0
  · simp only [if_pos c]
    show shapeCast S8x1024 (broadcast S8x1024 (Scalar.ofBits (F := Ideal) .f32 0x00000000#32)) shapeCasts_S8x1024_S8x1024 (ix2 q d) = 0
    pointwise
  · simp only [if_neg c]
    show shapeCast S8x1024 v shapeCasts_S8x1024_S8x1024 (ix2 q d) = v (ix2 q d)
    pointwise

/-- The rows stored after the block. -/
theorem after_at (i : grid0.Coords) (v : Vec Ideal S8x1024 .f32) (q : Fin 8) (d : Fin 1024) :
    (k0_pay15 i v : Vec Ideal S8x1024 .f32) (ix2 q d) = if (15 - (i 0).val) % 8 = 7 then 0 else v (ix2 q d) := by
  have e : k0_pay15 i v = shapeCast S8x1024 (Scalar.select (edge 7#32 (i 0).val) (broadcast S8x1024 (Scalar.ofBits (F := Ideal) .f32 0x00000000#32)) v) shapeCasts_S8x1024_S8x1024 := rfl
  have h := edge_last (i 0)
  rw [e, h]
  by_cases c : (15 - (i 0).val) % 8 = 7
  · simp only [if_pos c]
    show shapeCast S8x1024 (broadcast S8x1024 (Scalar.ofBits (F := Ideal) .f32 0x00000000#32)) shapeCasts_S8x1024_S8x1024 (ix2 q d) = 0
    pointwise
  · simp only [if_neg c]
    show shapeCast S8x1024 v shapeCasts_S8x1024_S8x1024 (ix2 q d) = v (ix2 q d)
    pointwise

/-- The blocks of the tile that begins at row `1024 * p` of sequence `b`. -/
structure Holds (I : ScanInputs) (b : Fin 2) (p : ℕ) (i : grid0.Coords) (X : Blk Ideal) : Prop where
  tile : (15 - (i 0).val) % 8 = p
  xs : ∀ (r d : Fin 1024) h, X.xs (ix2 r d) = I.x ⟨b.val * 8192 + (p * 1024 + r.val), h⟩ d
  before : p ≠ 0 → ∀ (q : Fin 8) (d : Fin 1024) h, X.before (ix2 q d) = I.x ⟨b.val * 8192 + (p * 1024 - 8 + q.val), h⟩ d
  after : p ≠ 7 → ∀ (q : Fin 8) (d : Fin 1024) h, X.after (ix2 q d) = I.x ⟨b.val * 8192 + (p * 1024 + 1024 + q.val), h⟩ d
  taps : ∀ (k : Fin 4) (d : Fin 1024), X.taps (ix2 k d) = I.taps k d
  cbias : ∀ d : Fin 1024, X.cbias (ix2 0 d) = I.cb d
  wr : ∀ (h : Fin 4) (j e : Fin 256), X.wr (ix5 0 0 h j e) = I.wr h j e
  br : ∀ d : Fin 1024, X.br (ix2 0 d) = I.br d
  wi : ∀ (h : Fin 4) (j e : Fin 256), X.wi (ix5 0 0 h j e) = I.wi h j e
  bi : ∀ d : Fin 1024, X.bi (ix2 0 d) = I.bi d
  lam : ∀ d : Fin 1024, X.lam (ix2 0 d) = I.lam d
  h0 : ∀ d : Fin 1024, X.h0 (ix3 0 0 d) = I.h0 b d

theorem ld_whole {n : ℕ} (Y : Vec Ideal ⟨2, ![n, 1024]⟩ .f32) (inb) (r : Fin n) (d : Fin 1024) :
    View.ld Y (Rect.unit ![0, 0] ![n, 1024] inb) (ix2 r d) = Y (ix2 r d) :=
  congrArg Y (funext fun a => Fin.ext (by
    match a with
    | ⟨0, _⟩ => show 0 + 1 * r.val = r.val; omega
    | ⟨1, _⟩ => show 0 + 1 * d.val = d.val; omega))

/-- Rows of the padded block. -/
theorem mem_rows (o n : ℕ) (inb) (s : Fin 1040) (d : Fin 1024) :
    (ix2 s d : S1040x1024.Idx) ∈ (Rect.unit (s := S1040x1024) ![o, 0] ![n, 1024] inb).set ↔ o ≤ s.val ∧ s.val < o + n := by
  rw [Rect.mem_set_unit]
  constructor
  · intro h; exact h 0
  · intro h a; match a with
    | ⟨0, _⟩ => exact h
    | ⟨1, _⟩ => exact ⟨Nat.zero_le _, (Nat.zero_add 1024).symm ▸ d.isLt⟩

theorem rows_emb (o n : ℕ) (inb) (s : Fin 1040) (d : Fin 1024) (q : Fin n) (h : s.val = o + q.val) :
    (ix2 s d : S1040x1024.Idx) = (Rect.unit (s := S1040x1024) ![o, 0] ![n, 1024] inb).emb (ix2 q d : (⟨2, ![n, 1024]⟩ : Shape).Idx) := by
  funext a; apply Fin.ext
  match a with
  | ⟨0, _⟩ => show s.val = o + 1 * q.val; omega
  | ⟨1, _⟩ => show d.val = 0 + 1 * d.val; omega

variable {I : ScanInputs} {b : Fin 2} {p : ℕ} {i : grid0.Coords} {X : Blk Ideal}

/-- The padded block's rows from the sixth are the sequence's rows from two before the tile. -/
theorem padded_at (H : Holds I b p i X) (s : Fin 1040) (h6 : 6 ≤ s.val) (h34 : s.val < 1034) (d : Fin 1024) :
    (padded i X : Vec Ideal S1040x1024 .f32) (ix2 s d) = I.padded b (p * 1024 + (s.val - 6)) d := by
  have hp : p < 8 := by have := H.tile; omega
  have hb := b.isLt
  refine (ld_whole (View.canon (padPieces i X)) inb_S1040x1024_S1040x1024_0_0 s d).trans ?_
  unfold padPieces ScanInputs.padded
  by_cases c1 : 1032 ≤ s.val
  · rw [rows_emb 1032 8 inb_S1040x1024_S8x1024_1032_0 s d ⟨s.val - 1032, by omega⟩ (by show s.val = 1032 + (s.val - 1032); omega)]
    refine (View.canon_cons_emb _ _ _ _).trans ((after_at i _ _ d).trans ?_)
    rw [H.tile]
    by_cases c : p = 7
    · rw [if_pos c, dif_neg (by omega)]
    · rw [if_neg c, dif_pos (by omega)]
      refine (ld_whole X.after inb_S8x1024_S8x1024_0_0 _ d).trans ((H.after c _ d (by simp only; omega)).trans (congrArg (I.x · d) (Fin.ext ?_)))
      simp only; omega
  rw [View.canon_cons_of_not_mem _ _ (by rw [mem_rows 1032 8]; omega)]
  by_cases c2 : 8 ≤ s.val
  · rw [rows_emb 8 1024 inb_S1040x1024_S1024x1024_8_0 s d ⟨s.val - 8, by omega⟩ (by show s.val = 8 + (s.val - 8); omega)]
    refine (View.canon_cons_emb _ _ _ _).trans ?_
    unfold k0_pay14
    rw [dif_pos (by omega)]
    have e : shapeCast S1024x1024 (View.ld X.xs (Rect.unit ![0, 0] S1024x1024.size inb_S1024x1024_S1024x1024_0_0)) shapeCasts_S1024x1024_S1024x1024
        (ix2 ⟨s.val - 8, by omega⟩ d) = X.xs (ix2 ⟨s.val - 8, by omega⟩ d) := by pointwise
    refine e.trans ((H.xs _ d (by simp only; omega)).trans (congrArg (I.x · d) (Fin.ext ?_)))
    simp only; omega
  rw [View.canon_cons_of_not_mem _ _ (by rw [mem_rows 8 1024]; omega)]
  rw [rows_emb 0 8 inb_S1040x1024_S8x1024_0_0 s d ⟨s.val, by omega⟩ (by show s.val = 0 + s.val; omega)]
  refine (View.canon_cons_emb _ _ _ _).trans ((before_at i _ _ d).trans ?_)
  rw [H.tile]
  by_cases c : p = 0
  · rw [if_pos c, dif_neg (by omega)]
  · rw [if_neg c, dif_pos (by omega)]
    refine (ld_whole X.before inb_S8x1024_S8x1024_0_0 _ d).trans ((H.before c _ d (by simp only; omega)).trans (congrArg (I.x · d) (Fin.ext ?_)))
    simp only; omega

/-- The block's convolution. -/
theorem conv_is (H : Holds I b p i X) (r d : Fin 1024) : (conv i X : Vec Ideal S1024x1024 .f32) (ix2 r d) = I.conv b (p * 1024 + r.val) d := by
  have hr := r.isLt
  rw [conv_at, padded_at H _ (by simp only; omega) (by simp only; omega), padded_at H _ (by simp only; omega) (by simp only; omega),
    padded_at H _ (by simp only; omega) (by simp only; omega), padded_at H _ (by simp only; omega) (by simp only; omega),
    H.taps, H.taps, H.taps, H.taps, H.cbias]
  unfold ScanInputs.conv
  simp only [show 6 + r.val - 6 = r.val by omega, show p * 1024 + (7 + r.val - 6) = 1 + (p * 1024 + r.val) by omega,
    show p * 1024 + (8 + r.val - 6) = 2 + (p * 1024 + r.val) by omega, show p * 1024 + (9 + r.val - 6) = 3 + (p * 1024 + r.val) by omega]

/-- The block's decays. -/
theorem decay_is (H : Holds I b p i X) (r d : Fin 1024) : decayOf i X r d = I.coef b (p * 1024 + r.val) d := by
  unfold decayOf recAt ScanInputs.coef ScanInputs.recArg
  simp only [conv_is H, H.wr, H.br, H.lam]

/-- The block's gated inputs. -/
theorem gated_is (H : Holds I b p i X) (r d : Fin 1024) : gatedOf i X r d = I.input b (p * 1024 + r.val) d := by
  unfold gatedOf inAt ScanInputs.input ScanInputs.inArg
  simp only [decay_is H, conv_is H, H.wi, H.bi]

end Cert.ScanBwdIdeal.Hand

end
-- ==== Proof.ScanBwdIdeal.Group.lean ====
module

public import proofs.«01_k».proof.Proof.ScanBwdIdeal.Loop
public import proofs.«01_k».proof.Proof.Formula.Scan
public import Idealize.ShloMosaic.Lib.Pointwise

@[expose] public section

set_option maxRecDepth 16384

noncomputable section

namespace Cert.ScanBwdIdeal.Hand

open Cert.ScanBwdIdeal.Gen Cert.Formula
open Idealize.ShloMosaic Idealize.ShloMosaic.TcCoe Idealize.ShloMosaic.Tactic
open Idealize.SL.Sem

/-! The loop over the groups walks the recurrence: eight rows at a time, in three rounds each. -/

/-- The rows' steps, in the order they are taken: the last row first. -/
def IsSteps (g : ℕ → EReal × EReal) (A B : Vec Ideal S8x1024 .f32) (d : Fin 1024) : Prop :=
  ∀ r : Fin 8, A (ix2 r d) = (g (7 - r.val)).1 ∧ B (ix2 r d) = (g (7 - r.val)).2

/-- Which rows the round that reaches 1 takes from. -/
theorem keep1 : ∀ (r : Fin 8) (d : Fin 1024), (k0_pay6 rows) (ix2 r d) = if 1 ≤ 7 - r.val then 1#1 else 0#1 := by
  intro r d
  unfold k0_pay6
  revert r
  pointwise
  decide

/-- One round, reaching 1. -/
theorem reach1 (g : ℕ → EReal × EReal) (A B : Vec Ideal S8x1024 .f32) (d : Fin 1024) (H : IsSteps g A B d) :
    IsSteps (reach 1 g)
      (mulf A (select (k0_pay6 rows) (dynamicRotate 0 7#32 none A rotates_S8x1024_d0) (broadcast S8x1024 (Scalar.ofBits (F := Ideal) .f32 0x3F800000#32))))
      (addf B (mulf A (select (k0_pay6 rows) (dynamicRotate 0 7#32 none B rotates_S8x1024_d0) (broadcast S8x1024 (Scalar.ofBits (F := Ideal) .f32 0x00000000#32))))) d := by
  intro r
  have hr := r.isLt
  have hk := keep1 r d
  generalize k0_pay6 rows = K at hk ⊢
  have ea : (dynamicRotate 0 7#32 none A rotates_S8x1024_d0 : Vec Ideal S8x1024 .f32) (ix2 r d) = A (ix2 ⟨(r.val + 8 - 7) % 8, by omega⟩ d) := by
    pointwise
  have eb : (dynamicRotate 0 7#32 none B rotates_S8x1024_d0 : Vec Ideal S8x1024 .f32) (ix2 r d) = B (ix2 ⟨(r.val + 8 - 7) % 8, by omega⟩ d) := by
    pointwise
  generalize dynamicRotate 0 7#32 none A rotates_S8x1024_d0 = RA at ea ⊢
  generalize dynamicRotate 0 7#32 none B rotates_S8x1024_d0 = RB at eb ⊢
  unfold reach comb
  pointwise
  rw [hk, ea, eb, (H r).1, (H r).2, (H _).1, (H _).2]
  by_cases c : 1 ≤ 7 - r.val
  · simp only [if_pos c, show 7 - (r.val + 8 - 7) % 8 = 7 - r.val - 1 by omega]
    exact ⟨rfl, rfl⟩
  · simp only [if_neg c]
    refine ⟨rfl, ?_⟩
    show (g (7 - r.val)).2 + 0 = (g (7 - r.val)).2 + (g (7 - r.val)).1 * 0
    rw [mul_zero]

/-- Which rows the round that reaches 2 takes from. -/
theorem keep2 : ∀ (r : Fin 8) (d : Fin 1024), (k0_pay8 rows) (ix2 r d) = if 2 ≤ 7 - r.val then 1#1 else 0#1 := by
  intro r d
  unfold k0_pay8
  revert r
  pointwise
  decide

/-- One round, reaching 2. -/
theorem reach2 (g : ℕ → EReal × EReal) (A B : Vec Ideal S8x1024 .f32) (d : Fin 1024) (H : IsSteps g A B d) :
    IsSteps (reach 2 g)
      (mulf A (select (k0_pay8 rows) (dynamicRotate 0 6#32 none A rotates_S8x1024_d0) (broadcast S8x1024 (Scalar.ofBits (F := Ideal) .f32 0x3F800000#32))))
      (addf B (mulf A (select (k0_pay8 rows) (dynamicRotate 0 6#32 none B rotates_S8x1024_d0) (broadcast S8x1024 (Scalar.ofBits (F := Ideal) .f32 0x00000000#32))))) d := by
  intro r
  have hr := r.isLt
  have hk := keep2 r d
  generalize k0_pay8 rows = K at hk ⊢
  have ea : (dynamicRotate 0 6#32 none A rotates_S8x1024_d0 : Vec Ideal S8x1024 .f32) (ix2 r d) = A (ix2 ⟨(r.val + 8 - 6) % 8, by omega⟩ d) := by
    pointwise
  have eb : (dynamicRotate 0 6#32 none B rotates_S8x1024_d0 : Vec Ideal S8x1024 .f32) (ix2 r d) = B (ix2 ⟨(r.val + 8 - 6) % 8, by omega⟩ d) := by
    pointwise
  generalize dynamicRotate 0 6#32 none A rotates_S8x1024_d0 = RA at ea ⊢
  generalize dynamicRotate 0 6#32 none B rotates_S8x1024_d0 = RB at eb ⊢
  unfold reach comb
  pointwise
  rw [hk, ea, eb, (H r).1, (H r).2, (H _).1, (H _).2]
  by_cases c : 2 ≤ 7 - r.val
  · simp only [if_pos c, show 7 - (r.val + 8 - 6) % 8 = 7 - r.val - 2 by omega]
    exact ⟨rfl, rfl⟩
  · simp only [if_neg c]
    refine ⟨rfl, ?_⟩
    show (g (7 - r.val)).2 + 0 = (g (7 - r.val)).2 + (g (7 - r.val)).1 * 0
    rw [mul_zero]

/-- Which rows the round that reaches 4 takes from. -/
theorem keep4 : ∀ (r : Fin 8) (d : Fin 1024), (k0_pay10 rows) (ix2 r d) = if 4 ≤ 7 - r.val then 1#1 else 0#1 := by
  intro r d
  unfold k0_pay10
  revert r
  pointwise
  decide

/-- One round, reaching 4. -/
theorem reach4 (g : ℕ → EReal × EReal) (A B : Vec Ideal S8x1024 .f32) (d : Fin 1024) (H : IsSteps g A B d) :
    IsSteps (reach 4 g)
      (mulf A (select (k0_pay10 rows) (dynamicRotate 0 4#32 none A rotates_S8x1024_d0) (broadcast S8x1024 (Scalar.ofBits (F := Ideal) .f32 0x3F800000#32))))
      (addf B (mulf A (select (k0_pay10 rows) (dynamicRotate 0 4#32 none B rotates_S8x1024_d0) (broadcast S8x1024 (Scalar.ofBits (F := Ideal) .f32 0x00000000#32))))) d := by
  intro r
  have hr := r.isLt
  have hk := keep4 r d
  generalize k0_pay10 rows = K at hk ⊢
  have ea : (dynamicRotate 0 4#32 none A rotates_S8x1024_d0 : Vec Ideal S8x1024 .f32) (ix2 r d) = A (ix2 ⟨(r.val + 8 - 4) % 8, by omega⟩ d) := by
    pointwise
  have eb : (dynamicRotate 0 4#32 none B rotates_S8x1024_d0 : Vec Ideal S8x1024 .f32) (ix2 r d) = B (ix2 ⟨(r.val + 8 - 4) % 8, by omega⟩ d) := by
    pointwise
  generalize dynamicRotate 0 4#32 none A rotates_S8x1024_d0 = RA at ea ⊢
  generalize dynamicRotate 0 4#32 none B rotates_S8x1024_d0 = RB at eb ⊢
  unfold reach comb
  pointwise
  rw [hk, ea, eb, (H r).1, (H r).2, (H _).1, (H _).2]
  by_cases c : 4 ≤ 7 - r.val
  · simp only [if_pos c, show 7 - (r.val + 8 - 4) % 8 = 7 - r.val - 4 by omega]
    exact ⟨rfl, rfl⟩
  · simp only [if_neg c]
    refine ⟨rfl, ?_⟩
    show (g (7 - r.val)).2 + 0 = (g (7 - r.val)).2 + (g (7 - r.val)).1 * 0
    rw [mul_zero]

/-- The three rounds are what the kernel computes of a group. -/
theorem rounds_at (g : ℕ → EReal × EReal) (A B : Vec Ideal S8x1024 .f32) (d : Fin 1024) (H : IsSteps g A B d) :
    IsSteps (reach 4 (reach 2 (reach 1 g))) (k0_pay12 rows A) (k0_pay11 rows A B) d :=
  reach4 _ _ _ d (reach2 _ _ _ d (reach1 g A B d H))

/-- A group's rows. -/
theorem ld_grp (Y : Vec Ideal S1024x1024 .f32) (k : Fin k0_t1_loop.trips) (r : Fin 8) (d : Fin 1024) :
    View.ld Y (grp k) (ix2 r d : S8x1024.Idx) = Y (ix2 ⟨8 * (127 - k.val) + r.val, by omega⟩ d) :=
  congrArg Y (funext fun a => Fin.ext (by
    match a with
    | ⟨0, _⟩ => show k0_off1 k 0 + 1 * r.val = 8 * (127 - k.val) + r.val; rw [off1_eq]; show 8 * (127 - k.val) + 1 * r.val = _; omega
    | ⟨1, _⟩ => show k0_off1 k 1 + 1 * d.val = d.val; rw [off1_eq]; show 0 + 1 * d.val = d.val; omega))

section
variable (f : Fin 1024 → ℕ → EReal × EReal) (A B : Vec Ideal S1024x1024 .f32)

/-- The block's rows' steps, the last row first. -/
structure Steps : Prop where
  good : ∀ d n, Good (f d n).1
  coef : ∀ r d : Fin 1024, A (ix2 r d) = (f d (1023 - r.val)).1
  input : ∀ r d : Fin 1024, B (ix2 r d) = (f d (1023 - r.val)).2

variable {f A B} (H : Steps f A B)
include H

/-- The states of a group. -/
theorem hs8_at (k : Fin k0_t1_loop.trips) (acc : Vec Ideal S1x1024 .f32) (r : Fin 8) (d : Fin 1024) :
    (hs8 A B k acc : Vec Ideal S8x1024 .f32) (ix2 r d) = walkFrom (fun j => f d (8 * k.val + j)) (acc (ix2 0 d)) (8 - r.val) := by
  have hk : k.val < 128 := lt_of_lt_of_eq k.isLt trips_eq
  have hs : IsSteps (fun j => f d (8 * k.val + j)) (View.ld A (grp k)) (View.ld B (grp k)) d := by
    intro r
    have hr := r.isLt
    refine ⟨(ld_grp A k r d).trans ((H.coef _ d).trans ?_), (ld_grp B k r d).trans ((H.input _ d).trans ?_)⟩ <;>
      simp only [show 1023 - (8 * (127 - k.val) + r.val) = 8 * k.val + (7 - r.val) by omega]
  have h := rounds_at _ _ _ d hs r
  have e := rounds_eq (fun j => f d (8 * k.val + j)) (fun j => H.good d _) (acc (ix2 0 d)) (7 - r.val) (by omega)
  rw [show 8 - r.val = 7 - r.val + 1 by omega, ← e]
  unfold step
  rw [← h.1, ← h.2]
  unfold hs8
  generalize (k0_pay12 rows (View.ld A (grp k)) : Vec Ideal S8x1024 .f32) = P
  generalize (k0_pay11 rows (View.ld A (grp k)) (View.ld B (grp k)) : Vec Ideal S8x1024 .f32) = Q
  unfold k0_pay3
  pointwise

/-- The state after a group. -/
theorem carry8_at (k : Fin k0_t1_loop.trips) (acc : Vec Ideal S1x1024 .f32) (d : Fin 1024) :
    (carry8 A B k acc : Vec Ideal S1x1024 .f32) (ix2 0 d) = walkFrom (fun j => f d (8 * k.val + j)) (acc (ix2 0 d)) 8 := by
  refine Eq.trans ?_ (hs8_at H k acc 0 d)
  unfold carry8 k0_pay4
  show extractStridedSlice S1x1024 ![0, 0] (hs8 A B k acc) slices_S8x1024_o0_0_S1x1024 (ix2 0 d) = _
  generalize hs8 A B k acc = P
  pointwise

/-- The state before each group. -/
theorem walk_state (init : Vec Ideal S1x1024 .f32) (d : Fin 1024) : ∀ n, n ≤ k0_t1_loop.trips →
    (walk A B init n).1 (ix2 0 d) = walkFrom (f d) (init (ix2 0 d)) (8 * n)
  | 0, _ => rfl
  | n + 1, h => by
    rw [walk_succ A B init ⟨n, h⟩]
    refine (carry8_at H ⟨n, h⟩ _ d).trans ?_
    rw [walk_state init d n (Nat.le_of_succ_le h), show 8 * (n + 1) = 8 * n + 8 by omega, walkFrom_add]

/-- The states stored so far. -/
theorem walk_rows (init : Vec Ideal S1x1024 .f32) (d : Fin 1024) : ∀ n, n ≤ k0_t1_loop.trips → ∀ r : Fin 1024, 1024 ≤ r.val + 8 * n →
    (View.canon (walk A B init n).2 : Vec Ideal S1024x1024 .f32) (ix2 r d) = walkFrom (f d) (init (ix2 0 d)) (1024 - r.val)
  | 0, _ => fun r hr => absurd r.isLt (by omega)
  | n + 1, h => fun r hr => by
    have hn : n < 128 := lt_of_lt_of_eq h trips_eq
    rw [walk_succ A B init ⟨n, h⟩]
    by_cases c : 1024 ≤ r.val + 8 * n
    · refine (View.canon_cons_of_not_mem _ _ (fun h' => ?_)).trans (walk_rows init d n (Nat.le_of_succ_le h) r c)
      have := (mem_grp ⟨n, h⟩ (ix2 r d)).mp h'
      have e : 8 * (127 - n) ≤ r.val ∧ r.val < 8 * (127 - n) + 8 := this
      omega
    · have e : (ix2 r d : S1024x1024.Idx) = (grp ⟨n, h⟩).emb (ix2 ⟨r.val - 8 * (127 - n), by omega⟩ d : S8x1024.Idx) := by
        funext a; apply Fin.ext
        match a with
        | ⟨0, _⟩ => show r.val = k0_off1 ⟨n, h⟩ 0 + 1 * (r.val - 8 * (127 - n)); rw [off1_eq]; show r.val = 8 * (127 - n) + 1 * (r.val - 8 * (127 - n)); omega
        | ⟨1, _⟩ => show d.val = k0_off1 ⟨n, h⟩ 1 + 1 * d.val; rw [off1_eq]; show d.val = 0 + 1 * d.val; omega
      rw [e]
      refine (View.canon_cons_emb _ _ _ _).trans ((hs8_at H ⟨n, h⟩ _ _ d).trans ?_)
      rw [walk_state H init d n (Nat.le_of_succ_le h), show 1024 - r.val = 8 * n + (8 - (r.val - 8 * (127 - n))) by omega, walkFrom_add]

/-- The states of the block. -/
theorem states_at (init : Vec Ideal S1x1024 .f32) (r d : Fin 1024) :
    (states A B init : Vec Ideal S1024x1024 .f32) (ix2 r d) = walkFrom (f d) (init (ix2 0 d)) (1024 - r.val) := by
  unfold states
  exact walk_rows H init d _ le_rfl r (by rw [trips_eq]; omega)

/-- The state after the block. -/
theorem final_at (init : Vec Ideal S1x1024 .f32) (d : Fin 1024) :
    (final A B init : Vec Ideal S1x1024 .f32) (ix2 0 d) = walkFrom (f d) (init (ix2 0 d)) 1024 := by
  unfold final
  rw [walk_state H init d _ le_rfl, trips_eq]

end

end Cert.ScanBwdIdeal.Hand

end
-- ==== Proof.ScanBwdIdeal.Blocks.lean ====
module

public import proofs.«01_k».proof.Proof.ScanBwdIdeal.Whole
public import proofs.«01_k».proof.Proof.ScanBwdIdeal.Tile
public import proofs.«01_k».proof.Proof.ScanBwdIdeal.Group

@[expose] public section

set_option maxRecDepth 16384

noncomputable section
namespace Cert.ScanBwdIdeal.Hand
open Cert.ScanBwdIdeal Cert.ScanBwdIdeal.Gen Cert.Formula Idealize.ShloMosaic Idealize.ShloMosaic.TcCoe Idealize.ShloMosaic.Tactic Idealize.SL.Sem

/-! What each input block holds at a grid point, in terms of what the program is given. -/

variable (m : (ℓ : Loc nD τ sig) → Buf (Elt Ideal) ℓ)

/-- What the program is given, as the formulas' inputs: layer 1, the backward direction. -/
def given (c : Dev nD) : ScanInputs where
  x := fun R d => (m ((c : Thread nD τ).loc main_arg0) : Vec Ideal S16384x1024 .f32) (ix2 R d)
  taps := fun k d => (m ((c : Thread nD τ).loc main_arg2) : Vec Ideal S2x4x1024 .f32) (ix3 1 k d)
  cb := fun d => (m ((c : Thread nD τ).loc main_arg3) : Vec Ideal S2x1024 .f32) (ix2 1 d)
  wr := fun h i j => (m ((c : Thread nD τ).loc main_arg4) : Vec Ideal S2x2x4x256x256 .f32) (ix5 1 1 h i j)
  br := fun d => (m ((c : Thread nD τ).loc main_arg5) : Vec Ideal S2x2x1024 .f32) (ix3 1 1 d)
  wi := fun h i j => (m ((c : Thread nD τ).loc main_arg6) : Vec Ideal S2x2x4x256x256 .f32) (ix5 1 1 h i j)
  bi := fun d => (m ((c : Thread nD τ).loc main_arg7) : Vec Ideal S2x2x1024 .f32) (ix3 1 1 d)
  lam := fun d => (m ((c : Thread nD τ).loc main_arg8) : Vec Ideal S2x2x1024 .f32) (ix3 1 1 d)
  h0 := fun b d => (m ((c : Thread nD τ).loc main_arg1) : Vec Ideal S2x1x1024 .f32) (ix3 b 0 d)

/-- The coordinate of a grid point. -/
theorem coord_val : ∀ t : Fin cfg0.N, (grid0.coords t 0).val = t.val :=
  (by decide +kernel : ∀ t : Fin grid0.N, (grid0.coords t 0).val = t.val)

theorem at_0 : ∀ t : Fin cfg0.N, win0_0.index t (0 : Fin 2) = (15 - t.val) ∧ win0_0.index t (1 : Fin 2) = 0 :=
  (by decide +kernel : ∀ t : Fin grid0.N, _)
/-- The block of rows. -/
theorem block_0 (c : Dev nD) (t : Fin cfg0.N) (i : Fin 1024) (j : Fin 1024) (R : Fin 16384) (hR : R.val = (15 - t.val) * 1024 + i.val) :
    (iblk m c 0 t : Vec Ideal S1024x1024 _) (ix2 i j) = (given m c).x R j := by
  have hi := at_0 t
  unfold iblk
  rw [View.read_apply]
  show V m c main_arg0 _ = _
  rw [V_main_arg0]
  unfold given
  dsimp only
  congr 1
  funext a
  apply Fin.ext
  match a with
  | ⟨0, _⟩ => show win0_0.index t (0 : Fin 2) * 1024 + 1 * i.val = R.val; rw [hi.1, hR]; omega
  | ⟨1, _⟩ => show win0_0.index t (1 : Fin 2) * 1024 + 1 * j.val = j.val; rw [hi.2]; omega

theorem at_1 : ∀ t : Fin cfg0.N, win0_1.index t (0 : Fin 2) = ((15 - t.val) * 128 - 1) ∧ win0_1.index t (1 : Fin 2) = 0 :=
  (by decide +kernel : ∀ t : Fin grid0.N, _)
/-- The rows before the block. -/
theorem block_1 (c : Dev nD) (t : Fin cfg0.N) (i : Fin 8) (j : Fin 1024) (R : Fin 16384) (hR : R.val = ((15 - t.val) * 128 - 1) * 8 + i.val) :
    (iblk m c 1 t : Vec Ideal S8x1024 _) (ix2 i j) = (given m c).x R j := by
  have hi := at_1 t
  unfold iblk
  rw [View.read_apply]
  show V m c main_arg0 _ = _
  rw [V_main_arg0]
  unfold given
  dsimp only
  congr 1
  funext a
  apply Fin.ext
  match a with
  | ⟨0, _⟩ => show win0_1.index t (0 : Fin 2) * 8 + 1 * i.val = R.val; rw [hi.1, hR]; omega
  | ⟨1, _⟩ => show win0_1.index t (1 : Fin 2) * 1024 + 1 * j.val = j.val; rw [hi.2]; omega

theorem at_2 : ∀ t : Fin cfg0.N, win0_2.index t (0 : Fin 2) = (min (((15 - t.val) + 1) * 128) 2047) ∧ win0_2.index t (1 : Fin 2) = 0 :=
  (by decide +kernel : ∀ t : Fin grid0.N, _)
/-- The rows after the block. -/
theorem block_2 (c : Dev nD) (t : Fin cfg0.N) (i : Fin 8) (j : Fin 1024) (R : Fin 16384) (hR : R.val = (min (((15 - t.val) + 1) * 128) 2047) * 8 + i.val) :
    (iblk m c 2 t : Vec Ideal S8x1024 _) (ix2 i j) = (given m c).x R j := by
  have hi := at_2 t
  unfold iblk
  rw [View.read_apply]
  show V m c main_arg0 _ = _
  rw [V_main_arg0]
  unfold given
  dsimp only
  congr 1
  funext a
  apply Fin.ext
  match a with
  | ⟨0, _⟩ => show win0_2.index t (0 : Fin 2) * 8 + 1 * i.val = R.val; rw [hi.1, hR]; omega
  | ⟨1, _⟩ => show win0_2.index t (1 : Fin 2) * 1024 + 1 * j.val = j.val; rw [hi.2]; omega

theorem at_3 : ∀ t : Fin cfg0.N, win0_3.index t (0 : Fin 2) = 0 ∧ win0_3.index t (1 : Fin 2) = 0 :=
  (by decide +kernel : ∀ t : Fin grid0.N, _)
theorem block_3_array (c : Dev nD) (t : Fin cfg0.N) (i : Fin 4) (j : Fin 1024) :
    (iblk m c 3 t : Vec Ideal S4x1024 _) (ix2 i j) = (V m c main_v3 : Vec Ideal S4x1024 _) (ix2 i j) := by
  have hi := at_3 t
  unfold iblk
  rw [View.read_apply]
  show V m c main_v3 _ = _
  congr 1
  funext a
  apply Fin.ext
  match a with
  | ⟨0, _⟩ => show win0_3.index t (0 : Fin 2) * 4 + 1 * i.val = i.val; rw [hi.1]; omega
  | ⟨1, _⟩ => show win0_3.index t (1 : Fin 2) * 1024 + 1 * j.val = j.val; rw [hi.2]; omega
/-- The taps. -/
theorem block_3 (c : Dev nD) (t : Fin cfg0.N) (k : Fin 4) (d : Fin 1024) :
    (iblk m c 3 t : Vec Ideal S4x1024 _) (ix2 k d) = (given m c).taps k d := by
  refine (block_3_array m c t k d).trans ?_
  have e : V m c main_v3 = shapeCast S4x1024 (extractStridedSlice S1x4x1024 ![1, 0, 0] (m ((c : Thread nD τ).loc main_arg2) : Vec Ideal S2x4x1024 .f32) slices_S2x4x1024_S1x4x1024_1_0_0) shapeCasts_S1x4x1024_S4x1024 := by rfl
  rw [e]
  unfold given
  pointwise

theorem at_4 : ∀ t : Fin cfg0.N, win0_4.index t (0 : Fin 2) = 0 ∧ win0_4.index t (1 : Fin 2) = 0 :=
  (by decide +kernel : ∀ t : Fin grid0.N, _)
theorem block_4_array (c : Dev nD) (t : Fin cfg0.N) (i : Fin 1) (j : Fin 1024) :
    (iblk m c 4 t : Vec Ideal S1x1024 _) (ix2 i j) = (V m c main_v12 : Vec Ideal S1x1024 _) (ix2 i j) := by
  have hi := at_4 t
  unfold iblk
  rw [View.read_apply]
  show V m c main_v12 _ = _
  congr 1
  funext a
  apply Fin.ext
  match a with
  | ⟨0, _⟩ => show win0_4.index t (0 : Fin 2) * 1 + 1 * i.val = i.val; rw [hi.1]; omega
  | ⟨1, _⟩ => show win0_4.index t (1 : Fin 2) * 1024 + 1 * j.val = j.val; rw [hi.2]; omega
/-- The convolution's bias. -/
theorem block_4 (c : Dev nD) (t : Fin cfg0.N) (d : Fin 1024) :
    (iblk m c 4 t : Vec Ideal S1x1024 _) (ix2 0 d) = (given m c).cb d := by
  refine (block_4_array m c t 0 d).trans ?_
  have e : V m c main_v12 = shapeCast S1x1024 (shapeCast S1024 (extractStridedSlice S1x1024 ![1, 0] (m ((c : Thread nD τ).loc main_arg3) : Vec Ideal S2x1024 .f32) slices_S2x1024_S1x1024_1_0) shapeCasts_S1x1024_S1024) shapeCasts_S1024_S1x1024 := by rfl
  rw [e]
  unfold given
  pointwise

theorem at_5 : ∀ t : Fin cfg0.N, win0_5.index t (0 : Fin 5) = 1 ∧ win0_5.index t (1 : Fin 5) = 1 ∧ win0_5.index t (2 : Fin 5) = 0 ∧ win0_5.index t (3 : Fin 5) = 0 ∧ win0_5.index t (4 : Fin 5) = 0 :=
  (by decide +kernel : ∀ t : Fin grid0.N, _)
/-- The recurrence gate's weights. -/
theorem block_5 (c : Dev nD) (t : Fin cfg0.N) (h : Fin 4) (j e : Fin 256) :
    (iblk m c 5 t : Vec Ideal S1x1x4x256x256 _) (ix5 0 0 h j e) = (given m c).wr h j e := by
  have hi := at_5 t
  unfold iblk
  rw [View.read_apply]
  show V m c main_v0 _ = _
  have e0 : (V m c main_v0 : Vec Ideal S2x2x4x256x256 .bf16) = truncf (F := Ideal) .bf16 (m ((c : Thread nD τ).loc main_arg4) : Vec Ideal S2x2x4x256x256 .f32) bitsLt_bf16_f32 := by rfl
  rw [e0]
  unfold given
  show (m ((c : Thread nD τ).loc main_arg4) : Vec Ideal S2x2x4x256x256 .f32) _ = _
  congr 1
  funext a
  apply Fin.ext
  match a with
  | ⟨0, _⟩ => show win0_5.index t (0 : Fin 5) * 1 + 1 * 0 = 1; rw [hi.1]
  | ⟨1, _⟩ => show win0_5.index t (1 : Fin 5) * 1 + 1 * 0 = 1; rw [hi.2.1]
  | ⟨2, _⟩ => show win0_5.index t (2 : Fin 5) * 4 + 1 * h.val = h.val; rw [hi.2.2.1]; omega
  | ⟨3, _⟩ => show win0_5.index t (3 : Fin 5) * 256 + 1 * j.val = j.val; rw [hi.2.2.2.1]; omega
  | ⟨4, _⟩ => show win0_5.index t (4 : Fin 5) * 256 + 1 * e.val = e.val; rw [hi.2.2.2.2]; omega

theorem at_6 : ∀ t : Fin cfg0.N, win0_6.index t (0 : Fin 2) = 0 ∧ win0_6.index t (1 : Fin 2) = 0 :=
  (by decide +kernel : ∀ t : Fin grid0.N, _)
theorem block_6_array (c : Dev nD) (t : Fin cfg0.N) (i : Fin 1) (j : Fin 1024) :
    (iblk m c 6 t : Vec Ideal S1x1024 _) (ix2 i j) = (V m c main_v13 : Vec Ideal S1x1024 _) (ix2 i j) := by
  have hi := at_6 t
  unfold iblk
  rw [View.read_apply]
  show V m c main_v13 _ = _
  congr 1
  funext a
  apply Fin.ext
  match a with
  | ⟨0, _⟩ => show win0_6.index t (0 : Fin 2) * 1 + 1 * i.val = i.val; rw [hi.1]; omega
  | ⟨1, _⟩ => show win0_6.index t (1 : Fin 2) * 1024 + 1 * j.val = j.val; rw [hi.2]; omega
/-- The recurrence gate's bias. -/
theorem block_6 (c : Dev nD) (t : Fin cfg0.N) (d : Fin 1024) :
    (iblk m c 6 t : Vec Ideal S1x1024 _) (ix2 0 d) = (given m c).br d := by
  refine (block_6_array m c t 0 d).trans ?_
  have e : V m c main_v13 = shapeCast S1x1024 (shapeCast S1024 (extractStridedSlice S1x1x1024 ![1, 1, 0] (m ((c : Thread nD τ).loc main_arg5) : Vec Ideal S2x2x1024 .f32) slices_S2x2x1024_S1x1x1024_1_1_0) shapeCasts_S1x1x1024_S1024) shapeCasts_S1024_S1x1024 := by rfl
  rw [e]
  unfold given
  pointwise

theorem at_7 : ∀ t : Fin cfg0.N, win0_7.index t (0 : Fin 5) = 1 ∧ win0_7.index t (1 : Fin 5) = 1 ∧ win0_7.index t (2 : Fin 5) = 0 ∧ win0_7.index t (3 : Fin 5) = 0 ∧ win0_7.index t (4 : Fin 5) = 0 :=
  (by decide +kernel : ∀ t : Fin grid0.N, _)
/-- The input gate's weights. -/
theorem block_7 (c : Dev nD) (t : Fin cfg0.N) (h : Fin 4) (j e : Fin 256) :
    (iblk m c 7 t : Vec Ideal S1x1x4x256x256 _) (ix5 0 0 h j e) = (given m c).wi h j e := by
  have hi := at_7 t
  unfold iblk
  rw [View.read_apply]
  show V m c main_v1 _ = _
  have e0 : (V m c main_v1 : Vec Ideal S2x2x4x256x256 .bf16) = truncf (F := Ideal) .bf16 (m ((c : Thread nD τ).loc main_arg6) : Vec Ideal S2x2x4x256x256 .f32) bitsLt_bf16_f32 := by rfl
  rw [e0]
  unfold given
  show (m ((c : Thread nD τ).loc main_arg6) : Vec Ideal S2x2x4x256x256 .f32) _ = _
  congr 1
  funext a
  apply Fin.ext
  match a with
  | ⟨0, _⟩ => show win0_7.index t (0 : Fin 5) * 1 + 1 * 0 = 1; rw [hi.1]
  | ⟨1, _⟩ => show win0_7.index t (1 : Fin 5) * 1 + 1 * 0 = 1; rw [hi.2.1]
  | ⟨2, _⟩ => show win0_7.index t (2 : Fin 5) * 4 + 1 * h.val = h.val; rw [hi.2.2.1]; omega
  | ⟨3, _⟩ => show win0_7.index t (3 : Fin 5) * 256 + 1 * j.val = j.val; rw [hi.2.2.2.1]; omega
  | ⟨4, _⟩ => show win0_7.index t (4 : Fin 5) * 256 + 1 * e.val = e.val; rw [hi.2.2.2.2]; omega

theorem at_8 : ∀ t : Fin cfg0.N, win0_8.index t (0 : Fin 2) = 0 ∧ win0_8.index t (1 : Fin 2) = 0 :=
  (by decide +kernel : ∀ t : Fin grid0.N, _)
theorem block_8_array (c : Dev nD) (t : Fin cfg0.N) (i : Fin 1) (j : Fin 1024) :
    (iblk m c 8 t : Vec Ideal S1x1024 _) (ix2 i j) = (V m c main_v14 : Vec Ideal S1x1024 _) (ix2 i j) := by
  have hi := at_8 t
  unfold iblk
  rw [View.read_apply]
  show V m c main_v14 _ = _
  congr 1
  funext a
  apply Fin.ext
  match a with
  | ⟨0, _⟩ => show win0_8.index t (0 : Fin 2) * 1 + 1 * i.val = i.val; rw [hi.1]; omega
  | ⟨1, _⟩ => show win0_8.index t (1 : Fin 2) * 1024 + 1 * j.val = j.val; rw [hi.2]; omega
/-- The input gate's bias. -/
theorem block_8 (c : Dev nD) (t : Fin cfg0.N) (d : Fin 1024) :
    (iblk m c 8 t : Vec Ideal S1x1024 _) (ix2 0 d) = (given m c).bi d := by
  refine (block_8_array m c t 0 d).trans ?_
  have e : V m c main_v14 = shapeCast S1x1024 (shapeCast S1024 (extractStridedSlice S1x1x1024 ![1, 1, 0] (m ((c : Thread nD τ).loc main_arg7) : Vec Ideal S2x2x1024 .f32) slices_S2x2x1024_S1x1x1024_1_1_0) shapeCasts_S1x1x1024_S1024) shapeCasts_S1024_S1x1024 := by rfl
  rw [e]
  unfold given
  pointwise

theorem at_9 : ∀ t : Fin cfg0.N, win0_9.index t (0 : Fin 2) = 0 ∧ win0_9.index t (1 : Fin 2) = 0 :=
  (by decide +kernel : ∀ t : Fin grid0.N, _)
theorem block_9_array (c : Dev nD) (t : Fin cfg0.N) (i : Fin 1) (j : Fin 1024) :
    (iblk m c 9 t : Vec Ideal S1x1024 _) (ix2 i j) = (V m c main_v15 : Vec Ideal S1x1024 _) (ix2 i j) := by
  have hi := at_9 t
  unfold iblk
  rw [View.read_apply]
  show V m c main_v15 _ = _
  congr 1
  funext a
  apply Fin.ext
  match a with
  | ⟨0, _⟩ => show win0_9.index t (0 : Fin 2) * 1 + 1 * i.val = i.val; rw [hi.1]; omega
  | ⟨1, _⟩ => show win0_9.index t (1 : Fin 2) * 1024 + 1 * j.val = j.val; rw [hi.2]; omega
/-- The decay's parameter. -/
theorem block_9 (c : Dev nD) (t : Fin cfg0.N) (d : Fin 1024) :
    (iblk m c 9 t : Vec Ideal S1x1024 _) (ix2 0 d) = (given m c).lam d := by
  refine (block_9_array m c t 0 d).trans ?_
  have e : V m c main_v15 = shapeCast S1x1024 (shapeCast S1024 (extractStridedSlice S1x1x1024 ![1, 1, 0] (m ((c : Thread nD τ).loc main_arg8) : Vec Ideal S2x2x1024 .f32) slices_S2x2x1024_S1x1x1024_1_1_0) shapeCasts_S1x1x1024_S1024) shapeCasts_S1024_S1x1024 := by rfl
  rw [e]
  unfold given
  pointwise

theorem at_10 : ∀ t : Fin cfg0.N, win0_10.index t (0 : Fin 3) = (15 - t.val) / 8 ∧ win0_10.index t (1 : Fin 3) = 0 ∧ win0_10.index t (2 : Fin 3) = 0 :=
  (by decide +kernel : ∀ t : Fin grid0.N, _)
/-- The first state of the sequence. -/
theorem block_10 (c : Dev nD) (t : Fin cfg0.N) (b : Fin 2) (hb : b.val = (15 - t.val) / 8) (d : Fin 1024) :
    (iblk m c 10 t : Vec Ideal S1x1x1024 _) (ix3 0 0 d) = (given m c).h0 b d := by
  have hi := at_10 t
  unfold iblk
  rw [View.read_apply]
  show V m c main_arg1 _ = _
  rw [V_main_arg1]
  unfold given
  dsimp only
  congr 1
  funext a
  apply Fin.ext
  match a with
  | ⟨0, _⟩ => show win0_10.index t (0 : Fin 3) * 1 + 1 * 0 = b.val; rw [hi.1, hb]; omega
  | ⟨1, _⟩ => show win0_10.index t (1 : Fin 3) * 1 + 1 * 0 = 0; rw [hi.2.1]
  | ⟨2, _⟩ => show win0_10.index t (2 : Fin 3) * 1024 + 1 * d.val = d.val; rw [hi.2.2]; omega

/-- The sequence a grid point's tile belongs to. -/
def seqOf (t : Fin cfg0.N) : Fin 2 := ⟨(15 - t.val) / 8, by have := t.isLt; have hN : cfg0.N = 16 := N_0; omega⟩

/-- The blocks at a grid point are those of its tile. -/
theorem holds (c : Dev nD) (t : Fin cfg0.N) : Holds (given m c) (seqOf t) ((15 - t.val) % 8) (grid0.coords t) (blk m c t) := by
  have hN : cfg0.N = 16 := N_0
  have ht := t.isLt
  have hs : (seqOf t).val = (15 - t.val) / 8 := rfl
  constructor
  · rw [coord_val t]
  · intro r d h
    exact block_0 m c t r d _ (by show (seqOf t).val * 8192 + ((15 - t.val) % 8 * 1024 + r.val) = _; rw [hs]; omega)
  · intro h0 q d h
    exact block_1 m c t q d _ (by show (seqOf t).val * 8192 + ((15 - t.val) % 8 * 1024 - 8 + q.val) = _; rw [hs]; omega)
  · intro h7 q d h
    exact block_2 m c t q d _ (by show (seqOf t).val * 8192 + ((15 - t.val) % 8 * 1024 + 1024 + q.val) = _; rw [hs]; omega)
  · exact block_3 m c t
  · exact block_4 m c t
  · exact block_5 m c t
  · exact block_6 m c t
  · exact block_7 m c t
  · exact block_8 m c t
  · exact block_9 m c t
  · exact block_10 m c t (seqOf t) hs

end Cert.ScanBwdIdeal.Hand
end
-- ==== Proof.ScanBwdIdeal.Result.lean ====
module

public import proofs.«01_k».proof.Proof.ScanBwdIdeal.Blocks
public import Idealize.ShloMosaic.Lib.Pipeline.ValueKit

@[expose] public section

set_option maxRecDepth 16384

noncomputable section
namespace Cert.ScanBwdIdeal.Hand
open Cert.ScanBwdIdeal Cert.ScanBwdIdeal.Gen Cert.Formula Idealize.ShloMosaic Idealize.ShloMosaic.TcCoe Idealize.ShloMosaic.Tactic Idealize.SL.Sem

/-! The states the blocks are left holding, point after point, and the array the run ends with. -/

variable (m : (ℓ : Loc nD τ sig) → Buf (Elt Ideal) ℓ)

/-- The steps of a grid point's block, the first of them first. -/
def stepsOf (c : Dev nD) (t : Fin cfg0.N) (d : Fin 1024) (n : ℕ) : EReal × EReal :=
  (given m c).stepBwd (seqOf t) d (1024 * (t.val % 8) + n)

/-- The block's decays and gated inputs are its steps. -/
theorem steps (c : Dev nD) (t : Fin cfg0.N) :
    Steps (stepsOf m c t) (coefs (grid0.coords t) (blk m c t)) (inputs (grid0.coords t) (blk m c t)) where
  good := fun d n => (given m c).coef_good _ _ d
  coef := fun r d => by
    have hN : cfg0.N = 16 := N_0
    have ht := t.isLt
    have hr := r.isLt
    refine (coefs_at (grid0.coords t) (blk m c t) r d).trans ((decay_is (holds m c t) r d).trans ?_)
    show (given m c).coef _ ((15 - t.val) % 8 * 1024 + r.val) d = (given m c).coef _ (8191 - (1024 * (t.val % 8) + (1023 - r.val))) d
    congr 1; omega
  input := fun r d => by
    have hN : cfg0.N = 16 := N_0
    have ht := t.isLt
    have hr := r.isLt
    refine (inputs_at (grid0.coords t) (blk m c t) r d).trans ((gated_is (holds m c t) r d).trans ?_)
    show (given m c).input _ ((15 - t.val) % 8 * 1024 + r.val) d = (given m c).input _ (8191 - (1024 * (t.val % 8) + (1023 - r.val))) d
    congr 1; omega

/-- The state a sequence begins with. -/
theorem start_at (c : Dev nD) (t : Fin cfg0.N) (d : Fin 1024) :
    (start (blk m c t) : Vec Ideal S1x1024 .f32) (ix2 0 d) = (given m c).h0 (seqOf t) d := by
  refine Eq.trans ?_ ((holds m c t).h0 d)
  unfold start
  generalize blk m c t = X
  unfold k0_pay2
  pointwise

/-- The state after a block, from the one before it. -/
theorem next_at (c : Dev nD) (t : Fin cfg0.N) (s : Vec Ideal S1x1024 .f32) (d : Fin 1024) :
    (next (grid0.coords t) (blk m c t) s : Vec Ideal S1x1024 .f32) (ix2 0 d) = walkFrom (stepsOf m c t d) (s (ix2 0 d)) 1024 := by
  refine Eq.trans ?_ (final_at (steps m c t) s d)
  unfold next
  generalize final (coefs (grid0.coords t) (blk m c t)) (inputs (grid0.coords t) (blk m c t)) s = P
  unfold k0_pay5
  pointwise

/-- The state after a grid point: the sequence's state after all the steps up to it. -/
theorem stateAfter_at (c : Dev nD) (d : Fin 1024) : ∀ (n : ℕ) (h : n < cfg0.N),
    (stateAfter m c n h : Vec Ideal S1x1024 .f32) (ix2 0 d)
      = walkFrom ((given m c).stepBwd (seqOf ⟨n, h⟩) d) ((given m c).h0 (seqOf ⟨n, h⟩) d) (1024 * (n % 8) + 1024)
  | 0, h => by
    refine (next_at m c ⟨0, h⟩ _ d).trans ?_
    rw [start_at, walkFrom_add]
    rfl
  | n + 1, h => by
    have hN : cfg0.N = 16 := N_0
    refine (next_at m c ⟨n + 1, h⟩ _ d).trans ?_
    rw [walkFrom_add]
    by_cases h0 : (n + 1) % 8 = 0
    · rw [if_pos h0, start_at, h0]
      unfold stepsOf
      dsimp only
      rw [h0]
      rfl
    · rw [if_neg h0, stateAfter_at c d n (Nat.lt_of_succ_lt h)]
      have e : seqOf ⟨n, Nat.lt_of_succ_lt h⟩ = seqOf ⟨n + 1, h⟩ := Fin.ext (by
        show (15 - n) / 8 = (15 - (n + 1)) / 8; omega)
      rw [e, show 1024 * (n % 8) + 1024 = 1024 * ((n + 1) % 8) by omega]
      rfl

/-- The state a grid point begins with. -/
theorem stateBefore_at (c : Dev nD) (t : Fin cfg0.N) (d : Fin 1024) :
    (stateBefore m c t : Vec Ideal S1x1024 .f32) (ix2 0 d)
      = walkFrom ((given m c).stepBwd (seqOf t) d) ((given m c).h0 (seqOf t) d) (1024 * (t.val % 8)) := by
  have hN : cfg0.N = 16 := N_0
  have ht := t.isLt
  unfold stateBefore
  by_cases h0 : t.val % 8 = 0
  · rw [if_pos h0, start_at, h0]
    rfl
  · rw [if_neg h0, stateAfter_at]
    have e : seqOf ⟨t.val - 1, lt_of_le_of_lt (Nat.sub_le _ _) t.isLt⟩ = seqOf t := Fin.ext (by
      show (15 - (t.val - 1)) / 8 = (15 - t.val) / 8; omega)
    rw [e, show 1024 * ((t.val - 1) % 8) + 1024 = 1024 * (t.val % 8) by omega]

/-- The states of a grid point's block. -/
theorem hs_at (c : Dev nD) (t : Fin cfg0.N) (r d : Fin 1024) :
    (hs (grid0.coords t) (blk m c t) (stateBefore m c t) : Vec Ideal S1024x1024 .f32) (ix2 r d)
      = (given m c).stateBwd (seqOf t) ((15 - t.val) % 8 * 1024 + r.val) d := by
  have hN : cfg0.N = 16 := N_0
  have ht := t.isLt
  have hr := r.isLt
  unfold hs
  refine (states_at (steps m c t) (stateBefore m c t) r d).trans ?_
  rw [stateBefore_at]
  unfold ScanInputs.stateBwd
  rw [show 8192 - ((15 - t.val) % 8 * 1024 + r.val) = 1024 * (t.val % 8) + (1024 - r.val) by omega, walkFrom_add]
  rfl

/-- The array the run leaves. -/
def result (c : Dev nD) : Vec Ideal S16384x1024 .f32 := fun i =>
  (given m c).stateBwd ⟨(i 0).val / 8192, by have := (i 0).isLt; change _ < 16384 at this; omega⟩ ((i 0).val % 8192) (i 1)

theorem at_11 : ∀ t : Fin cfg0.N, win0_11.index t (0 : Fin 2) = (15 - t.val) ∧ win0_11.index t (1 : Fin 2) = 0 :=
  (by decide +kernel : ∀ t : Fin grid0.N, _)

/-- What a grid point writes, in its place. -/
theorem outAt_at (c : Dev nD) (t : Fin cfg0.N) (r d : Fin 1024) (i : S16384x1024.Idx)
    (h0 : (i 0).val = (15 - t.val) * 1024 + r.val) (h1 : i 1 = d) : (outAt m c t : Vec Ideal S1024x1024 .f32) (ix2 r d) = result m c i := by
  have hN : cfg0.N = 16 := N_0
  have ht := t.isLt
  have hr := r.isLt
  refine (hs_at m c t r d).trans ?_
  have e : seqOf t = ⟨(i 0).val / 8192, by have := (i 0).isLt; change _ < 16384 at this; omega⟩ := Fin.ext (by
    show (15 - t.val) / 8 = (i 0).val / 8192; omega)
  unfold result
  rw [e, h1, show (15 - t.val) % 8 * 1024 + r.val = (i 0).val % 8192 by omega]

/-- The result's array after the run. -/
theorem array_eq (c : Dev nD) : (dats m 0 c).arrAt 11 (cfgs 0).N = result m c := by
  refine (dats m 0 c).arrAt_eq_of_covers 11 _ (by decide +kernel) fun t hf y => ?_
  have hi := at_11 t
  rw [after11]
  have key : ∀ z : S1024x1024.Idx, (∀ a, (z a).val = (y a).val) → outAt m c t z = result m c (((cfg0.win 11).blk t).view.emb y) := fun z hz => by
    have ez : z = (ix2 (z 0) (z 1) : S1024x1024.Idx) := funext fun a => match a with | ⟨0, _⟩ => rfl | ⟨1, _⟩ => rfl
    rw [ez]
    refine outAt_at m c t (z 0) (z 1) _ ?_ ?_
    · show win0_11.index t (0 : Fin 2) * 1024 + 1 * (y 0).val = _; rw [hi.1, ← hz 0]; omega
    · apply Fin.ext; show win0_11.index t (1 : Fin 2) * 1024 + 1 * (y 1).val = _; rw [hi.2, ← hz 1]; omega
  generalize result m c = G at key ⊢
  generalize outAt m c t = Z at key ⊢
  refine Eq.trans ?_ (key ((cfg0.win 11).xinj (cfg0.grid.coords t) y) fun a => rfl)
  rfl

/-- The run ends with the result in its array. -/
theorem run_value (ρ : Dev nD → PrngReg) :
    θ_run defs (onTc (τ := τ) (main (F := Ideal))) ⟨m, fun _ => 0, ρ⟩ (fun r => ∀ c : Dev nD,
      r.2.mem ((c.tc : Thread nD τ).loc main_v16) = result m c) :=
  (θ_run defs _ _).mono (fun _ h c => ((h c).1 11).trans (array_eq m c)) (run_main m ρ)

end Cert.ScanBwdIdeal.Hand
end
-- ==== Proof.RefBwdIdeal.Entry.lean ====
module

public import proofs.«01_k».proof.Proof.Gen.RefBwdIdeal.Run
public import proofs.«01_k».proof.Proof.Formula.Scan

@[expose] public section

set_option maxRecDepth 16384

noncomputable section
namespace Cert.RefBwdIdeal.Hand
open Cert.RefBwdIdeal Cert.RefBwdIdeal.Gen Cert.Formula Idealize.ShloMosaic Idealize.ShloMosaic.TcCoe Idealize.SL.Sem

/-! What the reference has computed when its loop begins: the decays and the gated inputs, as the formulas. -/

variable (V : Valuation τ sig (Elt Ideal))

/-- What the program is given, as the formulas' inputs: layer 1, the backward direction. -/
def given : ScanInputs where
  x := fun R d => (V (Proc.devRef .tc main_arg0) : Vec Ideal S16384x1024 .f32) (ix2 R d)
  taps := fun k d => (V (Proc.devRef .tc main_arg2) : Vec Ideal S2x4x1024 .f32) (ix3 1 k d)
  cb := fun d => (V (Proc.devRef .tc main_arg3) : Vec Ideal S2x1024 .f32) (ix2 1 d)
  wr := fun h i j => (V (Proc.devRef .tc main_arg4) : Vec Ideal S2x2x4x256x256 .f32) (ix5 1 1 h i j)
  br := fun d => (V (Proc.devRef .tc main_arg5) : Vec Ideal S2x2x1024 .f32) (ix3 1 1 d)
  wi := fun h i j => (V (Proc.devRef .tc main_arg6) : Vec Ideal S2x2x4x256x256 .f32) (ix5 1 1 h i j)
  bi := fun d => (V (Proc.devRef .tc main_arg7) : Vec Ideal S2x2x1024 .f32) (ix3 1 1 d)
  lam := fun d => (V (Proc.devRef .tc main_arg8) : Vec Ideal S2x2x1024 .f32) (ix3 1 1 d)
  h0 := fun b d => (V (Proc.devRef .tc main_arg1) : Vec Ideal S2x1x1024 .f32) (ix3 b 0 d)

/-- The contents after the first two stretches. -/
def at1 : Valuation τ sig (Elt Ideal) := StableHlo.after hostOps0_1 (StableHlo.after hostOps0 V)
/-- The contents after the third. -/
def at2 : Valuation τ sig (Elt Ideal) := StableHlo.after hostOps0_2 (at1 V)
/-- The contents after the fourth. -/
def at3 : Valuation τ sig (Elt Ideal) := StableHlo.after hostOps0_3 (at2 V)
/-- The contents when the loop begins. -/
def at4 : Valuation τ sig (Elt Ideal) := StableHlo.after hostOps0_4 (at3 V)

/-- The taps. -/
theorem taps_at1 (k : Fin 4) (d : Fin 1024) : (at1 V (Proc.devRef .tc main_v2) : Vec Ideal S4x1024 .f32) (ix2 k d) = (given V).taps k d := by
  unfold at1 given
  after_reads_simp
  pointwise

/-- The convolution's bias. -/
theorem cb_at1 (d : Fin 1024) : (at1 V (Proc.devRef .tc main_v4) : Vec Ideal S1024 .f32) (ix1 d) = (given V).cb d := by
  unfold at1 given
  after_reads_simp
  pointwise

/-- The padded rows. -/
theorem padded_at1 (b : Fin 2) (s : Fin 8195) (d : Fin 1024) :
    (at1 V (Proc.devRef .tc main_v5) : Vec Ideal S2x8195x1024 .f32) (ix3 b s d) = (given V).padded b s.val d := by
  have e : at1 V (Proc.devRef .tc main_v5) = pad (s := S2x8192x1024) S2x8195x1024 ![0, 2, 0] ![0, 1, 0] ![0, 0, 0]
      (shapeCast S2x8192x1024 (V (Proc.devRef .tc main_arg0) : Vec Ideal S16384x1024 .f32) shapeCasts_S16384x1024_S2x8192x1024)
      (sitofp (F := Ideal) .f32 (constantI S_ 32 0#32)) pads_S2x8192x1024_S2x8195x1024_000_210_000 h_S_ := by
    unfold at1
    after_reads_simp
    rfl
  unfold given ScanInputs.padded
  rw [e]
  pointwise
  by_cases h : 2 ≤ s.val ∧ s.val < 8194
  · rw [dif_pos h, dif_pos ⟨h.1, by omega⟩]
  · rw [dif_neg h, dif_neg (fun h' => h ⟨h'.1, by omega⟩)]
    show (((0#32).toInt : ℝ) : EReal) = 0
    simp

/-- The third stretch reads these arguments as they were given. -/
theorem args_at1 : at1 V (Proc.devRef .tc main_arg4) = V (Proc.devRef .tc main_arg4) ∧ at1 V (Proc.devRef .tc main_arg5) = V (Proc.devRef .tc main_arg5)
    ∧ at1 V (Proc.devRef .tc main_arg6) = V (Proc.devRef .tc main_arg6) ∧ at1 V (Proc.devRef .tc main_arg7) = V (Proc.devRef .tc main_arg7)
    ∧ at1 V (Proc.devRef .tc main_arg8) = V (Proc.devRef .tc main_arg8) ∧ at1 V (Proc.devRef .tc main_arg1) = V (Proc.devRef .tc main_arg1) := by
  unfold at1
  refine ⟨?_, ?_, ?_, ?_, ?_, ?_⟩ <;> after_reads_simp

/-- The convolution. -/
theorem conv_at2 (b : Fin 2) (t : Fin 8192) (d : Fin 1024) :
    (at2 V (Proc.devRef .tc main_v35) : Vec Ideal S2x8192x1024 .f32) (ix3 b t d) = (given V).conv b t.val d := by
  unfold ScanInputs.conv conv4
  simp only [← taps_at1, ← cb_at1]
  rw [← padded_at1 V b ⟨t.val, by have := t.isLt; omega⟩, ← padded_at1 V b ⟨1 + t.val, by have := t.isLt; omega⟩,
    ← padded_at1 V b ⟨2 + t.val, by have := t.isLt; omega⟩, ← padded_at1 V b ⟨3 + t.val, by have := t.isLt; omega⟩]
  unfold at2
  after_reads_simp
  pointwise

/-- The recurrence gate, times minus eight. -/
theorem rec_at2 (b : Fin 2) (t : Fin 8192) (d : Fin 1024) :
    (at2 V (Proc.devRef .tc main_v73) : Vec Ideal S2x8192x1024 .f32) (ix3 b t d) = negEight * sigm ((given V).recArg b t.val d) := by
  obtain ⟨e4, e5, e6, e7, e8, e1⟩ := args_at1 V
  unfold ScanInputs.recArg sigm negEight
  rw [gateArg_comm]
  simp only [← conv_at2]
  unfold given head place column at2
  rw [← e4, ← e5]
  after_reads_simp
  pointwise

/-- The input gate. -/
theorem in_at2 (b : Fin 2) (t : Fin 8192) (d : Fin 1024) :
    (at2 V (Proc.devRef .tc main_v71) : Vec Ideal S2x8192x1024 .f32) (ix3 b t d) = sigm ((given V).inArg b t.val d) := by
  obtain ⟨e4, e5, e6, e7, e8, e1⟩ := args_at1 V
  unfold ScanInputs.inArg sigm
  rw [gateArg_comm]
  simp only [← conv_at2]
  unfold given head place column at2
  rw [← e6, ← e7]
  after_reads_simp
  pointwise

/-- The decay parameter, negated. -/
theorem lam_at2 (d : Fin 1024) : (at2 V (Proc.devRef .tc main_v74) : Vec Ideal S1024 .f32) (ix1 d) = -(given V).lam d := by
  obtain ⟨e4, e5, e6, e7, e8, e1⟩ := args_at1 V
  unfold given at2
  rw [← e8]
  after_reads_simp
  pointwise

/-- The starting state. -/
theorem h0_at2 (b : Fin 2) (d : Fin 1024) : (at2 V (Proc.devRef .tc main_v46) : Vec Ideal S2x1024 .f32) (ix2 b d) = (given V).h0 b d := by
  obtain ⟨e4, e5, e6, e7, e8, e1⟩ := args_at1 V
  unfold given at2
  rw [← e1]
  after_reads_simp
  pointwise

/-- The softplus. -/
theorem softplus_at3 (d : Fin 1024) : (at3 V (Proc.devRef .tc main_v75) : Vec Ideal S1024 .f32) (ix1 d) = softplusNeg ((given V).lam d) := by
  have e := lam_at2 V d
  unfold softplusNeg at3
  after_reads_simp
  simp -implicitDefEqProofs only [StableHlo.TRef.toBuf, StableHlo.TRef.ofBuf, cast_eq]
  pointwise
  rw [if_neg (by simp), e]
  show max _ _ + Ideal.log (1 + Ideal.exp (-max (-(given V).lam d) (-(-(given V).lam d)))) = _
  rw [neg_neg, max_comm (-(given V).lam d) ((given V).lam d)]

/-- The fourth stretch leaves these as they were. -/
theorem kept_at3 : at3 V (Proc.devRef .tc main_v73) = at2 V (Proc.devRef .tc main_v73) ∧ at3 V (Proc.devRef .tc main_v71) = at2 V (Proc.devRef .tc main_v71)
    ∧ at3 V (Proc.devRef .tc main_v35) = at2 V (Proc.devRef .tc main_v35) ∧ at3 V (Proc.devRef .tc main_v46) = at2 V (Proc.devRef .tc main_v46) := by
  unfold at3
  refine ⟨?_, ?_, ?_, ?_⟩ <;> after_reads_simp

/-- The decays, by time first. -/
theorem coef_at4 (b : Fin 2) (t : Fin 8192) (d : Fin 1024) :
    (at4 V (Proc.devRef .tc main_v90_0) : Vec Ideal S8192x2x1024 .f32) (ix3 t b d) = (given V).coef b t.val d := by
  have h : (given V).coef b t.val d = Ideal.exp (negEight * sigm ((given V).recArg b t.val d) * softplusNeg ((given V).lam d)) := by
    unfold ScanInputs.coef logDecay
    congr 1
    exact mul_right_comm _ _ _
  rw [h, ← rec_at2, ← softplus_at3, ← (kept_at3 V).1]
  unfold at4
  after_reads_simp
  simp only [id]
  pointwise

/-- The gated inputs, by time first. -/
theorem input_at4 (b : Fin 2) (t : Fin 8192) (d : Fin 1024) :
    (at4 V (Proc.devRef .tc main_v90_1) : Vec Ideal S8192x2x1024 .f32) (ix3 t b d) = (given V).input b t.val d := by
  have h : (given V).input b t.val d = Ideal.sqrt (-Ideal.expm1 (two * (negEight * sigm ((given V).recArg b t.val d) * softplusNeg ((given V).lam d))))
      * (sigm ((given V).inArg b t.val d) * (given V).conv b t.val d) := by
    unfold ScanInputs.input gatedInput ScanInputs.coef
    rw [one_sub_sq]
    unfold logDecay
    rw [mul_right_comm negEight]
  rw [h, ← rec_at2, ← softplus_at3, ← in_at2, ← conv_at2, ← (kept_at3 V).1, ← (kept_at3 V).2.1, ← (kept_at3 V).2.2.1]
  unfold two at4 Ideal.expm1
  after_reads_simp
  simp only [id]
  pointwise

/-- The state the loop begins with. -/
theorem state_at4 (b : Fin 2) (d : Fin 1024) :
    (at4 V (Proc.devRef .tc main_v90_3) : Vec Ideal S2x1024 .f32) (ix2 b d) = (given V).h0 b d := by
  rw [← h0_at2, ← (kept_at3 V).2.2.2]
  unfold at4
  after_reads_simp
  try rfl

/-- The counter begins at nought. -/
theorem counter_at4 : (at4 V (Proc.devRef .tc main_v90_2) : IVec S_ 32) = fun _ => 0#32 := by
  unfold at4
  after_reads_simp
  rfl

end Cert.RefBwdIdeal.Hand
end
-- ==== Proof.RefBwdIdeal.Loop.lean ====
module

public import proofs.«01_k».proof.Proof.RefBwdIdeal.Entry
public import Idealize.ShloMosaic.Lib.DynamicIndex

@[expose] public section

set_option maxRecDepth 16384

noncomputable section
namespace Cert.RefBwdIdeal.Hand
open Idealize.ShloMosaic.StableHlo Cert.RefBwdIdeal Cert.RefBwdIdeal.Gen Cert.RefBwdIdeal.Value Cert.Formula Idealize.ShloMosaic Idealize.ShloMosaic.TcCoe Idealize.SL.Sem

/-! The reference's loop: after `n` trips the state has walked `n` steps, and the rows written so far hold the states. -/

variable (V : Valuation τ sig (Elt Ideal))

/-- Where trip `n` reads and writes: the row `8191 - n`, all of it. -/
theorem start_at (n : ℕ) (hn : n < 8192) (hc : (V (Proc.devRef .tc main_v90_2) : IVec S_ 32) = fun _ => BitVec.ofNat 32 n) (a : Fin 3) :
    (((![res_main_while0b_v94 V, constantI S_ 32 0#32, constantI S_ 32 0#32] : Fin 3 → IVec S_ 32)) a (Shape.Idx.first h_S_)).toInt
      = ((![8191 - n, 0, 0] : Fin 3 → ℕ) a : ℤ) := by
  match a with
  | ⟨0, _⟩ =>
    show (res_main_while0b_v94 V (Shape.Idx.first h_S_)).toInt = ((8191 - n : ℕ) : ℤ)
    have : res_main_while0b_v94 V (Shape.Idx.first h_S_) = BitVec.ofNat 32 (8191 - n) := by
      unfold res_main_while0b_v94
      rw [hc]
      show (8192#32 - BitVec.ofNat 32 n) - 1#32 = _
      apply BitVec.eq_of_toNat_eq
      simp only [BitVec.toNat_sub, BitVec.toNat_ofNat]
      omega
    rw [this]
    exact toInt_ofNat_of_lt (by omega)
  | ⟨1, _⟩ => rfl
  | ⟨2, _⟩ => rfl

/-- The fit of the row. -/
theorem row_fits (n : ℕ) : S8192x2x1024.Slices ![8191 - n, 0, 0] S1x2x1024 :=
  ⟨rfl, fun a => match a with
    | ⟨0, _⟩ => by show 8191 - n + 1 ≤ 8192; omega
    | ⟨1, _⟩ => by show 0 + 2 ≤ 2; omega
    | ⟨2, _⟩ => by show 0 + 1024 ≤ 1024; omega⟩

/-- The state after a trip. -/
theorem step_state (n : ℕ) (hn : n < 8192) (hc : (V (Proc.devRef .tc main_v90_2) : IVec S_ 32) = fun _ => BitVec.ofNat 32 n) (b : Fin 2) (d : Fin 1024) :
    (res_main_while0b_v98 V : Vec Ideal S2x1024 .f32) (ix2 b d)
      = step ((V (Proc.devRef .tc main_v90_0) : Vec Ideal S8192x2x1024 .f32) (ix3 ⟨8191 - n, by omega⟩ b d),
          (V (Proc.devRef .tc main_v90_1) : Vec Ideal S8192x2x1024 .f32) (ix3 ⟨8191 - n, by omega⟩ b d))
        ((V (Proc.devRef .tc main_v90_3) : Vec Ideal S2x1024 .f32) (ix2 b d)) := by
  unfold res_main_while0b_v98 step
  rw [Host.dynamicSlice_eq_extractStridedSlice _ _ _ ![8191 - n, 0, 0] _ (row_fits n) (start_at V n hn hc)]
  rw [Host.dynamicSlice_eq_extractStridedSlice _ _ _ ![8191 - n, 0, 0] _ (row_fits n) (start_at V n hn hc)]
  pointwise
  exact add_comm (G := EReal) _ _

/-- One row written over. -/
theorem written_at (x : Vec Ideal S8192x2x1024 .f32) (z : Vec Ideal S2x1024 .f32) (n : ℕ) (t : Fin 8192) (b : Fin 2) (d : Fin 1024) :
    updateSlice x (broadcastInDim S1x2x1024 ![1, 2] bcast_S2x1024_S1x2x1024_1_2 z) ![8191 - n, 0, 0] (row_fits n) (ix3 t b d)
      = if t.val = 8191 - n then z (ix2 b d) else x (ix3 t b d) := by
  rw [updateSlice_apply]
  by_cases e : t.val = 8191 - n
  · rw [if_pos e, dif_pos (fun a => match a with
      | ⟨0, _⟩ => by show 8191 - n ≤ t.val ∧ t.val < 8191 - n + 1; omega
      | ⟨1, _⟩ => by show 0 ≤ b.val ∧ b.val < 0 + 2; omega
      | ⟨2, _⟩ => by show 0 ≤ d.val ∧ d.val < 0 + 1024; omega)]
    pointwise
  · rw [if_neg e, dif_neg (fun h => e (by
      have h0 := h ⟨0, by decide⟩
      have h1 : 8191 - n ≤ t.val ∧ t.val < 8191 - n + 1 := h0
      omega))]

/-- The rows after a trip. -/
theorem step_rows (n : ℕ) (hn : n < 8192) (hc : (V (Proc.devRef .tc main_v90_2) : IVec S_ 32) = fun _ => BitVec.ofNat 32 n) (t : Fin 8192) (b : Fin 2) (d : Fin 1024) :
    (STEP V (Proc.devRef .tc main_v90_4) : Vec Ideal S8192x2x1024 .f32) (ix3 t b d)
      = if t.val = 8191 - n then (res_main_while0b_v98 V : Vec Ideal S2x1024 .f32) (ix2 b d)
        else (V (Proc.devRef .tc main_v90_4) : Vec Ideal S8192x2x1024 .f32) (ix3 t b d) := by
  rw [STEP_main_v90_4]
  unfold step_main_v90_4
  simp only [id]
  rw [Host.dynamicUpdateSlice_eq_updateSlice _ _ _ _ ![8191 - n, 0, 0] (fun a => by
    rw [start_at V n hn hc a]
    match a with
    | ⟨0, _⟩ => show (min (max ((8191 - n : ℕ) : ℤ) 0) ((8192 - 1 : ℕ) : ℤ)).toNat = 8191 - n; omega
    | ⟨1, _⟩ => rfl
    | ⟨2, _⟩ => rfl) (row_fits n)]
  exact written_at _ _ n t b d

/-- After `n` trips. -/
structure After (n : ℕ) (W : Valuation τ sig (Elt Ideal)) : Prop where
  counter : (W (Proc.devRef .tc main_v90_2) : IVec S_ 32) = fun _ => BitVec.ofNat 32 n
  coefs : W (Proc.devRef .tc main_v90_0) = at4 V (Proc.devRef .tc main_v90_0)
  inputs : W (Proc.devRef .tc main_v90_1) = at4 V (Proc.devRef .tc main_v90_1)
  state : ∀ b d, (W (Proc.devRef .tc main_v90_3) : Vec Ideal S2x1024 .f32) (ix2 b d) = walkFrom ((given V).stepBwd b d) ((given V).h0 b d) n
  rows : ∀ (t : Fin 8192) b d, 8192 ≤ t.val + n →
    (W (Proc.devRef .tc main_v90_4) : Vec Ideal S8192x2x1024 .f32) (ix3 t b d) = (given V).stateBwd b t.val d

/-- One more trip. -/
theorem after_step (n : ℕ) (hn : n < 8192) (W : Valuation τ sig (Elt Ideal)) (h : After V n W) : After V (n + 1) (STEP W) := by
  have hs : ∀ b d, (res_main_while0b_v98 W : Vec Ideal S2x1024 .f32) (ix2 b d) = walkFrom ((given V).stepBwd b d) ((given V).h0 b d) (n + 1) := by
    intro b d
    rw [step_state W n hn h.counter, h.coefs, h.inputs, h.state, coef_at4, input_at4]
    rfl
  refine ⟨?_, ?_, ?_, ?_, ?_⟩
  · rw [STEP_main_v90_2]
    unfold step_main_v90_2
    rw [h.counter]
    funext i
    show BitVec.ofNat 32 n + 1#32 = _
    apply BitVec.eq_of_toNat_eq
    simp only [BitVec.toNat_add, BitVec.toNat_ofNat]
    omega
  · rw [STEP_main_v90_0, h.coefs]
  · rw [STEP_main_v90_1, h.inputs]
  · intro b d
    rw [STEP_main_v90_3]
    exact hs b d
  · intro t b d ht
    rw [step_rows W n hn h.counter]
    by_cases e : t.val = 8191 - n
    · rw [if_pos e, hs]
      unfold ScanInputs.stateBwd
      congr 1
      omega
    · rw [if_neg e]
      exact h.rows t b d (by omega)

/-- Before the first trip. -/
theorem after_zero : After V 0 (at4 V) :=
  ⟨counter_at4 V, rfl, rfl, state_at4 V, fun t _ _ ht => absurd t.isLt (by omega)⟩

/-- After any number of trips. -/
theorem after_all (n : ℕ) (hn : n ≤ 8192) : After V n (STEP^[n] (at4 V)) := by
  induction n with
  | zero => exact after_zero V
  | succ n ih =>
    rw [Function.iterate_succ_apply']
    exact after_step V n (by omega) _ (ih (by omega))

/-- The result, row by row: the state at that row of that sequence, going backward. -/
theorem result_at (R : Fin 16384) (d : Fin 1024) :
    (out_main_v92 (STEP^[8192] (at4 V)) : Vec Ideal S16384x1024 .f32) (ix2 R d)
      = (given V).stateBwd ⟨R.val / 8192, by have := R.isLt; omega⟩ (R.val % 8192) d := by
  have h := (after_all V 8192 (le_refl _)).rows ⟨R.val % 8192, by omega⟩ ⟨R.val / 8192, by have := R.isLt; omega⟩ d (by omega)
  rw [← h]
  unfold out_main_v92
  generalize STEP^[8192] (at4 V) = W
  pointwise
  done

variable (m : (ℓ : Loc nD τ sig) → Buf (Elt Ideal) ℓ)

/-- The loop begins from the host's contents. -/
theorem entry_eq (c : Dev nD) : entryContents preI m c = at4 (fun r => m ((c.tc : Thread nD τ).1, r)) := by
  simp only [entryContents, preI, afterL_cons, afterL_nil]
  rfl

end Cert.RefBwdIdeal.Hand
end
-- ==== Proof.Claims.ScanBwd.lean ====
module

public import proofs.«01_k».proof.Defs
public import proofs.«01_k».proof.Proof.Gen.ScanBwdIdeal
public import proofs.«01_k».proof.Proof.Gen.RefBwdIdeal
public import proofs.«01_k».proof.Proof.Gen.RefBwdIdeal.Run
public import proofs.«01_k».proof.Proof.ScanBwdIdeal.Result
public import proofs.«01_k».proof.Proof.RefBwdIdeal.Loop
public import Idealize.ShloMosaic.Adequacy
public import Idealize.ShloMosaic.Init

@[expose] public section

set_option maxRecDepth 16384

noncomputable section
namespace Cert.Claims
open Idealize.ShloMosaic Idealize.SL.Sem

/-- The reference's run, its result at each index and its arguments unchanged. -/
theorem refBwd_run (m : (ℓ : Loc Cert.RefBwdIdeal.nD Cert.RefBwdIdeal.τ Cert.RefBwdIdeal.sig) → Buf (Elt Ideal) ℓ) (ρ : Dev Cert.RefBwdIdeal.nD → PrngReg) :
    θ_run (Cert.RefBwdIdeal.defs (F := Ideal)) (onTc (τ := Cert.RefBwdIdeal.τ) (Cert.RefBwdIdeal.main (F := Ideal))) ⟨m, fun _ => 0, ρ⟩ fun r => ∀ c : Dev Cert.RefBwdIdeal.nD,
      (∀ (R : Fin 16384) (d : Fin 1024), (r.2.mem ((c.tc : Thread Cert.RefBwdIdeal.nD Cert.RefBwdIdeal.τ).loc Cert.RefBwdIdeal.main_v92) : Vec Ideal Cert.RefBwdIdeal.S16384x1024 .f32) (ix2 R d)
        = (Cert.RefBwdIdeal.Hand.given (fun r => m ((c.tc : Thread Cert.RefBwdIdeal.nD Cert.RefBwdIdeal.τ).1, r))).stateBwd ⟨R.val / 8192, by have := R.isLt; omega⟩ (R.val % 8192) d)
      ∧ r.2.mem ((c.tc : Thread Cert.RefBwdIdeal.nD Cert.RefBwdIdeal.τ).loc Cert.RefBwdIdeal.main_arg0) = m ((c.tc : Thread Cert.RefBwdIdeal.nD Cert.RefBwdIdeal.τ).loc Cert.RefBwdIdeal.main_arg0)
      ∧ r.2.mem ((c.tc : Thread Cert.RefBwdIdeal.nD Cert.RefBwdIdeal.τ).loc Cert.RefBwdIdeal.main_arg1) = m ((c.tc : Thread Cert.RefBwdIdeal.nD Cert.RefBwdIdeal.τ).loc Cert.RefBwdIdeal.main_arg1)
      ∧ r.2.mem ((c.tc : Thread Cert.RefBwdIdeal.nD Cert.RefBwdIdeal.τ).loc Cert.RefBwdIdeal.main_arg2) = m ((c.tc : Thread Cert.RefBwdIdeal.nD Cert.RefBwdIdeal.τ).loc Cert.RefBwdIdeal.main_arg2)
      ∧ r.2.mem ((c.tc : Thread Cert.RefBwdIdeal.nD Cert.RefBwdIdeal.τ).loc Cert.RefBwdIdeal.main_arg3) = m ((c.tc : Thread Cert.RefBwdIdeal.nD Cert.RefBwdIdeal.τ).loc Cert.RefBwdIdeal.main_arg3)
      ∧ r.2.mem ((c.tc : Thread Cert.RefBwdIdeal.nD Cert.RefBwdIdeal.τ).loc Cert.RefBwdIdeal.main_arg4) = m ((c.tc : Thread Cert.RefBwdIdeal.nD Cert.RefBwdIdeal.τ).loc Cert.RefBwdIdeal.main_arg4)
      ∧ r.2.mem ((c.tc : Thread Cert.RefBwdIdeal.nD Cert.RefBwdIdeal.τ).loc Cert.RefBwdIdeal.main_arg5) = m ((c.tc : Thread Cert.RefBwdIdeal.nD Cert.RefBwdIdeal.τ).loc Cert.RefBwdIdeal.main_arg5)
      ∧ r.2.mem ((c.tc : Thread Cert.RefBwdIdeal.nD Cert.RefBwdIdeal.τ).loc Cert.RefBwdIdeal.main_arg6) = m ((c.tc : Thread Cert.RefBwdIdeal.nD Cert.RefBwdIdeal.τ).loc Cert.RefBwdIdeal.main_arg6)
      ∧ r.2.mem ((c.tc : Thread Cert.RefBwdIdeal.nD Cert.RefBwdIdeal.τ).loc Cert.RefBwdIdeal.main_arg7) = m ((c.tc : Thread Cert.RefBwdIdeal.nD Cert.RefBwdIdeal.τ).loc Cert.RefBwdIdeal.main_arg7)
      ∧ r.2.mem ((c.tc : Thread Cert.RefBwdIdeal.nD Cert.RefBwdIdeal.τ).loc Cert.RefBwdIdeal.main_arg8) = m ((c.tc : Thread Cert.RefBwdIdeal.nD Cert.RefBwdIdeal.τ).loc Cert.RefBwdIdeal.main_arg8) :=
  (θ_run _ _ _).mono (fun r h c => ⟨fun R d => by
    refine (congrFun (h c).1 _).trans ?_
    rw [Cert.RefBwdIdeal.Hand.entry_eq m c]
    exact Cert.RefBwdIdeal.Hand.result_at _ R d, (h c).2⟩) (Cert.RefBwdIdeal.Value.run m ρ)

/-- The backward recurrence: from the same arguments, over the extended reals, the kernel and the reference end with the
    same array. -/
theorem scanBwd_algebraic : Cert.algebraic_ScanBwdIdeal_RefBwdIdeal := by
  pair_intro
  · run_from (Cert.ScanBwdIdeal.Hand.run_value m g) & (Cert.ScanBwdIdeal.Hand.unchanged m g)
  · refine (θ_run _ _ _).mono (fun r h c => ?_) (refBwd_run m' g')
    obtain ⟨e0, e1, e2, e3, e4, e5, e6, e7, e8⟩ := hagree c
    have hin : Cert.RefBwdIdeal.Hand.given (fun r => m' ((c.tc : Thread Cert.RefBwdIdeal.nD Cert.RefBwdIdeal.τ).1, r)) = Cert.ScanBwdIdeal.Hand.given m c := by
      unfold Cert.RefBwdIdeal.Hand.given Cert.ScanBwdIdeal.Hand.given
      congr 1 <;> (funext; first | exact congrFun e0 _ | exact congrFun e1 _ | exact congrFun e2 _ | exact congrFun e3 _ | exact congrFun e4 _ | exact congrFun e5 _ | exact congrFun e6 _ | exact congrFun e7 _ | exact congrFun e8 _)
    refine ⟨?_, (h c).2⟩
    funext i
    obtain ⟨R, d, rfl⟩ : ∃ (R : Fin 16384) (d : Fin 1024), i = (ix2 R d : Cert.RefBwdIdeal.S16384x1024.Idx) :=
      ⟨i 0, i 1, funext fun a => match a with | ⟨0, _⟩ => rfl | ⟨1, _⟩ => rfl⟩
    refine ((h c).1 R d).trans ?_
    rw [hin]
    rfl

end Cert.Claims
end
-- ==== Proof.ScanFwdIdeal.Value.lean ====
module

public import proofs.«01_k».proof.Proof.ScanFwdIdeal.Body
public import proofs.«01_k».proof.Proof.Formula.Scan
public import Idealize.ShloMosaic.Lib.Pointwise

@[expose] public section

set_option maxRecDepth 16384

noncomputable section

namespace Cert.ScanFwdIdeal.Hand

open Cert.ScanFwdIdeal.Gen Cert.Formula
open Idealize.ShloMosaic Idealize.ShloMosaic.TcCoe Idealize.ShloMosaic.Tactic
open Idealize.SL.Sem

/-! What one block's convolution, gates, decays and gated inputs are, entry by entry, over the extended reals. -/

variable (i : grid0.Coords) (X : Blk Ideal)

/-- The decay of a unit recurrence gate. -/
theorem decay_at (d : Fin 1024) : (part4 i X : Vec Ideal S1x1024 .f32) (ix2 0 d) = negEight * softplusNeg (X.lam (ix2 0 d)) := by
  unfold part4 part2 part3 negEight softplusNeg
  unfold k0_pay24 k0_pay23 k0_pay22 k0_pay21
  pointwise
  show _ * (max (0 - X.lam (ix2 0 d)) 0 + Ideal.log (1 + Ideal.exp (0 - max (X.lam (ix2 0 d)) (-(X.lam (ix2 0 d)) : EReal)))) = _
  rw [show ∀ x : EReal, 0 - x = -x from fun x => zero_sub x, show ∀ x : EReal, 0 - x = -x from fun x => zero_sub x]

/-- The convolution, by the rows of the padded block. -/
theorem conv_at (r d : Fin 1024) : (conv i X : Vec Ideal S1024x1024 .f32) (ix2 r d)
    = conv4 (X.taps (ix2 0 d)) (X.taps (ix2 1 d)) (X.taps (ix2 2 d)) (X.taps (ix2 3 d)) (X.cbias (ix2 0 d))
        ((padded i X : Vec Ideal S1040x1024 .f32) (ix2 ⟨6 + r.val, by omega⟩ d)) ((padded i X : Vec Ideal S1040x1024 .f32) (ix2 ⟨7 + r.val, by omega⟩ d))
        ((padded i X : Vec Ideal S1040x1024 .f32) (ix2 ⟨8 + r.val, by omega⟩ d)) ((padded i X : Vec Ideal S1040x1024 .f32) (ix2 ⟨9 + r.val, by omega⟩ d)) := by
  unfold conv conv4
  generalize padded i X = P
  unfold k0_pay19 k0_pay18
  pointwise
  have e0 : (r.val + 1040 - 1034) % 1040 = 6 + r.val := by have := r.isLt; omega
  have e1 : (r.val + 1040 - 1033) % 1040 = 7 + r.val := by have := r.isLt; omega
  have e3 : (8 + r.val + 1040 - 1039) % 1040 = 9 + r.val := by have := r.isLt; omega
  simp only [e0, e1, e3]
  rw [add_assoc, add_assoc, add_assoc, add_comm]
  simp only [add_assoc]

/-- The gates read the convolution itself. -/
theorem gateIn_eq : (gateIn i X : Vec Ideal S1024x1024 .bf16) = conv i X := rfl

/-- The recurrence gate's argument. -/
def recAt (r d : Fin 1024) : EReal :=
  gateArg (fun j => (conv i X : Vec Ideal S1024x1024 .f32) (ix2 r (column (head d) j))) (fun j => X.wr (ix5 0 0 (head d) j (place d))) (X.br (ix2 0 d))

/-- The input gate's argument. -/
def inAt (r d : Fin 1024) : EReal :=
  gateArg (fun j => (conv i X : Vec Ideal S1024x1024 .f32) (ix2 r (column (head d) j))) (fun j => X.wi (ix5 0 0 (head d) j (place d))) (X.bi (ix2 0 d))

/-- The first head's columns. -/
theorem column_zero (e : Fin 256) : column 0 e = ⟨e.val, by omega⟩ := Fin.ext (by show 0 * 256 + e.val = e.val; omega)

/-- The first head's decay of a unit gate, in every row. -/
theorem part7_eq : (part7 i X : Vec Ideal S1024x256 .f32)
    = broadcastTo S1024x256 (extractStridedSlice S1x256 ![0, 0] (part4 i X : Vec Ideal S1x1024 .f32) slices_S1x1024_o0_0_S1x256) broadcasts_S1x256_S1024x256 := rfl

/-- The block's decay at row `r` of head `h`. -/
def decayOf (r d : Fin 1024) : EReal := Ideal.exp (logDecay (X.lam (ix2 0 d)) (recAt i X r d))

/-- The block's gated input at row `r` of head `h`. -/
def gatedOf (r d : Fin 1024) : EReal := gatedInput (decayOf i X r d) (inAt i X r d) ((conv i X : Vec Ideal S1024x1024 .f32) (ix2 r d))

set_option maxHeartbeats 1000000 in
/-- What is stored of the decays of the first head. -/
theorem coef0_at (r : Fin 1024) (e : Fin 256) :
    (k0_pay30 (part5 i X) (part7 i X) : Vec Ideal S1024x256 .f32) (ix2 r e) = decayOf i X r (column 0 e) := by
  unfold decayOf logDecay recAt gateArg
  rw [← decay_at i X, ← sigm_of_tanh, head_column, place_column]
  rw [part7_eq]
  unfold part5
  simp only [gateIn_eq]
  generalize part4 i X = p
  generalize conv i X = C
  unfold k0_pay30 k0_pay29 k0_pay26 k0_pay25
  pointwise
  simp only [column_zero]; rfl

set_option maxHeartbeats 1000000 in
/-- What is stored of the gated inputs of the first head. -/
theorem input0_at (r : Fin 1024) (e : Fin 256) :
    (k0_pay31 (conv i X) (part5 i X) (part6 i X) (part7 i X) : Vec Ideal S1024x256 .f32) (ix2 r e) = gatedOf i X r (column 0 e) := by
  unfold gatedOf gatedInput decayOf logDecay recAt inAt gateArg
  rw [← decay_at i X, ← sigm_of_tanh, ← sigm_of_tanh, head_column, place_column]
  rw [part7_eq]
  unfold part5 part6
  simp only [gateIn_eq]
  generalize part4 i X = p
  generalize conv i X = C
  unfold k0_pay31 k0_pay29 k0_pay27 k0_pay26 k0_pay25
  pointwise
  simp only [column_zero]; rfl

set_option maxHeartbeats 1000000 in
/-- What is stored of the decays of the second head. -/
theorem coef1_at (r : Fin 1024) (e : Fin 256) :
    (k0_pay36 (part4 i X) (part8 i X) : Vec Ideal S1024x256 .f32) (ix2 r e) = decayOf i X r (column 1 e) := by
  unfold decayOf logDecay recAt gateArg
  rw [← decay_at i X, ← sigm_of_tanh, head_column, place_column]
  unfold part8
  simp only [gateIn_eq]
  generalize part4 i X = p
  generalize conv i X = C
  unfold k0_pay36 k0_pay35 k0_pay33 k0_pay32
  pointwise
  rfl

set_option maxHeartbeats 1000000 in
/-- What is stored of the gated inputs of the second head. -/
theorem input1_at (r : Fin 1024) (e : Fin 256) :
    (k0_pay37 (conv i X) (part4 i X) (part8 i X) (part9 i X) (part10 i X) : Vec Ideal S1024x256 .f32) (ix2 r e) = gatedOf i X r (column 1 e) := by
  unfold gatedOf gatedInput decayOf logDecay recAt inAt gateArg
  rw [← decay_at i X, ← sigm_of_tanh, ← sigm_of_tanh, head_column, place_column]
  unfold part8 part9 part10
  simp only [gateIn_eq]
  generalize part4 i X = p
  generalize conv i X = C
  unfold k0_pay37 k0_pay35 k0_pay34 k0_pay33 k0_pay32
  pointwise
  rfl

set_option maxHeartbeats 1000000 in
/-- What is stored of the decays of the third head. -/
theorem coef2_at (r : Fin 1024) (e : Fin 256) :
    (k0_pay41 (part4 i X) (part12 i X) : Vec Ideal S1024x256 .f32) (ix2 r e) = decayOf i X r (column 2 e) := by
  unfold decayOf logDecay recAt gateArg
  rw [← decay_at i X, ← sigm_of_tanh, head_column, place_column]
  unfold part12
  simp only [gateIn_eq]
  generalize part4 i X = p
  generalize conv i X = C
  unfold k0_pay41 k0_pay40 k0_pay39 k0_pay38
  pointwise
  rfl

set_option maxHeartbeats 1000000 in
/-- What is stored of the gated inputs of the third head. -/
theorem input2_at (r : Fin 1024) (e : Fin 256) :
    (k0_pay42 (conv i X) (part4 i X) (part11 i X) (part12 i X)
      (View.ld X.wi (Rect.unit ![0, 0, 2, 0, 0] S1x1x1x256x256.size inb_S1x1x4x256x256_S1x1x1x256x256_0_0_2_0_0))
      (View.ld X.bi (Rect.unit ![0, 512] S1x256.size inb_S1x1024_S1x256_0_512)) : Vec Ideal S1024x256 .f32) (ix2 r e) = gatedOf i X r (column 2 e) := by
  unfold gatedOf gatedInput decayOf logDecay recAt inAt gateArg
  rw [← decay_at i X, ← sigm_of_tanh, ← sigm_of_tanh, head_column, place_column]
  unfold part12 part11
  simp only [gateIn_eq]
  generalize part4 i X = p
  generalize conv i X = C
  unfold k0_pay42 k0_pay40 k0_pay39 k0_pay38
  pointwise
  rfl

set_option maxHeartbeats 1000000 in
/-- What is stored of the decays of the last head. -/
theorem coef3_at (r : Fin 1024) (e : Fin 256) :
    (k0_pay46 (part4 i X) (part13 i X) (part14 i X)
      (View.ld X.br (Rect.unit ![0, 768] S1x256.size inb_S1x1024_S1x256_0_768)) : Vec Ideal S1024x256 .f32) (ix2 r e) = decayOf i X r (column 3 e) := by
  unfold decayOf logDecay recAt gateArg
  rw [← decay_at i X, ← sigm_of_tanh, head_column, place_column]
  unfold part13 part14
  simp only [gateIn_eq]
  generalize part4 i X = p
  generalize conv i X = C
  unfold k0_pay46 k0_pay45 k0_pay44 k0_pay43
  pointwise
  rfl

set_option maxHeartbeats 1000000 in
/-- What is stored of the gated inputs of the last head. -/
theorem input3_at (r : Fin 1024) (e : Fin 256) :
    (k0_pay1 (part15 i X) (part16 i X) : Vec Ideal S1024x256 .f32) (ix2 r e) = gatedOf i X r (column 3 e) := by
  unfold gatedOf gatedInput decayOf logDecay recAt inAt gateArg
  rw [← decay_at i X, ← sigm_of_tanh, ← sigm_of_tanh, head_column, place_column]
  unfold part15 part16 part14 part13
  simp only [gateIn_eq]
  generalize part4 i X = p
  generalize conv i X = C
  unfold k0_pay1 k0_pay48 k0_pay47 k0_pay45 k0_pay44 k0_pay43
  pointwise
  rfl

/-- A head's rows of the block. -/
theorem mem_head (o : ℕ) (ho : o + 256 ≤ 1024) (inb) (r d : Fin 1024) :
    (ix2 r d : S1024x1024.Idx) ∈ (Rect.unit (s := S1024x1024) ![0, o] ![1024, 256] inb).set ↔ o ≤ d.val ∧ d.val < o + 256 := by
  rw [Rect.mem_set_unit]
  constructor
  · intro h; exact h 1
  · intro h a; match a with
    | ⟨0, _⟩ => exact ⟨Nat.zero_le _, (Nat.zero_add 1024).symm ▸ r.isLt⟩
    | ⟨1, _⟩ => exact h

theorem head_emb (o : ℕ) (ho : o + 256 ≤ 1024) (inb) (r d : Fin 1024) (e : Fin 256) (h : d.val = o + e.val) :
    (ix2 r d : S1024x1024.Idx) = (Rect.unit (s := S1024x1024) ![0, o] ![1024, 256] inb).emb (ix2 r e : S1024x256.Idx) := by
  funext a; apply Fin.ext
  match a with
  | ⟨0, _⟩ => show r.val = 0 + 1 * r.val; omega
  | ⟨1, _⟩ => show d.val = o + 1 * e.val; omega

/-- Four stores side by side, read back. -/
theorem four_heads (v3 v2 v1 v0 : Vec Ideal S1024x256 .f32) (i3 i2 i1 i0) (f : Fin 1024 → Fin 1024 → EReal)
    (h3 : ∀ r e, v3 (ix2 r e) = f r (column 3 e)) (h2 : ∀ r e, v2 (ix2 r e) = f r (column 2 e))
    (h1 : ∀ r e, v1 (ix2 r e) = f r (column 1 e)) (h0 : ∀ r e, v0 (ix2 r e) = f r (column 0 e)) (r d : Fin 1024) :
    (View.canon ([⟨Rect.unit ![0, 768] ![1024, 256] i3, v3⟩, ⟨Rect.unit ![0, 512] ![1024, 256] i2, v2⟩, ⟨Rect.unit ![0, 256] ![1024, 256] i1, v1⟩,
      ⟨Rect.unit ![0, 0] ![1024, 256] i0, v0⟩] : List (View.Piece (Elt Ideal) S1024x1024 .f32)) : Vec Ideal S1024x1024 .f32) (ix2 r d) = f r d := by
  have hd := d.isLt
  by_cases c3 : 768 ≤ d.val
  · rw [head_emb 768 (by omega) i3 r d ⟨d.val - 768, by omega⟩ (by show d.val = 768 + (d.val - 768); omega)]
    refine (View.canon_cons_emb _ _ _ _).trans ((h3 _ _).trans (congrArg (f r) (Fin.ext ?_)))
    show 3 * 256 + (d.val - 768) = d.val; omega
  rw [View.canon_cons_of_not_mem _ _ (by rw [mem_head 768 (by omega)]; omega)]
  by_cases c2 : 512 ≤ d.val
  · rw [head_emb 512 (by omega) i2 r d ⟨d.val - 512, by omega⟩ (by show d.val = 512 + (d.val - 512); omega)]
    refine (View.canon_cons_emb _ _ _ _).trans ((h2 _ _).trans (congrArg (f r) (Fin.ext ?_)))
    show 2 * 256 + (d.val - 512) = d.val; omega
  rw [View.canon_cons_of_not_mem _ _ (by rw [mem_head 512 (by omega)]; omega)]
  by_cases c1 : 256 ≤ d.val
  · rw [head_emb 256 (by omega) i1 r d ⟨d.val - 256, by omega⟩ (by show d.val = 256 + (d.val - 256); omega)]
    refine (View.canon_cons_emb _ _ _ _).trans ((h1 _ _).trans (congrArg (f r) (Fin.ext ?_)))
    show 1 * 256 + (d.val - 256) = d.val; omega
  rw [View.canon_cons_of_not_mem _ _ (by rw [mem_head 256 (by omega)]; omega)]
  rw [head_emb 0 (by omega) i0 r d ⟨d.val, by omega⟩ (by show d.val = 0 + d.val; omega)]
  refine (View.canon_cons_emb _ _ _ _).trans ((h0 _ _).trans (congrArg (f r) (Fin.ext ?_)))
  show 0 * 256 + d.val = d.val; omega

/-- The block's decays. -/
theorem coefs_at (r d : Fin 1024) : (coefs i X : Vec Ideal S1024x1024 .f32) (ix2 r d) = decayOf i X r d :=
  four_heads _ _ _ _ _ _ _ _ (decayOf i X) (coef3_at i X) (coef2_at i X) (coef1_at i X) (coef0_at i X) r d

/-- The block's gated inputs. -/
theorem inputs_at (r d : Fin 1024) : (inputs i X : Vec Ideal S1024x1024 .f32) (ix2 r d) = gatedOf i X r d :=
  four_heads _ _ _ _ _ _ _ _ (gatedOf i X) (input3_at i X) (input2_at i X) (input1_at i X) (input0_at i X) r d

end Cert.ScanFwdIdeal.Hand

end
-- ==== Proof.ScanFwdIdeal.Tile.lean ====
module

public import proofs.«01_k».proof.Proof.ScanFwdIdeal.Value

@[expose] public section

set_option maxRecDepth 16384

noncomputable section

namespace Cert.ScanFwdIdeal.Hand

open Cert.ScanFwdIdeal.Gen Cert.Formula
open Idealize.ShloMosaic Idealize.ShloMosaic.TcCoe Idealize.ShloMosaic.Tactic
open Idealize.SL.Sem

/-! The padded block holds the rows about it, and so the block's decays and gated inputs are the formulas'. -/

/-- Whether the tile at grid point `n` is the `k`-th of its sequence, as the word the kernel computes. -/
def edge (k : BitVec 32) (n : ℕ) : BitVec 1 :=
  let v0 : BitVec 32 := BitVec.ofNat 32 n
  let v2 : BitVec 32 := Scalar.select (Scalar.cmpi .eq 8#32 0#32) 1#32 8#32
  let v3 : BitVec 32 := Scalar.remsi v0 v2
  Scalar.cmpi .eq (Scalar.select (Scalar.andi (Scalar.xori (Scalar.cmpi .slt v3 0#32) (Scalar.cmpi .slt v2 0#32)) (Scalar.cmpi .ne v3 0#32)) (Scalar.addi v3 v2) v3) k

theorem edge_first : ∀ n : Fin 16, edge 0#32 n.val = if n.val % 8 = 0 then 1#1 else 0#1 := by decide +kernel
theorem edge_last : ∀ n : Fin 16, edge 7#32 n.val = if n.val % 8 = 7 then 1#1 else 0#1 := by decide +kernel

/-- The rows stored before the block. -/
theorem before_at (i : grid0.Coords) (v : Vec Ideal S8x1024 .f32) (q : Fin 8) (d : Fin 1024) :
    (k0_pay15 i v : Vec Ideal S8x1024 .f32) (ix2 q d) = if (i 0).val % 8 = 0 then 0 else v (ix2 q d) := by
  have e : k0_pay15 i v = shapeCast S8x1024 (Scalar.select (edge 0#32 (i 0).val) (broadcast S8x1024 (Scalar.ofBits (F := Ideal) .f32 0x00000000#32)) v) shapeCasts_S8x1024_S8x1024 := rfl
  have h := edge_first (i 0)
  rw [e, h]
  by_cases c : (i 0).val % 8 = 0
  · simp only [if_pos c]
    show shapeCast S8x1024 (broadcast S8x1024 (Scalar.ofBits (F := Ideal) .f32 0x00000000#32)) shapeCasts_S8x1024_S8x1024 (ix2 q d) = 0
    pointwise
  · simp only [if_neg c]
    show shapeCast S8x1024 v shapeCasts_S8x1024_S8x1024 (ix2 q d) = v (ix2 q d)
    pointwise

/-- The rows stored after the block. -/
theorem after_at (i : grid0.Coords) (v : Vec Ideal S8x1024 .f32) (q : Fin 8) (d : Fin 1024) :
    (k0_pay17 i v : Vec Ideal S8x1024 .f32) (ix2 q d) = if (i 0).val % 8 = 7 then 0 else v (ix2 q d) := by
  have e : k0_pay17 i v = shapeCast S8x1024 (Scalar.select (edge 7#32 (i 0).val) (broadcast S8x1024 (Scalar.ofBits (F := Ideal) .f32 0x00000000#32)) v) shapeCasts_S8x1024_S8x1024 := rfl
  have h := edge_last (i 0)
  rw [e, h]
  by_cases c : (i 0).val % 8 = 7
  · simp only [if_pos c]
    show shapeCast S8x1024 (broadcast S8x1024 (Scalar.ofBits (F := Ideal) .f32 0x00000000#32)) shapeCasts_S8x1024_S8x1024 (ix2 q d) = 0
    pointwise
  · simp only [if_neg c]
    show shapeCast S8x1024 v shapeCasts_S8x1024_S8x1024 (ix2 q d) = v (ix2 q d)
    pointwise

/-- The blocks of the tile that begins at row `1024 * p` of sequence `b`. -/
structure Holds (I : ScanInputs) (b : Fin 2) (p : ℕ) (i : grid0.Coords) (X : Blk Ideal) : Prop where
  tile : (i 0).val % 8 = p
  xs : ∀ (r d : Fin 1024) h, X.xs (ix2 r d) = I.x ⟨b.val * 8192 + (p * 1024 + r.val), h⟩ d
  before : p ≠ 0 → ∀ (q : Fin 8) (d : Fin 1024) h, X.before (ix2 q d) = I.x ⟨b.val * 8192 + (p * 1024 - 8 + q.val), h⟩ d
  after : p ≠ 7 → ∀ (q : Fin 8) (d : Fin 1024) h, X.after (ix2 q d) = I.x ⟨b.val * 8192 + (p * 1024 + 1024 + q.val), h⟩ d
  taps : ∀ (k : Fin 4) (d : Fin 1024), X.taps (ix2 k d) = I.taps k d
  cbias : ∀ d : Fin 1024, X.cbias (ix2 0 d) = I.cb d
  wr : ∀ (h : Fin 4) (j e : Fin 256), X.wr (ix5 0 0 h j e) = I.wr h j e
  br : ∀ d : Fin 1024, X.br (ix2 0 d) = I.br d
  wi : ∀ (h : Fin 4) (j e : Fin 256), X.wi (ix5 0 0 h j e) = I.wi h j e
  bi : ∀ d : Fin 1024, X.bi (ix2 0 d) = I.bi d
  lam : ∀ d : Fin 1024, X.lam (ix2 0 d) = I.lam d
  h0 : ∀ d : Fin 1024, X.h0 (ix3 0 0 d) = I.h0 b d

theorem ld_whole {n : ℕ} (Y : Vec Ideal ⟨2, ![n, 1024]⟩ .f32) (inb) (r : Fin n) (d : Fin 1024) :
    View.ld Y (Rect.unit ![0, 0] ![n, 1024] inb) (ix2 r d) = Y (ix2 r d) :=
  congrArg Y (funext fun a => Fin.ext (by
    match a with
    | ⟨0, _⟩ => show 0 + 1 * r.val = r.val; omega
    | ⟨1, _⟩ => show 0 + 1 * d.val = d.val; omega))

/-- Rows of the padded block. -/
theorem mem_rows (o n : ℕ) (inb) (s : Fin 1040) (d : Fin 1024) :
    (ix2 s d : S1040x1024.Idx) ∈ (Rect.unit (s := S1040x1024) ![o, 0] ![n, 1024] inb).set ↔ o ≤ s.val ∧ s.val < o + n := by
  rw [Rect.mem_set_unit]
  constructor
  · intro h; exact h 0
  · intro h a; match a with
    | ⟨0, _⟩ => exact h
    | ⟨1, _⟩ => exact ⟨Nat.zero_le _, (Nat.zero_add 1024).symm ▸ d.isLt⟩

theorem rows_emb (o n : ℕ) (inb) (s : Fin 1040) (d : Fin 1024) (q : Fin n) (h : s.val = o + q.val) :
    (ix2 s d : S1040x1024.Idx) = (Rect.unit (s := S1040x1024) ![o, 0] ![n, 1024] inb).emb (ix2 q d : (⟨2, ![n, 1024]⟩ : Shape).Idx) := by
  funext a; apply Fin.ext
  match a with
  | ⟨0, _⟩ => show s.val = o + 1 * q.val; omega
  | ⟨1, _⟩ => show d.val = 0 + 1 * d.val; omega

variable {I : ScanInputs} {b : Fin 2} {p : ℕ} {i : grid0.Coords} {X : Blk Ideal}

/-- The padded block's rows from the sixth are the sequence's rows from two before the tile. -/
theorem padded_at (H : Holds I b p i X) (s : Fin 1040) (h6 : 6 ≤ s.val) (h34 : s.val < 1034) (d : Fin 1024) :
    (padded i X : Vec Ideal S1040x1024 .f32) (ix2 s d) = I.padded b (p * 1024 + (s.val - 6)) d := by
  have hp : p < 8 := by have := H.tile; omega
  have hb := b.isLt
  refine (ld_whole (View.canon (padPieces i X)) inb_S1040x1024_S1040x1024_0_0 s d).trans ?_
  unfold padPieces ScanInputs.padded
  by_cases c1 : 1032 ≤ s.val
  · rw [rows_emb 1032 8 inb_S1040x1024_S8x1024_1032_0 s d ⟨s.val - 1032, by omega⟩ (by show s.val = 1032 + (s.val - 1032); omega)]
    refine (View.canon_cons_emb _ _ _ _).trans ((after_at i _ _ d).trans ?_)
    rw [H.tile]
    by_cases c : p = 7
    · rw [if_pos c, dif_neg (by omega)]
    · rw [if_neg c, dif_pos (by omega)]
      refine (ld_whole X.after inb_S8x1024_S8x1024_0_0 _ d).trans ((H.after c _ d (by simp only; omega)).trans (congrArg (I.x · d) (Fin.ext ?_)))
      simp only; omega
  rw [View.canon_cons_of_not_mem _ _ (by rw [mem_rows 1032 8]; omega)]
  by_cases c2 : 8 ≤ s.val
  · rw [rows_emb 8 1024 inb_S1040x1024_S1024x1024_8_0 s d ⟨s.val - 8, by omega⟩ (by show s.val = 8 + (s.val - 8); omega)]
    refine (View.canon_cons_emb _ _ _ _).trans ?_
    unfold k0_pay16
    rw [dif_pos (by omega)]
    have e : shapeCast S1024x1024 (View.ld X.xs (Rect.unit ![0, 0] S1024x1024.size inb_S1024x1024_S1024x1024_0_0)) shapeCasts_S1024x1024_S1024x1024
        (ix2 ⟨s.val - 8, by omega⟩ d) = X.xs (ix2 ⟨s.val - 8, by omega⟩ d) := by pointwise
    refine e.trans ((H.xs _ d (by simp only; omega)).trans (congrArg (I.x · d) (Fin.ext ?_)))
    simp only; omega
  rw [View.canon_cons_of_not_mem _ _ (by rw [mem_rows 8 1024]; omega)]
  rw [rows_emb 0 8 inb_S1040x1024_S8x1024_0_0 s d ⟨s.val, by omega⟩ (by show s.val = 0 + s.val; omega)]
  refine (View.canon_cons_emb _ _ _ _).trans ((before_at i _ _ d).trans ?_)
  rw [H.tile]
  by_cases c : p = 0
  · rw [if_pos c, dif_neg (by omega)]
  · rw [if_neg c, dif_pos (by omega)]
    refine (ld_whole X.before inb_S8x1024_S8x1024_0_0 _ d).trans ((H.before c _ d (by simp only; omega)).trans (congrArg (I.x · d) (Fin.ext ?_)))
    simp only; omega

/-- The block's convolution. -/
theorem conv_is (H : Holds I b p i X) (r d : Fin 1024) : (conv i X : Vec Ideal S1024x1024 .f32) (ix2 r d) = I.conv b (p * 1024 + r.val) d := by
  have hr := r.isLt
  rw [conv_at, padded_at H _ (by simp only; omega) (by simp only; omega), padded_at H _ (by simp only; omega) (by simp only; omega),
    padded_at H _ (by simp only; omega) (by simp only; omega), padded_at H _ (by simp only; omega) (by simp only; omega),
    H.taps, H.taps, H.taps, H.taps, H.cbias]
  unfold ScanInputs.conv
  simp only [show 6 + r.val - 6 = r.val by omega, show p * 1024 + (7 + r.val - 6) = 1 + (p * 1024 + r.val) by omega,
    show p * 1024 + (8 + r.val - 6) = 2 + (p * 1024 + r.val) by omega, show p * 1024 + (9 + r.val - 6) = 3 + (p * 1024 + r.val) by omega]

/-- The block's decays. -/
theorem decay_is (H : Holds I b p i X) (r d : Fin 1024) : decayOf i X r d = I.coef b (p * 1024 + r.val) d := by
  unfold decayOf recAt ScanInputs.coef ScanInputs.recArg
  simp only [conv_is H, H.wr, H.br, H.lam]

/-- The block's gated inputs. -/
theorem gated_is (H : Holds I b p i X) (r d : Fin 1024) : gatedOf i X r d = I.input b (p * 1024 + r.val) d := by
  unfold gatedOf inAt ScanInputs.input ScanInputs.inArg
  simp only [decay_is H, conv_is H, H.wi, H.bi]

end Cert.ScanFwdIdeal.Hand

end
-- ==== Proof.ScanFwdIdeal.Group.lean ====
module

public import proofs.«01_k».proof.Proof.ScanFwdIdeal.Loop
public import proofs.«01_k».proof.Proof.Formula.Scan
public import Idealize.ShloMosaic.Lib.Pointwise

@[expose] public section

set_option maxRecDepth 16384

noncomputable section

namespace Cert.ScanFwdIdeal.Hand

open Cert.ScanFwdIdeal.Gen Cert.Formula
open Idealize.ShloMosaic Idealize.ShloMosaic.TcCoe Idealize.ShloMosaic.Tactic
open Idealize.SL.Sem

/-! The loop over the groups walks the recurrence: eight rows at a time, in three rounds each. -/

/-- The rows' steps, in the order they are taken. -/
def IsSteps (g : ℕ → EReal × EReal) (A B : Vec Ideal S8x1024 .f32) (d : Fin 1024) : Prop :=
  ∀ r : Fin 8, A (ix2 r d) = (g r.val).1 ∧ B (ix2 r d) = (g r.val).2

/-- Which rows the round that reaches 1 takes from. -/
theorem keep1 : ∀ (r : Fin 8) (d : Fin 1024), (k0_pay8 rows) (ix2 r d) = if 1 ≤ r.val then 1#1 else 0#1 := by
  intro r d
  unfold k0_pay8
  revert r
  pointwise
  decide

/-- One round, reaching 1. -/
theorem reach1 (g : ℕ → EReal × EReal) (A B : Vec Ideal S8x1024 .f32) (d : Fin 1024) (H : IsSteps g A B d) :
    IsSteps (reach 1 g)
      (mulf A (select (k0_pay8 rows) (dynamicRotate 0 1#32 none A rotates_S8x1024_d0) (broadcast S8x1024 (Scalar.ofBits (F := Ideal) .f32 0x3F800000#32))))
      (addf B (mulf A (select (k0_pay8 rows) (dynamicRotate 0 1#32 none B rotates_S8x1024_d0) (broadcast S8x1024 (Scalar.ofBits (F := Ideal) .f32 0x00000000#32))))) d := by
  intro r
  have hr := r.isLt
  have hk := keep1 r d
  generalize k0_pay8 rows = K at hk ⊢
  have ea : (dynamicRotate 0 1#32 none A rotates_S8x1024_d0 : Vec Ideal S8x1024 .f32) (ix2 r d) = A (ix2 ⟨(r.val + 8 - 1) % 8, by omega⟩ d) := by
    pointwise
  have eb : (dynamicRotate 0 1#32 none B rotates_S8x1024_d0 : Vec Ideal S8x1024 .f32) (ix2 r d) = B (ix2 ⟨(r.val + 8 - 1) % 8, by omega⟩ d) := by
    pointwise
  generalize dynamicRotate 0 1#32 none A rotates_S8x1024_d0 = RA at ea ⊢
  generalize dynamicRotate 0 1#32 none B rotates_S8x1024_d0 = RB at eb ⊢
  unfold reach comb
  pointwise
  rw [hk, ea, eb, (H r).1, (H r).2, (H _).1, (H _).2]
  by_cases c : 1 ≤ r.val
  · have er : (⟨r.val - 1, by omega⟩ : Fin 8).val = r.val - 1 := rfl
    simp only [if_pos c, show (r.val + 8 - 1) % 8 = r.val - 1 by omega]
    exact ⟨rfl, rfl⟩
  · simp only [if_neg c]
    refine ⟨rfl, ?_⟩
    show (g r.val).2 + 0 = (g r.val).2 + (g r.val).1 * 0
    rw [mul_zero]

/-- Which rows the round that reaches 2 takes from. -/
theorem keep2 : ∀ (r : Fin 8) (d : Fin 1024), (k0_pay10 rows) (ix2 r d) = if 2 ≤ r.val then 1#1 else 0#1 := by
  intro r d
  unfold k0_pay10
  revert r
  pointwise
  decide

/-- One round, reaching 2. -/
theorem reach2 (g : ℕ → EReal × EReal) (A B : Vec Ideal S8x1024 .f32) (d : Fin 1024) (H : IsSteps g A B d) :
    IsSteps (reach 2 g)
      (mulf A (select (k0_pay10 rows) (dynamicRotate 0 2#32 none A rotates_S8x1024_d0) (broadcast S8x1024 (Scalar.ofBits (F := Ideal) .f32 0x3F800000#32))))
      (addf B (mulf A (select (k0_pay10 rows) (dynamicRotate 0 2#32 none B rotates_S8x1024_d0) (broadcast S8x1024 (Scalar.ofBits (F := Ideal) .f32 0x00000000#32))))) d := by
  intro r
  have hr := r.isLt
  have hk := keep2 r d
  generalize k0_pay10 rows = K at hk ⊢
  have ea : (dynamicRotate 0 2#32 none A rotates_S8x1024_d0 : Vec Ideal S8x1024 .f32) (ix2 r d) = A (ix2 ⟨(r.val + 8 - 2) % 8, by omega⟩ d) := by
    pointwise
  have eb : (dynamicRotate 0 2#32 none B rotates_S8x1024_d0 : Vec Ideal S8x1024 .f32) (ix2 r d) = B (ix2 ⟨(r.val + 8 - 2) % 8, by omega⟩ d) := by
    pointwise
  generalize dynamicRotate 0 2#32 none A rotates_S8x1024_d0 = RA at ea ⊢
  generalize dynamicRotate 0 2#32 none B rotates_S8x1024_d0 = RB at eb ⊢
  unfold reach comb
  pointwise
  rw [hk, ea, eb, (H r).1, (H r).2, (H _).1, (H _).2]
  by_cases c : 2 ≤ r.val
  · have er : (⟨r.val - 2, by omega⟩ : Fin 8).val = r.val - 2 := rfl
    simp only [if_pos c, show (r.val + 8 - 2) % 8 = r.val - 2 by omega]
    exact ⟨rfl, rfl⟩
  · simp only [if_neg c]
    refine ⟨rfl, ?_⟩
    show (g r.val).2 + 0 = (g r.val).2 + (g r.val).1 * 0
    rw [mul_zero]

/-- Which rows the round that reaches 4 takes from. -/
theorem keep4 : ∀ (r : Fin 8) (d : Fin 1024), (k0_pay12 rows) (ix2 r d) = if 4 ≤ r.val then 1#1 else 0#1 := by
  intro r d
  unfold k0_pay12
  revert r
  pointwise
  decide

/-- One round, reaching 4. -/
theorem reach4 (g : ℕ → EReal × EReal) (A B : Vec Ideal S8x1024 .f32) (d : Fin 1024) (H : IsSteps g A B d) :
    IsSteps (reach 4 g)
      (mulf A (select (k0_pay12 rows) (dynamicRotate 0 4#32 none A rotates_S8x1024_d0) (broadcast S8x1024 (Scalar.ofBits (F := Ideal) .f32 0x3F800000#32))))
      (addf B (mulf A (select (k0_pay12 rows) (dynamicRotate 0 4#32 none B rotates_S8x1024_d0) (broadcast S8x1024 (Scalar.ofBits (F := Ideal) .f32 0x00000000#32))))) d := by
  intro r
  have hr := r.isLt
  have hk := keep4 r d
  generalize k0_pay12 rows = K at hk ⊢
  have ea : (dynamicRotate 0 4#32 none A rotates_S8x1024_d0 : Vec Ideal S8x1024 .f32) (ix2 r d) = A (ix2 ⟨(r.val + 8 - 4) % 8, by omega⟩ d) := by
    pointwise
  have eb : (dynamicRotate 0 4#32 none B rotates_S8x1024_d0 : Vec Ideal S8x1024 .f32) (ix2 r d) = B (ix2 ⟨(r.val + 8 - 4) % 8, by omega⟩ d) := by
    pointwise
  generalize dynamicRotate 0 4#32 none A rotates_S8x1024_d0 = RA at ea ⊢
  generalize dynamicRotate 0 4#32 none B rotates_S8x1024_d0 = RB at eb ⊢
  unfold reach comb
  pointwise
  rw [hk, ea, eb, (H r).1, (H r).2, (H _).1, (H _).2]
  by_cases c : 4 ≤ r.val
  · have er : (⟨r.val - 4, by omega⟩ : Fin 8).val = r.val - 4 := rfl
    simp only [if_pos c, show (r.val + 8 - 4) % 8 = r.val - 4 by omega]
    exact ⟨rfl, rfl⟩
  · simp only [if_neg c]
    refine ⟨rfl, ?_⟩
    show (g r.val).2 + 0 = (g r.val).2 + (g r.val).1 * 0
    rw [mul_zero]

/-- The three rounds are what the kernel computes of a group. -/
theorem rounds_at (g : ℕ → EReal × EReal) (A B : Vec Ideal S8x1024 .f32) (d : Fin 1024) (H : IsSteps g A B d) :
    IsSteps (reach 4 (reach 2 (reach 1 g))) (mulf (k0_pay11 rows A) (select (k0_pay12 rows) (dynamicRotate 0 4#32 none (k0_pay11 rows A) rotates_S8x1024_d0) (broadcast S8x1024 (Scalar.ofBits (F := Ideal) .f32 0x3F800000#32)))) (k0_pay13 rows A B) d :=
  reach4 _ _ _ d (reach2 _ _ _ d (reach1 g A B d H))

/-- A group's rows. -/
theorem ld_grp (Y : Vec Ideal S1024x1024 .f32) (k : Fin k0_t1_loop.trips) (r : Fin 8) (d : Fin 1024) :
    View.ld Y (grp k) (ix2 r d : S8x1024.Idx) = Y (ix2 ⟨8 * k.val + r.val, by have := lt_of_lt_of_eq k.isLt trips_eq; omega⟩ d) :=
  congrArg Y (funext fun a => Fin.ext (by
    match a with
    | ⟨0, _⟩ => show k0_off1 k 0 + 1 * r.val = 8 * k.val + r.val; rw [off1_eq]; show 8 * k.val + 1 * r.val = _; omega
    | ⟨1, _⟩ => show k0_off1 k 1 + 1 * d.val = d.val; rw [off1_eq]; show 0 + 1 * d.val = d.val; omega))

section
variable (f : Fin 1024 → ℕ → EReal × EReal) (A B : Vec Ideal S1024x1024 .f32)

/-- The block's rows' steps, the first row first. -/
structure Steps : Prop where
  good : ∀ d n, Good (f d n).1
  coef : ∀ r d : Fin 1024, A (ix2 r d) = (f d (r.val)).1
  input : ∀ r d : Fin 1024, B (ix2 r d) = (f d (r.val)).2

variable {f A B} (H : Steps f A B)
include H

/-- The states of a group. -/
theorem hs8_at (k : Fin k0_t1_loop.trips) (acc : Vec Ideal S1x1024 .f32) (r : Fin 8) (d : Fin 1024) :
    (hs8 A B k acc : Vec Ideal S8x1024 .f32) (ix2 r d) = walkFrom (fun j => f d (8 * k.val + j)) (acc (ix2 0 d)) (r.val + 1) := by
  have hk : k.val < 128 := lt_of_lt_of_eq k.isLt trips_eq
  have hs : IsSteps (fun j => f d (8 * k.val + j)) (View.ld A (grp k)) (View.ld B (grp k)) d := by
    intro r
    have hr := r.isLt
    refine ⟨(ld_grp A k r d).trans ((H.coef _ d).trans ?_), (ld_grp B k r d).trans ((H.input _ d).trans ?_)⟩ <;>
      rfl
  have h := rounds_at _ _ _ d hs r
  have e := rounds_eq (fun j => f d (8 * k.val + j)) (fun j => H.good d _) (acc (ix2 0 d)) r.val (by omega)
  rw [← e]
  unfold step
  rw [← h.1, ← h.2]
  unfold hs8
  have e14 : k0_pay14 rows acc (View.ld A (grp k)) = mulf (mulf (k0_pay11 rows (View.ld A (grp k))) (select (k0_pay12 rows) (dynamicRotate 0 4#32 none (k0_pay11 rows (View.ld A (grp k))) rotates_S8x1024_d0) (broadcast S8x1024 (Scalar.ofBits (F := Ideal) .f32 0x3F800000#32))) : Vec Ideal S8x1024 .f32) (broadcastTo S8x1024 acc broadcasts_S1x1024_S8x1024) := rfl
  rw [e14]
  generalize (mulf (k0_pay11 rows (View.ld A (grp k))) (select (k0_pay12 rows) (dynamicRotate 0 4#32 none (k0_pay11 rows (View.ld A (grp k))) rotates_S8x1024_d0) (broadcast S8x1024 (Scalar.ofBits (F := Ideal) .f32 0x3F800000#32))) : Vec Ideal S8x1024 .f32) = P
  generalize (k0_pay13 rows (View.ld A (grp k)) (View.ld B (grp k)) : Vec Ideal S8x1024 .f32) = Q
  unfold k0_pay4 k0_pay3
  pointwise

/-- The state after a group. -/
theorem carry8_at (k : Fin k0_t1_loop.trips) (acc : Vec Ideal S1x1024 .f32) (d : Fin 1024) :
    (carry8 A B k acc : Vec Ideal S1x1024 .f32) (ix2 0 d) = walkFrom (fun j => f d (8 * k.val + j)) (acc (ix2 0 d)) 8 := by
  refine Eq.trans ?_ (hs8_at H k acc 7 d)
  unfold carry8 k0_pay5
  unfold hs8 k0_pay4
  generalize (k0_pay3 (k0_pay13 rows (View.ld A (grp k)) (View.ld B (grp k))) (k0_pay14 rows acc (View.ld A (grp k))) : Vec Ideal S8x1024 .f32) = P
  pointwise

/-- The state before each group. -/
theorem walk_state (init : Vec Ideal S1x1024 .f32) (d : Fin 1024) : ∀ n, n ≤ k0_t1_loop.trips →
    (walk A B init n).1 (ix2 0 d) = walkFrom (f d) (init (ix2 0 d)) (8 * n)
  | 0, _ => rfl
  | n + 1, h => by
    rw [walk_succ A B init ⟨n, h⟩]
    refine (carry8_at H ⟨n, h⟩ _ d).trans ?_
    rw [walk_state init d n (Nat.le_of_succ_le h), show 8 * (n + 1) = 8 * n + 8 by omega, walkFrom_add]

/-- The states stored so far. -/
theorem walk_rows (init : Vec Ideal S1x1024 .f32) (d : Fin 1024) : ∀ n, n ≤ k0_t1_loop.trips → ∀ r : Fin 1024, r.val < 8 * n →
    (View.canon (walk A B init n).2 : Vec Ideal S1024x1024 .f32) (ix2 r d) = walkFrom (f d) (init (ix2 0 d)) (r.val + 1)
  | 0, _ => fun r hr => absurd hr (by omega)
  | n + 1, h => fun r hr => by
    have hn : n < 128 := lt_of_lt_of_eq h trips_eq
    rw [walk_succ A B init ⟨n, h⟩]
    by_cases c : r.val < 8 * n
    · refine (View.canon_cons_of_not_mem _ _ (fun h' => ?_)).trans (walk_rows init d n (Nat.le_of_succ_le h) r c)
      have := (mem_grp ⟨n, h⟩ (ix2 r d)).mp h'
      have e : 8 * n ≤ r.val ∧ r.val < 8 * n + 8 := this
      omega
    · have e : (ix2 r d : S1024x1024.Idx) = (grp ⟨n, h⟩).emb (ix2 ⟨r.val - 8 * n, by omega⟩ d : S8x1024.Idx) := by
        funext a; apply Fin.ext
        match a with
        | ⟨0, _⟩ => show r.val = k0_off1 ⟨n, h⟩ 0 + 1 * (r.val - 8 * n); rw [off1_eq]; show r.val = 8 * n + 1 * (r.val - 8 * n); omega
        | ⟨1, _⟩ => show d.val = k0_off1 ⟨n, h⟩ 1 + 1 * d.val; rw [off1_eq]; show d.val = 0 + 1 * d.val; omega
      rw [e]
      refine (View.canon_cons_emb _ _ _ _).trans ((hs8_at H ⟨n, h⟩ _ _ d).trans ?_)
      rw [walk_state H init d n (Nat.le_of_succ_le h), show r.val + 1 = 8 * n + (r.val - 8 * n + 1) by omega, walkFrom_add (f d) _ (8 * n)]

/-- The states of the block. -/
theorem states_at (init : Vec Ideal S1x1024 .f32) (r d : Fin 1024) :
    (states A B init : Vec Ideal S1024x1024 .f32) (ix2 r d) = walkFrom (f d) (init (ix2 0 d)) (r.val + 1) := by
  unfold states
  exact walk_rows H init d _ le_rfl r (by rw [trips_eq]; omega)

/-- The state after the block. -/
theorem final_at (init : Vec Ideal S1x1024 .f32) (d : Fin 1024) :
    (final A B init : Vec Ideal S1x1024 .f32) (ix2 0 d) = walkFrom (f d) (init (ix2 0 d)) 1024 := by
  unfold final
  rw [walk_state H init d _ le_rfl, trips_eq]

end

end Cert.ScanFwdIdeal.Hand

end
-- ==== Proof.ScanFwdIdeal.Blocks.lean ====
module

public import proofs.«01_k».proof.Proof.ScanFwdIdeal.Whole
public import proofs.«01_k».proof.Proof.ScanFwdIdeal.Tile
public import proofs.«01_k».proof.Proof.ScanFwdIdeal.Group

@[expose] public section

set_option maxRecDepth 16384

noncomputable section
namespace Cert.ScanFwdIdeal.Hand
open Cert.ScanFwdIdeal Cert.ScanFwdIdeal.Gen Cert.Formula Idealize.ShloMosaic Idealize.ShloMosaic.TcCoe Idealize.ShloMosaic.Tactic Idealize.SL.Sem

/-! What each input block holds at a grid point, in terms of what the program is given. -/

variable (m : (ℓ : Loc nD τ sig) → Buf (Elt Ideal) ℓ)

/-- What the program is given, as the formulas' inputs: layer 1, the forward direction. -/
def given (c : Dev nD) : ScanInputs where
  x := fun R d => (m ((c : Thread nD τ).loc main_arg0) : Vec Ideal S16384x1024 .f32) (ix2 R d)
  taps := fun k d => (m ((c : Thread nD τ).loc main_arg4) : Vec Ideal S2x4x1024 .f32) (ix3 1 k d)
  cb := fun d => (m ((c : Thread nD τ).loc main_arg5) : Vec Ideal S2x1024 .f32) (ix2 1 d)
  wr := fun h i j => (m ((c : Thread nD τ).loc main_arg6) : Vec Ideal S2x2x4x256x256 .f32) (ix5 1 0 h i j)
  br := fun d => (m ((c : Thread nD τ).loc main_arg7) : Vec Ideal S2x2x1024 .f32) (ix3 1 0 d)
  wi := fun h i j => (m ((c : Thread nD τ).loc main_arg8) : Vec Ideal S2x2x4x256x256 .f32) (ix5 1 0 h i j)
  bi := fun d => (m ((c : Thread nD τ).loc main_arg9) : Vec Ideal S2x2x1024 .f32) (ix3 1 0 d)
  lam := fun d => (m ((c : Thread nD τ).loc main_arg10) : Vec Ideal S2x2x1024 .f32) (ix3 1 0 d)
  h0 := fun b d => (m ((c : Thread nD τ).loc main_arg1) : Vec Ideal S2x1x1024 .f32) (ix3 b 0 d)

/-- The coordinate of a grid point. -/
theorem coord_val : ∀ t : Fin cfg0.N, (grid0.coords t 0).val = t.val :=
  (by decide +kernel : ∀ t : Fin grid0.N, (grid0.coords t 0).val = t.val)

theorem at_0 : ∀ t : Fin cfg0.N, win0_0.index t (0 : Fin 2) = t.val ∧ win0_0.index t (1 : Fin 2) = 0 :=
  (by decide +kernel : ∀ t : Fin grid0.N, _)
/-- The block of rows. -/
theorem block_0 (c : Dev nD) (t : Fin cfg0.N) (i : Fin 1024) (j : Fin 1024) (R : Fin 16384) (hR : R.val = t.val * 1024 + i.val) :
    (iblk m c 0 t : Vec Ideal S1024x1024 _) (ix2 i j) = (given m c).x R j := by
  have hi := at_0 t
  unfold iblk
  rw [View.read_apply]
  show V m c main_arg0 _ = _
  rw [V_main_arg0]
  unfold given
  dsimp only
  congr 1
  funext a
  apply Fin.ext
  match a with
  | ⟨0, _⟩ => show win0_0.index t (0 : Fin 2) * 1024 + 1 * i.val = R.val; rw [hi.1, hR]; omega
  | ⟨1, _⟩ => show win0_0.index t (1 : Fin 2) * 1024 + 1 * j.val = j.val; rw [hi.2]; omega

theorem at_1 : ∀ t : Fin cfg0.N, win0_1.index t (0 : Fin 2) = (t.val * 128 - 1) ∧ win0_1.index t (1 : Fin 2) = 0 :=
  (by decide +kernel : ∀ t : Fin grid0.N, _)
/-- The rows before the block. -/
theorem block_1 (c : Dev nD) (t : Fin cfg0.N) (i : Fin 8) (j : Fin 1024) (R : Fin 16384) (hR : R.val = (t.val * 128 - 1) * 8 + i.val) :
    (iblk m c 1 t : Vec Ideal S8x1024 _) (ix2 i j) = (given m c).x R j := by
  have hi := at_1 t
  unfold iblk
  rw [View.read_apply]
  show V m c main_arg0 _ = _
  rw [V_main_arg0]
  unfold given
  dsimp only
  congr 1
  funext a
  apply Fin.ext
  match a with
  | ⟨0, _⟩ => show win0_1.index t (0 : Fin 2) * 8 + 1 * i.val = R.val; rw [hi.1, hR]; omega
  | ⟨1, _⟩ => show win0_1.index t (1 : Fin 2) * 1024 + 1 * j.val = j.val; rw [hi.2]; omega

theorem at_2 : ∀ t : Fin cfg0.N, win0_2.index t (0 : Fin 2) = (min ((t.val + 1) * 128) 2047) ∧ win0_2.index t (1 : Fin 2) = 0 :=
  (by decide +kernel : ∀ t : Fin grid0.N, _)
/-- The rows after the block. -/
theorem block_2 (c : Dev nD) (t : Fin cfg0.N) (i : Fin 8) (j : Fin 1024) (R : Fin 16384) (hR : R.val = (min ((t.val + 1) * 128) 2047) * 8 + i.val) :
    (iblk m c 2 t : Vec Ideal S8x1024 _) (ix2 i j) = (given m c).x R j := by
  have hi := at_2 t
  unfold iblk
  rw [View.read_apply]
  show V m c main_arg0 _ = _
  rw [V_main_arg0]
  unfold given
  dsimp only
  congr 1
  funext a
  apply Fin.ext
  match a with
  | ⟨0, _⟩ => show win0_2.index t (0 : Fin 2) * 8 + 1 * i.val = R.val; rw [hi.1, hR]; omega
  | ⟨1, _⟩ => show win0_2.index t (1 : Fin 2) * 1024 + 1 * j.val = j.val; rw [hi.2]; omega

theorem at_3 : ∀ t : Fin cfg0.N, win0_3.index t (0 : Fin 2) = 0 ∧ win0_3.index t (1 : Fin 2) = 0 :=
  (by decide +kernel : ∀ t : Fin grid0.N, _)
theorem block_3_array (c : Dev nD) (t : Fin cfg0.N) (i : Fin 4) (j : Fin 1024) :
    (iblk m c 3 t : Vec Ideal S4x1024 _) (ix2 i j) = (V m c main_v3 : Vec Ideal S4x1024 _) (ix2 i j) := by
  have hi := at_3 t
  unfold iblk
  rw [View.read_apply]
  show V m c main_v3 _ = _
  congr 1
  funext a
  apply Fin.ext
  match a with
  | ⟨0, _⟩ => show win0_3.index t (0 : Fin 2) * 4 + 1 * i.val = i.val; rw [hi.1]; omega
  | ⟨1, _⟩ => show win0_3.index t (1 : Fin 2) * 1024 + 1 * j.val = j.val; rw [hi.2]; omega
/-- The taps. -/
theorem block_3 (c : Dev nD) (t : Fin cfg0.N) (k : Fin 4) (d : Fin 1024) :
    (iblk m c 3 t : Vec Ideal S4x1024 _) (ix2 k d) = (given m c).taps k d := by
  refine (block_3_array m c t k d).trans ?_
  have e : V m c main_v3 = shapeCast S4x1024 (extractStridedSlice S1x4x1024 ![1, 0, 0] (m ((c : Thread nD τ).loc main_arg4) : Vec Ideal S2x4x1024 .f32) slices_S2x4x1024_S1x4x1024_1_0_0) shapeCasts_S1x4x1024_S4x1024 := by rfl
  rw [e]
  unfold given
  pointwise

theorem at_4 : ∀ t : Fin cfg0.N, win0_4.index t (0 : Fin 2) = 0 ∧ win0_4.index t (1 : Fin 2) = 0 :=
  (by decide +kernel : ∀ t : Fin grid0.N, _)
theorem block_4_array (c : Dev nD) (t : Fin cfg0.N) (i : Fin 1) (j : Fin 1024) :
    (iblk m c 4 t : Vec Ideal S1x1024 _) (ix2 i j) = (V m c main_v12 : Vec Ideal S1x1024 _) (ix2 i j) := by
  have hi := at_4 t
  unfold iblk
  rw [View.read_apply]
  show V m c main_v12 _ = _
  congr 1
  funext a
  apply Fin.ext
  match a with
  | ⟨0, _⟩ => show win0_4.index t (0 : Fin 2) * 1 + 1 * i.val = i.val; rw [hi.1]; omega
  | ⟨1, _⟩ => show win0_4.index t (1 : Fin 2) * 1024 + 1 * j.val = j.val; rw [hi.2]; omega
/-- The convolution's bias. -/
theorem block_4 (c : Dev nD) (t : Fin cfg0.N) (d : Fin 1024) :
    (iblk m c 4 t : Vec Ideal S1x1024 _) (ix2 0 d) = (given m c).cb d := by
  refine (block_4_array m c t 0 d).trans ?_
  have e : V m c main_v12 = shapeCast S1x1024 (shapeCast S1024 (extractStridedSlice S1x1024 ![1, 0] (m ((c : Thread nD τ).loc main_arg5) : Vec Ideal S2x1024 .f32) slices_S2x1024_S1x1024_1_0) shapeCasts_S1x1024_S1024) shapeCasts_S1024_S1x1024 := by rfl
  rw [e]
  unfold given
  pointwise

theorem at_5 : ∀ t : Fin cfg0.N, win0_5.index t (0 : Fin 5) = 1 ∧ win0_5.index t (1 : Fin 5) = 0 ∧ win0_5.index t (2 : Fin 5) = 0 ∧ win0_5.index t (3 : Fin 5) = 0 ∧ win0_5.index t (4 : Fin 5) = 0 :=
  (by decide +kernel : ∀ t : Fin grid0.N, _)
/-- The recurrence gate's weights. -/
theorem block_5 (c : Dev nD) (t : Fin cfg0.N) (h : Fin 4) (j e : Fin 256) :
    (iblk m c 5 t : Vec Ideal S1x1x4x256x256 _) (ix5 0 0 h j e) = (given m c).wr h j e := by
  have hi := at_5 t
  unfold iblk
  rw [View.read_apply]
  show V m c main_v0 _ = _
  have e0 : (V m c main_v0 : Vec Ideal S2x2x4x256x256 .bf16) = truncf (F := Ideal) .bf16 (m ((c : Thread nD τ).loc main_arg6) : Vec Ideal S2x2x4x256x256 .f32) bitsLt_bf16_f32 := by rfl
  rw [e0]
  unfold given
  show (m ((c : Thread nD τ).loc main_arg6) : Vec Ideal S2x2x4x256x256 .f32) _ = _
  congr 1
  funext a
  apply Fin.ext
  match a with
  | ⟨0, _⟩ => show win0_5.index t (0 : Fin 5) * 1 + 1 * 0 = 1; rw [hi.1]
  | ⟨1, _⟩ => show win0_5.index t (1 : Fin 5) * 1 + 1 * 0 = 0; rw [hi.2.1]
  | ⟨2, _⟩ => show win0_5.index t (2 : Fin 5) * 4 + 1 * h.val = h.val; rw [hi.2.2.1]; omega
  | ⟨3, _⟩ => show win0_5.index t (3 : Fin 5) * 256 + 1 * j.val = j.val; rw [hi.2.2.2.1]; omega
  | ⟨4, _⟩ => show win0_5.index t (4 : Fin 5) * 256 + 1 * e.val = e.val; rw [hi.2.2.2.2]; omega

theorem at_6 : ∀ t : Fin cfg0.N, win0_6.index t (0 : Fin 2) = 0 ∧ win0_6.index t (1 : Fin 2) = 0 :=
  (by decide +kernel : ∀ t : Fin grid0.N, _)
theorem block_6_array (c : Dev nD) (t : Fin cfg0.N) (i : Fin 1) (j : Fin 1024) :
    (iblk m c 6 t : Vec Ideal S1x1024 _) (ix2 i j) = (V m c main_v13 : Vec Ideal S1x1024 _) (ix2 i j) := by
  have hi := at_6 t
  unfold iblk
  rw [View.read_apply]
  show V m c main_v13 _ = _
  congr 1
  funext a
  apply Fin.ext
  match a with
  | ⟨0, _⟩ => show win0_6.index t (0 : Fin 2) * 1 + 1 * i.val = i.val; rw [hi.1]; omega
  | ⟨1, _⟩ => show win0_6.index t (1 : Fin 2) * 1024 + 1 * j.val = j.val; rw [hi.2]; omega
/-- The recurrence gate's bias. -/
theorem block_6 (c : Dev nD) (t : Fin cfg0.N) (d : Fin 1024) :
    (iblk m c 6 t : Vec Ideal S1x1024 _) (ix2 0 d) = (given m c).br d := by
  refine (block_6_array m c t 0 d).trans ?_
  have e : V m c main_v13 = shapeCast S1x1024 (shapeCast S1024 (extractStridedSlice S1x1x1024 ![1, 0, 0] (m ((c : Thread nD τ).loc main_arg7) : Vec Ideal S2x2x1024 .f32) slices_S2x2x1024_S1x1x1024_1_0_0) shapeCasts_S1x1x1024_S1024) shapeCasts_S1024_S1x1024 := by rfl
  rw [e]
  unfold given
  pointwise

theorem at_7 : ∀ t : Fin cfg0.N, win0_7.index t (0 : Fin 5) = 1 ∧ win0_7.index t (1 : Fin 5) = 0 ∧ win0_7.index t (2 : Fin 5) = 0 ∧ win0_7.index t (3 : Fin 5) = 0 ∧ win0_7.index t (4 : Fin 5) = 0 :=
  (by decide +kernel : ∀ t : Fin grid0.N, _)
/-- The input gate's weights. -/
theorem block_7 (c : Dev nD) (t : Fin cfg0.N) (h : Fin 4) (j e : Fin 256) :
    (iblk m c 7 t : Vec Ideal S1x1x4x256x256 _) (ix5 0 0 h j e) = (given m c).wi h j e := by
  have hi := at_7 t
  unfold iblk
  rw [View.read_apply]
  show V m c main_v1 _ = _
  have e0 : (V m c main_v1 : Vec Ideal S2x2x4x256x256 .bf16) = truncf (F := Ideal) .bf16 (m ((c : Thread nD τ).loc main_arg8) : Vec Ideal S2x2x4x256x256 .f32) bitsLt_bf16_f32 := by rfl
  rw [e0]
  unfold given
  show (m ((c : Thread nD τ).loc main_arg8) : Vec Ideal S2x2x4x256x256 .f32) _ = _
  congr 1
  funext a
  apply Fin.ext
  match a with
  | ⟨0, _⟩ => show win0_7.index t (0 : Fin 5) * 1 + 1 * 0 = 1; rw [hi.1]
  | ⟨1, _⟩ => show win0_7.index t (1 : Fin 5) * 1 + 1 * 0 = 0; rw [hi.2.1]
  | ⟨2, _⟩ => show win0_7.index t (2 : Fin 5) * 4 + 1 * h.val = h.val; rw [hi.2.2.1]; omega
  | ⟨3, _⟩ => show win0_7.index t (3 : Fin 5) * 256 + 1 * j.val = j.val; rw [hi.2.2.2.1]; omega
  | ⟨4, _⟩ => show win0_7.index t (4 : Fin 5) * 256 + 1 * e.val = e.val; rw [hi.2.2.2.2]; omega

theorem at_8 : ∀ t : Fin cfg0.N, win0_8.index t (0 : Fin 2) = 0 ∧ win0_8.index t (1 : Fin 2) = 0 :=
  (by decide +kernel : ∀ t : Fin grid0.N, _)
theorem block_8_array (c : Dev nD) (t : Fin cfg0.N) (i : Fin 1) (j : Fin 1024) :
    (iblk m c 8 t : Vec Ideal S1x1024 _) (ix2 i j) = (V m c main_v14 : Vec Ideal S1x1024 _) (ix2 i j) := by
  have hi := at_8 t
  unfold iblk
  rw [View.read_apply]
  show V m c main_v14 _ = _
  congr 1
  funext a
  apply Fin.ext
  match a with
  | ⟨0, _⟩ => show win0_8.index t (0 : Fin 2) * 1 + 1 * i.val = i.val; rw [hi.1]; omega
  | ⟨1, _⟩ => show win0_8.index t (1 : Fin 2) * 1024 + 1 * j.val = j.val; rw [hi.2]; omega
/-- The input gate's bias. -/
theorem block_8 (c : Dev nD) (t : Fin cfg0.N) (d : Fin 1024) :
    (iblk m c 8 t : Vec Ideal S1x1024 _) (ix2 0 d) = (given m c).bi d := by
  refine (block_8_array m c t 0 d).trans ?_
  have e : V m c main_v14 = shapeCast S1x1024 (shapeCast S1024 (extractStridedSlice S1x1x1024 ![1, 0, 0] (m ((c : Thread nD τ).loc main_arg9) : Vec Ideal S2x2x1024 .f32) slices_S2x2x1024_S1x1x1024_1_0_0) shapeCasts_S1x1x1024_S1024) shapeCasts_S1024_S1x1024 := by rfl
  rw [e]
  unfold given
  pointwise

theorem at_9 : ∀ t : Fin cfg0.N, win0_9.index t (0 : Fin 2) = 0 ∧ win0_9.index t (1 : Fin 2) = 0 :=
  (by decide +kernel : ∀ t : Fin grid0.N, _)
theorem block_9_array (c : Dev nD) (t : Fin cfg0.N) (i : Fin 1) (j : Fin 1024) :
    (iblk m c 9 t : Vec Ideal S1x1024 _) (ix2 i j) = (V m c main_v15 : Vec Ideal S1x1024 _) (ix2 i j) := by
  have hi := at_9 t
  unfold iblk
  rw [View.read_apply]
  show V m c main_v15 _ = _
  congr 1
  funext a
  apply Fin.ext
  match a with
  | ⟨0, _⟩ => show win0_9.index t (0 : Fin 2) * 1 + 1 * i.val = i.val; rw [hi.1]; omega
  | ⟨1, _⟩ => show win0_9.index t (1 : Fin 2) * 1024 + 1 * j.val = j.val; rw [hi.2]; omega
/-- The decay's parameter. -/
theorem block_9 (c : Dev nD) (t : Fin cfg0.N) (d : Fin 1024) :
    (iblk m c 9 t : Vec Ideal S1x1024 _) (ix2 0 d) = (given m c).lam d := by
  refine (block_9_array m c t 0 d).trans ?_
  have e : V m c main_v15 = shapeCast S1x1024 (shapeCast S1024 (extractStridedSlice S1x1x1024 ![1, 0, 0] (m ((c : Thread nD τ).loc main_arg10) : Vec Ideal S2x2x1024 .f32) slices_S2x2x1024_S1x1x1024_1_0_0) shapeCasts_S1x1x1024_S1024) shapeCasts_S1024_S1x1024 := by rfl
  rw [e]
  unfold given
  pointwise

theorem at_10 : ∀ t : Fin cfg0.N, win0_10.index t (0 : Fin 3) = t.val / 8 ∧ win0_10.index t (1 : Fin 3) = 0 ∧ win0_10.index t (2 : Fin 3) = 0 :=
  (by decide +kernel : ∀ t : Fin grid0.N, _)
/-- The first state of the sequence. -/
theorem block_10 (c : Dev nD) (t : Fin cfg0.N) (b : Fin 2) (hb : b.val = t.val / 8) (d : Fin 1024) :
    (iblk m c 10 t : Vec Ideal S1x1x1024 _) (ix3 0 0 d) = (given m c).h0 b d := by
  have hi := at_10 t
  unfold iblk
  rw [View.read_apply]
  show V m c main_arg1 _ = _
  rw [V_main_arg1]
  unfold given
  dsimp only
  congr 1
  funext a
  apply Fin.ext
  match a with
  | ⟨0, _⟩ => show win0_10.index t (0 : Fin 3) * 1 + 1 * 0 = b.val; rw [hi.1, hb]; omega
  | ⟨1, _⟩ => show win0_10.index t (1 : Fin 3) * 1 + 1 * 0 = 0; rw [hi.2.1]
  | ⟨2, _⟩ => show win0_10.index t (2 : Fin 3) * 1024 + 1 * d.val = d.val; rw [hi.2.2]; omega

theorem at_11 : ∀ t : Fin cfg0.N, win0_11.index t (0 : Fin 2) = t.val ∧ win0_11.index t (1 : Fin 2) = 0 :=
  (by decide +kernel : ∀ t : Fin grid0.N, _)
/-- The other direction's rows. -/
theorem block_11 (c : Dev nD) (t : Fin cfg0.N) (i : Fin 1024) (j : Fin 1024) (R : Fin 16384) (hR : R.val = t.val * 1024 + i.val) :
    (iblk m c 11 t : Vec Ideal S1024x1024 _) (ix2 i j) = (m ((c : Thread nD τ).loc main_arg2) : Vec Ideal S16384x1024 .f32) (ix2 R j) := by
  have hi := at_11 t
  unfold iblk
  rw [View.read_apply]
  show V m c main_arg2 _ = _
  rw [V_main_arg2]
  congr 1
  funext a
  apply Fin.ext
  match a with
  | ⟨0, _⟩ => show win0_11.index t (0 : Fin 2) * 1024 + 1 * i.val = R.val; rw [hi.1, hR]; omega
  | ⟨1, _⟩ => show win0_11.index t (1 : Fin 2) * 1024 + 1 * j.val = j.val; rw [hi.2]; omega

theorem at_12 : ∀ t : Fin cfg0.N, win0_12.index t (0 : Fin 2) = t.val ∧ win0_12.index t (1 : Fin 2) = 0 :=
  (by decide +kernel : ∀ t : Fin grid0.N, _)
/-- The gate's rows. -/
theorem block_12 (c : Dev nD) (t : Fin cfg0.N) (i : Fin 1024) (j : Fin 1024) (R : Fin 16384) (hR : R.val = t.val * 1024 + i.val) :
    (iblk m c 12 t : Vec Ideal S1024x1024 _) (ix2 i j) = (m ((c : Thread nD τ).loc main_arg3) : Vec Ideal S16384x1024 .f32) (ix2 R j) := by
  have hi := at_12 t
  unfold iblk
  rw [View.read_apply]
  show V m c main_arg3 _ = _
  rw [V_main_arg3]
  congr 1
  funext a
  apply Fin.ext
  match a with
  | ⟨0, _⟩ => show win0_12.index t (0 : Fin 2) * 1024 + 1 * i.val = R.val; rw [hi.1, hR]; omega
  | ⟨1, _⟩ => show win0_12.index t (1 : Fin 2) * 1024 + 1 * j.val = j.val; rw [hi.2]; omega

/-- The sequence a grid point's tile belongs to. -/
def seqOf (t : Fin cfg0.N) : Fin 2 := ⟨t.val / 8, by have := t.isLt; have hN : cfg0.N = 16 := N_0; omega⟩

/-- The blocks at a grid point are those of its tile. -/
theorem holds (c : Dev nD) (t : Fin cfg0.N) : Holds (given m c) (seqOf t) (t.val % 8) (grid0.coords t) (blk m c t) := by
  have hN : cfg0.N = 16 := N_0
  have ht := t.isLt
  have hs : (seqOf t).val = t.val / 8 := rfl
  constructor
  · rw [coord_val t]
  · intro r d h
    exact block_0 m c t r d _ (by show (seqOf t).val * 8192 + (t.val % 8 * 1024 + r.val) = _; rw [hs]; omega)
  · intro h0 q d h
    exact block_1 m c t q d _ (by show (seqOf t).val * 8192 + (t.val % 8 * 1024 - 8 + q.val) = _; rw [hs]; omega)
  · intro h7 q d h
    exact block_2 m c t q d _ (by show (seqOf t).val * 8192 + (t.val % 8 * 1024 + 1024 + q.val) = _; rw [hs]; omega)
  · exact block_3 m c t
  · exact block_4 m c t
  · exact block_5 m c t
  · exact block_6 m c t
  · exact block_7 m c t
  · exact block_8 m c t
  · exact block_9 m c t
  · exact block_10 m c t (seqOf t) hs

end Cert.ScanFwdIdeal.Hand
end
-- ==== Proof.ScanFwdIdeal.Result.lean ====
module

public import proofs.«01_k».proof.Proof.ScanFwdIdeal.Blocks
public import Idealize.ShloMosaic.Lib.Pipeline.ValueKit

@[expose] public section

set_option maxRecDepth 16384

noncomputable section
namespace Cert.ScanFwdIdeal.Hand
open Cert.ScanFwdIdeal Cert.ScanFwdIdeal.Gen Cert.Formula Idealize.ShloMosaic Idealize.ShloMosaic.TcCoe Idealize.ShloMosaic.Tactic Idealize.SL.Sem

/-! The states the blocks are left holding, point after point, and the array the run ends with. -/

variable (m : (ℓ : Loc nD τ sig) → Buf (Elt Ideal) ℓ)

/-- The steps of a grid point's block, the first of them first. -/
def stepsOf (c : Dev nD) (t : Fin cfg0.N) (d : Fin 1024) (n : ℕ) : EReal × EReal :=
  (given m c).stepFwd (seqOf t) d (1024 * (t.val % 8) + n)

/-- The block's decays and gated inputs are its steps. -/
theorem steps (c : Dev nD) (t : Fin cfg0.N) :
    Steps (stepsOf m c t) (coefs (grid0.coords t) (blk m c t)) (inputs (grid0.coords t) (blk m c t)) where
  good := fun d n => (given m c).coef_good _ _ d
  coef := fun r d => by
    have hN : cfg0.N = 16 := N_0
    have ht := t.isLt
    have hr := r.isLt
    refine (coefs_at (grid0.coords t) (blk m c t) r d).trans ((decay_is (holds m c t) r d).trans ?_)
    show (given m c).coef _ (t.val % 8 * 1024 + r.val) d = (given m c).coef _ (1024 * (t.val % 8) + r.val) d
    congr 1; omega
  input := fun r d => by
    have hN : cfg0.N = 16 := N_0
    have ht := t.isLt
    have hr := r.isLt
    refine (inputs_at (grid0.coords t) (blk m c t) r d).trans ((gated_is (holds m c t) r d).trans ?_)
    show (given m c).input _ (t.val % 8 * 1024 + r.val) d = (given m c).input _ (1024 * (t.val % 8) + r.val) d
    congr 1; omega

/-- The state a sequence begins with. -/
theorem start_at (c : Dev nD) (t : Fin cfg0.N) (d : Fin 1024) :
    (start (blk m c t) : Vec Ideal S1x1024 .f32) (ix2 0 d) = (given m c).h0 (seqOf t) d := by
  refine Eq.trans ?_ ((holds m c t).h0 d)
  unfold start
  generalize blk m c t = X
  unfold k0_pay2
  pointwise

/-- The state after a block, from the one before it. -/
theorem next_at (c : Dev nD) (t : Fin cfg0.N) (s : Vec Ideal S1x1024 .f32) (d : Fin 1024) :
    (next (grid0.coords t) (blk m c t) s : Vec Ideal S1x1024 .f32) (ix2 0 d) = walkFrom (stepsOf m c t d) (s (ix2 0 d)) 1024 := by
  refine Eq.trans ?_ (final_at (steps m c t) s d)
  unfold next
  generalize final (coefs (grid0.coords t) (blk m c t)) (inputs (grid0.coords t) (blk m c t)) s = P
  unfold k0_pay6
  pointwise

/-- The state after a grid point: the sequence's state after all the steps up to it. -/
theorem stateAfter_at (c : Dev nD) (d : Fin 1024) : ∀ (n : ℕ) (h : n < cfg0.N),
    (stateAfter m c n h : Vec Ideal S1x1024 .f32) (ix2 0 d)
      = walkFrom ((given m c).stepFwd (seqOf ⟨n, h⟩) d) ((given m c).h0 (seqOf ⟨n, h⟩) d) (1024 * (n % 8) + 1024)
  | 0, h => by
    refine (next_at m c ⟨0, h⟩ _ d).trans ?_
    rw [start_at, walkFrom_add]
    rfl
  | n + 1, h => by
    have hN : cfg0.N = 16 := N_0
    refine (next_at m c ⟨n + 1, h⟩ _ d).trans ?_
    rw [walkFrom_add]
    by_cases h0 : (n + 1) % 8 = 0
    · rw [if_pos h0, start_at, h0]
      unfold stepsOf
      dsimp only
      rw [h0]
      rfl
    · rw [if_neg h0, stateAfter_at c d n (Nat.lt_of_succ_lt h)]
      have e : seqOf ⟨n, Nat.lt_of_succ_lt h⟩ = seqOf ⟨n + 1, h⟩ := Fin.ext (by
        show n / 8 = (n + 1) / 8; omega)
      rw [e, show 1024 * (n % 8) + 1024 = 1024 * ((n + 1) % 8) by omega]
      rfl

/-- The state a grid point begins with. -/
theorem stateBefore_at (c : Dev nD) (t : Fin cfg0.N) (d : Fin 1024) :
    (stateBefore m c t : Vec Ideal S1x1024 .f32) (ix2 0 d)
      = walkFrom ((given m c).stepFwd (seqOf t) d) ((given m c).h0 (seqOf t) d) (1024 * (t.val % 8)) := by
  have hN : cfg0.N = 16 := N_0
  have ht := t.isLt
  unfold stateBefore
  by_cases h0 : t.val % 8 = 0
  · rw [if_pos h0, start_at, h0]
    rfl
  · rw [if_neg h0, stateAfter_at]
    have e : seqOf ⟨t.val - 1, lt_of_le_of_lt (Nat.sub_le _ _) t.isLt⟩ = seqOf t := Fin.ext (by
      show (t.val - 1) / 8 = t.val / 8; omega)
    rw [e, show 1024 * ((t.val - 1) % 8) + 1024 = 1024 * (t.val % 8) by omega]

/-- The states of a grid point's block. -/
theorem hs_at (c : Dev nD) (t : Fin cfg0.N) (r d : Fin 1024) :
    (hs (grid0.coords t) (blk m c t) (stateBefore m c t) : Vec Ideal S1024x1024 .f32) (ix2 r d)
      = (given m c).stateFwd (seqOf t) (t.val % 8 * 1024 + r.val) d := by
  have hN : cfg0.N = 16 := N_0
  have ht := t.isLt
  have hr := r.isLt
  unfold hs
  refine (states_at (steps m c t) (stateBefore m c t) r d).trans ?_
  rw [stateBefore_at]
  unfold ScanInputs.stateFwd
  rw [show t.val % 8 * 1024 + r.val + 1 = 1024 * (t.val % 8) + (r.val + 1) by omega, walkFrom_add _ _ (1024 * (t.val % 8))]
  rfl

/-- The array the run leaves. -/
def result (c : Dev nD) : Vec Ideal S16384x1024 .bf16 := fun i =>
  ((given m c).stateFwd ⟨(i 0).val / 8192, by have := (i 0).isLt; change _ < 16384 at this; omega⟩ ((i 0).val % 8192) (i 1)
    + (m ((c : Thread nD τ).loc main_arg2) : Vec Ideal S16384x1024 .f32) i) * (m ((c : Thread nD τ).loc main_arg3) : Vec Ideal S16384x1024 .f32) i

theorem at_13 : ∀ t : Fin cfg0.N, win0_13.index t (0 : Fin 2) = t.val ∧ win0_13.index t (1 : Fin 2) = 0 :=
  (by decide +kernel : ∀ t : Fin grid0.N, _)

/-- What a grid point writes, in its place. -/
theorem outAt_at (c : Dev nD) (t : Fin cfg0.N) (r d : Fin 1024) (i : S16384x1024.Idx)
    (h0 : (i 0).val = t.val * 1024 + r.val) (h1 : i 1 = d) : (outAt m c t : Vec Ideal S1024x1024 .bf16) (ix2 r d) = result m c i := by
  have hN : cfg0.N = 16 := N_0
  have ht := t.isLt
  have hr := r.isLt
  have e : seqOf t = ⟨(i 0).val / 8192, by have := (i 0).isLt; change _ < 16384 at this; omega⟩ := Fin.ext (by
    show t.val / 8 = (i 0).val / 8192; omega)
  have e2 : t.val % 8 * 1024 + r.val = (i 0).val % 8192 := by omega
  have ei : i = (ix2 (i 0) d : S16384x1024.Idx) := by
    funext a
    match a with
    | ⟨0, _⟩ => rfl
    | ⟨1, _⟩ => exact h1
  have e11 := block_11 m c t r d (i 0) h0
  have e12 := block_12 m c t r d (i 0) h0
  have ehs := hs_at m c t r d
  unfold result
  rw [← e, ← e2, h1]
  rw [← ehs]
  rw [ei]
  show _ = (_ + (m ((c : Thread nD τ).loc main_arg2) : Vec Ideal S16384x1024 .f32) (ix2 (i 0) d)) * (m ((c : Thread nD τ).loc main_arg3) : Vec Ideal S16384x1024 .f32) (ix2 (i 0) d)
  rw [← e11, ← e12]
  unfold outAt out
  generalize (hs (grid0.coords t) (blk m c t) (stateBefore m c t) : Vec Ideal S1024x1024 .f32) = P
  dsimp only [blk]
  generalize (iblk m c 11 t : Vec Ideal S1024x1024 .f32) = Q
  generalize (iblk m c 12 t : Vec Ideal S1024x1024 .f32) = S
  unfold k0_pay7
  pointwise

/-- The result's array after the run. -/
theorem array_eq (c : Dev nD) : (dats m 0 c).arrAt 13 (cfgs 0).N = result m c := by
  refine (dats m 0 c).arrAt_eq_of_covers 13 _ (by decide +kernel) fun t hf y => ?_
  have hi := at_13 t
  rw [after13]
  have key : ∀ z : S1024x1024.Idx, (∀ a, (z a).val = (y a).val) → outAt m c t z = result m c (((cfg0.win 13).blk t).view.emb y) := fun z hz => by
    have ez : z = (ix2 (z 0) (z 1) : S1024x1024.Idx) := funext fun a => match a with | ⟨0, _⟩ => rfl | ⟨1, _⟩ => rfl
    rw [ez]
    refine outAt_at m c t (z 0) (z 1) _ ?_ ?_
    · show win0_13.index t (0 : Fin 2) * 1024 + 1 * (y 0).val = _; rw [hi.1, ← hz 0]; omega
    · apply Fin.ext; show win0_13.index t (1 : Fin 2) * 1024 + 1 * (y 1).val = _; rw [hi.2, ← hz 1]; omega
  generalize result m c = G at key ⊢
  generalize outAt m c t = Z at key ⊢
  refine Eq.trans ?_ (key ((cfg0.win 13).xinj (cfg0.grid.coords t) y) fun a => rfl)
  rfl

/-- The run ends with the result in its array. -/
theorem run_value (ρ : Dev nD → PrngReg) :
    θ_run defs (onTc (τ := τ) (main (F := Ideal))) ⟨m, fun _ => 0, ρ⟩ (fun r => ∀ c : Dev nD,
      r.2.mem ((c.tc : Thread nD τ).loc main_v16) = result m c) :=
  (θ_run defs _ _).mono (fun _ h c => ((h c).1 13).trans (array_eq m c)) (run_main m ρ)

end Cert.ScanFwdIdeal.Hand
end
-- ==== Proof.RefFwdIdeal.Entry.lean ====
module

public import proofs.«01_k».proof.Proof.Gen.RefFwdIdeal.Run
public import proofs.«01_k».proof.Proof.Formula.Scan

@[expose] public section

set_option maxRecDepth 16384

noncomputable section
namespace Cert.RefFwdIdeal.Hand
open Cert.RefFwdIdeal Cert.RefFwdIdeal.Gen Cert.Formula Idealize.ShloMosaic Idealize.ShloMosaic.TcCoe Idealize.SL.Sem

/-! What the reference has computed when its loop begins: the decays and the gated inputs, as the formulas. -/

variable (V : Valuation τ sig (Elt Ideal))

/-- What the program is given, as the formulas' inputs: layer 1, the forward direction. -/
def given : ScanInputs where
  x := fun R d => (V (Proc.devRef .tc main_arg0) : Vec Ideal S16384x1024 .f32) (ix2 R d)
  taps := fun k d => (V (Proc.devRef .tc main_arg4) : Vec Ideal S2x4x1024 .f32) (ix3 1 k d)
  cb := fun d => (V (Proc.devRef .tc main_arg5) : Vec Ideal S2x1024 .f32) (ix2 1 d)
  wr := fun h i j => (V (Proc.devRef .tc main_arg6) : Vec Ideal S2x2x4x256x256 .f32) (ix5 1 0 h i j)
  br := fun d => (V (Proc.devRef .tc main_arg7) : Vec Ideal S2x2x1024 .f32) (ix3 1 0 d)
  wi := fun h i j => (V (Proc.devRef .tc main_arg8) : Vec Ideal S2x2x4x256x256 .f32) (ix5 1 0 h i j)
  bi := fun d => (V (Proc.devRef .tc main_arg9) : Vec Ideal S2x2x1024 .f32) (ix3 1 0 d)
  lam := fun d => (V (Proc.devRef .tc main_arg10) : Vec Ideal S2x2x1024 .f32) (ix3 1 0 d)
  h0 := fun b d => (V (Proc.devRef .tc main_arg1) : Vec Ideal S2x1x1024 .f32) (ix3 b 0 d)

/-- The contents after the first two stretches. -/
def at1 : Valuation τ sig (Elt Ideal) := StableHlo.after hostOps0_1 (StableHlo.after hostOps0 V)
/-- The contents after the third. -/
def at2 : Valuation τ sig (Elt Ideal) := StableHlo.after hostOps0_2 (at1 V)
/-- The contents after the fourth. -/
def at3 : Valuation τ sig (Elt Ideal) := StableHlo.after hostOps0_3 (at2 V)
/-- The contents when the loop begins. -/
def at4 : Valuation τ sig (Elt Ideal) := StableHlo.after hostOps0_4 (at3 V)

/-- The taps. -/
theorem taps_at1 (k : Fin 4) (d : Fin 1024) : (at1 V (Proc.devRef .tc main_v2) : Vec Ideal S4x1024 .f32) (ix2 k d) = (given V).taps k d := by
  unfold at1 given
  after_reads_simp
  pointwise

/-- The convolution's bias. -/
theorem cb_at1 (d : Fin 1024) : (at1 V (Proc.devRef .tc main_v4) : Vec Ideal S1024 .f32) (ix1 d) = (given V).cb d := by
  unfold at1 given
  after_reads_simp
  pointwise

/-- The padded rows. -/
theorem padded_at1 (b : Fin 2) (s : Fin 8195) (d : Fin 1024) :
    (at1 V (Proc.devRef .tc main_v5) : Vec Ideal S2x8195x1024 .f32) (ix3 b s d) = (given V).padded b s.val d := by
  have e : at1 V (Proc.devRef .tc main_v5) = pad (s := S2x8192x1024) S2x8195x1024 ![0, 2, 0] ![0, 1, 0] ![0, 0, 0]
      (shapeCast S2x8192x1024 (V (Proc.devRef .tc main_arg0) : Vec Ideal S16384x1024 .f32) shapeCasts_S16384x1024_S2x8192x1024)
      (sitofp (F := Ideal) .f32 (constantI S_ 32 0#32)) pads_S2x8192x1024_S2x8195x1024_000_210_000 h_S_ := by
    unfold at1
    after_reads_simp
    rfl
  unfold given ScanInputs.padded
  rw [e]
  pointwise
  by_cases h : 2 ≤ s.val ∧ s.val < 8194
  · rw [dif_pos h, dif_pos ⟨h.1, by omega⟩]
  · rw [dif_neg h, dif_neg (fun h' => h ⟨h'.1, by omega⟩)]
    show (((0#32).toInt : ℝ) : EReal) = 0
    simp

/-- The third stretch reads these arguments as they were given. -/
theorem args_at1 : at1 V (Proc.devRef .tc main_arg6) = V (Proc.devRef .tc main_arg6) ∧ at1 V (Proc.devRef .tc main_arg7) = V (Proc.devRef .tc main_arg7)
    ∧ at1 V (Proc.devRef .tc main_arg8) = V (Proc.devRef .tc main_arg8) ∧ at1 V (Proc.devRef .tc main_arg9) = V (Proc.devRef .tc main_arg9)
    ∧ at1 V (Proc.devRef .tc main_arg10) = V (Proc.devRef .tc main_arg10) ∧ at1 V (Proc.devRef .tc main_arg1) = V (Proc.devRef .tc main_arg1) := by
  unfold at1
  refine ⟨?_, ?_, ?_, ?_, ?_, ?_⟩ <;> after_reads_simp

/-- The convolution. -/
theorem conv_at2 (b : Fin 2) (t : Fin 8192) (d : Fin 1024) :
    (at2 V (Proc.devRef .tc main_v35) : Vec Ideal S2x8192x1024 .f32) (ix3 b t d) = (given V).conv b t.val d := by
  unfold ScanInputs.conv conv4
  simp only [← taps_at1, ← cb_at1]
  rw [← padded_at1 V b ⟨t.val, by have := t.isLt; omega⟩, ← padded_at1 V b ⟨1 + t.val, by have := t.isLt; omega⟩,
    ← padded_at1 V b ⟨2 + t.val, by have := t.isLt; omega⟩, ← padded_at1 V b ⟨3 + t.val, by have := t.isLt; omega⟩]
  unfold at2
  after_reads_simp
  pointwise

/-- The recurrence gate, times minus eight. -/
theorem rec_at2 (b : Fin 2) (t : Fin 8192) (d : Fin 1024) :
    (at2 V (Proc.devRef .tc main_v73) : Vec Ideal S2x8192x1024 .f32) (ix3 b t d) = negEight * sigm ((given V).recArg b t.val d) := by
  obtain ⟨e4, e5, e6, e7, e8, e1⟩ := args_at1 V
  unfold ScanInputs.recArg sigm negEight
  rw [gateArg_comm]
  simp only [← conv_at2]
  unfold given head place column at2
  rw [← e4, ← e5]
  after_reads_simp
  pointwise

/-- The input gate. -/
theorem in_at2 (b : Fin 2) (t : Fin 8192) (d : Fin 1024) :
    (at2 V (Proc.devRef .tc main_v71) : Vec Ideal S2x8192x1024 .f32) (ix3 b t d) = sigm ((given V).inArg b t.val d) := by
  obtain ⟨e4, e5, e6, e7, e8, e1⟩ := args_at1 V
  unfold ScanInputs.inArg sigm
  rw [gateArg_comm]
  simp only [← conv_at2]
  unfold given head place column at2
  rw [← e6, ← e7]
  after_reads_simp
  pointwise

/-- The decay parameter, negated. -/
theorem lam_at2 (d : Fin 1024) : (at2 V (Proc.devRef .tc main_v74) : Vec Ideal S1024 .f32) (ix1 d) = -(given V).lam d := by
  obtain ⟨e4, e5, e6, e7, e8, e1⟩ := args_at1 V
  unfold given at2
  rw [← e8]
  after_reads_simp
  pointwise

/-- The starting state. -/
theorem h0_at2 (b : Fin 2) (d : Fin 1024) : (at2 V (Proc.devRef .tc main_v46) : Vec Ideal S2x1024 .f32) (ix2 b d) = (given V).h0 b d := by
  obtain ⟨e4, e5, e6, e7, e8, e1⟩ := args_at1 V
  unfold given at2
  rw [← e1]
  after_reads_simp
  pointwise

/-- The softplus. -/
theorem softplus_at3 (d : Fin 1024) : (at3 V (Proc.devRef .tc main_v75) : Vec Ideal S1024 .f32) (ix1 d) = softplusNeg ((given V).lam d) := by
  have e := lam_at2 V d
  unfold softplusNeg at3
  after_reads_simp
  simp -implicitDefEqProofs only [StableHlo.TRef.toBuf, StableHlo.TRef.ofBuf, cast_eq]
  pointwise
  rw [if_neg (by simp), e]
  show max _ _ + Ideal.log (1 + Ideal.exp (-max (-(given V).lam d) (-(-(given V).lam d)))) = _
  rw [neg_neg, max_comm (-(given V).lam d) ((given V).lam d)]

/-- The fourth stretch leaves these as they were. -/
theorem kept_at3 : at3 V (Proc.devRef .tc main_v73) = at2 V (Proc.devRef .tc main_v73) ∧ at3 V (Proc.devRef .tc main_v71) = at2 V (Proc.devRef .tc main_v71)
    ∧ at3 V (Proc.devRef .tc main_v35) = at2 V (Proc.devRef .tc main_v35) ∧ at3 V (Proc.devRef .tc main_v46) = at2 V (Proc.devRef .tc main_v46) := by
  unfold at3
  refine ⟨?_, ?_, ?_, ?_⟩ <;> after_reads_simp

/-- The decays, by time first. -/
theorem coef_at4 (b : Fin 2) (t : Fin 8192) (d : Fin 1024) :
    (at4 V (Proc.devRef .tc main_v90_0) : Vec Ideal S8192x2x1024 .f32) (ix3 t b d) = (given V).coef b t.val d := by
  have h : (given V).coef b t.val d = Ideal.exp (negEight * sigm ((given V).recArg b t.val d) * softplusNeg ((given V).lam d)) := by
    unfold ScanInputs.coef logDecay
    congr 1
    exact mul_right_comm _ _ _
  rw [h, ← rec_at2, ← softplus_at3, ← (kept_at3 V).1]
  unfold at4
  after_reads_simp
  simp only [id]
  pointwise

/-- The gated inputs, by time first. -/
theorem input_at4 (b : Fin 2) (t : Fin 8192) (d : Fin 1024) :
    (at4 V (Proc.devRef .tc main_v90_1) : Vec Ideal S8192x2x1024 .f32) (ix3 t b d) = (given V).input b t.val d := by
  have h : (given V).input b t.val d = Ideal.sqrt (-Ideal.expm1 (two * (negEight * sigm ((given V).recArg b t.val d) * softplusNeg ((given V).lam d))))
      * (sigm ((given V).inArg b t.val d) * (given V).conv b t.val d) := by
    unfold ScanInputs.input gatedInput ScanInputs.coef
    rw [one_sub_sq]
    unfold logDecay
    rw [mul_right_comm negEight]
  rw [h, ← rec_at2, ← softplus_at3, ← in_at2, ← conv_at2, ← (kept_at3 V).1, ← (kept_at3 V).2.1, ← (kept_at3 V).2.2.1]
  unfold two at4 Ideal.expm1
  after_reads_simp
  simp only [id]
  pointwise

/-- The state the loop begins with. -/
theorem state_at4 (b : Fin 2) (d : Fin 1024) :
    (at4 V (Proc.devRef .tc main_v90_3) : Vec Ideal S2x1024 .f32) (ix2 b d) = (given V).h0 b d := by
  rw [← h0_at2, ← (kept_at3 V).2.2.2]
  unfold at4
  after_reads_simp
  try rfl

/-- The counter begins at nought. -/
theorem counter_at4 : (at4 V (Proc.devRef .tc main_v90_2) : IVec S_ 32) = fun _ => 0#32 := by
  unfold at4
  after_reads_simp
  rfl

end Cert.RefFwdIdeal.Hand
end
-- ==== Proof.RefFwdIdeal.Loop.lean ====
module

public import proofs.«01_k».proof.Proof.RefFwdIdeal.Entry
public import Idealize.ShloMosaic.Lib.DynamicIndex

@[expose] public section

set_option maxRecDepth 16384

noncomputable section
namespace Cert.RefFwdIdeal.Hand
open Idealize.ShloMosaic.StableHlo Cert.RefFwdIdeal Cert.RefFwdIdeal.Gen Cert.RefFwdIdeal.Value Cert.Formula Idealize.ShloMosaic Idealize.ShloMosaic.TcCoe Idealize.SL.Sem

/-! The reference's loop: after `n` trips the state has walked `n` steps, and the rows written so far hold the states. -/

variable (V : Valuation τ sig (Elt Ideal))

/-- Where trip `n` reads and writes: the row `n`, all of it. -/
theorem start_at (n : ℕ) (hn : n < 8192) (hc : (V (Proc.devRef .tc main_v90_2) : IVec S_ 32) = fun _ => BitVec.ofNat 32 n) (a : Fin 3) :
    (((![V (Proc.devRef .tc main_v90_2), constantI S_ 32 0#32, constantI S_ 32 0#32] : Fin 3 → IVec S_ 32)) a (Shape.Idx.first h_S_)).toInt
      = ((![n, 0, 0] : Fin 3 → ℕ) a : ℤ) := by
  match a with
  | ⟨0, _⟩ =>
    show ((V (Proc.devRef .tc main_v90_2) : IVec S_ 32) (Shape.Idx.first h_S_)).toInt = (n : ℤ)
    rw [hc]
    exact toInt_ofNat_of_lt (by omega)
  | ⟨1, _⟩ => rfl
  | ⟨2, _⟩ => rfl

/-- The fit of the row. -/
theorem row_fits (n : ℕ) (hn : n < 8192) : S8192x2x1024.Slices ![n, 0, 0] S1x2x1024 :=
  ⟨rfl, fun a => match a with
    | ⟨0, _⟩ => by show n + 1 ≤ 8192; omega
    | ⟨1, _⟩ => by show 0 + 2 ≤ 2; omega
    | ⟨2, _⟩ => by show 0 + 1024 ≤ 1024; omega⟩

/-- The state after a trip. -/
theorem step_state (n : ℕ) (hn : n < 8192) (hc : (V (Proc.devRef .tc main_v90_2) : IVec S_ 32) = fun _ => BitVec.ofNat 32 n) (b : Fin 2) (d : Fin 1024) :
    (res_main_while0b_v99 V : Vec Ideal S2x1024 .f32) (ix2 b d)
      = step ((V (Proc.devRef .tc main_v90_0) : Vec Ideal S8192x2x1024 .f32) (ix3 ⟨n, by omega⟩ b d),
          (V (Proc.devRef .tc main_v90_1) : Vec Ideal S8192x2x1024 .f32) (ix3 ⟨n, by omega⟩ b d))
        ((V (Proc.devRef .tc main_v90_3) : Vec Ideal S2x1024 .f32) (ix2 b d)) := by
  unfold res_main_while0b_v99 step
  rw [Host.dynamicSlice_eq_extractStridedSlice _ _ _ ![n, 0, 0] _ (row_fits n hn) (start_at V n hn hc)]
  rw [Host.dynamicSlice_eq_extractStridedSlice _ _ _ ![n, 0, 0] _ (row_fits n hn) (start_at V n hn hc)]
  pointwise
  exact add_comm (G := EReal) _ _

/-- One row written over. -/
theorem written_at (x : Vec Ideal S8192x2x1024 .f32) (z : Vec Ideal S2x1024 .f32) (n : ℕ) (hn : n < 8192) (t : Fin 8192) (b : Fin 2) (d : Fin 1024) :
    updateSlice x (broadcastInDim S1x2x1024 ![1, 2] bcast_S2x1024_S1x2x1024_1_2 z) ![n, 0, 0] (row_fits n hn) (ix3 t b d)
      = if t.val = n then z (ix2 b d) else x (ix3 t b d) := by
  rw [updateSlice_apply]
  by_cases e : t.val = n
  · rw [if_pos e, dif_pos (fun a => match a with
      | ⟨0, _⟩ => by show n ≤ t.val ∧ t.val < n + 1; omega
      | ⟨1, _⟩ => by show 0 ≤ b.val ∧ b.val < 0 + 2; omega
      | ⟨2, _⟩ => by show 0 ≤ d.val ∧ d.val < 0 + 1024; omega)]
    pointwise
  · rw [if_neg e, dif_neg (fun h => e (by
      have h0 := h ⟨0, by decide⟩
      have h1 : n ≤ t.val ∧ t.val < n + 1 := h0
      omega))]

/-- The rows after a trip. -/
theorem step_rows (n : ℕ) (hn : n < 8192) (hc : (V (Proc.devRef .tc main_v90_2) : IVec S_ 32) = fun _ => BitVec.ofNat 32 n) (t : Fin 8192) (b : Fin 2) (d : Fin 1024) :
    (STEP V (Proc.devRef .tc main_v90_4) : Vec Ideal S8192x2x1024 .f32) (ix3 t b d)
      = if t.val = n then (res_main_while0b_v99 V : Vec Ideal S2x1024 .f32) (ix2 b d)
        else (V (Proc.devRef .tc main_v90_4) : Vec Ideal S8192x2x1024 .f32) (ix3 t b d) := by
  rw [STEP_main_v90_4]
  unfold step_main_v90_4
  simp only [id]
  rw [Host.dynamicUpdateSlice_eq_updateSlice _ _ _ _ ![n, 0, 0] (fun a => by
    rw [start_at V n hn hc a]
    match a with
    | ⟨0, _⟩ => show (min (max ((n : ℕ) : ℤ) 0) ((8192 - 1 : ℕ) : ℤ)).toNat = n; omega
    | ⟨1, _⟩ => rfl
    | ⟨2, _⟩ => rfl) (row_fits n hn)]
  exact written_at _ _ n hn t b d

/-- After `n` trips. -/
structure After (n : ℕ) (W : Valuation τ sig (Elt Ideal)) : Prop where
  counter : (W (Proc.devRef .tc main_v90_2) : IVec S_ 32) = fun _ => BitVec.ofNat 32 n
  coefs : W (Proc.devRef .tc main_v90_0) = at4 V (Proc.devRef .tc main_v90_0)
  inputs : W (Proc.devRef .tc main_v90_1) = at4 V (Proc.devRef .tc main_v90_1)
  other : W (Proc.devRef .tc main_arg2) = at4 V (Proc.devRef .tc main_arg2)
  gelu : W (Proc.devRef .tc main_arg3) = at4 V (Proc.devRef .tc main_arg3)
  state : ∀ b d, (W (Proc.devRef .tc main_v90_3) : Vec Ideal S2x1024 .f32) (ix2 b d) = walkFrom ((given V).stepFwd b d) ((given V).h0 b d) n
  rows : ∀ (t : Fin 8192) b d, t.val < n →
    (W (Proc.devRef .tc main_v90_4) : Vec Ideal S8192x2x1024 .f32) (ix3 t b d) = (given V).stateFwd b t.val d

/-- One more trip. -/
theorem after_step (n : ℕ) (hn : n < 8192) (W : Valuation τ sig (Elt Ideal)) (h : After V n W) : After V (n + 1) (STEP W) := by
  have hs : ∀ b d, (res_main_while0b_v99 W : Vec Ideal S2x1024 .f32) (ix2 b d) = walkFrom ((given V).stepFwd b d) ((given V).h0 b d) (n + 1) := by
    intro b d
    rw [step_state W n hn h.counter, h.coefs, h.inputs, h.state, coef_at4, input_at4]
    rfl
  refine ⟨?_, ?_, ?_, ?_, ?_, ?_, ?_⟩
  · rw [STEP_main_v90_2]
    unfold step_main_v90_2
    rw [h.counter]
    funext i
    show BitVec.ofNat 32 n + 1#32 = _
    apply BitVec.eq_of_toNat_eq
    simp only [BitVec.toNat_add, BitVec.toNat_ofNat]
    omega
  · rw [STEP_main_v90_0, h.coefs]
  · rw [STEP_main_v90_1, h.inputs]
  · refine Eq.trans ?_ h.other
    unfold STEP; rw [Function.update_of_ne (devRef_ne_of_ne (by decide)), Function.update_of_ne (devRef_ne_of_ne (by decide)), Function.update_of_ne (devRef_ne_of_ne (by decide))]
  · refine Eq.trans ?_ h.gelu
    unfold STEP; rw [Function.update_of_ne (devRef_ne_of_ne (by decide)), Function.update_of_ne (devRef_ne_of_ne (by decide)), Function.update_of_ne (devRef_ne_of_ne (by decide))]
  · intro b d
    rw [STEP_main_v90_3]
    exact hs b d
  · intro t b d ht
    rw [step_rows W n hn h.counter]
    by_cases e : t.val = n
    · rw [if_pos e, hs]
      unfold ScanInputs.stateFwd
      congr 1
      omega
    · rw [if_neg e]
      exact h.rows t b d (by omega)

/-- Before the first trip. -/
theorem after_zero : After V 0 (at4 V) :=
  ⟨counter_at4 V, rfl, rfl, rfl, rfl, state_at4 V, fun t _ _ ht => absurd ht (by omega)⟩

/-- After any number of trips. -/
theorem after_all (n : ℕ) (hn : n ≤ 8192) : After V n (STEP^[n] (at4 V)) := by
  induction n with
  | zero => exact after_zero V
  | succ n ih =>
    rw [Function.iterate_succ_apply']
    exact after_step V n (by omega) _ (ih (by omega))

/-- The arrays only read at the end are still as they were given. -/
theorem args_at4 : at4 V (Proc.devRef .tc main_arg2) = V (Proc.devRef .tc main_arg2) ∧ at4 V (Proc.devRef .tc main_arg3) = V (Proc.devRef .tc main_arg3) := by
  unfold at4 at3 at2 at1
  refine ⟨?_, ?_⟩ <;> after_reads_simp

/-- The result, row by row: the state at that row of that sequence, going forward, plus the other direction's row, times the gate's. -/
theorem result_at (R : Fin 16384) (d : Fin 1024) :
    (out_main_v95 (STEP^[8192] (at4 V)) : Vec Ideal S16384x1024 .bf16) (ix2 R d)
      = ((given V).stateFwd ⟨R.val / 8192, by have := R.isLt; omega⟩ (R.val % 8192) d
          + (V (Proc.devRef .tc main_arg2) : Vec Ideal S16384x1024 .f32) (ix2 R d)) * (V (Proc.devRef .tc main_arg3) : Vec Ideal S16384x1024 .f32) (ix2 R d) := by
  have h := (after_all V 8192 (le_refl _)).rows ⟨R.val % 8192, by omega⟩ ⟨R.val / 8192, by have := R.isLt; omega⟩ d (by show R.val % 8192 < 8192; omega)
  have h2 := (after_all V 8192 (le_refl _)).other
  have h3 := (after_all V 8192 (le_refl _)).gelu
  rw [(args_at4 V).1] at h2
  rw [(args_at4 V).2] at h3
  rw [← h, ← h2, ← h3]
  unfold out_main_v95
  generalize STEP^[8192] (at4 V) = W
  pointwise
  done

variable (m : (ℓ : Loc nD τ sig) → Buf (Elt Ideal) ℓ)

/-- The loop begins from the host's contents. -/
theorem entry_eq (c : Dev nD) : entryContents preI m c = at4 (fun r => m ((c.tc : Thread nD τ).1, r)) := by
  simp only [entryContents, preI, afterL_cons, afterL_nil]
  rfl

end Cert.RefFwdIdeal.Hand
end
-- ==== Proof.Claims.ScanFwd.lean ====
module

public import proofs.«01_k».proof.Defs
public import proofs.«01_k».proof.Proof.Gen.ScanFwdIdeal
public import proofs.«01_k».proof.Proof.Gen.RefFwdIdeal
public import proofs.«01_k».proof.Proof.Gen.RefFwdIdeal.Run
public import proofs.«01_k».proof.Proof.ScanFwdIdeal.Result
public import proofs.«01_k».proof.Proof.RefFwdIdeal.Loop
public import Idealize.ShloMosaic.Adequacy
public import Idealize.ShloMosaic.Init

@[expose] public section

set_option maxRecDepth 16384

noncomputable section
namespace Cert.Claims
open Idealize.ShloMosaic Idealize.SL.Sem

/-- The reference's run, its result at each index and its arguments unchanged. -/
theorem refFwd_run (m : (ℓ : Loc Cert.RefFwdIdeal.nD Cert.RefFwdIdeal.τ Cert.RefFwdIdeal.sig) → Buf (Elt Ideal) ℓ) (ρ : Dev Cert.RefFwdIdeal.nD → PrngReg) :
    θ_run (Cert.RefFwdIdeal.defs (F := Ideal)) (onTc (τ := Cert.RefFwdIdeal.τ) (Cert.RefFwdIdeal.main (F := Ideal))) ⟨m, fun _ => 0, ρ⟩ fun r => ∀ c : Dev Cert.RefFwdIdeal.nD,
      (∀ (R : Fin 16384) (d : Fin 1024), (r.2.mem ((c.tc : Thread Cert.RefFwdIdeal.nD Cert.RefFwdIdeal.τ).loc Cert.RefFwdIdeal.main_v95) : Vec Ideal Cert.RefFwdIdeal.S16384x1024 .bf16) (ix2 R d)
        = ((Cert.RefFwdIdeal.Hand.given (fun r => m ((c.tc : Thread Cert.RefFwdIdeal.nD Cert.RefFwdIdeal.τ).1, r))).stateFwd ⟨R.val / 8192, by have := R.isLt; omega⟩ (R.val % 8192) d + (m ((c.tc : Thread Cert.RefFwdIdeal.nD Cert.RefFwdIdeal.τ).loc Cert.RefFwdIdeal.main_arg2) : Vec Ideal Cert.RefFwdIdeal.S16384x1024 .f32) (ix2 R d)) * (m ((c.tc : Thread Cert.RefFwdIdeal.nD Cert.RefFwdIdeal.τ).loc Cert.RefFwdIdeal.main_arg3) : Vec Ideal Cert.RefFwdIdeal.S16384x1024 .f32) (ix2 R d))
      ∧ r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2)
      ∧ r.2.mem ((c.tc : Thread Cert.RefFwdIdeal.nD Cert.RefFwdIdeal.τ).loc Cert.RefFwdIdeal.main_arg3) = m ((c.tc : Thread Cert.RefFwdIdeal.nD Cert.RefFwdIdeal.τ).loc Cert.RefFwdIdeal.main_arg3)
      ∧ r.2.mem ((c.tc : Thread Cert.RefFwdIdeal.nD Cert.RefFwdIdeal.τ).loc Cert.RefFwdIdeal.main_arg4) = m ((c.tc : Thread Cert.RefFwdIdeal.nD Cert.RefFwdIdeal.τ).loc Cert.RefFwdIdeal.main_arg4)
      ∧ r.2.mem ((c.tc : Thread Cert.RefFwdIdeal.nD Cert.RefFwdIdeal.τ).loc Cert.RefFwdIdeal.main_arg5) = m ((c.tc : Thread Cert.RefFwdIdeal.nD Cert.RefFwdIdeal.τ).loc Cert.RefFwdIdeal.main_arg5)
      ∧ r.2.mem ((c.tc : Thread Cert.RefFwdIdeal.nD Cert.RefFwdIdeal.τ).loc Cert.RefFwdIdeal.main_arg6) = m ((c.tc : Thread Cert.RefFwdIdeal.nD Cert.RefFwdIdeal.τ).loc Cert.RefFwdIdeal.main_arg6)
      ∧ r.2.mem ((c.tc : Thread Cert.RefFwdIdeal.nD Cert.RefFwdIdeal.τ).loc Cert.RefFwdIdeal.main_arg7) = m ((c.tc : Thread Cert.RefFwdIdeal.nD Cert.RefFwdIdeal.τ).loc Cert.RefFwdIdeal.main_arg7)
      ∧ r.2.mem ((c.tc : Thread Cert.RefFwdIdeal.nD Cert.RefFwdIdeal.τ).loc Cert.RefFwdIdeal.main_arg8) = m ((c.tc : Thread Cert.RefFwdIdeal.nD Cert.RefFwdIdeal.τ).loc Cert.RefFwdIdeal.main_arg8)
      ∧ r.2.mem ((c.tc : Thread Cert.RefFwdIdeal.nD Cert.RefFwdIdeal.τ).loc Cert.RefFwdIdeal.main_arg9) = m ((c.tc : Thread Cert.RefFwdIdeal.nD Cert.RefFwdIdeal.τ).loc Cert.RefFwdIdeal.main_arg9)
      ∧ r.2.mem ((c.tc : Thread Cert.RefFwdIdeal.nD Cert.RefFwdIdeal.τ).loc Cert.RefFwdIdeal.main_arg10) = m ((c.tc : Thread Cert.RefFwdIdeal.nD Cert.RefFwdIdeal.τ).loc Cert.RefFwdIdeal.main_arg10) :=
  (θ_run _ _ _).mono (fun r h c => ⟨fun R d => by
    refine (congrFun (h c).1 _).trans ?_
    rw [Cert.RefFwdIdeal.Hand.entry_eq m c]
    exact Cert.RefFwdIdeal.Hand.result_at _ R d, (h c).2⟩) (Cert.RefFwdIdeal.Value.run m ρ)

/-- The forward recurrence: from the same arguments, over the extended reals, the kernel and the reference end with the
    same array. -/
theorem scanFwd_algebraic : Cert.algebraic_ScanFwdIdeal_RefFwdIdeal := by
  pair_intro
  · run_from (Cert.ScanFwdIdeal.Hand.run_value m g) & (Cert.ScanFwdIdeal.Hand.unchanged m g)
  · refine (θ_run _ _ _).mono (fun r h c => ?_) (refFwd_run m' g')
    obtain ⟨e0, e1, e2, e3, e4, e5, e6, e7, e8, e9, e10⟩ := hagree c
    have hin : Cert.RefFwdIdeal.Hand.given (fun r => m' ((c.tc : Thread Cert.RefFwdIdeal.nD Cert.RefFwdIdeal.τ).1, r)) = Cert.ScanFwdIdeal.Hand.given m c := by
      unfold Cert.RefFwdIdeal.Hand.given Cert.ScanFwdIdeal.Hand.given
      congr 1 <;> (funext; first | exact congrFun e0 _ | exact congrFun e1 _ | exact congrFun e2 _ | exact congrFun e3 _ | exact congrFun e4 _ | exact congrFun e5 _ | exact congrFun e6 _ | exact congrFun e7 _ | exact congrFun e8 _ | exact congrFun e9 _ | exact congrFun e10 _)
    refine ⟨?_, (h c).2⟩
    funext i
    obtain ⟨R, d, rfl⟩ : ∃ (R : Fin 16384) (d : Fin 1024), i = (ix2 R d : Cert.RefFwdIdeal.S16384x1024.Idx) :=
      ⟨i 0, i 1, funext fun a => match a with | ⟨0, _⟩ => rfl | ⟨1, _⟩ => rfl⟩
    refine ((h c).1 R d).trans ?_
    rw [hin]
    refine congrArg₂ (fun a b : EReal => (_ + a) * b) (congrFun e2 _) (congrFun e3 _)

end Cert.Claims
end
-- ==== Proof.Formula.Out.lean ====
module

public import proofs.«01_k».proof.Proof.Formula.Ffn

@[expose] public section

/-! The mixer's output projection as formulas over the extended reals: two halves of the mixed channels through one weight,
a bias, the gate, the scaled residual and the normalisation of a row. -/

noncomputable section
namespace Cert.Formula
open Idealize.ShloMosaic

/-- What the output projection is given: the rows of both batches one after another, the gate of each batch, the recurrent
    and the convolved channels, the two halves of the weight, its bias, and the normalisation's scale and shift. -/
structure OutInputs where
  x : Fin 16384 → Fin 2048 → EReal
  gate : Fin 2 → Fin 2048 → EReal
  recur : Fin 16384 → Fin 1024 → EReal
  conv : Fin 16384 → Fin 1024 → EReal
  wrec : Fin 1024 → Fin 2048 → EReal
  wconv : Fin 1024 → Fin 2048 → EReal
  bias : Fin 2048 → EReal
  g : Fin 2048 → EReal
  b : Fin 2048 → EReal

/-- One entry of a row before the normalisation. -/
def projected (x ga : EReal) (p q w v : Fin 1024 → EReal) (bo : EReal) : EReal :=
  alpha * x + ga * ((∑ k, p k * w k + ∑ k, q k * v k) + bo)

namespace OutInputs
variable (I : OutInputs)

/-- A row before the normalisation. -/
def summed (R : Fin 16384) (d : Fin 2048) : EReal :=
  projected (I.x R d) (I.gate (FfnInputs.batch R) d) (I.recur R) (I.conv R) (fun k => I.wrec k d) (fun k => I.wconv k d) (I.bias d)

/-- The projection's result. -/
def result (R : Fin 16384) (d : Fin 2048) : EReal := normed (I.summed R) I.g I.b d

end OutInputs

end Cert.Formula
end
-- ==== Proof.MixOutIdeal.Blocks.lean ====
module

public import proofs.«01_k».proof.Proof.Gen.MixOutIdeal.Value
public import proofs.«01_k».proof.Proof.Formula.Out

@[expose] public section

set_option maxRecDepth 16384

noncomputable section
namespace Cert.MixOutIdeal.Hand
open Cert.MixOutIdeal Cert.MixOutIdeal.Gen Cert.Formula Idealize.ShloMosaic Idealize.ShloMosaic.TcCoe Idealize.ShloMosaic.Tactic Idealize.SL.Sem

/-! What each input block holds at a grid point, in terms of what the program is given. -/

variable (m : (ℓ : Loc nD τ sig) → Buf (Elt Ideal) ℓ)

/-- A row of the weight's first half. -/
def lower (k : Fin 1024) : Fin 2048 := ⟨k.val, by have := k.isLt; omega⟩
/-- A row of the weight's second half. -/
def upper (k : Fin 1024) : Fin 2048 := ⟨1024 + k.val, by have := k.isLt; omega⟩

/-- What the program is given, as the formulas' inputs: layer 1. -/
def inputs (c : Dev nD) : OutInputs where
  x := fun R d => (m ((c : Thread nD τ).loc main_arg0) : Vec Ideal S16384x2048 .f32) (ix2 R d)
  gate := fun b d => (m ((c : Thread nD τ).loc main_arg1) : Vec Ideal S2x1x2048 .f32) (ix3 b 0 d)
  recur := fun R k => (m ((c : Thread nD τ).loc main_arg2) : Vec Ideal S16384x1024 .bf16) (ix2 R k)
  conv := fun R k => (m ((c : Thread nD τ).loc main_arg3) : Vec Ideal S16384x1024 .bf16) (ix2 R k)
  wrec := fun k d => (m ((c : Thread nD τ).loc main_arg4) : Vec Ideal S2x2048x2048 .f32) (ix3 1 (lower k) d)
  wconv := fun k d => (m ((c : Thread nD τ).loc main_arg4) : Vec Ideal S2x2048x2048 .f32) (ix3 1 (upper k) d)
  bias := fun d => (m ((c : Thread nD τ).loc main_arg5) : Vec Ideal S2x2048 .f32) (ix2 1 d)
  g := fun d => (m ((c : Thread nD τ).loc main_arg6) : Vec Ideal S2x3x2048 .f32) (ix3 1 1 d)
  b := fun d => (m ((c : Thread nD τ).loc main_arg7) : Vec Ideal S2x3x2048 .f32) (ix3 1 1 d)

/-- The row of both batches that is row `r` of grid point `t`'s block. -/
def rowAt (t : Fin cfg0.N) (r : Fin 512) : Fin 16384 :=
  ⟨512 * t.val + r.val, by have := t.isLt; have := r.isLt; (have hN : cfg0.N = 32 := rfl); omega⟩

/-- The batch of a grid point's rows. -/
theorem batch_rowAt (t : Fin cfg0.N) (r : Fin 512) (b : Fin 2) (hb : b.val = t.val / 16) : FfnInputs.batch (rowAt t r) = b := by
  unfold FfnInputs.batch rowAt
  apply Fin.ext
  show (512 * t.val + r.val) / 8192 = b.val
  have := r.isLt
  omega

theorem at_0 : ∀ t : Fin cfg0.N, win0_0.index t (0 : Fin 2) = t.val ∧ win0_0.index t (1 : Fin 2) = 0 :=
  (by decide +kernel : ∀ t : Fin grid0.N, _)
/-- The block of rows. -/
theorem block_0 (c : Dev nD) (t : Fin cfg0.N) (r : Fin 512) (d : Fin 2048) :
    (iblk m c 0 t : Vec Ideal S512x2048 _) (ix2 r d) = (inputs m c).x (rowAt t r) d := by
  have hi := at_0 t
  unfold iblk
  rw [View.read_apply]
  show V m c main_arg0 _ = _
  rw [V_main_arg0]
  unfold inputs rowAt
  dsimp only
  congr 1
  funext a
  apply Fin.ext
  match a with
  | ⟨0, _⟩ => show win0_0.index t (0 : Fin 2) * 512 + 1 * r.val = 512 * t.val + r.val; rw [hi.1]; omega
  | ⟨1, _⟩ => show win0_0.index t (1 : Fin 2) * 2048 + 1 * d.val = d.val; rw [hi.2]; omega

theorem at_1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
/-- The gate of the block's batch. -/
theorem block_1 (c : Dev nD) (t : Fin cfg0.N) (b : Fin 2) (hb : b.val = t.val / 16) (d : Fin 2048) :
    (iblk m c 1 t : Vec Ideal S1x1x2048 _) (ix3 0 0 d) = (inputs m c).gate b d := by
  have hi := at_1 t
  unfold iblk
  rw [View.read_apply]
  show V m c main_arg1 _ = _
  rw [V_main_arg1]
  unfold inputs
  dsimp only
  congr 1
  funext a
  apply Fin.ext
  match a with
  | ⟨0, _⟩ => show win0_1.index t (0 : Fin 3) * 1 + 1 * 0 = b.val; rw [hi.1]; omega
  | ⟨1, _⟩ => show win0_1.index t (1 : Fin 3) * 1 + 1 * 0 = 0; rw [hi.2.1]
  | ⟨2, _⟩ => show win0_1.index t (2 : Fin 3) * 2048 + 1 * d.val = d.val; rw [hi.2.2]; omega

theorem at_2 : ∀ t : Fin cfg0.N, win0_2.index t (0 : Fin 2) = t.val ∧ win0_2.index t (1 : Fin 2) = 0 :=
  (by decide +kernel : ∀ t : Fin grid0.N, _)
/-- The recurrent channels of the rows. -/
theorem block_2 (c : Dev nD) (t : Fin cfg0.N) (r : Fin 512) (k : Fin 1024) :
    (iblk m c 2 t : Vec Ideal S512x1024 _) (ix2 r k) = (inputs m c).recur (rowAt t r) k := by
  have hi := at_2 t
  unfold iblk
  rw [View.read_apply]
  show V m c main_arg2 _ = _
  rw [V_main_arg2]
  unfold inputs rowAt
  dsimp only
  congr 1
  funext a
  apply Fin.ext
  match a with
  | ⟨0, _⟩ => show win0_2.index t (0 : Fin 2) * 512 + 1 * r.val = 512 * t.val + r.val; rw [hi.1]; omega
  | ⟨1, _⟩ => show win0_2.index t (1 : Fin 2) * 1024 + 1 * k.val = k.val; rw [hi.2]; omega

theorem at_3 : ∀ t : Fin cfg0.N, win0_3.index t (0 : Fin 2) = t.val ∧ win0_3.index t (1 : Fin 2) = 0 :=
  (by decide +kernel : ∀ t : Fin grid0.N, _)
/-- The convolved channels of the rows. -/
theorem block_3 (c : Dev nD) (t : Fin cfg0.N) (r : Fin 512) (k : Fin 1024) :
    (iblk m c 3 t : Vec Ideal S512x1024 _) (ix2 r k) = (inputs m c).conv (rowAt t r) k := by
  have hi := at_3 t
  unfold iblk
  rw [View.read_apply]
  show V m c main_arg3 _ = _
  rw [V_main_arg3]
  unfold inputs rowAt
  dsimp only
  congr 1
  funext a
  apply Fin.ext
  match a with
  | ⟨0, _⟩ => show win0_3.index t (0 : Fin 2) * 512 + 1 * r.val = 512 * t.val + r.val; rw [hi.1]; omega
  | ⟨1, _⟩ => show win0_3.index t (1 : Fin 2) * 1024 + 1 * k.val = k.val; rw [hi.2]; omega

theorem at_4 : ∀ t : Fin cfg0.N, win0_4.index t (0 : Fin 3) = 1 ∧ win0_4.index t (1 : Fin 3) = 0 ∧ win0_4.index t (2 : Fin 3) = 0 :=
  (by decide +kernel : ∀ t : Fin grid0.N, _)
/-- The weight's first half. -/
theorem block_4 (c : Dev nD) (t : Fin cfg0.N) (k : Fin 1024) (d : Fin 2048) :
    (iblk m c 4 t : Vec Ideal S1x1024x2048 _) (ix3 0 k d) = (inputs m c).wrec k d := by
  have hi := at_4 t
  unfold iblk
  rw [View.read_apply]
  show V m c main_v0 _ = _
  have e0 : (V m c main_v0 : Vec Ideal S2x2048x2048 .bf16) = truncf (F := Ideal) .bf16 (m ((c : Thread nD τ).loc main_arg4) : Vec Ideal S2x2048x2048 .f32) bitsLt_bf16_f32 := by rfl
  rw [e0]
  unfold inputs lower
  show (m ((c : Thread nD τ).loc main_arg4) : Vec Ideal S2x2048x2048 .f32) _ = _
  congr 1
  funext a
  apply Fin.ext
  match a with
  | ⟨0, _⟩ => show win0_4.index t (0 : Fin 3) * 1 + 1 * 0 = 1; rw [hi.1]
  | ⟨1, _⟩ => show win0_4.index t (1 : Fin 3) * 1024 + 1 * k.val = k.val; rw [hi.2.1]; omega
  | ⟨2, _⟩ => show win0_4.index t (2 : Fin 3) * 2048 + 1 * d.val = d.val; rw [hi.2.2]; omega

theorem at_5 : ∀ t : Fin cfg0.N, win0_5.index t (0 : Fin 3) = 1 ∧ win0_5.index t (1 : Fin 3) = 1 ∧ win0_5.index t (2 : Fin 3) = 0 :=
  (by decide +kernel : ∀ t : Fin grid0.N, _)
/-- The weight's second half. -/
theorem block_5 (c : Dev nD) (t : Fin cfg0.N) (k : Fin 1024) (d : Fin 2048) :
    (iblk m c 5 t : Vec Ideal S1x1024x2048 _) (ix3 0 k d) = (inputs m c).wconv k d := by
  have hi := at_5 t
  unfold iblk
  rw [View.read_apply]
  show V m c main_v0 _ = _
  have e0 : (V m c main_v0 : Vec Ideal S2x2048x2048 .bf16) = truncf (F := Ideal) .bf16 (m ((c : Thread nD τ).loc main_arg4) : Vec Ideal S2x2048x2048 .f32) bitsLt_bf16_f32 := by rfl
  rw [e0]
  unfold inputs upper
  show (m ((c : Thread nD τ).loc main_arg4) : Vec Ideal S2x2048x2048 .f32) _ = _
  congr 1
  funext a
  apply Fin.ext
  match a with
  | ⟨0, _⟩ => show win0_5.index t (0 : Fin 3) * 1 + 1 * 0 = 1; rw [hi.1]
  | ⟨1, _⟩ => show win0_5.index t (1 : Fin 3) * 1024 + 1 * k.val = 1024 + k.val; rw [hi.2.1]; omega
  | ⟨2, _⟩ => show win0_5.index t (2 : Fin 3) * 2048 + 1 * d.val = d.val; rw [hi.2.2]; omega

theorem at_6 : ∀ t : Fin cfg0.N, win0_6.index t (0 : Fin 2) = 0 ∧ win0_6.index t (1 : Fin 2) = 0 :=
  (by decide +kernel : ∀ t : Fin grid0.N, _)
/-- The block is the whole array. -/
theorem block_6_array (c : Dev nD) (t : Fin cfg0.N) (i : Fin 1) (d : Fin 2048) :
    (iblk m c 6 t : Vec Ideal S1x2048 _) (ix2 i d) = (V m c main_v7 : Vec Ideal S1x2048 _) (ix2 i d) := by
  have hi := at_6 t
  unfold iblk
  rw [View.read_apply]
  show V m c main_v7 _ = _
  congr 1
  funext a
  apply Fin.ext
  match a with
  | ⟨0, _⟩ => show win0_6.index t (0 : Fin 2) * 1 + 1 * i.val = i.val; rw [hi.1]; omega
  | ⟨1, _⟩ => show win0_6.index t (1 : Fin 2) * 2048 + 1 * d.val = d.val; rw [hi.2]; omega

/-- The bias. -/
theorem block_6 (c : Dev nD) (t : Fin cfg0.N) (d : Fin 2048) :
    (iblk m c 6 t : Vec Ideal S1x2048 _) (ix2 0 d) = (inputs m c).bias d := by
  refine (block_6_array m c t 0 d).trans ?_
  have e : V m c main_v7 = shapeCast S1x2048 (shapeCast S2048 (extractStridedSlice S1x2048 ![1, 0] (m ((c : Thread nD τ).loc main_arg5) : Vec Ideal S2x2048 .f32) slices_S2x2048_S1x2048_1_0) shapeCasts_S1x2048_S2048) shapeCasts_S2048_S1x2048 := by rfl
  rw [e]
  unfold inputs
  pointwise

theorem at_7 : ∀ t : Fin cfg0.N, win0_7.index t (0 : Fin 2) = 0 ∧ win0_7.index t (1 : Fin 2) = 0 :=
  (by decide +kernel : ∀ t : Fin grid0.N, _)
/-- The block is the whole array. -/
theorem block_7_array (c : Dev nD) (t : Fin cfg0.N) (i : Fin 1) (d : Fin 2048) :
    (iblk m c 7 t : Vec Ideal S1x2048 _) (ix2 i d) = (V m c main_v8 : Vec Ideal S1x2048 _) (ix2 i d) := by
  have hi := at_7 t
  unfold iblk
  rw [View.read_apply]
  show V m c main_v8 _ = _
  congr 1
  funext a
  apply Fin.ext
  match a with
  | ⟨0, _⟩ => show win0_7.index t (0 : Fin 2) * 1 + 1 * i.val = i.val; rw [hi.1]; omega
  | ⟨1, _⟩ => show win0_7.index t (1 : Fin 2) * 2048 + 1 * d.val = d.val; rw [hi.2]; omega

/-- The normalisation's scale. -/
theorem block_7 (c : Dev nD) (t : Fin cfg0.N) (d : Fin 2048) :
    (iblk m c 7 t : Vec Ideal S1x2048 _) (ix2 0 d) = (inputs m c).g d := by
  refine (block_7_array m c t 0 d).trans ?_
  have e : V m c main_v8 = shapeCast S1x2048 (shapeCast S2048 (extractStridedSlice S1x1x2048 ![1, 1, 0] (m ((c : Thread nD τ).loc main_arg6) : Vec Ideal S2x3x2048 .f32) slices_S2x3x2048_S1x1x2048_1_1_0) shapeCasts_S1x1x2048_S2048) shapeCasts_S2048_S1x2048 := by rfl
  rw [e]
  unfold inputs
  pointwise

theorem at_8 : ∀ t : Fin cfg0.N, win0_8.index t (0 : Fin 2) = 0 ∧ win0_8.index t (1 : Fin 2) = 0 :=
  (by decide +kernel : ∀ t : Fin grid0.N, _)
/-- The block is the whole array. -/
theorem block_8_array (c : Dev nD) (t : Fin cfg0.N) (i : Fin 1) (d : Fin 2048) :
    (iblk m c 8 t : Vec Ideal S1x2048 _) (ix2 i d) = (V m c main_v9 : Vec Ideal S1x2048 _) (ix2 i d) := by
  have hi := at_8 t
  unfold iblk
  rw [View.read_apply]
  show V m c main_v9 _ = _
  congr 1
  funext a
  apply Fin.ext
  match a with
  | ⟨0, _⟩ => show win0_8.index t (0 : Fin 2) * 1 + 1 * i.val = i.val; rw [hi.1]; omega
  | ⟨1, _⟩ => show win0_8.index t (1 : Fin 2) * 2048 + 1 * d.val = d.val; rw [hi.2]; omega

/-- The normalisation's shift. -/
theorem block_8 (c : Dev nD) (t : Fin cfg0.N) (d : Fin 2048) :
    (iblk m c 8 t : Vec Ideal S1x2048 _) (ix2 0 d) = (inputs m c).b d := by
  refine (block_8_array m c t 0 d).trans ?_
  have e : V m c main_v9 = shapeCast S1x2048 (shapeCast S2048 (extractStridedSlice S1x1x2048 ![1, 1, 0] (m ((c : Thread nD τ).loc main_arg7) : Vec Ideal S2x3x2048 .f32) slices_S2x3x2048_S1x1x2048_1_1_0) shapeCasts_S1x1x2048_S2048) shapeCasts_S2048_S1x2048 := by rfl
  rw [e]
  unfold inputs
  pointwise

end Cert.MixOutIdeal.Hand
end
-- ==== Proof.MixOutIdeal.Result.lean ====
module

public import proofs.«01_k».proof.Proof.MixOutIdeal.Blocks
public import Idealize.ShloMosaic.Lib.Pipeline.ValueKit

@[expose] public section

set_option maxRecDepth 16384

noncomputable section
namespace Cert.MixOutIdeal.Hand
open Cert.MixOutIdeal Cert.MixOutIdeal.Gen Cert.Formula Idealize.ShloMosaic Idealize.ShloMosaic.TcCoe Idealize.ShloMosaic.Tactic Idealize.SL.Sem

/-! The block the kernel writes at a grid point, and the array the run ends with. -/

section
variable (x : Vec Ideal S512x2048 .f32) (ga : Vec Ideal S1x1x2048 .f32) (p q : Vec Ideal S512x1024 .bf16) (w v : Vec Ideal S1x1024x2048 .bf16) (bo g b : Vec Ideal S1x2048 .f32)

/-- The rows of a block before the normalisation. -/
def rows (r : Fin 512) (d : Fin 2048) : EReal :=
  projected (x (ix2 r d)) (ga (ix3 0 0 d)) (fun k => p (ix2 r k)) (fun k => q (ix2 r k)) (fun k => w (ix3 0 k d)) (fun k => v (ix3 0 k d)) (bo (ix2 0 d))

/-- The rows less their means. -/
theorem centred_at (r : Fin 512) (d : Fin 2048) :
    k0_pay4 p w q v bo x ga (ix2 r d) = rows x ga p q w v bo r d - mean (rows x ga p q w v bo r) := by
  unfold mean rows projected alpha width
  pointwise [k0_pay4]

/-- The block written is the rows normalised. -/
theorem written_at (r : Fin 512) (d : Fin 2048) :
    k0_pay1 (k0_pay2 g) (k0_pay3 b) (k0_pay4 p w q v bo x ga) (k0_pay5 p w q v bo x ga) (ix2 r d)
      = normed (rows x ga p q w v bo r) (fun e => g (ix2 0 e)) (fun e => b (ix2 0 e)) d := by
  unfold normed
  simp only [← centred_at]
  have e : k0_pay5 p w q v bo x ga = mulf (k0_pay4 p w q v bo x ga) (k0_pay4 p w q v bo x ga) := rfl
  rw [e]
  generalize k0_pay4 p w q v bo x ga = z
  unfold width offset
  pointwise [k0_pay1, k0_pay2, k0_pay3]

/-- A block written whole reads what was written. -/
theorem whole_at (W : Vec Ideal S512x2048 .f32) (r : Fin 512) (d : Fin 2048) :
    View.canon (Val := Elt Ideal) (e := .f32) [⟨r0_3, W⟩] (ix2 r d : S512x2048.Idx) = W (ix2 r d) := by
  have e : (ix2 r d : S512x2048.Idx) = r0_3.emb (ix2 r d : S512x2048.Idx) := by
    funext a; apply Fin.ext
    match a with
    | ⟨0, _⟩ => show r.val = 0 + 1 * r.val; omega
    | ⟨1, _⟩ => show d.val = 0 + 1 * d.val; omega
  exact (congrArg _ e).trans (View.canon_cons_emb r0_3 W [] (ix2 r d))

/-- The written block at an index. -/
theorem out_at (r : Fin 512) (d : Fin 2048) :
    out0_9 x ga p q w v bo g b (ix2 r d) = normed (rows x ga p q w v bo r) (fun e => g (ix2 0 e)) (fun e => b (ix2 0 e)) d := by
  refine Eq.trans ?_ (written_at x ga p q w v bo g b r d)
  unfold out0_9
  have e0 : View.ld p r0_0 = p := View.ld_unit_zero (by decide) _ _
  have e1 : View.ld q r0_0 = q := View.ld_unit_zero (by decide) _ _
  have e2 : View.ld w r0_1 = w := View.ld_unit_zero (by decide) _ _
  have e3 : View.ld v r0_1 = v := View.ld_unit_zero (by decide) _ _
  have e4 : View.ld bo r0_2 = bo := View.ld_unit_zero (by decide) _ _
  have e5 : View.ld g r0_2 = g := View.ld_unit_zero (by decide) _ _
  have e6 : View.ld b r0_2 = b := View.ld_unit_zero (by decide) _ _
  have e7 : View.ld x r0_3 = x := View.ld_unit_zero (by decide) _ _
  have e8 : View.ld ga r0_4 = ga := View.ld_unit_zero (by decide) _ _
  rw [e0, e1, e2, e3, e4, e5, e6, e7, e8]
  exact whole_at _ r d
end

variable (m : (ℓ : Loc nD τ sig) → Buf (Elt Ideal) ℓ)

/-- The result's array. -/
def result (c : Dev nD) : Vec Ideal S16384x2048 .f32 := fun i => (inputs m c).result (i 0) (i 1)

/-- A grid point's block of rows before the normalisation. -/
theorem rows_at (c : Dev nD) (t : Fin cfg0.N) (r : Fin 512) (d : Fin 2048) :
    rows (iblk m c 0 t) (iblk m c 1 t) (iblk m c 2 t) (iblk m c 3 t) (iblk m c 4 t) (iblk m c 5 t) (iblk m c 6 t) r d
      = (inputs m c).summed (rowAt t r) d := by
  have hN : cfg0.N = 32 := rfl
  have ht := t.isLt
  have hb := block_1 m c t ⟨t.val / 16, by omega⟩ rfl d
  unfold rows OutInputs.summed
  rw [batch_rowAt t r ⟨t.val / 16, by omega⟩ rfl, block_0 m c t r d, hb, block_6 m c t d]
  rw [funext fun k => block_2 m c t r k, funext fun k => block_3 m c t r k, funext fun k => block_4 m c t k d, funext fun k => block_5 m c t k d]

/-- What the last window's buffer is left holding at a grid point. -/
theorem after_at (c : Dev nD) (t : Fin cfg0.N) (r : Fin 512) (d : Fin 2048) :
    ((dats m 0 c).after 9 t : Vec Ideal S512x2048 .f32) (ix2 r d) = (inputs m c).result (rowAt t r) d := by
  rw [after0_9]
  refine (out_at _ _ _ _ _ _ _ _ _ r d).trans ?_
  unfold OutInputs.result
  rw [funext fun e => rows_at m c t r e, funext fun e => block_7 m c t e, funext fun e => block_8 m c t e]

theorem at_9 : ∀ t : Fin cfg0.N, win0_9.index t (0 : Fin 2) = t.val ∧ win0_9.index t (1 : Fin 2) = 0 :=
  (by decide +kernel : ∀ t : Fin grid0.N, _)

/-- The result's array after the run. -/
theorem array_eq (c : Dev nD) : (dats m 0 c).arrAt 9 (cfgs 0).N = result m c := by
  refine (dats m 0 c).arrAt_eq_of_covers 9 _ (by decide +kernel) fun t hf y => ?_
  have hi := at_9 t
  have key : ∀ z : S512x2048.Idx, (∀ a, (z a).val = (y a).val) →
      ((dats m 0 c).after 9 t : Vec Ideal S512x2048 .f32) z = result m c (((cfg0.win 9).blk t).view.emb y) := fun z hz => by
    have ez : z = (ix2 (z 0) (z 1) : S512x2048.Idx) := funext fun a => match a with | ⟨0, _⟩ => rfl | ⟨1, _⟩ => rfl
    rw [ez]
    refine (after_at m c t (z 0) (z 1)).trans ?_
    unfold result
    refine congrArg₂ (inputs m c).result ?_ ?_
    · apply Fin.ext; show 512 * t.val + (z 0).val = win0_9.index t (0 : Fin 2) * 512 + 1 * (y 0).val; rw [hi.1, hz 0]; omega
    · apply Fin.ext; show (z 1).val = win0_9.index t (1 : Fin 2) * 2048 + 1 * (y 1).val; rw [hi.2, hz 1]; omega
  generalize result m c = G at key ⊢
  generalize (dats m 0 c).after 9 t = Z at key ⊢
  refine Eq.trans ?_ (key ((cfg0.win 9).xinj (cfg0.grid.coords t) y) fun a => rfl)
  rfl

/-- The run ends with the result in its array and its arguments unchanged. -/
theorem run_value (ρ : Dev nD → PrngReg) :
    θ_run defs (onTc (τ := τ) (main (F := Ideal))) ⟨m, fun _ => 0, ρ⟩ (fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c => ⟨(h c).1.trans (array_eq m c), (h c).2⟩) (Value.run_blocks m ρ)

end Cert.MixOutIdeal.Hand
end
-- ==== Proof.RefOutIdeal.Result.lean ====
module

public import proofs.«01_k».proof.Proof.Gen.RefOutIdeal.Read
public import proofs.«01_k».proof.Proof.Formula.Out

@[expose] public section

set_option maxRecDepth 16384

noncomputable section
namespace Cert.RefOutIdeal.Hand
open Cert.RefOutIdeal Cert.RefOutIdeal.Read Cert.Formula Idealize.ShloMosaic Idealize.ShloMosaic.TcCoe Idealize.SL.Sem

/-! The reference's result array, over the extended reals, is the formulas' result. -/

variable (m : (ℓ : Loc nD τ sig) → Buf (Elt Ideal) ℓ)

/-- A row of the weight's first half. -/
def lower (k : Fin 1024) : Fin 2048 := ⟨k.val, by have := k.isLt; omega⟩
/-- A row of the weight's second half. -/
def upper (k : Fin 1024) : Fin 2048 := ⟨1024 + k.val, by have := k.isLt; omega⟩

/-- What the program is given, as the formulas' inputs: layer 1. -/
def inputs (c : Dev nD) : OutInputs where
  x := fun R d => (m ((c : Thread nD τ).loc main_arg0) : Vec Ideal S16384x2048 .f32) (ix2 R d)
  gate := fun b d => (m ((c : Thread nD τ).loc main_arg1) : Vec Ideal S2x1x2048 .f32) (ix3 b 0 d)
  recur := fun R k => (m ((c : Thread nD τ).loc main_arg2) : Vec Ideal S16384x1024 .bf16) (ix2 R k)
  conv := fun R k => (m ((c : Thread nD τ).loc main_arg3) : Vec Ideal S16384x1024 .bf16) (ix2 R k)
  wrec := fun k d => (m ((c : Thread nD τ).loc main_arg4) : Vec Ideal S2x2048x2048 .f32) (ix3 1 (lower k) d)
  wconv := fun k d => (m ((c : Thread nD τ).loc main_arg4) : Vec Ideal S2x2048x2048 .f32) (ix3 1 (upper k) d)
  bias := fun d => (m ((c : Thread nD τ).loc main_arg5) : Vec Ideal S2x2048 .f32) (ix2 1 d)
  g := fun d => (m ((c : Thread nD τ).loc main_arg6) : Vec Ideal S2x3x2048 .f32) (ix3 1 1 d)
  b := fun d => (m ((c : Thread nD τ).loc main_arg7) : Vec Ideal S2x3x2048 .f32) (ix3 1 1 d)

variable (x0 : Vec Ideal S16384x2048 .f32) (x1 : Vec Ideal S2x1x2048 .f32) (x2 x3 : Vec Ideal S16384x1024 .bf16)
variable (x4 : Vec Ideal S2x2048x2048 .f32) (x5 : Vec Ideal S2x2048 .f32) (x6 x7 : Vec Ideal S2x3x2048 .f32)

/-- The row of both batches that is row `t` of batch `b`. -/
def rowOf (b : Fin 2) (t : Fin 8192) : Fin 16384 := ⟨b.val * 8192 + t.val, by have := b.isLt; have := t.isLt; omega⟩

/-- The formulas' inputs, of arrays. -/
def ofArrays : OutInputs where
  x := fun R d => x0 (ix2 R d)
  gate := fun b d => x1 (ix3 b 0 d)
  recur := fun R k => x2 (ix2 R k)
  conv := fun R k => x3 (ix2 R k)
  wrec := fun k d => x4 (ix3 1 (lower k) d)
  wconv := fun k d => x4 (ix3 1 (upper k) d)
  bias := fun d => x5 (ix2 1 d)
  g := fun d => x6 (ix3 1 1 d)
  b := fun d => x7 (ix3 1 1 d)

theorem batch_rowOf (b : Fin 2) (t : Fin 8192) : FfnInputs.batch (rowOf b t) = b := by
  unfold FfnInputs.batch rowOf; apply Fin.ext; show (b.val * 8192 + t.val) / 8192 = b.val; have := t.isLt; omega

/-- The rows before the normalisation. -/
theorem summed_at (b : Fin 2) (t : Fin 8192) (d : Fin 2048) :
    val_main_v18 (F := Ideal) x0 x1 x2 x3 x4 x5 (ix3 b t d) = (ofArrays x0 x1 x2 x3 x4 x5 x6 x7).summed (rowOf b t) d := by
  unfold OutInputs.summed projected
  rw [batch_rowOf]
  unfold ofArrays rowOf lower upper alpha
  pointwise [val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, val_main_cst]

/-- The rows after it. -/
theorem normed_at (b : Fin 2) (t : Fin 8192) (d : Fin 2048) :
    val_main_v46 (F := Ideal) x0 x1 x2 x3 x4 x5 x6 x7 (ix3 b t d) = (ofArrays x0 x1 x2 x3 x4 x5 x6 x7).result (rowOf b t) d := by
  unfold OutInputs.result normed mean
  simp only [← summed_at]
  show _ = (_ : EReal) * _ * x6 (ix3 1 1 d) + x7 (ix3 1 1 d)
  unfold width offset
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_cst_0, val_main_cst_1, val_main_cst_2, val_main_cst_3, val_main_cst_4]

/-- The array the run leaves, at row `R` and column `d`. -/
theorem result_at (c : Dev nD) (R : Fin 16384) (d : Fin 2048) :
    (Value.res_main_v47 m c : Vec Ideal S16384x2048 .f32) (ix2 R d) = (inputs m c).result R d := by
  have hR := R.isLt
  have hx : rowOf ⟨R.val / 8192, by omega⟩ ⟨R.val % 8192, by omega⟩ = R := by
    unfold rowOf; apply Fin.ext; show R.val / 8192 * 8192 + R.val % 8192 = R.val; omega
  rw [val_main_v47_eq]
  refine Eq.trans ?_ ((normed_at _ _ _ _ _ _ _ _ ⟨R.val / 8192, by omega⟩ ⟨R.val % 8192, by omega⟩ d).trans (by rw [hx]; rfl))
  pointwise [val_main_v47]

end Cert.RefOutIdeal.Hand
end
-- ==== Proof.Claims.MixOut.lean ====
module

public import proofs.«01_k».proof.Defs
public import proofs.«01_k».proof.Proof.Gen.MixOutIdeal
public import proofs.«01_k».proof.Proof.Gen.RefOutIdeal
public import proofs.«01_k».proof.Proof.Gen.RefOutIdeal.Run
public import proofs.«01_k».proof.Proof.MixOutIdeal.Result
public import proofs.«01_k».proof.Proof.RefOutIdeal.Result
public import Idealize.ShloMosaic.Adequacy
public import Idealize.ShloMosaic.Init

@[expose] public section

noncomputable section
namespace Cert.Claims
open Idealize.ShloMosaic Idealize.SL.Sem

/-- The output projection: from the same arguments, over the extended reals, the kernel and the reference end with the
    same array. -/
theorem mixOut_algebraic : Cert.algebraic_MixOutIdeal_RefOutIdeal := by
  pair_intro
  · run_from Cert.MixOutIdeal.Hand.run_value m g
  · run_from Cert.RefOutIdeal.Value.run m' g'
    obtain ⟨e0, e1, e2, e3, e4, e5, e6, e7⟩ := hagree c
    have hin : Cert.RefOutIdeal.Hand.inputs m' c = Cert.MixOutIdeal.Hand.inputs m c := by
      unfold Cert.RefOutIdeal.Hand.inputs Cert.MixOutIdeal.Hand.inputs
      rw [e0, e1, e2, e3, e4, e5, e6, e7]
      rfl
    funext i
    obtain ⟨R, d, rfl⟩ : ∃ (R : Fin 16384) (d : Fin 2048), i = (ix2 R d : Cert.RefOutIdeal.S16384x2048.Idx) :=
      ⟨i 0, i 1, funext fun a => match a with | ⟨0, _⟩ => rfl | ⟨1, _⟩ => rfl⟩
    refine (Cert.RefOutIdeal.Hand.result_at m' c R d).trans ?_
    rw [hin]
    rfl

end Cert.Claims
end
-- ==== Proof.Formula.In.lean ====
module

public import proofs.«01_k».proof.Proof.Formula.Ffn

@[expose] public section

/-! The mixer's input projection as formulas over the extended reals: the modulated row through one weight, whose columns
are the recurrent channels, the gate's, the convolution's and the convolution's gate; the gate's activation; and the
convolution of 31 taps along segments of 64 rows, normalised and activated. -/

noncomputable section
namespace Cert.Formula
open Idealize.ShloMosaic

/-- The factor of the cube in the activation. -/
def cubic : EReal := Ideal.ofBits .f32 1027024659#32
/-- The factor inside the hyperbolic tangent of the activation. -/
def steep : EReal := Ideal.ofBits .f32 1061962282#32
/-- The length of a row of channels, 1024. -/
def span : EReal := Ideal.ofBits .f32 1149239296#32

/-- The gate's activation: the smooth rectifier by way of the hyperbolic tangent. -/
def gelu (x : EReal) : EReal := half * x * (1 + Ideal.tanh (steep * (x + cubic * (x * x * x))))

/-- The mean of a row of channels. -/
def average (z : Fin 1024 → EReal) : EReal := Ideal.div (∑ d, z d) span

/-- A row of channels normalised to mean nought and variance one, then scaled and shifted. -/
def standard (z : Fin 1024 → EReal) (g b : Fin 1024 → EReal) (d : Fin 1024) : EReal :=
  (z d - average z) * Ideal.rsqrt (Ideal.div (∑ e, (z e - average z) * (z e - average z)) span + offset) * g d + b d

/-- The products of the 31 taps, added to the bias in the order of the taps' remainders by eight. -/
theorem taps_by_remainder (f : ℕ → EReal) (b : EReal) :
    b + f 7 + f 15 + f 23 + f 0 + f 8 + f 16 + f 24 + f 1 + f 9 + f 17 + f 25 + f 2 + f 10 + f 18 + f 26
      + f 3 + f 11 + f 19 + f 27 + f 4 + f 12 + f 20 + f 28 + f 5 + f 13 + f 21 + f 29 + f 6 + f 14 + f 22 + f 30
      = (∑ k ∈ Finset.range 31, f k) + b := by
  simp only [Finset.sum_range_succ, Finset.sum_range_zero, zero_add]
  abel

/-- What the input projection is given: the rows of both batches one after another, the shift and scale of each batch, the
    weight, the taps of the convolution and its bias, and the normalisation's scale and shift. -/
structure InInputs where
  x : Fin 16384 → Fin 2048 → EReal
  shift : Fin 2 → Fin 2048 → EReal
  scale : Fin 2 → Fin 2048 → EReal
  w : Fin 2048 → Fin 4096 → EReal
  taps : Fin 31 → Fin 1024 → EReal
  bias : Fin 1024 → EReal
  g : Fin 1024 → EReal
  b : Fin 1024 → EReal

/-- The `q`-th quarter's column `d`. -/
def quarter (q : ℕ) (hq : q < 4) (d : Fin 1024) : Fin 4096 := ⟨1024 * q + d.val, by have := d.isLt; omega⟩

namespace InInputs
variable (I : InInputs)

/-- A row after the modulation. -/
def row (R : Fin 16384) : Fin 2048 → EReal := modulated (I.x R) (I.scale (FfnInputs.batch R)) (I.shift (FfnInputs.batch R))

/-- A row's product with a column of the weight. -/
def proj (R : Fin 16384) (j : Fin 4096) : EReal := dot (I.row R) (fun k => I.w k j)

/-- The recurrent channels. -/
def recurrent (R : Fin 16384) (d : Fin 1024) : EReal := I.proj R (quarter 0 (by decide) d)

/-- The gate's channels. -/
def gate (R : Fin 16384) (d : Fin 1024) : EReal := gelu (I.proj R (quarter 1 (by decide) d))

/-- What is convolved. -/
def signal (R : Fin 16384) (d : Fin 1024) : EReal :=
  I.proj R (quarter 2 (by decide) d) * sigm (I.proj R (quarter 3 (by decide) d))

/-- A segment of 64 rows with 15 rows of noughts before it and noughts after it. -/
def padded (s : Fin 256) (i : ℕ) (d : Fin 1024) : EReal :=
  if h : 15 ≤ i ∧ i < 79 then I.signal ⟨s.val * 64 + (i - 15), by have := s.isLt; omega⟩ d else 0

/-- A tap's product at row `j` of a segment. -/
def tapped (s : Fin 256) (j : ℕ) (d : Fin 1024) (k : ℕ) : EReal :=
  if h : k < 31 then I.taps ⟨k, h⟩ d * I.padded s (j + k) d else 0

/-- The convolution at row `j` of a segment. -/
def convolved (s : Fin 256) (j : ℕ) (d : Fin 1024) : EReal := (∑ k ∈ Finset.range 31, I.tapped s j d k) + I.bias d

/-- The convolution normalised. -/
def normal (s : Fin 256) (j : ℕ) : Fin 1024 → EReal := standard (I.convolved s j) I.g I.b

/-- The convolved channels. -/
def mixed (s : Fin 256) (j : ℕ) (d : Fin 1024) : EReal := I.normal s j d * sigm (I.normal s j d)

end InInputs

end Cert.Formula
end
-- ==== Proof.MixInIdeal.Pieces.lean ====
module

public import proofs.«01_k».proof.Proof.Gen.MixInIdeal.Value
public import proofs.«01_k».proof.Proof.Formula.In

@[expose] public section

set_option maxRecDepth 65536

noncomputable section
namespace Cert.MixInIdeal.Hand
open Cert.MixInIdeal Cert.MixInIdeal.Gen Idealize.ShloMosaic Idealize.ShloMosaic.TcCoe Idealize.ShloMosaic.Tactic Idealize.SL.Sem

/-! The convolution of the body writes 64 pieces, one for each of 8 segments and 8 groups of 128 channels. Each is the same
function of its slab of padded rows, its taps and its bias; here that function is written once and the body's list of
pieces is the list of its values. -/

section
variable {F : FTy → Type} [FloatOps F]

/-- A sum with one more tap: the tap's weights times 64 of the rows. -/
def tap (a : FVec F S64x128 .f32) (w : Vec F S1x128 .f32) (rows : FVec F S64x128 .f32) : FVec F S64x128 .f32 :=
  addf a (mulf (broadcastTo S64x128 (shapeCast S1x128 w shapeCasts_S1x128_S1x128) broadcasts_S1x128_S64x128) rows)

/-- The slab's rows turned by `n`. -/
def turned (n : BitVec 32) (v : FVec F S96x128 .f32) : FVec F S96x128 .f32 := dynamicRotate 0 n none v rotates_S96x128_d0

/-- 64 rows of a slab, from the first one, the eighth, the sixteenth or the twenty-fourth. -/
def from0 (v : FVec F S96x128 .f32) : FVec F S64x128 .f32 := extractStridedSlice S64x128 ![0, 0] v slices_S96x128_o0_0_S64x128
def from8 (v : FVec F S96x128 .f32) : FVec F S64x128 .f32 := extractStridedSlice S64x128 ![8, 0] v slices_S96x128_o8_0_S64x128
def from16 (v : FVec F S96x128 .f32) : FVec F S64x128 .f32 := extractStridedSlice S64x128 ![16, 0] v slices_S96x128_o16_0_S64x128
def from24 (v : FVec F S96x128 .f32) : FVec F S64x128 .f32 := extractStridedSlice S64x128 ![24, 0] v slices_S96x128_o24_0_S64x128

/-- A sum with the four taps that use one turn of the slab. -/
def fourTaps (a : FVec F S64x128 .f32) (v : FVec F S96x128 .f32) (w0 w1 w2 w3 : Vec F S1x128 .f32) : FVec F S64x128 .f32 :=
  tap (tap (tap (tap a w0 (from0 v)) w1 (from8 v)) w2 (from16 v)) w3 (from24 v)

/-- What a piece holds: the bias and the 31 taps, in the order of their remainders. -/
def sumOf (u : FVec F S1x96x128 .f32) (b : Vec F S1x128 .f32) (w : Fin 31 → Vec F S1x128 .f32) : FVec F S64x128 .f32 :=
  let v : FVec F S96x128 .f32 := shapeCast S96x128 u shapeCasts_S1x96x128_S96x128
  let a : FVec F S64x128 .f32 := broadcastTo S64x128 (shapeCast S1x128 (shapeCast S1x128 b shapeCasts_S1x128_S1x128) shapeCasts_S1x128_S1x128) broadcasts_S1x128_S64x128
  let a := tap (tap (tap a (w 7) (from8 v)) (w 15) (from16 v)) (w 23) (from24 v)
  let a := fourTaps a (turned 95#32 v) (w 0) (w 8) (w 16) (w 24)
  let a := fourTaps a (turned 94#32 v) (w 1) (w 9) (w 17) (w 25)
  let a := fourTaps a (turned 93#32 v) (w 2) (w 10) (w 18) (w 26)
  let a := fourTaps a (turned 92#32 v) (w 3) (w 11) (w 19) (w 27)
  let a := fourTaps a (turned 91#32 v) (w 4) (w 12) (w 20) (w 28)
  let a := fourTaps a (turned 90#32 v) (w 5) (w 13) (w 21) (w 29)
  let a := fourTaps a (turned 89#32 v) (w 6) (w 14) (w 22) (w 30)
  shapeCast S64x128 a shapeCasts_S64x128_S64x128

/-- The rectangles of segment `n / 8` and channel group `n % 8`: of the sums, the slabs, the taps and the bias. -/
theorem fits_sum (n : Fin 64) : ∀ k : Fin 2, (![64 * (n.val / 8), 128 * (n.val % 8)] : Fin 2 → ℕ) k + S64x128.size k ≤ S512x1024.size k := by
  revert n; decide +kernel
theorem fits_slab (n : Fin 64) : ∀ k : Fin 3, (![n.val / 8, 0, 128 * (n.val % 8)] : Fin 3 → ℕ) k + S1x96x128.size k ≤ S8x96x1024.size k := by
  revert n; decide +kernel
theorem fits_tap (n : Fin 64) (j : Fin 31) : ∀ k : Fin 2, (![j.val, 128 * (n.val % 8)] : Fin 2 → ℕ) k + S1x128.size k ≤ S31x1024.size k := by
  revert n j; decide +kernel
theorem fits_bias (n : Fin 64) : ∀ k : Fin 2, (![0, 128 * (n.val % 8)] : Fin 2 → ℕ) k + S1x128.size k ≤ S1x1024.size k := by
  revert n; decide +kernel

variable (arg5 : Memref sig .tc .vmem S31x1024 .f32) (harg5 : arg5.IsWhole) (arg6 : Memref sig .tc .vmem S1x1024 .f32) (harg6 : arg6.IsWhole)
variable (arg12 : Memref sig .tc .vmem S8x96x1024 .f32)
variable (x4 : Vec F S31x1024 .f32) (x5 : Vec F S1x1024 .f32) (P : List (View.Piece (Elt F) S8x96x1024 .f32))

/-- Piece `n` of the convolution, of padded rows written as the pieces `P`. -/
def pieceAt (n : Fin 64) : View.Piece (Elt F) S512x1024 .f32 :=
  ⟨Rect.unit (s := S512x1024) ![64 * (n.val / 8), 128 * (n.val % 8)] S64x128.size (fits_sum n),
    sumOf (arg12.view.readCov (Val := Elt F) P (Rect.unit (s := S8x96x1024) ![n.val / 8, 0, 128 * (n.val % 8)] S1x96x128.size (fits_slab n)).toLoadRect)
      (View.readAt (Elt F) arg6.view (Rect.unit (s := S1x1024) ![0, 128 * (n.val % 8)] S1x128.size (fits_bias n)).toLoadRect (harg6.unread x5))
      (fun j => View.readAt (Elt F) arg5.view (Rect.unit (s := S31x1024) ![j.val, 128 * (n.val % 8)] S1x128.size (fits_tap n j)).toLoadRect (harg5.unread x4))⟩

/-- The pieces, the last one first. -/
def pieces : List (View.Piece (Elt F) S512x1024 .f32) := (List.finRange 64).reverse.map (pieceAt arg5 harg5 arg6 harg6 arg12 x4 x5 P)

/-- The pieces the body writes of its convolution are these. -/
theorem convolution_eq (c : Dev nD) (arg1 : Memref sig .tc .vmem S512x2048 .f32) (harg1 : arg1.IsWhole)
    (arg2 : Memref sig .tc .vmem S1x1x2048 .f32) (harg2 : arg2.IsWhole) (arg3 : Memref sig .tc .vmem S1x1x2048 .f32) (harg3 : arg3.IsWhole)
    (arg4 : Memref sig .tc .vmem S1x2048x4096 .bf16) (harg4 : arg4.IsWhole)
    (x0 : Vec F S512x2048 .f32) (x1 x2 : Vec F S1x1x2048 .f32) (x3 : Vec F S1x2048x4096 .bf16) :
    kernelRun0_A.sl.HS1_64 c arg1 harg1 arg2 harg2 arg3 harg3 arg4 harg4 arg5 harg5 arg6 harg6 arg12 x0 x1 x2 x3 x4 x5
      = pieces arg5 harg5 arg6 harg6 arg12 x4 x5
          (kernelRun0_A.sl.HS0_6 c arg1 harg1 arg2 harg2 arg3 harg3 arg4 harg4 x0 x1 x2 x3) := by
  rfl
end

end Cert.MixInIdeal.Hand
end
-- ==== Proof.MixInIdeal.Sum.lean ====
module

public import proofs.«01_k».proof.Proof.MixInIdeal.Pieces
public import Idealize.ShloMosaic.Lib.KernelVsHost

@[expose] public section

set_option maxRecDepth 16384

noncomputable section
namespace Cert.MixInIdeal.Hand
open Cert.MixInIdeal Cert.MixInIdeal.Gen Cert.Formula Idealize.ShloMosaic Idealize.ShloMosaic.TcCoe Idealize.ShloMosaic.Tactic Idealize.SL.Sem

/-! What a piece of the convolution holds, at a row and a channel. -/

theorem tap_at (a : FVec Ideal S64x128 .f32) (w : Vec Ideal S1x128 .f32) (rows : FVec Ideal S64x128 .f32) (j : Fin 64) (e : Fin 128) :
    tap a w rows (ix2 j e) = (a (ix2 j e) + w (ix2 0 e) * rows (ix2 j e) : EReal) := by
  pointwise [tap]

theorem from0_at (v : FVec Ideal S96x128 .f32) (j : Fin 64) (e : Fin 128) : from0 v (ix2 j e) = v (ix2 ⟨0 + j.val, by have := j.isLt; omega⟩ e) := by
  pointwise [from0]
theorem from8_at (v : FVec Ideal S96x128 .f32) (j : Fin 64) (e : Fin 128) : from8 v (ix2 j e) = v (ix2 ⟨8 + j.val, by have := j.isLt; omega⟩ e) := by
  pointwise [from8]
theorem from16_at (v : FVec Ideal S96x128 .f32) (j : Fin 64) (e : Fin 128) : from16 v (ix2 j e) = v (ix2 ⟨16 + j.val, by have := j.isLt; omega⟩ e) := by
  pointwise [from16]
theorem from24_at (v : FVec Ideal S96x128 .f32) (j : Fin 64) (e : Fin 128) : from24 v (ix2 j e) = v (ix2 ⟨24 + j.val, by have := j.isLt; omega⟩ e) := by
  pointwise [from24]

/-- A slab turned by 96 less `r` has its row `i + r` at row `i`. -/
theorem turned_at (n : BitVec 32) (r : ℕ) (hr : r < 8) (hn : n.toNat = 96 - r) (h0 : 0 < r) (v : FVec Ideal S96x128 .f32) (i : Fin 96) (hi : i.val + r < 96) (e : Fin 128) :
    turned n v (ix2 i e) = v (ix2 ⟨i.val + r, hi⟩ e) := by
  unfold turned
  refine dynamicRotate_apply _ _ _ _ _ _ fun b => ?_
  match b with
  | ⟨0, _⟩ => show i.val + r = (i.val + 96 - n.toNat % 96) % 96; rw [hn]; omega
  | ⟨1, _⟩ => rfl

/-- A tap's product at row `j` and channel `e` of a piece: the slab's rows begin one before the padded ones. -/
def product (u : Vec Ideal S1x96x128 .f32) (w : Fin 31 → Vec Ideal S1x128 .f32) (j : Fin 64) (e : Fin 128) (k : ℕ) : EReal :=
  if h : k < 31 then w ⟨k, h⟩ (ix2 0 e) * u (ix3 0 ⟨j.val + k + 1, by have := j.isLt; omega⟩ e) else 0

/-- A piece at a row and a channel: the sum over the taps, and the bias. -/
theorem sumOf_at (u : Vec Ideal S1x96x128 .f32) (b : Vec Ideal S1x128 .f32) (w : Fin 31 → Vec Ideal S1x128 .f32) (j : Fin 64) (e : Fin 128) :
    sumOf u b w (ix2 j e) = (∑ k ∈ Finset.range 31, product u w j e k) + b (ix2 0 e) := by
  have hj := j.isLt
  have hb : (broadcastTo S64x128 (shapeCast S1x128 (shapeCast S1x128 b shapeCasts_S1x128_S1x128) shapeCasts_S1x128_S1x128) broadcasts_S1x128_S64x128) (ix2 j e)
      = b (ix2 0 e) := by pointwise
  have hv : ∀ i : Fin 96, (shapeCast S96x128 u shapeCasts_S1x96x128_S96x128 : FVec Ideal S96x128 .f32) (ix2 i e) = u (ix3 0 i e) := fun i => by pointwise
  have turn : ∀ (n : BitVec 32) (r : ℕ) (hr : r < 8), n.toNat = 96 - r → 0 < r → ∀ (q : ℕ) (h : q ≤ 24) (h' : q + j.val < 96),
      turned (F := Ideal) n (shapeCast S96x128 u shapeCasts_S1x96x128_S96x128) (ix2 ⟨q + j.val, h'⟩ e) = u (ix3 0 ⟨q + j.val + r, by omega⟩ e) :=
    fun n r hr hn h0 q h h' => (turned_at n r hr hn h0 _ ⟨q + j.val, h'⟩ (by show q + j.val + r < 96; omega) e).trans (hv _)
  have p : ∀ (k q r : ℕ) (hk : k < 31) (h : q + r = k + 1), product u w j e k = w ⟨k, hk⟩ (ix2 0 e) * u (ix3 0 ⟨q + j.val + r, by omega⟩ e) :=
    fun k q r hk h => by
      unfold product
      rw [dif_pos hk]
      congr 3
      apply Fin.ext
      show j.val + k + 1 = q + j.val + r
      omega
  rw [← taps_by_remainder]
  rw [p 7 8 0 (by decide) rfl, p 15 16 0 (by decide) rfl, p 23 24 0 (by decide) rfl, p 0 0 1 (by decide) rfl, p 8 8 1 (by decide) rfl, p 16 16 1 (by decide) rfl, p 24 24 1 (by decide) rfl, p 1 0 2 (by decide) rfl, p 9 8 2 (by decide) rfl, p 17 16 2 (by decide) rfl, p 25 24 2 (by decide) rfl, p 2 0 3 (by decide) rfl, p 10 8 3 (by decide) rfl, p 18 16 3 (by decide) rfl, p 26 24 3 (by decide) rfl, p 3 0 4 (by decide) rfl, p 11 8 4 (by decide) rfl, p 19 16 4 (by decide) rfl, p 27 24 4 (by decide) rfl, p 4 0 5 (by decide) rfl, p 12 8 5 (by decide) rfl, p 20 16 5 (by decide) rfl, p 28 24 5 (by decide) rfl, p 5 0 6 (by decide) rfl, p 13 8 6 (by decide) rfl, p 21 16 6 (by decide) rfl, p 29 24 6 (by decide) rfl, p 6 0 7 (by decide) rfl, p 14 8 7 (by decide) rfl, p 22 16 7 (by decide) rfl, p 30 24 7 (by decide) rfl]
  unfold sumOf
  rw [shapeCast_self]
  unfold fourTaps
  simp only [tap_at, hb, from0_at, from8_at, from16_at, from24_at]
  rw [turn 95#32 1 (by decide) rfl (by decide) 0 (by decide), turn 95#32 1 (by decide) rfl (by decide) 8 (by decide), turn 95#32 1 (by decide) rfl (by decide) 16 (by decide), turn 95#32 1 (by decide) rfl (by decide) 24 (by decide), turn 94#32 2 (by decide) rfl (by decide) 0 (by decide), turn 94#32 2 (by decide) rfl (by decide) 8 (by decide), turn 94#32 2 (by decide) rfl (by decide) 16 (by decide), turn 94#32 2 (by decide) rfl (by decide) 24 (by decide), turn 93#32 3 (by decide) rfl (by decide) 0 (by decide), turn 93#32 3 (by decide) rfl (by decide) 8 (by decide), turn 93#32 3 (by decide) rfl (by decide) 16 (by decide), turn 93#32 3 (by decide) rfl (by decide) 24 (by decide), turn 92#32 4 (by decide) rfl (by decide) 0 (by decide), turn 92#32 4 (by decide) rfl (by decide) 8 (by decide), turn 92#32 4 (by decide) rfl (by decide) 16 (by decide), turn 92#32 4 (by decide) rfl (by decide) 24 (by decide), turn 91#32 5 (by decide) rfl (by decide) 0 (by decide), turn 91#32 5 (by decide) rfl (by decide) 8 (by decide), turn 91#32 5 (by decide) rfl (by decide) 16 (by decide), turn 91#32 5 (by decide) rfl (by decide) 24 (by decide), turn 90#32 6 (by decide) rfl (by decide) 0 (by decide), turn 90#32 6 (by decide) rfl (by decide) 8 (by decide), turn 90#32 6 (by decide) rfl (by decide) 16 (by decide), turn 90#32 6 (by decide) rfl (by decide) 24 (by decide), turn 89#32 7 (by decide) rfl (by decide) 0 (by decide), turn 89#32 7 (by decide) rfl (by decide) 8 (by decide), turn 89#32 7 (by decide) rfl (by decide) 16 (by decide), turn 89#32 7 (by decide) rfl (by decide) 24 (by decide)]
  simp only [hv]
  rfl

end Cert.MixInIdeal.Hand
end
-- ==== Proof.MixInIdeal.Prelude.lean ====
module

public import proofs.«01_k».proof.Proof.MixInIdeal.Sum
public import Idealize.ShloMosaic.Lib.Pipeline.ValueKit

@[expose] public section

set_option maxRecDepth 65536

noncomputable section
namespace Cert.MixInIdeal.Hand
open Cert.MixInIdeal Cert.MixInIdeal.Gen Cert.Formula Idealize.ShloMosaic Idealize.ShloMosaic.TcCoe Idealize.ShloMosaic.Tactic Idealize.SL.Sem

/-! The products the body takes before the convolution, four groups of 256 columns at a time: the pieces it writes of the
recurrent channels, of the gate's, and of the padded rows. -/

section
variable {F : FTy → Type} [FloatOps F]

theorem fits_weight (q g : Fin 4) : ∀ k : Fin 3, (![0, 0, 1024 * q.val + 256 * g.val] : Fin 3 → ℕ) k + S1x2048x256.size k ≤ S1x2048x4096.size k := by
  revert q g; decide +kernel
theorem fits_group (g : Fin 4) : ∀ k : Fin 2, (![0, 256 * g.val] : Fin 2 → ℕ) k + S512x256.size k ≤ S512x1024.size k := by
  revert g; decide +kernel
theorem fits_rows (g : Fin 4) : ∀ k : Fin 3, (![0, 16, 256 * g.val] : Fin 3 → ℕ) k + S8x64x256.size k ≤ S8x96x1024.size k := by
  revert g; decide +kernel

variable (x : Vec F S512x2048 .f32) (sh sc : Vec F S1x1x2048 .f32) (w : Vec F S1x2048x4096 .bf16)

/-- The modulated rows. -/
def left : FVec F S512x2048 .bf16 :=
  k0_pay1 (View.ld (Val := Elt F) (e' := .f32) x (Rect.unit (s := S512x2048) ![0, 0] S512x2048.size inb_S512x2048_S512x2048_0_0))
    (View.ld (Val := Elt F) (e' := .f32) sc (Rect.unit (s := S1x1x2048) ![0, 0, 0] S1x1x2048.size inb_S1x1x2048_S1x1x2048_0_0_0))
    (View.ld (Val := Elt F) (e' := .f32) sh (Rect.unit (s := S1x1x2048) ![0, 0, 0] S1x1x2048.size inb_S1x1x2048_S1x1x2048_0_0_0))

/-- Group `g` of quarter `q` of the weight's columns. -/
def group (q g : Fin 4) : Vec F S1x2048x256 .bf16 :=
  View.ld (Val := Elt F) (e' := .bf16) w (Rect.unit (s := S1x2048x4096) ![0, 0, 1024 * q.val + 256 * g.val] S1x2048x256.size (fits_weight q g))

/-- The pieces of the recurrent channels, the last one first. -/
def recurrentPieces : List (View.Piece (Elt F) S512x1024 .f32) :=
  (List.finRange 4).reverse.map fun g => ⟨Rect.unit (s := S512x1024) ![0, 256 * g.val] S512x256.size (fits_group g), k0_pay8 (left x sh sc) (group w 0 g)⟩

/-- The pieces of the gate's channels. -/
def gatePieces : List (View.Piece (Elt F) S512x1024 .f32) :=
  (List.finRange 4).reverse.map fun g => ⟨Rect.unit (s := S512x1024) ![0, 256 * g.val] S512x256.size (fits_group g), k0_pay9 (left x sh sc) (group w 1 g)⟩

/-- The pieces of the padded rows: the rows, then the noughts after them and before them. -/
def rowPieces : List (View.Piece (Elt F) S8x96x1024 .f32) :=
  ((List.finRange 4).reverse.map fun g => ⟨Rect.unit (s := S8x96x1024) ![0, 16, 256 * g.val] S8x64x256.size (fits_rows g),
      k0_pay14 (left x sh sc) (group w 2 g) (group w 3 g)⟩)
    ++ [⟨Rect.unit (s := S8x96x1024) ![0, 80, 0] S8x16x1024.size inb_S8x96x1024_S8x16x1024_0_80_0, k0_pay3⟩,
        ⟨Rect.unit (s := S8x96x1024) ![0, 0, 0] S8x16x1024.size inb_S8x96x1024_S8x16x1024_0_0_0, k0_pay2⟩]
end

section
variable {F : FTy → Type} [FloatOps F]
variable (c : Dev nD) (i : grid0.Coords) (arg1 : Memref sig .tc .vmem S512x2048 .f32) (harg1 : arg1.IsWhole)
    (arg2 : Memref sig .tc .vmem S1x1x2048 .f32) (harg2 : arg2.IsWhole) (arg3 : Memref sig .tc .vmem S1x1x2048 .f32) (harg3 : arg3.IsWhole)
    (arg4 : Memref sig .tc .vmem S1x2048x4096 .bf16) (harg4 : arg4.IsWhole)
    (x0 : Vec F S512x2048 .f32) (x1 x2 : Vec F S1x1x2048 .f32) (x3 : Vec F S1x2048x4096 .bf16)

/-- The pieces the body writes of the padded rows are these. -/
theorem rows_eq : kernelRun0_A.sl.HS0_6 c arg1 harg1 arg2 harg2 arg3 harg3 arg4 harg4 x0 x1 x2 x3 = rowPieces x0 x1 x2 x3 := by
  have e : kernelRun0_A.sl.HS0_6 c arg1 harg1 arg2 harg2 arg3 harg3 arg4 harg4 x0 x1 x2 x3
      = rowPieces (arg1.view.read (Elt F) (harg1.unread x0)) (arg2.view.read (Elt F) (harg2.unread x1))
          (arg3.view.read (Elt F) (harg3.unread x2)) (arg4.view.read (Elt F) (harg4.unread x3)) := rfl
  rw [e, harg1.read_unread, harg2.read_unread, harg3.read_unread, harg4.read_unread]
end

section
variable {F : FTy → Type} [FloatOps F]
variable (c : Dev nD) (i : grid0.Coords) (arg1 : Memref sig .tc .vmem S512x2048 .f32) (harg1 : arg1.IsWhole) (arg2 : Memref sig .tc .vmem S1x1x2048 .f32)
    (harg2 : arg2.IsWhole) (arg3 : Memref sig .tc .vmem S1x1x2048 .f32) (harg3 : arg3.IsWhole) (arg4 : Memref sig .tc .vmem S1x2048x4096 .bf16)
    (harg4 : arg4.IsWhole) (arg5 : Memref sig .tc .vmem S31x1024 .f32) (harg5 : arg5.IsWhole) (arg6 : Memref sig .tc .vmem S1x1024 .f32)
    (harg6 : arg6.IsWhole) (arg7 : Memref sig .tc .vmem S1x1024 .f32) (harg7 : arg7.IsWhole) (arg8 : Memref sig .tc .vmem S1x1024 .f32)
    (harg8 : arg8.IsWhole) (arg9 : Memref sig .tc .vmem S512x1024 .f32) (harg9 : arg9.IsWhole) (arg10 : Memref sig .tc .vmem S512x1024 .f32)
    (harg10 : arg10.IsWhole) (arg11 : Memref sig .tc .vmem S512x1024 .bf16) (harg11 : arg11.IsWhole) (arg12 : Memref sig .tc .vmem S8x96x1024 .f32)
    (harg12 : arg12.IsWhole) (arg13 : Memref sig .tc .vmem S512x1024 .f32) (harg13 : arg13.IsWhole) (x0 : Vec F S512x2048 .f32)
    (x1 : Vec F S1x1x2048 .f32) (x2 : Vec F S1x1x2048 .f32) (x3 : Vec F S1x2048x4096 .bf16) (x4 : Vec F S31x1024 .f32) (x5 : Vec F S1x1024 .f32)
    (x6 : Vec F S1x1024 .f32) (x7 : Vec F S1x1024 .f32)

/-- What the body leaves of the recurrent channels. -/
theorem first_eq : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 = View.canon (recurrentPieces x0 x1 x2 x3) := by
  have e : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7).1
      = recurrentPieces (arg1.view.read (Elt F) (harg1.unread x0)) (arg2.view.read (Elt F) (harg2.unread x1))
          (arg3.view.read (Elt F) (harg3.unread x2)) (arg4.view.read (Elt F) (harg4.unread x3)) := rfl
  unfold out0_A_8
  rw [View.read_writes_junk_eq_canon]
  refine congrArg View.canon (e.trans ?_)
  rw [harg1.read_unread, harg2.read_unread, harg3.read_unread, harg4.read_unread]

/-- What the body leaves of the gate's channels. -/
theorem second_eq : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 = View.canon (gatePieces x0 x1 x2 x3) := by
  have e : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7).2.1
      = gatePieces (arg1.view.read (Elt F) (harg1.unread x0)) (arg2.view.read (Elt F) (harg2.unread x1))
          (arg3.view.read (Elt F) (harg3.unread x2)) (arg4.view.read (Elt F) (harg4.unread x3)) := rfl
  unfold out0_A_9
  rw [View.read_writes_junk_eq_canon]
  refine congrArg View.canon (e.trans ?_)
  rw [harg1.read_unread, harg2.read_unread, harg3.read_unread, harg4.read_unread]

/-- The sums of the convolution, of padded rows written as the pieces given. -/
def sums (P : List (View.Piece (Elt F) S8x96x1024 .f32)) : Vec F S512x1024 .f32 :=
  View.canon (pieces arg5 harg5 arg6 harg6 arg12 x4 x5 P)

/-- What the body leaves of the convolved channels. -/
theorem third_eq : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7
    = k0_pay878 (sums arg5 harg5 arg6 harg6 arg12 x4 x5 (rowPieces x0 x1 x2 x3)) x6 x7 := by
  have e : (kernelRun0_A c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7).2.2.1
      = [⟨Rect.unit (s := S512x1024) ![0, 0] S512x1024.size inb_S512x1024_S512x1024_0_0,
          k0_pay878 (arg13.view.readCov (Val := Elt F) (kernelRun0_A.sl.HS1_64 c arg1 harg1 arg2 harg2 arg3 harg3 arg4 harg4 arg5 harg5 arg6 harg6 arg12 x0 x1 x2 x3 x4 x5)
              (Rect.unit (s := S512x1024) ![0, 0] S512x1024.size inb_S512x1024_S512x1024_0_0).toLoadRect)
            (View.ld (arg7.view.read (Elt F) (harg7.unread x6)) (Rect.unit (s := S1x1024) ![0, 0] S1x1024.size inb_S1x1024_S1x1024_0_0))
            (View.ld (arg8.view.read (Elt F) (harg8.unread x7)) (Rect.unit (s := S1x1024) ![0, 0] S1x1024.size inb_S1x1024_S1x1024_0_0))⟩] := rfl
  have e6 : View.ld (Val := Elt F) (e' := .f32) x6 (Rect.unit (s := S1x1024) ![0, 0] S1x1024.size inb_S1x1024_S1x1024_0_0) = x6 := View.ld_unit_zero (by decide) _ _
  have e7 : View.ld (Val := Elt F) (e' := .f32) x7 (Rect.unit (s := S1x1024) ![0, 0] S1x1024.size inb_S1x1024_S1x1024_0_0) = x7 := View.ld_unit_zero (by decide) _ _
  have es : ∀ L : List (View.Piece (Elt F) S512x1024 .f32), arg13.view.readCov (Val := Elt F) L
      (Rect.unit (s := S512x1024) ![0, 0] S512x1024.size inb_S512x1024_S512x1024_0_0).toLoadRect = View.canon L := fun L => by
    rw [View.readCov_eq_canon']
    exact View.ld_unit_zero (Val := Elt F) (e := .f32) (by decide) _ (View.canon L)
  rw [harg7.read_unread, harg8.read_unread, e6, e7, es, convolution_eq, rows_eq] at e
  unfold out0_A_10
  rw [View.read_writes_junk_eq_canon]
  refine (congrArg View.canon e).trans ?_
  exact View.canon_cons_unit_lit _ _ _ (by decide)
end

end Cert.MixInIdeal.Hand
end
-- ==== Proof.MixInIdeal.Content.lean ====
module

public import proofs.«01_k».proof.Proof.MixInIdeal.Prelude

@[expose] public section

set_option maxRecDepth 16384

noncomputable section
namespace Cert.MixInIdeal.Hand
open Cert.MixInIdeal Cert.MixInIdeal.Gen Cert.Formula Idealize.ShloMosaic Idealize.ShloMosaic.TcCoe Idealize.ShloMosaic.Tactic Idealize.SL.Sem

/-! What the body leaves, at a row and a channel, in terms of its input blocks. -/

section
variable (x : Vec Ideal S512x2048 .f32) (sh sc : Vec Ideal S1x1x2048 .f32) (w : Vec Ideal S1x2048x4096 .bf16)

/-- A row's product with a column of the weight. -/
def prodAt (r : Fin 512) (j : Fin 4096) : EReal :=
  dot (modulated (fun k => x (ix2 r k)) (fun k => sc (ix3 0 0 k)) (fun k => sh (ix3 0 0 k))) (fun k => w (ix3 0 k j))

/-- A row of what is convolved. -/
def signalAt (r : Fin 512) (d : Fin 1024) : EReal :=
  prodAt x sh sc w r (quarter 2 (by decide) d) * sigm (prodAt x sh sc w r (quarter 3 (by decide) d))

/-- A segment with 16 rows of noughts before it and 16 after it. -/
def shifted (s : Fin 8) (i : ℕ) (d : Fin 1024) : EReal :=
  if h : 16 ≤ i ∧ i < 80 then signalAt x sh sc w ⟨64 * s.val + (i - 16), by have := s.isLt; omega⟩ d else 0

/-- The modulated rows. -/
theorem left_at (r : Fin 512) (k : Fin 2048) :
    left x sh sc (ix2 r k) = modulated (fun k => x (ix2 r k)) (fun k => sc (ix3 0 0 k)) (fun k => sh (ix3 0 0 k)) k := by
  have e0 : View.ld (Val := Elt Ideal) (e' := .f32) x (Rect.unit (s := S512x2048) ![0, 0] S512x2048.size inb_S512x2048_S512x2048_0_0) = x := View.ld_unit_zero (by decide) _ _
  have e1 : View.ld (Val := Elt Ideal) (e' := .f32) sc (Rect.unit (s := S1x1x2048) ![0, 0, 0] S1x1x2048.size inb_S1x1x2048_S1x1x2048_0_0_0) = sc := View.ld_unit_zero (by decide) _ _
  have e2 : View.ld (Val := Elt Ideal) (e' := .f32) sh (Rect.unit (s := S1x1x2048) ![0, 0, 0] S1x1x2048.size inb_S1x1x2048_S1x1x2048_0_0_0) = sh := View.ld_unit_zero (by decide) _ _
  unfold left modulated
  rw [e0, e1, e2]
  pointwise [k0_pay1]

/-- A group of the weight's columns. -/
theorem group_at (q g : Fin 4) (k : Fin 2048) (e : Fin 256) (j : Fin 4096) (hj : j.val = 1024 * q.val + 256 * g.val + e.val) :
    group w q g (ix3 0 k e) = w (ix3 0 k j) := by
  unfold group
  show w _ = w _
  congr 1
  funext a
  apply Fin.ext
  match a with
  | ⟨0, _⟩ => rfl
  | ⟨1, _⟩ => show 0 + 1 * k.val = k.val; omega
  | ⟨2, _⟩ => show 1024 * q.val + 256 * g.val + 1 * e.val = j.val; omega

/-- The product of the rows with a group of columns. -/
theorem product_at (q g : Fin 4) (r : Fin 512) (e : Fin 256) (j : Fin 4096) (hj : j.val = 1024 * q.val + 256 * g.val + e.val) :
    k0_pay8 (left x sh sc) (group w q g) (ix2 r e) = prodAt x sh sc w r j := by
  unfold prodAt dot
  simp only [← left_at]
  simp only [← group_at w q g _ e j hj]
  generalize left x sh sc = a
  generalize group w q g = v
  pointwise [k0_pay8]

/-- The gate's channels of a group. -/
theorem gate_at (g : Fin 4) (r : Fin 512) (e : Fin 256) (j : Fin 4096) (hj : j.val = 1024 * (1 : Fin 4).val + 256 * g.val + e.val) :
    k0_pay9 (left x sh sc) (group w 1 g) (ix2 r e) = gelu (prodAt x sh sc w r j) := by
  rw [← product_at x sh sc w 1 g r e j hj]
  generalize left x sh sc = a
  generalize group w 1 g = v
  have h : k0_pay9 a v (ix2 r e) = gelu (k0_pay8 a v (ix2 r e)) := by
    unfold gelu half steep cubic
    pointwise [k0_pay8, k0_pay9]
  exact h

/-- What is convolved, of a group. -/
theorem rows_at (g : Fin 4) (s : Fin 8) (j : Fin 64) (e : Fin 256) (j2 j3 : Fin 4096) (h2 : j2.val = 1024 * (2 : Fin 4).val + 256 * g.val + e.val)
    (h3 : j3.val = 1024 * (3 : Fin 4).val + 256 * g.val + e.val) (r : Fin 512) (hr : r.val = 64 * s.val + j.val) :
    k0_pay14 (left x sh sc) (group w 2 g) (group w 3 g) (ix3 s j e) = prodAt x sh sc w r j2 * sigm (prodAt x sh sc w r j3) := by
  rw [← product_at x sh sc w 2 g r e j2 h2, ← product_at x sh sc w 3 g r e j3 h3]
  generalize left x sh sc = a
  generalize group w 2 g = v
  generalize group w 3 g = u
  have er : r = ⟨s.val * 64 + j.val, by have := s.isLt; have := j.isLt; omega⟩ := Fin.ext (by show r.val = s.val * 64 + j.val; omega)
  rw [← sigm_of_tanh, er]
  have h : k0_pay14 a v u (ix3 s j e) = k0_pay8 a v (ix2 ⟨s.val * 64 + j.val, by have := s.isLt; have := j.isLt; omega⟩ e)
      * (half + half * Ideal.tanh (half * k0_pay8 a u (ix2 ⟨s.val * 64 + j.val, by have := s.isLt; have := j.isLt; omega⟩ e))) := by
    unfold half
    pointwise [k0_pay8, k0_pay14]
  exact h

/-- The pieces of the recurrent channels, read back. -/
theorem recurrent_at (r : Fin 512) (d : Fin 1024) :
    View.canon (recurrentPieces x sh sc w) (ix2 r d : S512x1024.Idx) = prodAt x sh sc w r (quarter 0 (by decide) d) := by
  have hd := d.isLt
  refine View.canon_eq_of_allAt _ _ _ ?_ ?_
  · refine ⟨_, List.mem_map.mpr ⟨⟨d.val / 256, by omega⟩, by simp, rfl⟩, ?_⟩
    refine (Rect.mem_set_unit (inb := fits_group _)).mpr fun a => ?_
    match a with
    | ⟨0, _⟩ => exact ⟨Nat.zero_le _, by show r.val < 0 + 512; have := r.isLt; omega⟩
    | ⟨1, _⟩ => exact ⟨by show 256 * (d.val / 256) ≤ d.val; omega, by show d.val < 256 * (d.val / 256) + 256; omega⟩
  · intro p hp y hy
    obtain ⟨g, -, rfl⟩ := List.mem_map.mp hp
    have h0 : 0 + 1 * (y 0).val = r.val := congrArg (fun z : S512x1024.Idx => (z 0).val) hy
    have h1 : 256 * g.val + 1 * (y 1).val = d.val := congrArg (fun z : S512x1024.Idx => (z 1).val) hy
    have ey : y = (ix2 r (y 1) : S512x256.Idx) := funext fun a => match a with
      | ⟨0, _⟩ => Fin.ext (by show (y 0).val = r.val; omega)
      | ⟨1, _⟩ => rfl
    rw [ey]
    exact product_at x sh sc w 0 g r (y 1) _ (by show 1024 * 0 + d.val = 1024 * 0 + 256 * g.val + (y 1).val; omega)

/-- The pieces of the gate's channels, read back. -/
theorem gates_at (r : Fin 512) (d : Fin 1024) :
    View.canon (gatePieces x sh sc w) (ix2 r d : S512x1024.Idx) = gelu (prodAt x sh sc w r (quarter 1 (by decide) d)) := by
  have hd := d.isLt
  refine View.canon_eq_of_allAt _ _ _ ?_ ?_
  · refine ⟨_, List.mem_map.mpr ⟨⟨d.val / 256, by omega⟩, by simp, rfl⟩, ?_⟩
    refine (Rect.mem_set_unit (inb := fits_group _)).mpr fun a => ?_
    match a with
    | ⟨0, _⟩ => exact ⟨Nat.zero_le _, by show r.val < 0 + 512; have := r.isLt; omega⟩
    | ⟨1, _⟩ => exact ⟨by show 256 * (d.val / 256) ≤ d.val; omega, by show d.val < 256 * (d.val / 256) + 256; omega⟩
  · intro p hp y hy
    obtain ⟨g, -, rfl⟩ := List.mem_map.mp hp
    have h0 : 0 + 1 * (y 0).val = r.val := congrArg (fun z : S512x1024.Idx => (z 0).val) hy
    have h1 : 256 * g.val + 1 * (y 1).val = d.val := congrArg (fun z : S512x1024.Idx => (z 1).val) hy
    have ey : y = (ix2 r (y 1) : S512x256.Idx) := funext fun a => match a with
      | ⟨0, _⟩ => Fin.ext (by show (y 0).val = r.val; omega)
      | ⟨1, _⟩ => rfl
    rw [ey]
    exact gate_at x sh sc w g r (y 1) _ (by show 1024 * 1 + d.val = 1024 * 1 + 256 * g.val + (y 1).val; omega)

theorem noughts_at (s : Fin 8) (i : Fin 16) (d : Fin 1024) : k0_pay2 (F := Ideal) (ix3 s i d) = (0 : EReal) ∧ k0_pay3 (F := Ideal) (ix3 s i d) = (0 : EReal) := by
  constructor
  · pointwise [k0_pay2]
  · pointwise [k0_pay3]

/-- The pieces of the padded rows, read back. -/
theorem padded_at (s : Fin 8) (i : Fin 96) (d : Fin 1024) :
    View.canon (rowPieces x sh sc w) (ix3 s i d : S8x96x1024.Idx) = shifted x sh sc w s i.val d := by
  have hs := s.isLt
  have hi := i.isLt
  have hd := d.isLt
  refine View.canon_eq_of_allAt _ _ _ ?_ ?_
  · by_cases h : 16 ≤ i.val ∧ i.val < 80
    · refine ⟨_, List.mem_append_left _ (List.mem_map.mpr ⟨⟨d.val / 256, by omega⟩, by simp, rfl⟩), ?_⟩
      refine (Rect.mem_set_unit (inb := fits_rows _)).mpr fun a => ?_
      match a with
      | ⟨0, _⟩ => exact ⟨Nat.zero_le _, by show s.val < 0 + 8; omega⟩
      | ⟨1, _⟩ => exact ⟨h.1, by show i.val < 16 + 64; omega⟩
      | ⟨2, _⟩ => exact ⟨by show 256 * (d.val / 256) ≤ d.val; omega, by show d.val < 256 * (d.val / 256) + 256; omega⟩
    · by_cases h' : 80 ≤ i.val
      · refine ⟨_, List.mem_append_right _ (List.mem_cons_self), ?_⟩
        refine (Rect.mem_set_unit (inb := inb_S8x96x1024_S8x16x1024_0_80_0)).mpr fun a => ?_
        match a with
        | ⟨0, _⟩ => exact ⟨Nat.zero_le _, by show s.val < 0 + 8; omega⟩
        | ⟨1, _⟩ => exact ⟨h', by show i.val < 80 + 16; omega⟩
        | ⟨2, _⟩ => exact ⟨Nat.zero_le _, by show d.val < 0 + 1024; omega⟩
      · refine ⟨_, List.mem_append_right _ (List.mem_cons_of_mem _ List.mem_cons_self), ?_⟩
        refine (Rect.mem_set_unit (inb := inb_S8x96x1024_S8x16x1024_0_0_0)).mpr fun a => ?_
        match a with
        | ⟨0, _⟩ => exact ⟨Nat.zero_le _, by show s.val < 0 + 8; omega⟩
        | ⟨1, _⟩ => exact ⟨Nat.zero_le _, by show i.val < 0 + 16; omega⟩
        | ⟨2, _⟩ => exact ⟨Nat.zero_le _, by show d.val < 0 + 1024; omega⟩
  · intro p hp y hy
    rcases List.mem_append.mp hp with hp | hp
    · obtain ⟨g, -, rfl⟩ := List.mem_map.mp hp
      have h0 : 0 + 1 * (y 0).val = s.val := congrArg (fun z : S8x96x1024.Idx => (z 0).val) hy
      have h1 : 16 + 1 * (y 1).val = i.val := congrArg (fun z : S8x96x1024.Idx => (z 1).val) hy
      have h2 : 256 * g.val + 1 * (y 2).val = d.val := congrArg (fun z : S8x96x1024.Idx => (z 2).val) hy
      have l1 : (y 1).val < 64 := (y 1).isLt
      have ey : y = (ix3 s (y 1) (y 2) : S8x64x256.Idx) := funext fun a => match a with
        | ⟨0, _⟩ => Fin.ext (by show (y 0).val = s.val; omega)
        | ⟨1, _⟩ => rfl
        | ⟨2, _⟩ => rfl
      rw [ey]
      unfold shifted signalAt
      rw [dif_pos (by omega)]
      exact rows_at x sh sc w g s (y 1) (y 2) _ _ (by show 1024 * 2 + d.val = 1024 * 2 + 256 * g.val + (y 2).val; omega)
        (by show 1024 * 3 + d.val = 1024 * 3 + 256 * g.val + (y 2).val; omega) _ (by show 64 * s.val + (i.val - 16) = 64 * s.val + (y 1).val; omega)
    · rcases List.mem_cons.mp hp with rfl | hp
      · have h1 : 80 + 1 * (y 1).val = i.val := congrArg (fun z : S8x96x1024.Idx => (z 1).val) hy
        have ey : y = (ix3 (y 0) (y 1) (y 2) : S8x16x1024.Idx) := funext fun a => match a with
          | ⟨0, _⟩ => rfl
          | ⟨1, _⟩ => rfl
          | ⟨2, _⟩ => rfl
        rw [ey]
        unfold shifted
        rw [dif_neg (by omega)]
        exact (noughts_at (y 0) (y 1) (y 2)).2
      · obtain rfl := List.mem_singleton.mp hp
        have h1 : 0 + 1 * (y 1).val = i.val := congrArg (fun z : S8x96x1024.Idx => (z 1).val) hy
        have l1 : (y 1).val < 16 := (y 1).isLt
        have ey : y = (ix3 (y 0) (y 1) (y 2) : S8x16x1024.Idx) := funext fun a => match a with
          | ⟨0, _⟩ => rfl
          | ⟨1, _⟩ => rfl
          | ⟨2, _⟩ => rfl
        rw [ey]
        unfold shifted
        rw [dif_neg (by omega)]
        exact (noughts_at (y 0) (y 1) (y 2)).1
end

section
variable (arg5 : Memref sig .tc .vmem S31x1024 .f32) (harg5 : arg5.IsWhole) (arg6 : Memref sig .tc .vmem S1x1024 .f32) (harg6 : arg6.IsWhole)
variable (arg12 : Memref sig .tc .vmem S8x96x1024 .f32)
variable (x4 : Vec Ideal S31x1024 .f32) (x5 : Vec Ideal S1x1024 .f32) (P : List (View.Piece (Elt Ideal) S8x96x1024 .f32))

/-- A tap's product in a block, of padded rows written as pieces. -/
def tapAt (s : Fin 8) (j : Fin 64) (d : Fin 1024) (k : ℕ) : EReal :=
  if h : k < 31 then x4 (ix2 ⟨k, h⟩ d) * View.canon P (ix3 s ⟨j.val + k + 1, by have := j.isLt; omega⟩ d : S8x96x1024.Idx) else 0

/-- The sums of the convolution at a segment's row and a channel. -/
theorem sums_at (s : Fin 8) (j : Fin 64) (d : Fin 1024) (r : Fin 512) (hr : r.val = 64 * s.val + j.val) :
    sums arg5 harg5 arg6 harg6 arg12 x4 x5 P (ix2 r d) = (∑ k ∈ Finset.range 31, tapAt x4 P s j d k) + x5 (ix2 0 d) := by
  have hs := s.isLt
  have hj := j.isLt
  have hd := d.isLt
  unfold sums pieces
  refine View.canon_eq_of_allAt _ _ _ ?_ ?_
  · refine ⟨_, List.mem_map.mpr ⟨⟨8 * s.val + d.val / 128, by omega⟩, by simp, rfl⟩, ?_⟩
    refine (Rect.mem_set_unit (inb := fits_sum _)).mpr fun a => ?_
    match a with
    | ⟨0, _⟩ =>
      exact ⟨by show 64 * ((8 * s.val + d.val / 128) / 8) ≤ r.val; omega, by show r.val < 64 * ((8 * s.val + d.val / 128) / 8) + 64; omega⟩
    | ⟨1, _⟩ =>
      exact ⟨by show 128 * ((8 * s.val + d.val / 128) % 8) ≤ d.val; omega, by show d.val < 128 * ((8 * s.val + d.val / 128) % 8) + 128; omega⟩
  · intro p hp y hy
    obtain ⟨n, -, rfl⟩ := List.mem_map.mp hp
    have h0 : 64 * (n.val / 8) + 1 * (y 0).val = r.val := congrArg (fun z : S512x1024.Idx => (z 0).val) hy
    have h1 : 128 * (n.val % 8) + 1 * (y 1).val = d.val := congrArg (fun z : S512x1024.Idx => (z 1).val) hy
    have l0 : (y 0).val < 64 := (y 0).isLt
    have ey : y = (ix2 j (y 1) : S64x128.Idx) := funext fun a => match a with
      | ⟨0, _⟩ => Fin.ext (by show (y 0).val = j.val; omega)
      | ⟨1, _⟩ => rfl
    rw [ey]
    unfold pieceAt
    dsimp only
    refine (sumOf_at _ _ _ j (y 1)).trans ?_
    congr 1
    · refine Finset.sum_congr rfl fun k _ => ?_
      unfold product tapAt
      by_cases hk : k < 31
      · rw [dif_pos hk, dif_pos hk]
        congr 1
        · refine (congrFun ((View.readAt_eq_ld _ _ _).trans (congrArg (fun z => View.ld z _) (harg5.read_unread x4))) _).trans ?_
          show x4 _ = x4 _
          congr 1
          funext a
          apply Fin.ext
          match a with
          | ⟨0, _⟩ => show k + 1 * 0 = k; omega
          | ⟨1, _⟩ => show 128 * (n.val % 8) + 1 * (y 1).val = d.val; omega
        · refine (congrFun (View.readCov_eq_canon' _ _ _) _).trans ?_
          show View.canon P _ = View.canon P _
          congr 1
          funext a
          apply Fin.ext
          match a with
          | ⟨0, _⟩ => show n.val / 8 + 1 * 0 = s.val; omega
          | ⟨1, _⟩ => show 0 + 1 * (j.val + k + 1) = j.val + k + 1; omega
          | ⟨2, _⟩ => show 128 * (n.val % 8) + 1 * (y 1).val = d.val; omega
      · rw [dif_neg hk, dif_neg hk]
    · refine (congrFun ((View.readAt_eq_ld _ _ _).trans (congrArg (fun z => View.ld z _) (harg6.read_unread x5))) _).trans ?_
      show x5 _ = x5 _
      congr 1
      funext a
      apply Fin.ext
      match a with
      | ⟨0, _⟩ => rfl
      | ⟨1, _⟩ => show 128 * (n.val % 8) + 1 * (y 1).val = d.val; omega
end

/-- The normalisation and the activation at a row and a channel. -/
theorem activated_at (z : Vec Ideal S512x1024 .f32) (g b : Vec Ideal S1x1024 .f32) (r : Fin 512) (d : Fin 1024) :
    k0_pay878 z g b (ix2 r d)
      = standard (fun e => z (ix2 r e)) (fun e => g (ix2 0 e)) (fun e => b (ix2 0 e)) d
        * sigm (standard (fun e => z (ix2 r e)) (fun e => g (ix2 0 e)) (fun e => b (ix2 0 e)) d) := by
  rw [← sigm_of_tanh]
  unfold standard average half span offset
  pointwise [k0_pay878]

end Cert.MixInIdeal.Hand
end
-- ==== Proof.MixInIdeal.Blocks.lean ====
module

public import proofs.«01_k».proof.Proof.Gen.MixInIdeal.Value
public import proofs.«01_k».proof.Proof.Formula.In

@[expose] public section

set_option maxRecDepth 16384

noncomputable section
namespace Cert.MixInIdeal.Hand
open Cert.MixInIdeal Cert.MixInIdeal.Gen Cert.Formula Idealize.ShloMosaic Idealize.ShloMosaic.TcCoe Idealize.ShloMosaic.Tactic Idealize.SL.Sem

/-! What each input block holds at a grid point, in terms of what the program is given. -/

variable (m : (ℓ : Loc nD τ sig) → Buf (Elt Ideal) ℓ)

/-- What the program is given, as the formulas' inputs: layer 1. -/
def inputs (c : Dev nD) : InInputs where
  x := fun R d => (m ((c : Thread nD τ).loc main_arg0) : Vec Ideal S16384x2048 .f32) (ix2 R d)
  shift := fun b d => (m ((c : Thread nD τ).loc main_arg1) : Vec Ideal S2x1x2048 .f32) (ix3 b 0 d)
  scale := fun b d => (m ((c : Thread nD τ).loc main_arg2) : Vec Ideal S2x1x2048 .f32) (ix3 b 0 d)
  w := fun k j => (m ((c : Thread nD τ).loc main_arg3) : Vec Ideal S2x2048x4096 .f32) (ix3 1 k j)
  taps := fun k d => (m ((c : Thread nD τ).loc main_arg4) : Vec Ideal S2x31x1024 .f32) (ix3 1 k d)
  bias := fun d => (m ((c : Thread nD τ).loc main_arg5) : Vec Ideal S2x1024 .f32) (ix2 1 d)
  g := fun d => (m ((c : Thread nD τ).loc main_arg6) : Vec Ideal S2x1024 .f32) (ix2 1 d)
  b := fun d => (m ((c : Thread nD τ).loc main_arg7) : Vec Ideal S2x1024 .f32) (ix2 1 d)

/-- The row of both batches that is row `r` of grid point `t`'s block. -/
def rowAt (t : Fin cfg0.N) (r : Fin 512) : Fin 16384 :=
  ⟨512 * t.val + r.val, by have := t.isLt; have := r.isLt; (have hN : cfg0.N = 32 := rfl); omega⟩

/-- The batch of a grid point's rows. -/
theorem batch_rowAt (t : Fin cfg0.N) (r : Fin 512) (b : Fin 2) (hb : b.val = t.val / 16) : FfnInputs.batch (rowAt t r) = b := by
  unfold FfnInputs.batch rowAt
  apply Fin.ext
  show (512 * t.val + r.val) / 8192 = b.val
  have := r.isLt
  omega

theorem at_0 : ∀ t : Fin cfg0.N, win0_0.index t (0 : Fin 2) = t.val ∧ win0_0.index t (1 : Fin 2) = 0 :=
  (by decide +kernel : ∀ t : Fin grid0.N, _)
/-- The block of rows. -/
theorem block_0 (c : Dev nD) (t : Fin cfg0.N) (r : Fin 512) (d : Fin 2048) :
    (iblk m c 0 t : Vec Ideal S512x2048 _) (ix2 r d) = (inputs m c).x (rowAt t r) d := by
  have hi := at_0 t
  unfold iblk
  rw [View.read_apply]
  show V m c main_arg0 _ = _
  rw [V_main_arg0]
  unfold inputs rowAt
  dsimp only
  congr 1
  funext a
  apply Fin.ext
  match a with
  | ⟨0, _⟩ => show win0_0.index t (0 : Fin 2) * 512 + 1 * r.val = 512 * t.val + r.val; rw [hi.1]; omega
  | ⟨1, _⟩ => show win0_0.index t (1 : Fin 2) * 2048 + 1 * d.val = d.val; rw [hi.2]; omega

theorem at_1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
/-- The shift of the block's batch. -/
theorem block_1 (c : Dev nD) (t : Fin cfg0.N) (b : Fin 2) (hb : b.val = t.val / 16) (d : Fin 2048) :
    (iblk m c 1 t : Vec Ideal S1x1x2048 _) (ix3 0 0 d) = (inputs m c).shift b d := by
  have hi := at_1 t
  unfold iblk
  rw [View.read_apply]
  show V m c main_arg1 _ = _
  rw [V_main_arg1]
  unfold inputs
  dsimp only
  congr 1
  funext a
  apply Fin.ext
  match a with
  | ⟨0, _⟩ => show win0_1.index t (0 : Fin 3) * 1 + 1 * 0 = b.val; rw [hi.1]; omega
  | ⟨1, _⟩ => show win0_1.index t (1 : Fin 3) * 1 + 1 * 0 = 0; rw [hi.2.1]
  | ⟨2, _⟩ => show win0_1.index t (2 : Fin 3) * 2048 + 1 * d.val = d.val; rw [hi.2.2]; omega

theorem at_2 : ∀ t : Fin cfg0.N, win0_2.index t (0 : Fin 3) = t.val / 16 ∧ win0_2.index t (1 : Fin 3) = 0 ∧ win0_2.index t (2 : Fin 3) = 0 :=
  (by decide +kernel : ∀ t : Fin grid0.N, _)
/-- The scale of the block's batch. -/
theorem block_2 (c : Dev nD) (t : Fin cfg0.N) (b : Fin 2) (hb : b.val = t.val / 16) (d : Fin 2048) :
    (iblk m c 2 t : Vec Ideal S1x1x2048 _) (ix3 0 0 d) = (inputs m c).scale b d := by
  have hi := at_2 t
  unfold iblk
  rw [View.read_apply]
  show V m c main_arg2 _ = _
  rw [V_main_arg2]
  unfold inputs
  dsimp only
  congr 1
  funext a
  apply Fin.ext
  match a with
  | ⟨0, _⟩ => show win0_2.index t (0 : Fin 3) * 1 + 1 * 0 = b.val; rw [hi.1]; omega
  | ⟨1, _⟩ => show win0_2.index t (1 : Fin 3) * 1 + 1 * 0 = 0; rw [hi.2.1]
  | ⟨2, _⟩ => show win0_2.index t (2 : Fin 3) * 2048 + 1 * d.val = d.val; rw [hi.2.2]; omega

theorem at_3 : ∀ t : Fin cfg0.N, win0_3.index t (0 : Fin 3) = 1 ∧ win0_3.index t (1 : Fin 3) = 0 ∧ win0_3.index t (2 : Fin 3) = 0 :=
  (by decide +kernel : ∀ t : Fin grid0.N, _)
/-- The weight. -/
theorem block_3 (c : Dev nD) (t : Fin cfg0.N) (k : Fin 2048) (j : Fin 4096) :
    (iblk m c 3 t : Vec Ideal S1x2048x4096 _) (ix3 0 k j) = (inputs m c).w k j := by
  have hi := at_3 t
  unfold iblk
  rw [View.read_apply]
  show V m c main_v0 _ = _
  have e0 : (V m c main_v0 : Vec Ideal S2x2048x4096 .bf16) = truncf (F := Ideal) .bf16 (m ((c : Thread nD τ).loc main_arg3) : Vec Ideal S2x2048x4096 .f32) bitsLt_bf16_f32 := by rfl
  rw [e0]
  unfold inputs
  show (m ((c : Thread nD τ).loc main_arg3) : Vec Ideal S2x2048x4096 .f32) _ = _
  congr 1
  funext a
  apply Fin.ext
  match a with
  | ⟨0, _⟩ => show win0_3.index t (0 : Fin 3) * 1 + 1 * 0 = 1; rw [hi.1]
  | ⟨1, _⟩ => show win0_3.index t (1 : Fin 3) * 2048 + 1 * k.val = k.val; rw [hi.2.1]; omega
  | ⟨2, _⟩ => show win0_3.index t (2 : Fin 3) * 4096 + 1 * j.val = j.val; rw [hi.2.2]; omega

theorem at_4 : ∀ t : Fin cfg0.N, win0_4.index t (0 : Fin 2) = 0 ∧ win0_4.index t (1 : Fin 2) = 0 :=
  (by decide +kernel : ∀ t : Fin grid0.N, _)
/-- The block is the whole array. -/
theorem block_4_array (c : Dev nD) (t : Fin cfg0.N) (i : Fin 31) (d : Fin 1024) :
    (iblk m c 4 t : Vec Ideal S31x1024 _) (ix2 i d) = (V m c main_v2 : Vec Ideal S31x1024 _) (ix2 i d) := by
  have hi := at_4 t
  unfold iblk
  rw [View.read_apply]
  show V m c main_v2 _ = _
  congr 1
  funext a
  apply Fin.ext
  match a with
  | ⟨0, _⟩ => show win0_4.index t (0 : Fin 2) * 31 + 1 * i.val = i.val; rw [hi.1]; omega
  | ⟨1, _⟩ => show win0_4.index t (1 : Fin 2) * 1024 + 1 * d.val = d.val; rw [hi.2]; omega

/-- The taps. -/
theorem block_4 (c : Dev nD) (t : Fin cfg0.N) (k : Fin 31) (d : Fin 1024) :
    (iblk m c 4 t : Vec Ideal S31x1024 _) (ix2 k d) = (inputs m c).taps k d := by
  refine (block_4_array m c t k d).trans ?_
  have e : V m c main_v2 = shapeCast S31x1024 (extractStridedSlice S1x31x1024 ![1, 0, 0] (m ((c : Thread nD τ).loc main_arg4) : Vec Ideal S2x31x1024 .f32) slices_S2x31x1024_S1x31x1024_1_0_0) shapeCasts_S1x31x1024_S31x1024 := by rfl
  rw [e]
  unfold inputs
  pointwise

theorem at_5 : ∀ t : Fin cfg0.N, win0_5.index t (0 : Fin 2) = 0 ∧ win0_5.index t (1 : Fin 2) = 0 :=
  (by decide +kernel : ∀ t : Fin grid0.N, _)
/-- The block is the whole array. -/
theorem block_5_array (c : Dev nD) (t : Fin cfg0.N) (i : Fin 1) (d : Fin 1024) :
    (iblk m c 5 t : Vec Ideal S1x1024 _) (ix2 i d) = (V m c main_v9 : Vec Ideal S1x1024 _) (ix2 i d) := by
  have hi := at_5 t
  unfold iblk
  rw [View.read_apply]
  show V m c main_v9 _ = _
  congr 1
  funext a
  apply Fin.ext
  match a with
  | ⟨0, _⟩ => show win0_5.index t (0 : Fin 2) * 1 + 1 * i.val = i.val; rw [hi.1]; omega
  | ⟨1, _⟩ => show win0_5.index t (1 : Fin 2) * 1024 + 1 * d.val = d.val; rw [hi.2]; omega

/-- The bias. -/
theorem block_5 (c : Dev nD) (t : Fin cfg0.N) (d : Fin 1024) :
    (iblk m c 5 t : Vec Ideal S1x1024 _) (ix2 0 d) = (inputs m c).bias d := by
  refine (block_5_array m c t 0 d).trans ?_
  have e : V m c main_v9 = shapeCast S1x1024 (shapeCast S1024 (extractStridedSlice S1x1024 ![1, 0] (m ((c : Thread nD τ).loc main_arg5) : Vec Ideal S2x1024 .f32) slices_S2x1024_S1x1024_1_0) shapeCasts_S1x1024_S1024) shapeCasts_S1024_S1x1024 := by rfl
  rw [e]
  unfold inputs
  pointwise

theorem at_6 : ∀ t : Fin cfg0.N, win0_6.index t (0 : Fin 2) = 0 ∧ win0_6.index t (1 : Fin 2) = 0 :=
  (by decide +kernel : ∀ t : Fin grid0.N, _)
/-- The block is the whole array. -/
theorem block_6_array (c : Dev nD) (t : Fin cfg0.N) (i : Fin 1) (d : Fin 1024) :
    (iblk m c 6 t : Vec Ideal S1x1024 _) (ix2 i d) = (V m c main_v10 : Vec Ideal S1x1024 _) (ix2 i d) := by
  have hi := at_6 t
  unfold iblk
  rw [View.read_apply]
  show V m c main_v10 _ = _
  congr 1
  funext a
  apply Fin.ext
  match a with
  | ⟨0, _⟩ => show win0_6.index t (0 : Fin 2) * 1 + 1 * i.val = i.val; rw [hi.1]; omega
  | ⟨1, _⟩ => show win0_6.index t (1 : Fin 2) * 1024 + 1 * d.val = d.val; rw [hi.2]; omega

/-- The normalisation's scale. -/
theorem block_6 (c : Dev nD) (t : Fin cfg0.N) (d : Fin 1024) :
    (iblk m c 6 t : Vec Ideal S1x1024 _) (ix2 0 d) = (inputs m c).g d := by
  refine (block_6_array m c t 0 d).trans ?_
  have e : V m c main_v10 = shapeCast S1x1024 (shapeCast S1024 (extractStridedSlice S1x1024 ![1, 0] (m ((c : Thread nD τ).loc main_arg6) : Vec Ideal S2x1024 .f32) slices_S2x1024_S1x1024_1_0) shapeCasts_S1x1024_S1024) shapeCasts_S1024_S1x1024 := by rfl
  rw [e]
  unfold inputs
  pointwise

theorem at_7 : ∀ t : Fin cfg0.N, win0_7.index t (0 : Fin 2) = 0 ∧ win0_7.index t (1 : Fin 2) = 0 :=
  (by decide +kernel : ∀ t : Fin grid0.N, _)
/-- The block is the whole array. -/
theorem block_7_array (c : Dev nD) (t : Fin cfg0.N) (i : Fin 1) (d : Fin 1024) :
    (iblk m c 7 t : Vec Ideal S1x1024 _) (ix2 i d) = (V m c main_v11 : Vec Ideal S1x1024 _) (ix2 i d) := by
  have hi := at_7 t
  unfold iblk
  rw [View.read_apply]
  show V m c main_v11 _ = _
  congr 1
  funext a
  apply Fin.ext
  match a with
  | ⟨0, _⟩ => show win0_7.index t (0 : Fin 2) * 1 + 1 * i.val = i.val; rw [hi.1]; omega
  | ⟨1, _⟩ => show win0_7.index t (1 : Fin 2) * 1024 + 1 * d.val = d.val; rw [hi.2]; omega

/-- The normalisation's shift. -/
theorem block_7 (c : Dev nD) (t : Fin cfg0.N) (d : Fin 1024) :
    (iblk m c 7 t : Vec Ideal S1x1024 _) (ix2 0 d) = (inputs m c).b d := by
  refine (block_7_array m c t 0 d).trans ?_
  have e : V m c main_v11 = shapeCast S1x1024 (shapeCast S1024 (extractStridedSlice S1x1024 ![1, 0] (m ((c : Thread nD τ).loc main_arg7) : Vec Ideal S2x1024 .f32) slices_S2x1024_S1x1024_1_0) shapeCasts_S1x1024_S1024) shapeCasts_S1024_S1x1024 := by rfl
  rw [e]
  unfold inputs
  pointwise

end Cert.MixInIdeal.Hand
end
-- ==== Proof.MixInIdeal.Result.lean ====
module

public import proofs.«01_k».proof.Proof.MixInIdeal.Content
public import proofs.«01_k».proof.Proof.MixInIdeal.Blocks

@[expose] public section

set_option maxRecDepth 16384

noncomputable section
namespace Cert.MixInIdeal.Hand
open Cert.MixInIdeal Cert.MixInIdeal.Gen Cert.Formula Idealize.ShloMosaic Idealize.ShloMosaic.TcCoe Idealize.ShloMosaic.Tactic Idealize.SL.Sem

/-! The blocks the kernel writes at a grid point, and the three arrays the run ends with. -/

variable (m : (ℓ : Loc nD τ sig) → Buf (Elt Ideal) ℓ)

/-- The arrays of the results: the recurrent channels, the gate's, and the convolved ones. -/
def first (c : Dev nD) : Vec Ideal S16384x1024 .f32 := fun i => (inputs m c).recurrent (i 0) (i 1)
def second (c : Dev nD) : Vec Ideal S16384x1024 .f32 := fun i => (inputs m c).gate (i 0) (i 1)
def third (c : Dev nD) : Vec Ideal S16384x1024 .bf16 := fun i =>
  (inputs m c).mixed ⟨(i 0).val / 64, by have h : (i 0).val < 16384 := (i 0).isLt; omega⟩ ((i 0).val % 64) (i 1)

/-- A product of a grid point's block. -/
theorem prodAt_block (c : Dev nD) (t : Fin cfg0.N) (r : Fin 512) (j : Fin 4096) :
    prodAt (iblk m c 0 t) (iblk m c 1 t) (iblk m c 2 t) (iblk m c 3 t) r j = (inputs m c).proj (rowAt t r) j := by
  have hN : cfg0.N = 32 := rfl
  have ht := t.isLt
  unfold prodAt InInputs.proj InInputs.row
  rw [batch_rowAt t r ⟨t.val / 16, by omega⟩ rfl, funext fun k => block_0 m c t r k, funext fun k => block_1 m c t ⟨t.val / 16, by omega⟩ rfl k,
    funext fun k => block_2 m c t ⟨t.val / 16, by omega⟩ rfl k, funext fun k => block_3 m c t k j]

/-- The segment of both batches that is segment `s` of grid point `t`'s block. -/
def segmentAt (t : Fin cfg0.N) (s : Fin 8) : Fin 256 :=
  ⟨8 * t.val + s.val, by have := t.isLt; have := s.isLt; (have hN : cfg0.N = 32 := rfl); omega⟩

/-- A grid point's padded segments are the padded segments of both batches, one row later. -/
theorem shifted_block (c : Dev nD) (t : Fin cfg0.N) (s : Fin 8) (i : ℕ) (d : Fin 1024) :
    shifted (iblk m c 0 t) (iblk m c 1 t) (iblk m c 2 t) (iblk m c 3 t) s (i + 1) d = (inputs m c).padded (segmentAt t s) i d := by
  unfold shifted InInputs.padded
  by_cases h : 15 ≤ i ∧ i < 79
  · have hs := s.isLt
    rw [dif_pos h, dif_pos (by omega : 16 ≤ i + 1 ∧ i + 1 < 80)]
    unfold signalAt InInputs.signal
    rw [prodAt_block, prodAt_block]
    have e : rowAt t ⟨64 * s.val + (i + 1 - 16), by omega⟩ = ⟨(segmentAt t s).val * 64 + (i - 15), by have := (segmentAt t s).isLt; omega⟩ := by
      unfold rowAt segmentAt
      apply Fin.ext
      show 512 * t.val + (64 * s.val + (i + 1 - 16)) = (8 * t.val + s.val) * 64 + (i - 15)
      omega
    rw [e]
  · rw [dif_neg h, dif_neg (by omega)]

/-- The sums of a grid point's convolution. -/
theorem sums_block (arg5 : Memref sig .tc .vmem S31x1024 .f32) (harg5 : arg5.IsWhole) (arg6 : Memref sig .tc .vmem S1x1024 .f32) (harg6 : arg6.IsWhole)
    (arg12 : Memref sig .tc .vmem S8x96x1024 .f32) (c : Dev nD) (t : Fin cfg0.N) (s : Fin 8) (j : Fin 64) (d : Fin 1024) (r : Fin 512) (hr : r.val = 64 * s.val + j.val) :
    sums arg5 harg5 arg6 harg6 arg12 (iblk m c 4 t) (iblk m c 5 t) (rowPieces (iblk m c 0 t) (iblk m c 1 t) (iblk m c 2 t) (iblk m c 3 t)) (ix2 r d)
      = (inputs m c).convolved (segmentAt t s) j.val d := by
  refine (sums_at arg5 harg5 arg6 harg6 arg12 _ _ _ s j d r hr).trans ?_
  unfold InInputs.convolved
  refine congrArg₂ (fun a b : EReal => a + b) (Finset.sum_congr rfl fun k _ => ?_) (block_5 m c t d)
  unfold tapAt InInputs.tapped
  by_cases hk : k < 31
  · rw [dif_pos hk, dif_pos hk, block_4 m c t ⟨k, hk⟩ d, padded_at]
    exact congrArg (fun b : EReal => (inputs m c).taps ⟨k, hk⟩ d * b) (shifted_block m c t s (j.val + k) d)
  · rw [dif_neg hk, dif_neg hk]

/-- What the buffer of the recurrent channels is left holding at a grid point. -/
theorem first_block (c : Dev nD) (t : Fin cfg0.N) (r : Fin 512) (d : Fin 1024) :
    ((dats m 0 c).after 8 t : Vec Ideal S512x1024 .f32) (ix2 r d) = first m c (ix2 (rowAt t r) d : S16384x1024.Idx) := by
  rw [after0_8]
  unfold outsAt0
  dsimp only
  refine (congrFun (first_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)) _).trans ?_
  refine (recurrent_at _ _ _ _ r d).trans ?_
  exact prodAt_block m c t r _

/-- What the buffer of the gate's channels is left holding. -/
theorem second_block (c : Dev nD) (t : Fin cfg0.N) (r : Fin 512) (d : Fin 1024) :
    ((dats m 0 c).after 9 t : Vec Ideal S512x1024 .f32) (ix2 r d) = second m c (ix2 (rowAt t r) d : S16384x1024.Idx) := by
  rw [after0_9]
  unfold outsAt0
  dsimp only
  refine (congrFun (second_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)) _).trans ?_
  refine (gates_at _ _ _ _ r d).trans ?_
  exact congrArg gelu (prodAt_block m c t r _)

/-- What the buffer of the convolved channels is left holding. -/
theorem third_block (c : Dev nD) (t : Fin cfg0.N) (r : Fin 512) (d : Fin 1024) :
    ((dats m 0 c).after 10 t : Vec Ideal S512x1024 .bf16) (ix2 r d) = third m c (ix2 (rowAt t r) d : S16384x1024.Idx) := by
  rw [after0_10]
  unfold outsAt0
  dsimp only
  refine (congrFun (third_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)) _).trans ?_
  refine (activated_at _ _ _ r d).trans ?_
  have hr := r.isLt
  have hz := fun e => sums_block m (ms0_4 t) (hs0_4 t) (ms0_5 t) (hs0_5 t) scM0_0 c t ⟨r.val / 64, by omega⟩ ⟨r.val % 64, by omega⟩ e r (by show r.val = 64 * (r.val / 64) + r.val % 64; omega)
  rw [funext hz, funext fun e => block_6 m c t e, funext fun e => block_7 m c t e]
  unfold third InInputs.mixed InInputs.normal rowAt segmentAt
  have e1 : (512 * t.val + r.val) / 64 = 8 * t.val + r.val / 64 := by omega
  have e2 : (512 * t.val + r.val) % 64 = r.val % 64 := by omega
  show _ = standard ((inputs m c).convolved ⟨(512 * t.val + r.val) / 64, _⟩ ((512 * t.val + r.val) % 64)) _ _ d * sigm (standard ((inputs m c).convolved ⟨(512 * t.val + r.val) / 64, _⟩ ((512 * t.val + r.val) % 64)) _ _ d)
  simp only [e1, e2]

theorem at_8 : ∀ t : Fin cfg0.N, win0_8.index t (0 : Fin 2) = t.val ∧ win0_8.index t (1 : Fin 2) = 0 :=
  (by decide +kernel : ∀ t : Fin grid0.N, _)
/-- The array of the recurrent channels after the run. -/
theorem first_array (c : Dev nD) : (dats m 0 c).arrAt 8 (cfgs 0).N = first m c := by
  refine (dats m 0 c).arrAt_eq_of_covers 8 _ (by decide +kernel) fun t hf y => ?_
  have hi := at_8 t
  have key : ∀ z : S512x1024.Idx, (∀ a, (z a).val = (y a).val) →
      ((dats m 0 c).after 8 t : Vec Ideal S512x1024 .f32) z = first m c (((cfg0.win 8).blk t).view.emb y) := fun z hz => by
    have ez : z = (ix2 (z 0) (z 1) : S512x1024.Idx) := funext fun a => match a with | ⟨0, _⟩ => rfl | ⟨1, _⟩ => rfl
    rw [ez]
    refine (first_block m c t (z 0) (z 1)).trans (congrArg _ (funext fun a => ?_))
    apply Fin.ext
    match a with
    | ⟨0, _⟩ => show 512 * t.val + (z 0).val = win0_8.index t (0 : Fin 2) * 512 + 1 * (y 0).val; rw [hi.1, hz 0]; omega
    | ⟨1, _⟩ => show (z 1).val = win0_8.index t (1 : Fin 2) * 1024 + 1 * (y 1).val; rw [hi.2, hz 1]; omega
  generalize first m c = G at key ⊢
  generalize (dats m 0 c).after 8 t = Z at key ⊢
  refine Eq.trans ?_ (key ((cfg0.win 8).xinj (cfg0.grid.coords t) y) fun a => rfl)
  rfl

theorem at_9 : ∀ t : Fin cfg0.N, win0_9.index t (0 : Fin 2) = t.val ∧ win0_9.index t (1 : Fin 2) = 0 :=
  (by decide +kernel : ∀ t : Fin grid0.N, _)
/-- The array of the gate's channels after the run. -/
theorem second_array (c : Dev nD) : (dats m 0 c).arrAt 9 (cfgs 0).N = second m c := by
  refine (dats m 0 c).arrAt_eq_of_covers 9 _ (by decide +kernel) fun t hf y => ?_
  have hi := at_9 t
  have key : ∀ z : S512x1024.Idx, (∀ a, (z a).val = (y a).val) →
      ((dats m 0 c).after 9 t : Vec Ideal S512x1024 .f32) z = second m c (((cfg0.win 9).blk t).view.emb y) := fun z hz => by
    have ez : z = (ix2 (z 0) (z 1) : S512x1024.Idx) := funext fun a => match a with | ⟨0, _⟩ => rfl | ⟨1, _⟩ => rfl
    rw [ez]
    refine (second_block m c t (z 0) (z 1)).trans (congrArg _ (funext fun a => ?_))
    apply Fin.ext
    match a with
    | ⟨0, _⟩ => show 512 * t.val + (z 0).val = win0_9.index t (0 : Fin 2) * 512 + 1 * (y 0).val; rw [hi.1, hz 0]; omega
    | ⟨1, _⟩ => show (z 1).val = win0_9.index t (1 : Fin 2) * 1024 + 1 * (y 1).val; rw [hi.2, hz 1]; omega
  generalize second m c = G at key ⊢
  generalize (dats m 0 c).after 9 t = Z at key ⊢
  refine Eq.trans ?_ (key ((cfg0.win 9).xinj (cfg0.grid.coords t) y) fun a => rfl)
  rfl

theorem at_10 : ∀ t : Fin cfg0.N, win0_10.index t (0 : Fin 2) = t.val ∧ win0_10.index t (1 : Fin 2) = 0 :=
  (by decide +kernel : ∀ t : Fin grid0.N, _)
/-- The array of the convolved channels after the run. -/
theorem third_array (c : Dev nD) : (dats m 0 c).arrAt 10 (cfgs 0).N = third m c := by
  refine (dats m 0 c).arrAt_eq_of_covers 10 _ (by decide +kernel) fun t hf y => ?_
  have hi := at_10 t
  have key : ∀ z : S512x1024.Idx, (∀ a, (z a).val = (y a).val) →
      ((dats m 0 c).after 10 t : Vec Ideal S512x1024 .bf16) z = third m c (((cfg0.win 10).blk t).view.emb y) := fun z hz => by
    have ez : z = (ix2 (z 0) (z 1) : S512x1024.Idx) := funext fun a => match a with | ⟨0, _⟩ => rfl | ⟨1, _⟩ => rfl
    rw [ez]
    refine (third_block m c t (z 0) (z 1)).trans (congrArg _ (funext fun a => ?_))
    apply Fin.ext
    match a with
    | ⟨0, _⟩ => show 512 * t.val + (z 0).val = win0_10.index t (0 : Fin 2) * 512 + 1 * (y 0).val; rw [hi.1, hz 0]; omega
    | ⟨1, _⟩ => show (z 1).val = win0_10.index t (1 : Fin 2) * 1024 + 1 * (y 1).val; rw [hi.2, hz 1]; omega
  generalize third m c = G at key ⊢
  generalize (dats m 0 c).after 10 t = Z at key ⊢
  refine Eq.trans ?_ (key ((cfg0.win 10).xinj (cfg0.grid.coords t) y) fun a => rfl)
  rfl

/-- The run ends with the results in their arrays and its arguments unchanged. -/
theorem run_value (ρ : Dev nD → PrngReg) :
    θ_run defs (onTc (τ := τ) (main (F := Ideal))) ⟨m, fun _ => 0, ρ⟩ (fun r => ∀ c : Dev nD,
      r.2.mem ((c : Thread nD τ).loc main_v12_0) = first m c
      ∧ r.2.mem ((c : Thread nD τ).loc main_v12_1) = second m c
      ∧ r.2.mem ((c : Thread nD τ).loc main_v12_2) = third m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c => ⟨(h c).1.trans (first_array m c), (h c).2.1.trans (second_array m c), (h c).2.2.1.trans (third_array m c), (h c).2.2.2⟩)
    (Value.run_blocks m ρ)

end Cert.MixInIdeal.Hand
end
-- ==== Proof.RefInIdeal.Result.lean ====
module

public import proofs.«01_k».proof.Proof.Gen.RefInIdeal.Read
public import proofs.«01_k».proof.Proof.Formula.In
public import Idealize.ShloMosaic.Lib.KernelVsHost

@[expose] public section

set_option maxRecDepth 16384

noncomputable section
namespace Cert.RefInIdeal.Hand
open Cert.RefInIdeal Cert.RefInIdeal.Read Cert.Formula Idealize.ShloMosaic Idealize.ShloMosaic.TcCoe Idealize.SL.Sem

/-! The reference's result arrays, over the extended reals, are the formulas' results. -/

variable (m : (ℓ : Loc nD τ sig) → Buf (Elt Ideal) ℓ)

variable (x0 : Vec Ideal S16384x2048 .f32) (x1 x2 : Vec Ideal S2x1x2048 .f32) (x3 : Vec Ideal S2x2048x4096 .f32)
variable (x4 : Vec Ideal S2x31x1024 .f32) (x5 x6 x7 : Vec Ideal S2x1024 .f32)

/-- The row of both batches that is row `t` of batch `b`. -/
def rowOf (b : Fin 2) (t : Fin 8192) : Fin 16384 := ⟨b.val * 8192 + t.val, by have := b.isLt; have := t.isLt; omega⟩

/-- The formulas' inputs, of arrays: layer 1. -/
def ofArrays : InInputs where
  x := fun R d => x0 (ix2 R d)
  shift := fun b d => x1 (ix3 b 0 d)
  scale := fun b d => x2 (ix3 b 0 d)
  w := fun k j => x3 (ix3 1 k j)
  taps := fun k d => x4 (ix3 1 k d)
  bias := fun d => x5 (ix2 1 d)
  g := fun d => x6 (ix2 1 d)
  b := fun d => x7 (ix2 1 d)

/-- What the program is given, as the formulas' inputs. -/
def inputs (c : Dev nD) : InInputs :=
  ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem batch_rowOf (b : Fin 2) (t : Fin 8192) : FfnInputs.batch (rowOf b t) = b := by
  unfold FfnInputs.batch rowOf; apply Fin.ext; show (b.val * 8192 + t.val) / 8192 = b.val; have := t.isLt; omega

/-- The product of every row with every column. -/
theorem product_at (b : Fin 2) (t : Fin 8192) (j : Fin 4096) :
    val_main_v9 (F := Ideal) x0 x1 x2 x3 (ix3 b t j) = (ofArrays x0 x1 x2 x3 x4 x5 x6 x7).proj (rowOf b t) j := by
  unfold InInputs.proj dot InInputs.row modulated
  rw [batch_rowOf]
  unfold ofArrays rowOf
  pointwise [val_main_v9, val_main_v8, val_main_v7, val_main_v6, val_main_v5, val_main_v4, val_main_v3, val_main_v2, val_main_v1, val_main_v0, val_main_cst]

/-- What is convolved. -/
theorem signal_at (b : Fin 2) (t : Fin 8192) (d : Fin 1024) :
    val_main_v20 (F := Ideal) x0 x1 x2 x3 (ix3 b t d) = (ofArrays x0 x1 x2 x3 x4 x5 x6 x7).signal (rowOf b t) d := by
  unfold InInputs.signal sigm
  rw [← product_at, ← product_at]
  unfold quarter
  pointwise [val_main_v20, val_main_v19, val_main_v18, val_main_v17, val_main_v16, val_main_v15, val_main_v14, val_main_v13, val_main_v12, val_main_cst_0, val_main_cst_1]

/-- The gate's channels. -/
theorem gate_at (b : Fin 2) (t : Fin 8192) (d : Fin 1024) :
    val_main_v286 (F := Ideal) x0 x1 x2 x3 (ix3 b t d) = (ofArrays x0 x1 x2 x3 x4 x5 x6 x7).gate (rowOf b t) d := by
  unfold InInputs.gate
  rw [← product_at]
  have e : ∀ z : EReal, gelu z = z * (half * (1 + Ideal.tanh (steep * (z + cubic * (z * z * z))))) := fun z => by
    unfold gelu; rw [mul_comm half z, mul_assoc]
  rw [e]
  unfold quarter half steep cubic
  pointwise [val_main_v286, val_main_v285, val_main_v284, val_main_v283, val_main_v282, val_main_v281, val_main_v280, val_main_v279, val_main_v278, val_main_v277, val_main_v276, val_main_v275, val_main_v274, val_main_v11, val_main_cst_7, val_main_cst_8, val_main_cst_9, val_main_cst_10]

/-- A segment's row among the rows of both batches. -/
theorem segment_row (s : Fin 256) (i : ℕ) (h : i < 64) :
    rowOf ⟨(s.val * 64 + i) / 8192, by have := s.isLt; omega⟩ ⟨(s.val * 64 + i) % 8192, by omega⟩ = ⟨s.val * 64 + i, by have := s.isLt; omega⟩ := by
  unfold rowOf; apply Fin.ext; show (s.val * 64 + i) / 8192 * 8192 + (s.val * 64 + i) % 8192 = s.val * 64 + i; omega

/-- What is convolved, segment by segment. -/
theorem segment_at (s : Fin 256) (i : Fin 64) (d : Fin 1024) :
    val_main_v21 (F := Ideal) x0 x1 x2 x3 (ix3 s i d) = (ofArrays x0 x1 x2 x3 x4 x5 x6 x7).signal ⟨s.val * 64 + i.val, by have := s.isLt; omega⟩ d := by
  rw [← segment_row s i.val i.isLt, ← signal_at, val_main_v21_apply]
  congr 1
  have := s.isLt
  have := i.isLt
  have := d.isLt
  funext a
  apply Fin.ext
  match a with
  | ⟨0, _⟩ => show (((s.val * 64 + i.val) * 1024 + d.val)) / 8388608 = (s.val * 64 + i.val) / 8192; omega
  | ⟨1, _⟩ => show (((s.val * 64 + i.val) * 1024 + d.val)) / 1024 % 8192 = (s.val * 64 + i.val) % 8192; omega
  | ⟨2, _⟩ => show (((s.val * 64 + i.val) * 1024 + d.val)) % 1024 = d.val; omega

/-- A segment's rows with noughts around them. -/
theorem padded_at (s : Fin 256) (i : Fin 94) (d : Fin 1024) :
    val_main_v22 (F := Ideal) x0 x1 x2 x3 (ix3 s i d) = (ofArrays x0 x1 x2 x3 x4 x5 x6 x7).padded s i.val d := by
  have hp : ∀ j, val_main_call0_v0 (F := Ideal) j = 0 := fun j => by
    rw [val_main_call0_v0_apply, val_main_c_apply]; show (((0#32 : BitVec 32).toInt : ℝ) : EReal) = 0; simp
  unfold InInputs.padded val_main_v22
  by_cases h : 15 ≤ i.val ∧ i.val < 79
  · rw [dif_pos h, pad_apply_of_inside _ _ _ _ _ _ _ _ (ix3 s ⟨i.val - 15, by omega⟩ d) (fun a => match a with
      | ⟨0, _⟩ => by show s.val = 0 + s.val * (0 + 1); omega
      | ⟨1, _⟩ => by show i.val = 15 + (i.val - 15) * (0 + 1); omega
      | ⟨2, _⟩ => by show d.val = 0 + d.val * (0 + 1); omega)]
    exact segment_at x0 x1 x2 x3 x4 x5 x6 x7 s ⟨i.val - 15, by omega⟩ d
  · rw [dif_neg h, pad_apply, dif_neg, hp]
    intro hin
    have h1 : 15 ≤ i.val ∧ (i.val - 15) % (0 + 1) = 0 ∧ (i.val - 15) / (0 + 1) < 64 := hin (1 : Fin 3)
    omega

/-- The convolution. -/
theorem convolved_at (s : Fin 256) (j : Fin 64) (d : Fin 1024) :
    val_main_v243 (F := Ideal) x0 x1 x2 x3 x4 x5 (ix3 s j d) = (ofArrays x0 x1 x2 x3 x4 x5 x6 x7).convolved s j.val d := by
  have t : ∀ (k : ℕ) (hk : k < 31), (ofArrays x0 x1 x2 x3 x4 x5 x6 x7).tapped s j.val d k
      = x4 (ix3 1 ⟨k, hk⟩ d) * val_main_v22 (F := Ideal) x0 x1 x2 x3 (ix3 s ⟨k + j.val, by have := j.isLt; omega⟩ d) := fun k hk => by
    unfold InInputs.tapped
    rw [dif_pos hk, Nat.add_comm j.val k, padded_at x0 x1 x2 x3 x4 x5 x6 x7]
    rfl
  unfold InInputs.convolved
  simp only [Finset.sum_range_succ, Finset.sum_range_zero, zero_add]
  rw [t 0 (by decide), t 1 (by decide), t 2 (by decide), t 3 (by decide), t 4 (by decide), t 5 (by decide), t 6 (by decide), t 7 (by decide), t 8 (by decide), t 9 (by decide), t 10 (by decide), t 11 (by decide), t 12 (by decide), t 13 (by decide), t 14 (by decide), t 15 (by decide), t 16 (by decide), t 17 (by decide), t 18 (by decide), t 19 (by decide), t 20 (by decide), t 21 (by decide), t 22 (by decide), t 23 (by decide), t 24 (by decide), t 25 (by decide), t 26 (by decide), t 27 (by decide), t 28 (by decide), t 29 (by decide), t 30 (by decide)]
  clear t
  show _ = _ + x5 (ix2 1 d)
  pointwise [val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23]

/-- The convolution normalised. -/
theorem normal_at (s : Fin 256) (j : Fin 64) (d : Fin 1024) :
    val_main_v271 (F := Ideal) x0 x1 x2 x3 x4 x5 x6 x7 (ix3 s j d) = (ofArrays x0 x1 x2 x3 x4 x5 x6 x7).normal s j.val d := by
  unfold InInputs.normal standard average
  simp only [← convolved_at]
  show _ = (_ : EReal) * _ * x6 (ix2 1 d) + x7 (ix2 1 d)
  unfold span offset
  pointwise [val_main_v271, val_main_v270, val_main_v269, val_main_v268, val_main_v267, val_main_v266, val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v247, val_main_v246, val_main_v245, val_main_v244, val_main_cst_2, val_main_cst_3, val_main_cst_4, val_main_cst_5, val_main_cst_6]

/-- The convolved channels. -/
theorem mixed_at (s : Fin 256) (j : Fin 64) (d : Fin 1024) :
    val_main_v272 (F := Ideal) x0 x1 x2 x3 x4 x5 x6 x7 (ix3 s j d) = (ofArrays x0 x1 x2 x3 x4 x5 x6 x7).mixed s j.val d := by
  unfold InInputs.mixed sigm
  rw [← normal_at]
  pointwise [val_main_v272, val_main_call1_v5, val_main_call1_v4, val_main_call1_v3, val_main_call1_v2, val_main_call1_v1, val_main_call1_v0, val_main_call1_cst, val_main_call1_cst_0]

/-- A row of both batches, by its batch and its row there. -/
theorem rowOf_split (R : Fin 16384) : rowOf ⟨R.val / 8192, by have := R.isLt; omega⟩ ⟨R.val % 8192, by omega⟩ = R := by
  unfold rowOf; apply Fin.ext; show R.val / 8192 * 8192 + R.val % 8192 = R.val; omega

/-- The first result at row `R` and channel `d`. -/
theorem first_at (R : Fin 16384) (d : Fin 1024) :
    val_main_v273 (F := Ideal) x0 x1 x2 x3 (ix2 R d) = (ofArrays x0 x1 x2 x3 x4 x5 x6 x7).recurrent R d := by
  have hR := R.isLt
  unfold InInputs.recurrent
  refine Eq.trans ?_ ((product_at x0 x1 x2 x3 x4 x5 x6 x7 ⟨R.val / 8192, by omega⟩ ⟨R.val % 8192, by omega⟩ (quarter 0 (by decide) d)).trans (by rw [rowOf_split]))
  unfold quarter
  pointwise [val_main_v273, val_main_v10]

/-- The second result. -/
theorem second_at (R : Fin 16384) (d : Fin 1024) :
    val_main_v287 (F := Ideal) x0 x1 x2 x3 (ix2 R d) = (ofArrays x0 x1 x2 x3 x4 x5 x6 x7).gate R d := by
  have hR := R.isLt
  refine Eq.trans ?_ ((gate_at x0 x1 x2 x3 x4 x5 x6 x7 ⟨R.val / 8192, by omega⟩ ⟨R.val % 8192, by omega⟩ d).trans (by rw [rowOf_split]))
  pointwise [val_main_v287]

/-- The third result. -/
theorem third_at (R : Fin 16384) (d : Fin 1024) :
    val_main_v289 (F := Ideal) x0 x1 x2 x3 x4 x5 x6 x7 (ix2 R d) = (ofArrays x0 x1 x2 x3 x4 x5 x6 x7).mixed ⟨R.val / 64, by have := R.isLt; omega⟩ (R.val % 64) d := by
  have hR := R.isLt
  refine Eq.trans ?_ (mixed_at x0 x1 x2 x3 x4 x5 x6 x7 ⟨R.val / 64, by omega⟩ ⟨R.val % 64, by omega⟩ d)
  pointwise [val_main_v289, val_main_v288]

/-- The arrays of the results: the recurrent channels, the gate's, and the convolved ones. -/
def first (c : Dev nD) : Vec Ideal S16384x1024 .f32 := fun i => (inputs m c).recurrent (i 0) (i 1)
def second (c : Dev nD) : Vec Ideal S16384x1024 .f32 := fun i => (inputs m c).gate (i 0) (i 1)
def third (c : Dev nD) : Vec Ideal S16384x1024 .bf16 := fun i =>
  (inputs m c).mixed ⟨(i 0).val / 64, by have h : (i 0).val < 16384 := (i 0).isLt; omega⟩ ((i 0).val % 64) (i 1)

/-- An array of rows of channels is told by its entries at a row and a channel. -/
theorem by_entries {φ : EltTy} (A B : Vec Ideal S16384x1024 φ)
    (h : ∀ (R : Fin 16384) (d : Fin 1024), A (ix2 R d : S16384x1024.Idx) = B (ix2 R d : S16384x1024.Idx)) : A = B :=
  funext fun i => by
    have e : i = (ix2 (i 0) (i 1) : S16384x1024.Idx) := funext fun a => match a with | ⟨0, _⟩ => rfl | ⟨1, _⟩ => rfl
    rw [e]
    exact h (i 0) (i 1)

/-- The run ends with the results in their arrays and its arguments unchanged. -/
theorem run_value (ρ : Dev nD → PrngReg) :
    θ_run defs (onTc (τ := τ) (main (F := Ideal))) ⟨m, fun _ => 0, ρ⟩ (fun r => ∀ c : Dev nD,
      r.2.mem ((c : Thread nD τ).loc main_v273) = first m c
      ∧ r.2.mem ((c : Thread nD τ).loc main_v287) = second m c
      ∧ r.2.mem ((c : Thread nD τ).loc main_v289) = third m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c =>
    ⟨((h c).1.trans (Read.val_main_v273_eq (StableHlo.launchContents m c))).trans (by_entries _ _ fun R d => first_at _ _ _ _ _ _ _ _ R d),
      ((h c).2.1.trans (Read.val_main_v287_eq (StableHlo.launchContents m c))).trans (by_entries _ _ fun R d => second_at _ _ _ _ _ _ _ _ R d),
      ((h c).2.2.1.trans (Read.val_main_v289_eq (StableHlo.launchContents m c))).trans (by_entries _ _ fun R d => third_at _ _ _ _ _ _ _ _ R d),
      (h c).2.2.2⟩)
    (Value.run (F := Ideal) m ρ)

end Cert.RefInIdeal.Hand
end
-- ==== Proof.Claims.MixIn.lean ====
module

public import proofs.«01_k».proof.Defs
public import proofs.«01_k».proof.Proof.Gen.MixInIdeal
public import proofs.«01_k».proof.Proof.Gen.RefInIdeal
public import proofs.«01_k».proof.Proof.Gen.RefInIdeal.Run
public import proofs.«01_k».proof.Proof.MixInIdeal.Result
public import proofs.«01_k».proof.Proof.RefInIdeal.Result
public import Idealize.ShloMosaic.Adequacy
public import Idealize.ShloMosaic.Init

@[expose] public section

noncomputable section
namespace Cert.Claims
open Idealize.ShloMosaic Idealize.SL.Sem

/-- The input projection and its convolution: from the same arguments, over the extended reals, the kernel and the
    reference end with the same three arrays. -/
theorem mixIn_algebraic : Cert.algebraic_MixInIdeal_RefInIdeal := by
  pair_intro
  · run_from Cert.MixInIdeal.Hand.run_value m g
  · run_from Cert.RefInIdeal.Hand.run_value m' g'
    all_goals
      obtain ⟨e0, e1, e2, e3, e4, e5, e6, e7⟩ := hagree c
      have hin : Cert.RefInIdeal.Hand.inputs m' c = Cert.MixInIdeal.Hand.inputs m c := by
        unfold Cert.RefInIdeal.Hand.inputs Cert.RefInIdeal.Hand.ofArrays Cert.MixInIdeal.Hand.inputs
        rw [e0, e1, e2, e3, e4, e5, e6, e7]
    · unfold Cert.RefInIdeal.Hand.first; rw [hin]; rfl
    · unfold Cert.RefInIdeal.Hand.second; rw [hin]; rfl
    · unfold Cert.RefInIdeal.Hand.third; rw [hin]; rfl

end Cert.Claims
end
-- ==== Proof.lean ====
module

public import proofs.«01_k».proof.Defs
public import proofs.«01_k».proof.Proof.Gen.ScanBwd
public import proofs.«01_k».proof.Proof.Gen.ScanBwdIdeal
public import proofs.«01_k».proof.Proof.Gen.RefBwdIdeal
public import proofs.«01_k».proof.Proof.Gen.ScanFwd
public import proofs.«01_k».proof.Proof.Gen.ScanFwdIdeal
public import proofs.«01_k».proof.Proof.Gen.RefFwdIdeal
public import proofs.«01_k».proof.Proof.Gen.Ffn
public import proofs.«01_k».proof.Proof.Gen.FfnIdeal
public import proofs.«01_k».proof.Proof.Gen.RefFfnIdeal
public import proofs.«01_k».proof.Proof.Gen.MixOut
public import proofs.«01_k».proof.Proof.Gen.MixOutIdeal
public import proofs.«01_k».proof.Proof.Gen.RefOutIdeal
public import proofs.«01_k».proof.Proof.Claims.Frames
public import proofs.«01_k».proof.Proof.Claims.Ffn
public import proofs.«01_k».proof.Proof.Claims.ScanBwd
public import proofs.«01_k».proof.Proof.Claims.ScanFwd
public import proofs.«01_k».proof.Proof.Gen.MixIn
public import proofs.«01_k».proof.Proof.Gen.MixInIdeal
public import proofs.«01_k».proof.Proof.Gen.RefInIdeal
public import proofs.«01_k».proof.Proof.Claims.MixOut
public import proofs.«01_k».proof.Proof.Claims.MixIn
public import Idealize.ShloMosaic.Adequacy
public import Idealize.ShloMosaic.Init

@[expose] public section

noncomputable section

-- The frames also say that every semaphore ends at nought.

namespace Cert.Proof

open Idealize.ShloMosaic Idealize.SL.Sem Cert.ScanBwd

theorem claim : Cert.Claim := ⟨Cert.ScanBwd.Gen.facts, Cert.ScanBwdIdeal.Gen.facts, Cert.RefBwdIdeal.Gen.facts, Cert.ScanFwd.Gen.facts, Cert.ScanFwdIdeal.Gen.facts, Cert.RefFwdIdeal.Gen.facts, Cert.Ffn.Gen.facts, Cert.FfnIdeal.Gen.facts, Cert.RefFfnIdeal.Gen.facts, Cert.MixOut.Gen.facts, Cert.MixOutIdeal.Gen.facts, Cert.RefOutIdeal.Gen.facts,
  Cert.MixIn.Gen.facts, Cert.MixInIdeal.Gen.facts, Cert.RefInIdeal.Gen.facts,
  ⟨Claims.frame_ScanBwd, Claims.frame_ScanBwdIdeal, Claims.frame_RefBwdIdeal, Claims.frame_ScanFwd, Claims.frame_ScanFwdIdeal,
    Claims.frame_RefFwdIdeal, Claims.frame_Ffn, Claims.frame_FfnIdeal, Claims.frame_RefFfnIdeal,
    Claims.frame_MixOut, Claims.frame_MixOutIdeal, Claims.frame_RefOutIdeal,
    Claims.frame_MixIn, Claims.frame_MixInIdeal, Claims.frame_RefInIdeal, trivial, Claims.scanBwd_algebraic,
    trivial, Claims.scanFwd_algebraic, trivial, Claims.ffn_algebraic, trivial, Claims.mixOut_algebraic,
    trivial, Claims.mixIn_algebraic⟩⟩

end Cert.Proof

end
